-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_gated [hPre_gated : Cert.Pre_gated.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_gated.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_gated [hPre_gated : Cert.Pre_gated.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_gated.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_gated [hKernel5Ideal : Cert.Kernel5Ideal.Facts] [hPre_gated : Cert.Pre_gated.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_gated m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_gated [hReference5Ideal : Cert.Reference5Ideal.Facts] [hPre_gated : Cert.Pre_gated.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_gated m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_v33) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v32)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v32) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v91) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_v29) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_gated [hKernel5Ideal : Cert.Kernel5Ideal.Facts] [hReference5Ideal : Cert.Reference5Ideal.Facts] [hPre_gated : Cert.Pre_gated.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_gated m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v26)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v26) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v145) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v29_0)) (v1 : (c : Dev Cert.Kernel7Ideal.nD) → Buf (Elt Ideal) ((c.tc : Thread Cert.Kernel7Ideal.nD Cert.Kernel7Ideal.τ).loc Cert.Kernel7Ideal.main_v29_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v29_0) = v0 c
          ∧ r.2.mem ((c.tc : Thread Cert.Kernel7Ideal.nD Cert.Kernel7Ideal.τ).loc Cert.Kernel7Ideal.main_v29_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v56) = v0 c
          ∧ r.2.mem ((c.tc : Thread Cert.Reference7Ideal.nD Cert.Reference7Ideal.τ).loc Cert.Reference7Ideal.main_v61) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_gated : Cert.Pre_gated.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_gated (hKernel5Ideal := hKernel5Ideal) (hPre_gated := hPre_gated)
    ∧ quiescent_Reference5Ideal (hReference5Ideal := hReference5Ideal)
    ∧ quiescent_Reference5Ideal_pre_gated (hReference5Ideal := hReference5Ideal) (hPre_gated := hPre_gated)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_gated (hKernel5Ideal := hKernel5Ideal) (hReference5Ideal := hReference5Ideal) (hPre_gated := hPre_gated)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_gated.lean ====
abbrev S69632x1024 : Shape := ⟨2, ![69632, 1024]⟩
abbrev S69632x128 : Shape := ⟨2, ![69632, 128]⟩
abbrev S8x128 : Shape := ⟨2, ![8, 128]⟩
abbrev S8x1024x7168 : Shape := ⟨3, ![8, 1024, 7168]⟩
abbrev S8x3584x1024 : Shape := ⟨3, ![8, 3584, 1024]⟩
abbrev S69632x1 : Shape := ⟨2, ![69632, 1]⟩
abbrev S69632 : Shape := ⟨1, ![69632]⟩
abbrev S_ : Shape := ⟨0, ![]⟩

class Facts : Prop where
  slices_S69632x128_S69632x1_0_0 : S69632x128.Slices ![0, 0] S69632x1
  shapeCasts_S69632x1_S69632 : S69632x1.ShapeCasts S69632
  bcast_S_S69632 : S_.BroadcastsInDim S69632 (![] : Fin 0 → Fin S69632.rank)

variable [Facts]

def fn {F : FTy → Type} [FloatOps F] (main_arg0 : FVec F S69632x1024 .bf16) (main_arg1 : FVec F S69632x128 .f32) (main_arg2 : FVec F S8x128 .f32) (main_arg3 : FVec F S8x1024x7168 .f32) (main_arg4 : FVec F S8x3584x1024 .f32) : IVec S69632 1 :=
  let main_v0 : FVec F S69632x1 .f32 := (extractStridedSlice S69632x1 ![0, 0] · slices_S69632x128_S69632x1_0_0) main_arg1
  let main_v1 : FVec F S69632 .f32 := shapeCast S69632 main_v0 shapeCasts_S69632x1_S69632
  let main_cst : FVec F S_ .f32 := constant S_ .f32 0x00000000#32
  let main_v2 : FVec F S69632 .f32 := broadcastInDim S69632 ![] bcast_S_S69632 main_cst
  let main_v3 : IVec S69632 1 := cmpf .oge main_v1 main_v2
  let main_cst_0 : FVec F S_ .f32 := constant S_ .f32 0x3F800000#32
  let main_v4 : FVec F S69632 .f32 := broadcastInDim S69632 ![] bcast_S_S69632 main_cst_0
  let main_v5 : IVec S69632 1 := cmpf .ole main_v1 main_v4
  let main_v6 : IVec S69632 1 := andi main_v3 main_v5
  main_v6
-- ==== Kernel.lean ====
abbrev S32768x6144 : Shape := ⟨2, ![32768, 6144]⟩
abbrev S2048 : Shape := ⟨1, ![2048]⟩
abbrev S16x2048x6144 : Shape := ⟨3, ![16, 2048, 6144]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x1x512 : Shape := ⟨3, ![4, 1, 512]⟩
abbrev S16x2048x2048 : Shape := ⟨3, ![16, 2048, 2048]⟩
abbrev S2x512x256 : Shape := ⟨3, ![2, 512, 256]⟩
abbrev S2x512x512 : Shape := ⟨3, ![2, 512, 512]⟩
abbrev S1x128x1 : Shape := ⟨3, ![1, 128, 1]⟩
abbrev S1x1x512 : Shape := ⟨3, ![1, 1, 512]⟩
abbrev S2x256x512 : Shape := ⟨3, ![2, 256, 512]⟩
abbrev S1x1 : Shape := ⟨2, ![1, 1]⟩
abbrev S1x512 : Shape := ⟨2, ![1, 512]⟩
abbrev S1x128x256 : Shape := ⟨3, ![1, 128, 256]⟩
abbrev S128x256 : Shape := ⟨2, ![128, 256]⟩
abbrev S1x128x512 : Shape := ⟨3, ![1, 128, 512]⟩
abbrev S128x512 : Shape := ⟨2, ![128, 512]⟩
abbrev S1x256x512 : Shape := ⟨3, ![1, 256, 512]⟩
abbrev S256x512 : Shape := ⟨2, ![256, 512]⟩

abbrev nBuf : Space → Nat
  | .hbm => 57
  | .vmem => 19
  | .smem => 0
  | _ => 0

abbrev bufTy : (tb : Table) → Fin (tcTables nBuf tb) → BufTy
  | .hbm, ⟨0, _⟩ => ⟨S32768x6144, .bf16⟩
  | .hbm, ⟨1, _⟩ => ⟨S2048, .f32⟩
  | .hbm, ⟨2, _⟩ => ⟨S16x2048x6144, .bf16⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S128, .f32⟩
  | .hbm, ⟨13, _⟩ => ⟨S128x1, .f32⟩
  | .hbm, ⟨14, _⟩ => ⟨S1x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S_, .f32⟩
  | .hbm, ⟨19, _⟩ => ⟨S128x128, .f32⟩
  | .hbm, ⟨20, _⟩ => ⟨S128x128, .i1⟩
  | .hbm, ⟨21, _⟩ => ⟨S4x1x1, .f32⟩
  | .hbm, ⟨22, _⟩ => ⟨S_, .f32⟩
  | .hbm, ⟨23, _⟩ => ⟨S128x128, .f32⟩
  | .hbm, ⟨24, _⟩ => ⟨S128x128, .f32⟩
  | .hbm, ⟨25, _⟩ => ⟨S1x128x128, .f32⟩
  | .hbm, ⟨26, _⟩ => ⟨S4x128x128, .f32⟩
  | .hbm, ⟨27, _⟩ => ⟨S4x128x128, .f32⟩
  | .hbm, ⟨28, _⟩ => ⟨S4x128x128, .f32⟩
  | .hbm, ⟨29, _⟩ => ⟨S4x128x128, .f32⟩
  | .hbm, ⟨30, _⟩ => ⟨S_, .f32⟩
  | .hbm, ⟨31, _⟩ => ⟨S_, .f32⟩
  | .hbm, ⟨32, _⟩ => ⟨S4x128x128, .i1⟩
  | .hbm, ⟨33, _⟩ => ⟨S4x128x128, .f32⟩
  | .hbm, ⟨34, _⟩ => ⟨S4x128x128, .f32⟩
  | .hbm, ⟨35, _⟩ => ⟨S4x1, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S1x128, .f32⟩
  | .hbm, ⟨40, _⟩ => ⟨S4x128, .f32⟩
  | .hbm, ⟨41, _⟩ => ⟨S4x128, .f32⟩
  | .hbm, ⟨42, _⟩ => ⟨S4x128, .f32⟩
  | .hbm, ⟨43, _⟩ => ⟨S4x128, .f32⟩
  | .hbm, ⟨44, _⟩ => ⟨S4x128x1, .f32⟩
  | .hbm, ⟨45, _⟩ => ⟨S4x1, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S1x128, .f32⟩
  | .hbm, ⟨50, _⟩ => ⟨S4x128, .f32⟩
  | .hbm, ⟨51, _⟩ => ⟨S4x128, .f32⟩
  | .hbm, ⟨52, _⟩ => ⟨S4x128, .f32⟩
  | .hbm, ⟨53, _⟩ => ⟨S4x128, .f32⟩
  | .hbm, ⟨54, _⟩ => ⟨S4x128x1, .f32⟩
  | .hbm, ⟨55, _⟩ => ⟨S4x1x512, .f32⟩
  | .hbm, ⟨56, _⟩ => ⟨S16x2048x2048, .bf16⟩
  | .local _ .vmem, ⟨0, _⟩ => ⟨S2x512x256, .bf16⟩
  | .local _ .vmem, ⟨1, _⟩ => ⟨S2x512x256, .bf16⟩
  | .local _ .vmem, ⟨2, _⟩ => ⟨S2x512x256, .bf16⟩
  | .local _ .vmem, ⟨3, _⟩ => ⟨S2x512x256, .bf16⟩
  | .local _ .vmem, ⟨4, _⟩ => ⟨S2x512x512, .bf16⟩
  | .local _ .vmem, ⟨5, _⟩ => ⟨S2x512x512, .bf16⟩
  | .local _ .vmem, ⟨6, _⟩ => ⟨S2x512x512, .bf16⟩
  | .local _ .vmem, ⟨7, _⟩ => ⟨S2x512x512, .bf16⟩
  | .local _ .vmem, ⟨8, _⟩ => ⟨S1x128x128, .f32⟩
  | .local _ .vmem, ⟨9, _⟩ => ⟨S1x128x128, .f32⟩
  | .local _ .vmem, ⟨10, _⟩ => ⟨S1x128x1, .f32⟩
  | .local _ .vmem, ⟨11, _⟩ => ⟨S1x128x1, .f32⟩
  | .local _ .vmem, ⟨12, _⟩ => ⟨S1x128x1, .f32⟩
  | .local _ .vmem, ⟨13, _⟩ => ⟨S1x128x1, .f32⟩
  | .local _ .vmem, ⟨14, _⟩ => ⟨S1x1x512, .f32⟩
  | .local _ .vmem, ⟨15, _⟩ => ⟨S1x1x512, .f32⟩
  | .local _ .vmem, ⟨16, _⟩ => ⟨S2x512x512, .bf16⟩
  | .local _ .vmem, ⟨17, _⟩ => ⟨S2x512x512, .bf16⟩
  | .local _ .vmem, ⟨18, _⟩ => ⟨S2x256x512, .f32⟩
  | _, _ => ⟨S32768x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S2x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S2x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S32768x6144 : Shape := ⟨2, ![32768, 6144]⟩
abbrev S2048 : Shape := ⟨1, ![2048]⟩
abbrev S32768x4096 : Shape := ⟨2, ![32768, 4096]⟩
abbrev S16x2048x4096 : Shape := ⟨3, ![16, 2048, 4096]⟩
abbrev S16x2048x1024 : Shape := ⟨3, ![16, 2048, 1024]⟩
abbrev S16x2048x2048 : Shape := ⟨3, ![16, 2048, 2048]⟩
abbrev S16x2048x4x256 : Shape := ⟨4, ![16, 2048, 4, 256]⟩
abbrev S16x4x2048x256 : Shape := ⟨4, ![16, 4, 2048, 256]⟩
abbrev S16x2048x4x512 : Shape := ⟨4, ![16, 2048, 4, 512]⟩
abbrev S16x4x2048x512 : Shape := ⟨4, ![16, 4, 2048, 512]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S1x4x128x1 : Shape := ⟨4, ![1, 4, 128, 1]⟩
abbrev S1x4x1x1 : Shape := ⟨4, ![1, 4, 1, 1]⟩
abbrev S16x4x256x512 : Shape := ⟨4, ![16, 4, 256, 512]⟩
abbrev S16x4x16x128x256 : Shape := ⟨5, ![16, 4, 16, 128, 256]⟩
abbrev S16x16x4x128x256 : Shape := ⟨5, ![16, 16, 4, 128, 256]⟩
abbrev S16x4x16x128x512 : Shape := ⟨5, ![16, 4, 16, 128, 512]⟩
abbrev S16x16x4x128x512 : Shape := ⟨5, ![16, 16, 4, 128, 512]⟩
abbrev S1x16x4x128x256 : Shape := ⟨5, ![1, 16, 4, 128, 256]⟩
abbrev S16x4x128x256 : Shape := ⟨4, ![16, 4, 128, 256]⟩
abbrev S1x16x4x128x512 : Shape := ⟨5, ![1, 16, 4, 128, 512]⟩
abbrev S16x4x128x512 : Shape := ⟨4, ![16, 4, 128, 512]⟩
abbrev S16x4x128x128 : Shape := ⟨4, ![16, 4, 128, 128]⟩
abbrev S1x4x128x128 : Shape := ⟨4, ![1, 4, 128, 128]⟩
abbrev S16x4x2048 : Shape := ⟨3, ![16, 4, 2048]⟩
abbrev S16x4x2048x1 : Shape := ⟨4, ![16, 4, 2048, 1]⟩
abbrev S4x1x512 : Shape := ⟨3, ![4, 1, 512]⟩
abbrev S1x4x1x512 : Shape := ⟨4, ![1, 4, 1, 512]⟩
abbrev S32768x2048 : Shape := ⟨2, ![32768, 2048]⟩

abbrev nBuf : Space → Nat
  | .hbm => 180
  | .vmem => 0
  | .smem => 0
  | _ => 0

abbrev hbmTy0_0 (i : Nat) : BufTy := match i % 128 with
  | 0 => ⟨S32768x6144, .bf16⟩
  | 1 => ⟨S2048, .f32⟩
  | 2 => ⟨S32768x4096, .bf16⟩
  | 3 => ⟨S32768x4096, .f32⟩
  | 4 => ⟨S16x2048x4096, .f32⟩
  | 5 => ⟨S16x2048x1024, .f32⟩
  | 6 => ⟨S16x2048x1024, .f32⟩
  | 7 => ⟨S16x2048x2048, .f32⟩
  | 8 => ⟨S16x2048x4x256, .f32⟩
  | 9 => ⟨S16x4x2048x256, .f32⟩
  | 10 => ⟨S16x2048x4x256, .f32⟩
  | 11 => ⟨S16x4x2048x256, .f32⟩
  | 12 => ⟨S16x2048x4x512, .f32⟩
  | 13 => ⟨S16x4x2048x512, .f32⟩
  | 14 => ⟨S4, .f32⟩
  | 15 => ⟨S_, .f32⟩
  | 16 => ⟨S4, .f32⟩
  | 17 => ⟨S4, .f32⟩
  | 18 => ⟨S_, .f32⟩
  | 19 => ⟨S4, .f32⟩
  | 20 => ⟨S4, .f32⟩
  | 21 => ⟨S4, .f32⟩
  | 22 => ⟨S4, .f32⟩
  | 23 => ⟨S128, .f32⟩
  | 24 => ⟨S128x1, .f32⟩
  | 25 => ⟨S1x128, .f32⟩
  | 26 => ⟨S128x128, .f32⟩
  | 27 => ⟨S128x128, .f32⟩
  | 28 => ⟨S128x128, .f32⟩
  | 29 => ⟨S_, .f32⟩
  | 30 => ⟨S128x128, .f32⟩
  | 31 => ⟨S128x128, .i1⟩
  | 32 => ⟨S4x1x1, .f32⟩
  | 33 => ⟨S_, .f32⟩
  | 34 => ⟨S128x128, .f32⟩
  | 35 => ⟨S128x128, .f32⟩
  | 36 => ⟨S1x128x128, .f32⟩
  | 37 => ⟨S4x128x128, .f32⟩
  | 38 => ⟨S4x128x128, .f32⟩
  | 39 => ⟨S4x128x128, .f32⟩
  | 40 => ⟨S4x128x128, .f32⟩
  | 41 => ⟨S_, .f32⟩
  | 42 => ⟨S_, .f32⟩
  | 43 => ⟨S4x128x128, .i1⟩
  | 44 => ⟨S4x128x128, .f32⟩
  | 45 => ⟨S4x128x128, .f32⟩
  | 46 => ⟨S4x1, .f32⟩
  | 47 => ⟨S_, .f32⟩
  | 48 => ⟨S128, .f32⟩
  | 49 => ⟨S128, .f32⟩
  | 50 => ⟨S1x128, .f32⟩
  | 51 => ⟨S4x128, .f32⟩
  | 52 => ⟨S4x128, .f32⟩
  | 53 => ⟨S4x128, .f32⟩
  | 54 => ⟨S4x128, .f32⟩
  | 55 => ⟨S1x4x128x1, .f32⟩
  | 56 => ⟨S4x1, .f32⟩
  | 57 => ⟨S_, .f32⟩
  | 58 => ⟨S128, .f32⟩
  | 59 => ⟨S128, .f32⟩
  | 60 => ⟨S1x128, .f32⟩
  | 61 => ⟨S4x128, .f32⟩
  | 62 => ⟨S4x128, .f32⟩
  | 63 => ⟨S4x128, .f32⟩
  | 64 => ⟨S4x128, .f32⟩
  | 65 => ⟨S1x4x128x1, .f32⟩
  | 66 => ⟨S_, .f32⟩
  | 67 => ⟨S4, .f32⟩
  | 68 => ⟨S4, .f32⟩
  | 69 => ⟨S4, .f32⟩
  | 70 => ⟨S1x4x1x1, .f32⟩
  | 71 => ⟨S_, .f32⟩
  | 72 => ⟨S16x4x256x512, .f32⟩
  | 73 => ⟨S16x4x16x128x256, .f32⟩
  | 74 => ⟨S16x16x4x128x256, .f32⟩
  | 75 => ⟨S16x4x16x128x256, .f32⟩
  | 76 => ⟨S16x16x4x128x256, .f32⟩
  | 77 => ⟨S16x4x16x128x512, .f32⟩
  | 78 => ⟨S16x16x4x128x512, .f32⟩
  | 79 => ⟨S_, .f32⟩
  | 80 => ⟨S16x16x4x128x512, .f32⟩
  | 81 => ⟨S_, .i32⟩
  | 82 => ⟨S16x16x4x128x256, .f32⟩
  | 83 => ⟨S16x16x4x128x256, .f32⟩
  | 84 => ⟨S16x16x4x128x512, .f32⟩
  | 85 => ⟨S4x128x128, .f32⟩
  | 86 => ⟨S1x4x128x1, .f32⟩
  | 87 => ⟨S1x4x1x1, .f32⟩
  | 88 => ⟨S1x4x128x1, .f32⟩
  | 89 => ⟨S_, .i32⟩
  | 90 => ⟨S16x4x256x512, .f32⟩
  | 91 => ⟨S16x16x4x128x512, .f32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S1x16x4x128x256, .f32⟩
  | 99 => ⟨S16x4x128x256, .f32⟩
  | 100 => ⟨S_, .i32⟩
  | 101 => ⟨S_, .i32⟩
  | 102 => ⟨S_, .i32⟩
  | 103 => ⟨S_, .i32⟩
  | 104 => ⟨S1x16x4x128x256, .f32⟩
  | 105 => ⟨S16x4x128x256, .f32⟩
  | 106 => ⟨S_, .i32⟩
  | 107 => ⟨S_, .i32⟩
  | 108 => ⟨S_, .i32⟩
  | 109 => ⟨S_, .i32⟩
  | 110 => ⟨S1x16x4x128x512, .f32⟩
  | 111 => ⟨S16x4x128x512, .f32⟩
  | 112 => ⟨S16x4x128x128, .f32⟩
  | 113 => ⟨S1x4x128x128, .f32⟩
  | 114 => ⟨S16x4x128x128, .f32⟩
  | 115 => ⟨S16x4x128x128, .f32⟩
  | 116 => ⟨S16x4x128x512, .f32⟩
  | 117 => ⟨S16x4x128x512, .f32⟩
  | 118 => ⟨S16x4x128x512, .f32⟩
  | 119 => ⟨S16x4x128x512, .f32⟩
  | 120 => ⟨S16x4x256x512, .f32⟩
  | 121 => ⟨S16x4x256x512, .f32⟩
  | 122 => ⟨S16x4x128x256, .f32⟩
  | 123 => ⟨S16x4x128x256, .f32⟩
  | 124 => ⟨S16x4x256x512, .f32⟩
  | 125 => ⟨S16x4x256x512, .f32⟩
  | 126 => ⟨S16x4x128x512, .f32⟩
  | 127 => ⟨S1x16x4x128x512, .f32⟩
  | _ => ⟨S32768x6144, .bf16⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S16x16x4x128x512, .f32⟩
  | 5 => ⟨S_, .i32⟩
  | 6 => ⟨S_, .i32⟩
  | 7 => ⟨S16x4x16x128x512, .f32⟩
  | 8 => ⟨S16x4x2048x512, .f32⟩
  | 9 => ⟨S_, .f32⟩
  | 10 => ⟨S16x4x2048, .f32⟩
  | 11 => ⟨S16x4x2048x1, .f32⟩
  | 12 => ⟨S_, .f32⟩
  | 13 => ⟨S16x4x2048x1, .f32⟩
  | 14 => ⟨S16x4x2048x1, .f32⟩
  | 15 => ⟨S16x4x2048x512, .f32⟩
  | 16 => ⟨S16x4x2048x512, .f32⟩
  | 17 => ⟨S16x4x2048x512, .f32⟩
  | 18 => ⟨S_, .f32⟩
  | 19 => ⟨S16x4x2048, .f32⟩
  | 20 => ⟨S16x4x2048x1, .f32⟩
  | 21 => ⟨S_, .f32⟩
  | 22 => ⟨S16x4x2048x1, .f32⟩
  | 23 => ⟨S16x4x2048x1, .f32⟩
  | 24 => ⟨S16x4x2048x512, .f32⟩
  | 25 => ⟨S16x4x2048x512, .f32⟩
  | 26 => ⟨S_, .f32⟩
  | 27 => ⟨S16x4x2048x1, .f32⟩
  | 28 => ⟨S16x4x2048x1, .f32⟩
  | 29 => ⟨S16x4x2048x1, .f32⟩
  | 30 => ⟨S16x4x2048x512, .f32⟩
  | 31 => ⟨S16x4x2048x512, .f32⟩
  | 32 => ⟨S4x1x512, .f32⟩
  | 33 => ⟨S1x4x1x512, .f32⟩
  | 34 => ⟨S16x4x2048x512, .f32⟩
  | 35 => ⟨S16x4x2048x512, .f32⟩
  | 36 => ⟨S16x2048x4x512, .f32⟩
  | 37 => ⟨S16x2048x2048, .f32⟩
  | 38 => ⟨S32768x2048, .bf16⟩
  | 39 => ⟨S32768x2048, .f32⟩
  | 40 => ⟨S16x2048x2048, .f32⟩
  | 41 => ⟨S16x2048x2048, .f32⟩
  | 42 => ⟨S16x2048x2048, .f32⟩
  | 43 => ⟨S_, .f32⟩
  | 44 => ⟨S16x2048x2048, .f32⟩
  | 45 => ⟨S16x2048x2048, .f32⟩
  | 46 => ⟨S_, .f32⟩
  | 47 => ⟨S16x2048x2048, .f32⟩
  | 48 => ⟨S16x2048x2048, .f32⟩
  | 49 => ⟨S16x2048x2048, .f32⟩
  | 50 => ⟨S16x2048x2048, .f32⟩
  | 51 => ⟨S16x2048x2048, .bf16⟩
  | _ => ⟨S32768x6144, .bf16⟩

abbrev hbmTy (i : Nat) : BufTy := match i / 128 with
  | 0 => hbmTy0_0 i
  | 1 => hbmTy0_1 i
  | _ => ⟨S32768x6144, .bf16⟩

abbrev bufTy : (tb : Table) → Fin (tcTables nBuf tb) → BufTy
  | .hbm, ⟨i, _⟩ => hbmTy i
  | _, _ => ⟨S32768x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_1 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_2 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_5 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_7 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_8 : Ref sig .tc := ⟨.hbm, 79, rfl⟩
abbrev main_v65 : Ref sig .tc := ⟨.hbm, 80, rfl⟩
abbrev main_c : Ref sig .tc := ⟨.hbm, 81, rfl⟩
abbrev main_v66_0 : Ref sig .tc := ⟨.hbm, 82, rfl⟩
abbrev main_v66_1 : Ref sig .tc := ⟨.hbm, 83, rfl⟩
abbrev main_v66_2 : Ref sig .tc := ⟨.hbm, 84, rfl⟩
abbrev main_v66_3 : Ref sig .tc := ⟨.hbm, 85, rfl⟩
abbrev main_v66_4 : Ref sig .tc := ⟨.hbm, 86, rfl⟩
abbrev main_v66_5 : Ref sig .tc := ⟨.hbm, 87, rfl⟩
abbrev main_v66_6 : Ref sig .tc := ⟨.hbm, 88, rfl⟩
abbrev main_v66_7 : Ref sig .tc := ⟨.hbm, 89, rfl⟩
abbrev main_v66_8 : Ref sig .tc := ⟨.hbm, 90, rfl⟩
abbrev main_v66_9 : Ref sig .tc := ⟨.hbm, 91, rfl⟩
abbrev main_while0c_c_23 : Ref sig .tc := ⟨.hbm, 92, rfl⟩
abbrev main_while0c_v99 : Ref sig .tc := ⟨.hbm, 93, rfl⟩
abbrev main_while0b_call1_c : Ref sig .tc := ⟨.hbm, 94, rfl⟩
abbrev main_while0b_call1_c_0 : Ref sig .tc := ⟨.hbm, 95, rfl⟩
abbrev main_while0b_call1_c_1 : Ref sig .tc := ⟨.hbm, 96, rfl⟩
abbrev main_while0b_call1_c_2 : Ref sig .tc := ⟨.hbm, 97, rfl⟩
abbrev main_while0b_call1_v0 : Ref sig .tc := ⟨.hbm, 98, rfl⟩
abbrev main_while0b_v99 : Ref sig .tc := ⟨.hbm, 99, rfl⟩
abbrev main_while0b_call2_c : Ref sig .tc := ⟨.hbm, 100, rfl⟩
abbrev main_while0b_call2_c_0 : Ref sig .tc := ⟨.hbm, 101, rfl⟩
abbrev main_while0b_call2_c_1 : Ref sig .tc := ⟨.hbm, 102, rfl⟩
abbrev main_while0b_call2_c_2 : Ref sig .tc := ⟨.hbm, 103, rfl⟩
abbrev main_while0b_call2_v0 : Ref sig .tc := ⟨.hbm, 104, rfl⟩
abbrev main_while0b_v100 : Ref sig .tc := ⟨.hbm, 105, rfl⟩
abbrev main_while0b_call3_c : Ref sig .tc := ⟨.hbm, 106, rfl⟩
abbrev main_while0b_call3_c_0 : Ref sig .tc := ⟨.hbm, 107, rfl⟩
abbrev main_while0b_call3_c_1 : Ref sig .tc := ⟨.hbm, 108, rfl⟩
abbrev main_while0b_call3_c_2 : Ref sig .tc := ⟨.hbm, 109, rfl⟩
abbrev main_while0b_call3_v0 : Ref sig .tc := ⟨.hbm, 110, rfl⟩
abbrev main_while0b_v101 : Ref sig .tc := ⟨.hbm, 111, rfl⟩
abbrev main_while0b_v102 : Ref sig .tc := ⟨.hbm, 112, rfl⟩
abbrev main_while0b_v103 : Ref sig .tc := ⟨.hbm, 113, rfl⟩
abbrev main_while0b_v104 : Ref sig .tc := ⟨.hbm, 114, rfl⟩
abbrev main_while0b_v105 : Ref sig .tc := ⟨.hbm, 115, rfl⟩
abbrev main_while0b_v106 : Ref sig .tc := ⟨.hbm, 116, rfl⟩
abbrev main_while0b_v107 : Ref sig .tc := ⟨.hbm, 117, rfl⟩
abbrev main_while0b_v108 : Ref sig .tc := ⟨.hbm, 118, rfl⟩
abbrev main_while0b_v109 : Ref sig .tc := ⟨.hbm, 119, rfl⟩
abbrev main_while0b_v110 : Ref sig .tc := ⟨.hbm, 120, rfl⟩
abbrev main_while0b_v111 : Ref sig .tc := ⟨.hbm, 121, rfl⟩
abbrev main_while0b_v112 : Ref sig .tc := ⟨.hbm, 122, rfl⟩
abbrev main_while0b_v113 : Ref sig .tc := ⟨.hbm, 123, rfl⟩
abbrev main_while0b_v114 : Ref sig .tc := ⟨.hbm, 124, rfl⟩
abbrev main_while0b_v115 : Ref sig .tc := ⟨.hbm, 125, rfl⟩
abbrev main_while0b_v116 : Ref sig .tc := ⟨.hbm, 126, rfl⟩
abbrev main_while0b_call4_v0 : Ref sig .tc := ⟨.hbm, 127, rfl⟩
abbrev main_while0b_call4_c : Ref sig .tc := ⟨.hbm, 128, rfl⟩
abbrev main_while0b_call4_c_0 : Ref sig .tc := ⟨.hbm, 129, rfl⟩
abbrev main_while0b_call4_c_1 : Ref sig .tc := ⟨.hbm, 130, rfl⟩
abbrev main_while0b_call4_c_2 : Ref sig .tc := ⟨.hbm, 131, rfl⟩
abbrev main_while0b_v117 : Ref sig .tc := ⟨.hbm, 132, rfl⟩
abbrev main_while0b_c_23 : Ref sig .tc := ⟨.hbm, 133, rfl⟩
abbrev main_while0b_v118 : Ref sig .tc := ⟨.hbm, 134, rfl⟩
abbrev main_v67 : Ref sig .tc := ⟨.hbm, 135, rfl⟩
abbrev main_v68 : Ref sig .tc := ⟨.hbm, 136, rfl⟩
abbrev main_cst_9 : Ref sig .tc := ⟨.hbm, 137, rfl⟩
abbrev main_v69 : Ref sig .tc := ⟨.hbm, 138, rfl⟩
abbrev main_v70 : Ref sig .tc := ⟨.hbm, 139, rfl⟩
abbrev main_cst_10 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_cst_11 : Ref sig .tc := ⟨.hbm, 146, rfl⟩
abbrev main_v76 : Ref sig .tc := ⟨.hbm, 147, rfl⟩
abbrev main_v77 : Ref sig .tc := ⟨.hbm, 148, rfl⟩
abbrev main_cst_12 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_cst_13 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_call5_v0 : Ref sig .tc := ⟨.hbm, 169, rfl⟩
abbrev main_call5_v1 : Ref sig .tc := ⟨.hbm, 170, rfl⟩
abbrev main_call5_cst : Ref sig .tc := ⟨.hbm, 171, rfl⟩
abbrev main_call5_v2 : Ref sig .tc := ⟨.hbm, 172, rfl⟩
abbrev main_call5_v3 : Ref sig .tc := ⟨.hbm, 173, rfl⟩
abbrev main_call5_cst_0 : Ref sig .tc := ⟨.hbm, 174, rfl⟩
abbrev main_call5_v4 : Ref sig .tc := ⟨.hbm, 175, rfl⟩
abbrev main_call5_v5 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S32768x1024 : Shape := ⟨2, ![32768, 1024]⟩
abbrev S1024x5632 : Shape := ⟨2, ![1024, 5632]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S1024x1408 : Shape := ⟨2, ![1024, 1408]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S32768x1024, .bf16⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S32768x1024, .f32⟩
  | .hbm, ⟨11, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x5632, .bf16⟩
  | .local _ .vmem, ⟨3, _⟩ => ⟨S2816x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S32768x1024 : Shape := ⟨2, ![32768, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S32768x5632 : Shape := ⟨2, ![32768, 5632]⟩
abbrev S32768x2816 : Shape := ⟨2, ![32768, 2816]⟩
abbrev S32768 : Shape := ⟨1, ![32768]⟩
abbrev S32768x1 : Shape := ⟨2, ![32768, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S32768x1024, .f32⟩
  | .hbm, ⟨7, _⟩ => ⟨S32768x1024, .f32⟩
  | .hbm, ⟨8, _⟩ => ⟨S32768x5632, .f32⟩
  | .hbm, ⟨9, _⟩ => ⟨S32768x2816, .f32⟩
  | .hbm, ⟨10, _⟩ => ⟨S32768x2816, .f32⟩
  | .hbm, ⟨11, _⟩ => ⟨S32768x2816, .f32⟩
  | .hbm, ⟨12, _⟩ => ⟨S32768x2816, .f32⟩
  | .hbm, ⟨13, _⟩ => ⟨S_, .f32⟩
  | .hbm, ⟨14, _⟩ => ⟨S32768x2816, .f32⟩
  | .hbm, ⟨15, _⟩ => ⟨S32768x2816, .f32⟩
  | .hbm, ⟨16, _⟩ => ⟨S_, .f32⟩
  | .hbm, ⟨17, _⟩ => ⟨S32768x2816, .f32⟩
  | .hbm, ⟨18, _⟩ => ⟨S32768x2816, .f32⟩
  | .hbm, ⟨19, _⟩ => ⟨S32768x2816, .f32⟩
  | .hbm, ⟨20, _⟩ => ⟨S32768x2816, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S1x1024, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | .hbm, ⟨52, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Kernel3.lean ====
abbrev S32768x1024 : Shape := ⟨2, ![32768, 1024]⟩
abbrev S1024x6144 : Shape := ⟨2, ![1024, 6144]⟩
abbrev S128 : Shape := ⟨1, ![128]⟩
abbrev S_ : Shape := ⟨0, ![]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S2048x256 : Shape := ⟨2, ![2048, 256]⟩
abbrev S1x2048x1x256 : Shape := ⟨4, ![1, 2048, 1, 256]⟩
abbrev S32768x6144 : Shape := ⟨2, ![32768, 6144]⟩
abbrev S512x1024 : Shape := ⟨2, ![512, 1024]⟩
abbrev S512x128 : Shape := ⟨2, ![512, 128]⟩
abbrev S512x6144 : Shape := ⟨2, ![512, 6144]⟩
abbrev S1024x1024 : Shape := ⟨2, ![1024, 1024]⟩

abbrev nBuf : Space → Nat
  | .hbm => 40
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024x6144, .f32⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S2048, .f32⟩
  | .hbm, ⟨19, _⟩ => ⟨S2048x1, .f32⟩
  | .hbm, ⟨20, _⟩ => ⟨S1x128, .f32⟩
  | .hbm, ⟨21, _⟩ => ⟨S2048x128, .f32⟩
  | .hbm, ⟨22, _⟩ => ⟨S2048x128, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S2048x256, .f32⟩
  | .hbm, ⟨27, _⟩ => ⟨S2048x128, .f32⟩
  | .hbm, ⟨28, _⟩ => ⟨S2048x256, .f32⟩
  | .hbm, ⟨29, _⟩ => ⟨S1x2048x1x256, .f32⟩
  | .hbm, ⟨30, _⟩ => ⟨S1x2048x1x256, .f32⟩
  | .hbm, ⟨31, _⟩ => ⟨S2048x256, .f32⟩
  | .hbm, ⟨32, _⟩ => ⟨S1x2048x1x256, .f32⟩
  | .hbm, ⟨33, _⟩ => ⟨S1x2048x1x256, .f32⟩
  | .hbm, ⟨34, _⟩ => ⟨S2048x256, .f32⟩
  | .hbm, ⟨35, _⟩ => ⟨S1024x6144, .bf16⟩
  | .hbm, ⟨36, _⟩ => ⟨S2048x128, .f32⟩
  | .hbm, ⟨37, _⟩ => ⟨S2048x128, .f32⟩
  | .hbm, ⟨38, _⟩ => ⟨S2048x128, .f32⟩
  | .hbm, ⟨39, _⟩ => ⟨S32768x6144, .bf16⟩
  | .local _ .vmem, ⟨0, _⟩ => ⟨S512x1024, .f32⟩
  | .local _ .vmem, ⟨1, _⟩ => ⟨S512x1024, .f32⟩
  | .local _ .vmem, ⟨2, _⟩ => ⟨S1024x6144, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x6144, .bf16⟩
  | .local _ .vmem, ⟨8, _⟩ => ⟨S512x6144, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x6144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S32768x1024 : Shape := ⟨2, ![32768, 1024]⟩
abbrev S1024x6144 : Shape := ⟨2, ![1024, 6144]⟩
abbrev S32768x6144 : Shape := ⟨2, ![32768, 6144]⟩
abbrev S16x2048x6144 : Shape := ⟨3, ![16, 2048, 6144]⟩
abbrev S16x2048x1024 : Shape := ⟨3, ![16, 2048, 1024]⟩
abbrev S16x2048x2048 : Shape := ⟨3, ![16, 2048, 2048]⟩
abbrev S2048 : Shape := ⟨1, ![2048]⟩
abbrev S16x2048x4x256 : Shape := ⟨4, ![16, 2048, 4, 256]⟩
abbrev S16x4x2048x256 : Shape := ⟨4, ![16, 4, 2048, 256]⟩
abbrev S128 : Shape := ⟨1, ![128]⟩
abbrev S_ : Shape := ⟨0, ![]⟩
abbrev S2048x1 : Shape := ⟨2, ![2048, 1]⟩
abbrev S1x128 : Shape := ⟨2, ![1, 128]⟩
abbrev S2048x128 : Shape := ⟨2, ![2048, 128]⟩
abbrev S16x4x2048x128 : Shape := ⟨4, ![16, 4, 2048, 128]⟩
abbrev S1x1x2048x128 : Shape := ⟨4, ![1, 1, 2048, 128]⟩

abbrev nBuf : Space → Nat
  | .hbm => 105
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x6144, .f32⟩
  | .hbm, ⟨2, _⟩ => ⟨S32768x6144, .f32⟩
  | .hbm, ⟨3, _⟩ => ⟨S16x2048x6144, .f32⟩
  | .hbm, ⟨4, _⟩ => ⟨S16x2048x1024, .f32⟩
  | .hbm, ⟨5, _⟩ => ⟨S16x2048x1024, .f32⟩
  | .hbm, ⟨6, _⟩ => ⟨S16x2048x2048, .f32⟩
  | .hbm, ⟨7, _⟩ => ⟨S16x2048x2048, .f32⟩
  | .hbm, ⟨8, _⟩ => ⟨S2048, .i32⟩
  | .hbm, ⟨9, _⟩ => ⟨S16x2048x4x256, .f32⟩
  | .hbm, ⟨10, _⟩ => ⟨S16x4x2048x256, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S2048, .f32⟩
  | .hbm, ⟨28, _⟩ => ⟨S2048x1, .f32⟩
  | .hbm, ⟨29, _⟩ => ⟨S1x128, .f32⟩
  | .hbm, ⟨30, _⟩ => ⟨S2048x128, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S2048x128, .f32⟩
  | .hbm, ⟨35, _⟩ => ⟨S16x4x2048x128, .f32⟩
  | .hbm, ⟨36, _⟩ => ⟨S16x4x2048x128, .f32⟩
  | .hbm, ⟨37, _⟩ => ⟨S1x1x2048x128, .f32⟩
  | .hbm, ⟨38, _⟩ => ⟨S16x4x2048x128, .f32⟩
  | .hbm, ⟨39, _⟩ => ⟨S16x4x2048x128, .f32⟩
  | .hbm, ⟨40, _⟩ => ⟨S1x1x2048x128, .f32⟩
  | .hbm, ⟨41, _⟩ => ⟨S16x4x2048x128, .f32⟩
  | .hbm, ⟨42, _⟩ => ⟨S16x4x2048x128, .f32⟩
  | .hbm, ⟨43, _⟩ => ⟨S16x4x2048x128, .f32⟩
  | .hbm, ⟨44, _⟩ => ⟨S1x1x2048x128, .f32⟩
  | .hbm, ⟨45, _⟩ => ⟨S16x4x2048x128, .f32⟩
  | .hbm, ⟨46, _⟩ => ⟨S16x4x2048x128, .f32⟩
  | .hbm, ⟨47, _⟩ => ⟨S1x1x2048x128, .f32⟩
  | .hbm, ⟨48, _⟩ => ⟨S16x4x2048x128, .f32⟩
  | .hbm, ⟨49, _⟩ => ⟨S16x4x2048x128, .f32⟩
  | .hbm, ⟨50, _⟩ => ⟨S16x4x2048x128, .f32⟩
  | .hbm, ⟨51, _⟩ => ⟨S16x4x2048x256, .f32⟩
  | .hbm, ⟨52, _⟩ => ⟨S16x2048x4x256, .f32⟩
  | .hbm, ⟨53, _⟩ => ⟨S16x4x2048x256, .f32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S2048, .f32⟩
  | .hbm, ⟨71, _⟩ => ⟨S2048x1, .f32⟩
  | .hbm, ⟨72, _⟩ => ⟨S1x128, .f32⟩
  | .hbm, ⟨73, _⟩ => ⟨S2048x128, .f32⟩
  | .hbm, ⟨74, _⟩ => ⟨S2048x128, .f32⟩
  | .hbm, ⟨75, _⟩ => ⟨S2048x128, .f32⟩
  | .hbm, ⟨76, _⟩ => ⟨S2048x128, .f32⟩
  | .hbm, ⟨77, _⟩ => ⟨S2048x128, .f32⟩
  | .hbm, ⟨78, _⟩ => ⟨S16x4x2048x128, .f32⟩
  | .hbm, ⟨79, _⟩ => ⟨S16x4x2048x128, .f32⟩
  | .hbm, ⟨80, _⟩ => ⟨S1x1x2048x128, .f32⟩
  | .hbm, ⟨81, _⟩ => ⟨S16x4x2048x128, .f32⟩
  | .hbm, ⟨82, _⟩ => ⟨S16x4x2048x128, .f32⟩
  | .hbm, ⟨83, _⟩ => ⟨S1x1x2048x128, .f32⟩
  | .hbm, ⟨84, _⟩ => ⟨S16x4x2048x128, .f32⟩
  | .hbm, ⟨85, _⟩ => ⟨S16x4x2048x128, .f32⟩
  | .hbm, ⟨86, _⟩ => ⟨S16x4x2048x128, .f32⟩
  | .hbm, ⟨87, _⟩ => ⟨S1x1x2048x128, .f32⟩
  | .hbm, ⟨88, _⟩ => ⟨S16x4x2048x128, .f32⟩
  | .hbm, ⟨89, _⟩ => ⟨S16x4x2048x128, .f32⟩
  | .hbm, ⟨90, _⟩ => ⟨S1x1x2048x128, .f32⟩
  | .hbm, ⟨91, _⟩ => ⟨S16x4x2048x128, .f32⟩
  | .hbm, ⟨92, _⟩ => ⟨S16x4x2048x128, .f32⟩
  | .hbm, ⟨93, _⟩ => ⟨S16x4x2048x128, .f32⟩
  | .hbm, ⟨94, _⟩ => ⟨S16x4x2048x256, .f32⟩
  | .hbm, ⟨95, _⟩ => ⟨S_, .f32⟩
  | .hbm, ⟨96, _⟩ => ⟨S16x4x2048x256, .f32⟩
  | .hbm, ⟨97, _⟩ => ⟨S16x4x2048x256, .f32⟩
  | .hbm, ⟨98, _⟩ => ⟨S16x2048x4x256, .f32⟩
  | .hbm, ⟨99, _⟩ => ⟨S16x2048x1024, .f32⟩
  | .hbm, ⟨100, _⟩ => ⟨S16x2048x4x256, .f32⟩
  | .hbm, ⟨101, _⟩ => ⟨S16x2048x1024, .f32⟩
  | .hbm, ⟨102, _⟩ => ⟨S16x2048x6144, .f32⟩
  | .hbm, ⟨103, _⟩ => ⟨S32768x6144, .f32⟩
  | .hbm, ⟨104, _⟩ => ⟨S32768x6144, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_cst_4 : Ref sig .tc := ⟨.hbm, 55, rfl⟩
abbrev main_v48 : Ref sig .tc := ⟨.hbm, 56, rfl⟩
abbrev main_v49 : Ref sig .tc := ⟨.hbm, 57, rfl⟩
abbrev main_cst_5 : Ref sig .tc := ⟨.hbm, 58, rfl⟩
abbrev main_v50 : Ref sig .tc := ⟨.hbm, 59, rfl⟩
abbrev main_v51 : Ref sig .tc := ⟨.hbm, 60, rfl⟩
abbrev main_cst_6 : Ref sig .tc := ⟨.hbm, 61, rfl⟩
abbrev main_v52 : Ref sig .tc := ⟨.hbm, 62, rfl⟩
abbrev main_v53 : Ref sig .tc := ⟨.hbm, 63, rfl⟩
abbrev main_cst_7 : Ref sig .tc := ⟨.hbm, 64, rfl⟩
abbrev main_v54 : Ref sig .tc := ⟨.hbm, 65, rfl⟩
abbrev main_v55 : Ref sig .tc := ⟨.hbm, 66, rfl⟩
abbrev main_cst_8 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_cst_9 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩

abbrev nD : Nat := 1
abbrev τ : Topo := Topo.v7x

variable {F : FTy → Type} [FloatOps F]
-- ==== Kernel4.lean ====
abbrev S32768x2048 : Shape := ⟨2, ![32768, 2048]⟩
abbrev S2048x1024 : Shape := ⟨2, ![2048, 1024]⟩
abbrev S32768x1024 : Shape := ⟨2, ![32768, 1024]⟩
abbrev S1024 : Shape := ⟨1, ![1024]⟩
abbrev S1x1024 : Shape := ⟨2, ![1, 1024]⟩
abbrev S1024x2048 : Shape := ⟨2, ![1024, 2048]⟩
abbrev S1024x1024 : Shape := ⟨2, ![1024, 1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .f32⟩
  | .hbm, ⟨2, _⟩ => ⟨S32768x1024, .f32⟩
  | .hbm, ⟨3, _⟩ => ⟨S1024, .f32⟩
  | .hbm, ⟨4, _⟩ => ⟨S1024, .f32⟩
  | .hbm, ⟨5, _⟩ => ⟨S2048x1024, .bf16⟩
  | .hbm, ⟨6, _⟩ => ⟨S1x1024, .f32⟩
  | .hbm, ⟨7, _⟩ => ⟨S1x1024, .f32⟩
  | .hbm, ⟨8, _⟩ => ⟨S32768x1024, .f32⟩
  | .hbm, ⟨9, _⟩ => ⟨S32768x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S32768x2048 : Shape := ⟨2, ![32768, 2048]⟩
abbrev S2048x1024 : Shape := ⟨2, ![2048, 1024]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .f32⟩
  | .hbm, ⟨2, _⟩ => ⟨S32768x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S32768x1024, .f32⟩
  | .hbm, ⟨7, _⟩ => ⟨S32768x1024, .f32⟩
  | .hbm, ⟨8, _⟩ => ⟨S32768x2048, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S1x1024, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | .hbm, ⟨40, _⟩ => ⟨S32768x1024, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel5.lean ====
abbrev S69632x1024 : Shape := ⟨2, ![69632, 1024]⟩
abbrev S69632x128 : Shape := ⟨2, ![69632, 128]⟩
abbrev S8x128 : Shape := ⟨2, ![8, 128]⟩
abbrev S8x1024x7168 : Shape := ⟨3, ![8, 1024, 7168]⟩
abbrev S8x3584x1024 : Shape := ⟨3, ![8, 3584, 1024]⟩
abbrev S1x8 : Shape := ⟨2, ![1, 8]⟩
abbrev S8 : Shape := ⟨1, ![8]⟩
abbrev S_ : Shape := ⟨0, ![]⟩
abbrev S136 : Shape := ⟨1, ![136]⟩
abbrev S136x1 : Shape := ⟨2, ![136, 1]⟩
abbrev S136x8 : Shape := ⟨2, ![136, 8]⟩
abbrev S1 : Shape := ⟨1, ![1]⟩
abbrev S512x1024 : Shape := ⟨2, ![512, 1024]⟩
abbrev S512x128 : Shape := ⟨2, ![512, 128]⟩
abbrev S1x1024x896 : Shape := ⟨3, ![1, 1024, 896]⟩
abbrev S1x896x1024 : Shape := ⟨3, ![1, 896, 1024]⟩
abbrev S1024x896 : Shape := ⟨2, ![1024, 896]⟩
abbrev S512x896 : Shape := ⟨2, ![512, 896]⟩
abbrev S512x1 : Shape := ⟨2, ![512, 1]⟩
abbrev S896x1024 : Shape := ⟨2, ![896, 1024]⟩

abbrev nBuf : Space → Nat
  | .hbm => 53
  | .vmem => 13
  | .smem => 2
  | _ => 0

abbrev bufTy : (tb : Table) → Fin (tcTables nBuf tb) → BufTy
  | .hbm, ⟨0, _⟩ => ⟨S69632x1024, .bf16⟩
  | .hbm, ⟨1, _⟩ => ⟨S69632x128, .f32⟩
  | .hbm, ⟨2, _⟩ => ⟨S8x128, .f32⟩
  | .hbm, ⟨3, _⟩ => ⟨S8x1024x7168, .f32⟩
  | .hbm, ⟨4, _⟩ => ⟨S8x3584x1024, .f32⟩
  | .hbm, ⟨5, _⟩ => ⟨S1x8, .f32⟩
  | .hbm, ⟨6, _⟩ => ⟨S8, .f32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S_, .i32⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i1⟩
  | .hbm, ⟨22, _⟩ => ⟨S8, .i32⟩
  | .hbm, ⟨23, _⟩ => ⟨S8, .i32⟩
  | .hbm, ⟨24, _⟩ => ⟨S_, .i32⟩
  | .hbm, ⟨25, _⟩ => ⟨S8, .i32⟩
  | .hbm, ⟨26, _⟩ => ⟨S8, .i1⟩
  | .hbm, ⟨27, _⟩ => ⟨S8, .i1⟩
  | .hbm, ⟨28, _⟩ => ⟨S_, .i32⟩
  | .hbm, ⟨29, _⟩ => ⟨S8, .i32⟩
  | .hbm, ⟨30, _⟩ => ⟨S8, .i32⟩
  | .hbm, ⟨31, _⟩ => ⟨S8, .i32⟩
  | .hbm, ⟨32, _⟩ => ⟨S_, .i32⟩
  | .hbm, ⟨33, _⟩ => ⟨S_, .i32⟩
  | .hbm, ⟨34, _⟩ => ⟨S8, .i32⟩
  | .hbm, ⟨35, _⟩ => ⟨S136, .i32⟩
  | .hbm, ⟨36, _⟩ => ⟨S136x1, .i32⟩
  | .hbm, ⟨37, _⟩ => ⟨S1x8, .i32⟩
  | .hbm, ⟨38, _⟩ => ⟨S136x8, .i32⟩
  | .hbm, ⟨39, _⟩ => ⟨S136x8, .i32⟩
  | .hbm, ⟨40, _⟩ => ⟨S136x8, .i1⟩
  | .hbm, ⟨41, _⟩ => ⟨S136x8, .i32⟩
  | .hbm, ⟨42, _⟩ => ⟨S_, .i32⟩
  | .hbm, ⟨43, _⟩ => ⟨S136, .i32⟩
  | .hbm, ⟨44, _⟩ => ⟨S_, .i32⟩
  | .hbm, ⟨45, _⟩ => ⟨S136, .i32⟩
  | .hbm, ⟨46, _⟩ => ⟨S1, .i32⟩
  | .hbm, ⟨47, _⟩ => ⟨S_, .i32⟩
  | .hbm, ⟨48, _⟩ => ⟨S136, .i32⟩
  | .hbm, ⟨49, _⟩ => ⟨S136, .i1⟩
  | .hbm, ⟨50, _⟩ => ⟨S8x1024x7168, .bf16⟩
  | .hbm, ⟨51, _⟩ => ⟨S8x3584x1024, .bf16⟩
  | .hbm, ⟨52, _⟩ => ⟨S69632x1024, .bf16⟩
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S1x1024x896, .bf16⟩
  | .local _ .vmem, ⟨5, _⟩ => ⟨S1x1024x896, .bf16⟩
  | .local _ .vmem, ⟨6, _⟩ => ⟨S1x1024x896, .bf16⟩
  | .local _ .vmem, ⟨7, _⟩ => ⟨S1x1024x896, .bf16⟩
  | .local _ .vmem, ⟨8, _⟩ => ⟨S1x896x1024, .bf16⟩
  | .local _ .vmem, ⟨9, _⟩ => ⟨S1x896x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .smem, ⟨0, _⟩ => ⟨S136, .i32⟩
  | .local _ .smem, ⟨1, _⟩ => ⟨S136, .i32⟩
  | _, _ => ⟨S69632x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v7 : Ref sig .tc := ⟨.hbm, 31, rfl⟩
abbrev main_call1_call0_c : Ref sig .tc := ⟨.hbm, 32, rfl⟩
abbrev main_call1_call0_v0 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c_2 : Ref sig .tc := ⟨.hbm, 42, rfl⟩
abbrev main_v16 : Ref sig .tc := ⟨.hbm, 43, rfl⟩
abbrev main_c_3 : Ref sig .tc := ⟨.hbm, 44, rfl⟩
abbrev main_v17 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v18 : Ref sig .tc := ⟨.smem, 0, rfl⟩
abbrev main_v23 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![136, 4], ![false, false]⟩

abbrev pre0 : Pipeline.Prefetch sig := ⟨2, ![main_v18.idx, main_v23.idx], fun | 0 => main_v18.names | 1 => main_v23.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond4 (i : grid0.Coords) : BitVec 1 :=
  let arg1 : BitVec 32 := BitVec.ofNat 32 (i 1).val
  let c3_i32_20 : BitVec 32 := 3#32
  let v35 : BitVec 1 := Scalar.cmpi .eq arg1 c3_i32_20
  let v36 : BitVec 32 := Scalar.extui v35
  let c0_i32_21 : BitVec 32 := 0#32
  let v37 : BitVec 1 := Scalar.cmpi .ne v36 c0_i32_21
  v37

def k0_cond5 (i : grid0.Coords) (v6 : BitVec 32) : BitVec 1 :=
  let c0_i32_0 : BitVec 32 := 0#32
  let v7 : BitVec 1 := Scalar.cmpi .eq v6 c0_i32_0
  let arg1 : BitVec 32 := BitVec.ofNat 32 (i 1).val
  let c3_i32 : BitVec 32 := 3#32
  let v8 : BitVec 1 := Scalar.cmpi .eq arg1 c3_i32
  let v9 : BitVec 1 := Scalar.andi v7 v8
  let v10 : BitVec 32 := Scalar.extui v9
  let c0_i32_1 : BitVec 32 := 0#32
  let v11 : BitVec 1 := Scalar.cmpi .ne v10 c0_i32_1
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let v2 : Index := Scalar.indexCast arg0
  let v3 : BitVec 32 := pf.at 1 (Rect.unit (s := S136) ![v2.toNat] S1.size (k0_off1_inb i)) numel1_S1
  let c1_i32 : BitVec 32 := 1#32
  let v4 : BitVec 1 := Scalar.cmpi .eq v3 c1_i32
  let c3_i32 : BitVec 32 := 3#32
  let v5 : BitVec 32 := Scalar.select v4 arg1 c3_i32
  let c0_i32 : BitVec 32 := 0#32
  let c0_i32_0 : BitVec 32 := 0#32
  ![v1.toNat, c0_i32.toNat, v5.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let v2 : Index := Scalar.indexCast arg0
  let v3 : BitVec 32 := pf.at 1 (Rect.unit (s := S136) ![v2.toNat] S1.size (k0_off1_inb i)) numel1_S1
  let c1_i32 : BitVec 32 := 1#32
  let v4 : BitVec 1 := Scalar.cmpi .eq v3 c1_i32
  let c3_i32 : BitVec 32 := 3#32
  let v5 : BitVec 32 := Scalar.select v4 arg1 c3_i32
  let c4_i32 : BitVec 32 := 4#32
  let v6 : BitVec 32 := Scalar.addi c4_i32 v5
  let c0_i32 : BitVec 32 := 0#32
  let c0_i32_0 : BitVec 32 := 0#32
  ![v1.toNat, c0_i32.toNat, v6.toNat]

def cc0_transform_4 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let v2 : Index := Scalar.indexCast arg0
  let v3 : BitVec 32 := pf.at 1 (Rect.unit (s := S136) ![v2.toNat] S1.size (k0_off1_inb i)) numel1_S1
  let c1_i32 : BitVec 32 := 1#32
  let v4 : BitVec 1 := Scalar.cmpi .eq v3 c1_i32
  let c3_i32 : BitVec 32 := 3#32
  let v5 : BitVec 32 := Scalar.select v4 arg1 c3_i32
  let c0_i32 : BitVec 32 := 0#32
  let c0_i32_0 : BitVec 32 := 0#32
  ![v1.toNat, v5.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x896x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference5Ideal.lean ====
abbrev S69632x1024 : Shape := ⟨2, ![69632, 1024]⟩
abbrev S69632x128 : Shape := ⟨2, ![69632, 128]⟩
abbrev S8x128 : Shape := ⟨2, ![8, 128]⟩
abbrev S8x1024x7168 : Shape := ⟨3, ![8, 1024, 7168]⟩
abbrev S8x3584x1024 : Shape := ⟨3, ![8, 3584, 1024]⟩
abbrev S1x8 : Shape := ⟨2, ![1, 8]⟩
abbrev S8 : Shape := ⟨1, ![8]⟩
abbrev S_ : Shape := ⟨0, ![]⟩
abbrev S136 : Shape := ⟨1, ![136]⟩
abbrev S136x1 : Shape := ⟨2, ![136, 1]⟩
abbrev S136x8 : Shape := ⟨2, ![136, 8]⟩
abbrev S1 : Shape := ⟨1, ![1]⟩
abbrev S136x512x8 : Shape := ⟨3, ![136, 512, 8]⟩
abbrev S69632x8 : Shape := ⟨2, ![69632, 8]⟩
abbrev S69632x1 : Shape := ⟨2, ![69632, 1]⟩
abbrev S1x1024x7168 : Shape := ⟨3, ![1, 1024, 7168]⟩
abbrev S1024x7168 : Shape := ⟨2, ![1024, 7168]⟩
abbrev S1x3584x1024 : Shape := ⟨3, ![1, 3584, 1024]⟩
abbrev S3584x1024 : Shape := ⟨2, ![3584, 1024]⟩
abbrev S69632x7168 : Shape := ⟨2, ![69632, 7168]⟩
abbrev S69632x3584 : Shape := ⟨2, ![69632, 3584]⟩

abbrev nBuf : Space → Nat
  | .hbm => 243
  | .vmem => 0
  | .smem => 0
  | _ => 0

abbrev hbmTy0_0 (i : Nat) : BufTy := match i % 128 with
  | 0 => ⟨S69632x1024, .bf16⟩
  | 1 => ⟨S69632x128, .f32⟩
  | 2 => ⟨S8x128, .f32⟩
  | 3 => ⟨S8x1024x7168, .f32⟩
  | 4 => ⟨S8x3584x1024, .f32⟩
  | 5 => ⟨S69632x1024, .f32⟩
  | 6 => ⟨S1x8, .f32⟩
  | 7 => ⟨S8, .f32⟩
  | 8 => ⟨S8, .i32⟩
  | 9 => ⟨S_, .i32⟩
  | 10 => ⟨S8, .i32⟩
  | 11 => ⟨S8, .i32⟩
  | 12 => ⟨S_, .i32⟩
  | 13 => ⟨S8, .i32⟩
  | 14 => ⟨S8, .i32⟩
  | 15 => ⟨S_, .i32⟩
  | 16 => ⟨S_, .i32⟩
  | 17 => ⟨S8, .i32⟩
  | 18 => ⟨S8, .i32⟩
  | 19 => ⟨S8, .i32⟩
  | 20 => ⟨S_, .i32⟩
  | 21 => ⟨S8, .i32⟩
  | 22 => ⟨S8, .i1⟩
  | 23 => ⟨S8, .i32⟩
  | 24 => ⟨S8, .i32⟩
  | 25 => ⟨S_, .i32⟩
  | 26 => ⟨S8, .i32⟩
  | 27 => ⟨S8, .i1⟩
  | 28 => ⟨S8, .i1⟩
  | 29 => ⟨S_, .i32⟩
  | 30 => ⟨S8, .i32⟩
  | 31 => ⟨S8, .i32⟩
  | 32 => ⟨S8, .i32⟩
  | 33 => ⟨S_, .i32⟩
  | 34 => ⟨S_, .i32⟩
  | 35 => ⟨S8, .i32⟩
  | 36 => ⟨S136, .i32⟩
  | 37 => ⟨S136x1, .i32⟩
  | 38 => ⟨S1x8, .i32⟩
  | 39 => ⟨S136x8, .i32⟩
  | 40 => ⟨S136x8, .i32⟩
  | 41 => ⟨S136x8, .i1⟩
  | 42 => ⟨S136x8, .i32⟩
  | 43 => ⟨S_, .i32⟩
  | 44 => ⟨S136, .i32⟩
  | 45 => ⟨S1, .i32⟩
  | 46 => ⟨S_, .i32⟩
  | 47 => ⟨S136, .i32⟩
  | 48 => ⟨S136, .i1⟩
  | 49 => ⟨S136, .f32⟩
  | 50 => ⟨S136x1, .i32⟩
  | 51 => ⟨S1x8, .i32⟩
  | 52 => ⟨S136x8, .i32⟩
  | 53 => ⟨S136x8, .i32⟩
  | 54 => ⟨S136x8, .i1⟩
  | 55 => ⟨S136x8, .f32⟩
  | 56 => ⟨S136x1, .f32⟩
  | 57 => ⟨S136x8, .f32⟩
  | 58 => ⟨S136x8, .f32⟩
  | 59 => ⟨S136x512x8, .f32⟩
  | 60 => ⟨S69632x8, .f32⟩
  | 61 => ⟨S69632x1, .f32⟩
  | 62 => ⟨S69632x8, .f32⟩
  | 63 => ⟨S69632x8, .f32⟩
  | 64 => ⟨S_, .f32⟩
  | 65 => ⟨S69632x1024, .f32⟩
  | 66 => ⟨S69632x1, .f32⟩
  | 67 => ⟨S1x1024x7168, .f32⟩
  | 68 => ⟨S1024x7168, .f32⟩
  | 69 => ⟨S1x3584x1024, .f32⟩
  | 70 => ⟨S3584x1024, .f32⟩
  | 71 => ⟨S69632x7168, .f32⟩
  | 72 => ⟨S69632x3584, .f32⟩
  | 73 => ⟨S69632x3584, .f32⟩
  | 74 => ⟨S69632x3584, .f32⟩
  | 75 => ⟨S69632x3584, .f32⟩
  | 76 => ⟨S_, .f32⟩
  | 77 => ⟨S69632x3584, .f32⟩
  | 78 => ⟨S69632x3584, .f32⟩
  | 79 => ⟨S_, .f32⟩
  | 80 => ⟨S69632x3584, .f32⟩
  | 81 => ⟨S69632x3584, .f32⟩
  | 82 => ⟨S69632x3584, .f32⟩
  | 83 => ⟨S69632x3584, .f32⟩
  | 84 => ⟨S69632x1024, .f32⟩
  | 85 => ⟨S69632x1024, .f32⟩
  | 86 => ⟨S69632x1024, .f32⟩
  | 87 => ⟨S69632x1024, .f32⟩
  | 88 => ⟨S69632x1, .f32⟩
  | 89 => ⟨S1x1024x7168, .f32⟩
  | 90 => ⟨S1024x7168, .f32⟩
  | 91 => ⟨S1x3584x1024, .f32⟩
  | 92 => ⟨S3584x1024, .f32⟩
  | 93 => ⟨S69632x7168, .f32⟩
  | 94 => ⟨S69632x3584, .f32⟩
  | 95 => ⟨S69632x3584, .f32⟩
  | 96 => ⟨S69632x3584, .f32⟩
  | 97 => ⟨S69632x3584, .f32⟩
  | 98 => ⟨S_, .f32⟩
  | 99 => ⟨S69632x3584, .f32⟩
  | 100 => ⟨S69632x3584, .f32⟩
  | 101 => ⟨S_, .f32⟩
  | 102 => ⟨S69632x3584, .f32⟩
  | 103 => ⟨S69632x3584, .f32⟩
  | 104 => ⟨S69632x3584, .f32⟩
  | 105 => ⟨S69632x3584, .f32⟩
  | 106 => ⟨S69632x1024, .f32⟩
  | 107 => ⟨S69632x1024, .f32⟩
  | 108 => ⟨S69632x1024, .f32⟩
  | 109 => ⟨S69632x1024, .f32⟩
  | 110 => ⟨S69632x1, .f32⟩
  | 111 => ⟨S1x1024x7168, .f32⟩
  | 112 => ⟨S1024x7168, .f32⟩
  | 113 => ⟨S1x3584x1024, .f32⟩
  | 114 => ⟨S3584x1024, .f32⟩
  | 115 => ⟨S69632x7168, .f32⟩
  | 116 => ⟨S69632x3584, .f32⟩
  | 117 => ⟨S69632x3584, .f32⟩
  | 118 => ⟨S69632x3584, .f32⟩
  | 119 => ⟨S69632x3584, .f32⟩
  | 120 => ⟨S_, .f32⟩
  | 121 => ⟨S69632x3584, .f32⟩
  | 122 => ⟨S69632x3584, .f32⟩
  | 123 => ⟨S_, .f32⟩
  | 124 => ⟨S69632x3584, .f32⟩
  | 125 => ⟨S69632x3584, .f32⟩
  | 126 => ⟨S69632x3584, .f32⟩
  | 127 => ⟨S69632x3584, .f32⟩
  | _ => ⟨S69632x1024, .bf16⟩

abbrev hbmTy0_1 (i : Nat) : BufTy := match i % 128 with
  | 0 => ⟨S69632x1024, .f32⟩
  | 1 => ⟨S69632x1024, .f32⟩
  | 2 => ⟨S69632x1024, .f32⟩
  | 3 => ⟨S69632x1024, .f32⟩
  | 4 => ⟨S69632x1, .f32⟩
  | 5 => ⟨S1x1024x7168, .f32⟩
  | 6 => ⟨S1024x7168, .f32⟩
  | 7 => ⟨S1x3584x1024, .f32⟩
  | 8 => ⟨S3584x1024, .f32⟩
  | 9 => ⟨S69632x7168, .f32⟩
  | 10 => ⟨S69632x3584, .f32⟩
  | 11 => ⟨S69632x3584, .f32⟩
  | 12 => ⟨S69632x3584, .f32⟩
  | 13 => ⟨S69632x3584, .f32⟩
  | 14 => ⟨S_, .f32⟩
  | 15 => ⟨S69632x3584, .f32⟩
  | 16 => ⟨S69632x3584, .f32⟩
  | 17 => ⟨S_, .f32⟩
  | 18 => ⟨S69632x3584, .f32⟩
  | 19 => ⟨S69632x3584, .f32⟩
  | 20 => ⟨S69632x3584, .f32⟩
  | 21 => ⟨S69632x3584, .f32⟩
  | 22 => ⟨S69632x1024, .f32⟩
  | 23 => ⟨S69632x1024, .f32⟩
  | 24 => ⟨S69632x1024, .f32⟩
  | 25 => ⟨S69632x1024, .f32⟩
  | 26 => ⟨S69632x1, .f32⟩
  | 27 => ⟨S1x1024x7168, .f32⟩
  | 28 => ⟨S1024x7168, .f32⟩
  | 29 => ⟨S1x3584x1024, .f32⟩
  | 30 => ⟨S3584x1024, .f32⟩
  | 31 => ⟨S69632x7168, .f32⟩
  | 32 => ⟨S69632x3584, .f32⟩
  | 33 => ⟨S69632x3584, .f32⟩
  | 34 => ⟨S69632x3584, .f32⟩
  | 35 => ⟨S69632x3584, .f32⟩
  | 36 => ⟨S_, .f32⟩
  | 37 => ⟨S69632x3584, .f32⟩
  | 38 => ⟨S69632x3584, .f32⟩
  | 39 => ⟨S_, .f32⟩
  | 40 => ⟨S69632x3584, .f32⟩
  | 41 => ⟨S69632x3584, .f32⟩
  | 42 => ⟨S69632x3584, .f32⟩
  | 43 => ⟨S69632x3584, .f32⟩
  | 44 => ⟨S69632x1024, .f32⟩
  | 45 => ⟨S69632x1024, .f32⟩
  | 46 => ⟨S69632x1024, .f32⟩
  | 47 => ⟨S69632x1024, .f32⟩
  | 48 => ⟨S69632x1, .f32⟩
  | 49 => ⟨S1x1024x7168, .f32⟩
  | 50 => ⟨S1024x7168, .f32⟩
  | 51 => ⟨S1x3584x1024, .f32⟩
  | 52 => ⟨S3584x1024, .f32⟩
  | 53 => ⟨S69632x7168, .f32⟩
  | 54 => ⟨S69632x3584, .f32⟩
  | 55 => ⟨S69632x3584, .f32⟩
  | 56 => ⟨S69632x3584, .f32⟩
  | 57 => ⟨S69632x3584, .f32⟩
  | 58 => ⟨S_, .f32⟩
  | 59 => ⟨S69632x3584, .f32⟩
  | 60 => ⟨S69632x3584, .f32⟩
  | 61 => ⟨S_, .f32⟩
  | 62 => ⟨S69632x3584, .f32⟩
  | 63 => ⟨S69632x3584, .f32⟩
  | 64 => ⟨S69632x3584, .f32⟩
  | 65 => ⟨S69632x3584, .f32⟩
  | 66 => ⟨S69632x1024, .f32⟩
  | 67 => ⟨S69632x1024, .f32⟩
  | 68 => ⟨S69632x1024, .f32⟩
  | 69 => ⟨S69632x1024, .f32⟩
  | 70 => ⟨S69632x1, .f32⟩
  | 71 => ⟨S1x1024x7168, .f32⟩
  | 72 => ⟨S1024x7168, .f32⟩
  | 73 => ⟨S1x3584x1024, .f32⟩
  | 74 => ⟨S3584x1024, .f32⟩
  | 75 => ⟨S69632x7168, .f32⟩
  | 76 => ⟨S69632x3584, .f32⟩
  | 77 => ⟨S69632x3584, .f32⟩
  | 78 => ⟨S69632x3584, .f32⟩
  | 79 => ⟨S69632x3584, .f32⟩
  | 80 => ⟨S_, .f32⟩
  | 81 => ⟨S69632x3584, .f32⟩
  | 82 => ⟨S69632x3584, .f32⟩
  | 83 => ⟨S_, .f32⟩
  | 84 => ⟨S69632x3584, .f32⟩
  | 85 => ⟨S69632x3584, .f32⟩
  | 86 => ⟨S69632x3584, .f32⟩
  | 87 => ⟨S69632x3584, .f32⟩
  | 88 => ⟨S69632x1024, .f32⟩
  | 89 => ⟨S69632x1024, .f32⟩
  | 90 => ⟨S69632x1024, .f32⟩
  | 91 => ⟨S69632x1024, .f32⟩
  | 92 => ⟨S69632x1, .f32⟩
  | 93 => ⟨S1x1024x7168, .f32⟩
  | 94 => ⟨S1024x7168, .f32⟩
  | 95 => ⟨S1x3584x1024, .f32⟩
  | 96 => ⟨S3584x1024, .f32⟩
  | 97 => ⟨S69632x7168, .f32⟩
  | 98 => ⟨S69632x3584, .f32⟩
  | 99 => ⟨S69632x3584, .f32⟩
  | 100 => ⟨S69632x3584, .f32⟩
  | 101 => ⟨S69632x3584, .f32⟩
  | 102 => ⟨S_, .f32⟩
  | 103 => ⟨S69632x3584, .f32⟩
  | 104 => ⟨S69632x3584, .f32⟩
  | 105 => ⟨S_, .f32⟩
  | 106 => ⟨S69632x3584, .f32⟩
  | 107 => ⟨S69632x3584, .f32⟩
  | 108 => ⟨S69632x3584, .f32⟩
  | 109 => ⟨S69632x3584, .f32⟩
  | 110 => ⟨S69632x1024, .f32⟩
  | 111 => ⟨S69632x1024, .f32⟩
  | 112 => ⟨S69632x1024, .f32⟩
  | 113 => ⟨S69632x1024, .f32⟩
  | 114 => ⟨S69632x1024, .bf16⟩
  | _ => ⟨S69632x1024, .bf16⟩

abbrev hbmTy (i : Nat) : BufTy := match i / 128 with
  | 0 => hbmTy0_0 i
  | 1 => hbmTy0_1 i
  | _ => ⟨S69632x1024, .bf16⟩

abbrev bufTy : (tb : Table) → Fin (tcTables nBuf tb) → BufTy
  | .hbm, ⟨i, _⟩ => hbmTy i
  | _, _ => ⟨S69632x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v8 : Ref sig .tc := ⟨.hbm, 32, rfl⟩
abbrev main_call1_call0_c : Ref sig .tc := ⟨.hbm, 33, rfl⟩
abbrev main_call1_call0_v0 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_2 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_call3_v0 : Ref sig .tc := ⟨.hbm, 74, rfl⟩
abbrev main_call3_v1 : Ref sig .tc := ⟨.hbm, 75, rfl⟩
abbrev main_call3_cst : Ref sig .tc := ⟨.hbm, 76, rfl⟩
abbrev main_call3_v2 : Ref sig .tc := ⟨.hbm, 77, rfl⟩
abbrev main_call3_v3 : Ref sig .tc := ⟨.hbm, 78, rfl⟩
abbrev main_call3_cst_0 : Ref sig .tc := ⟨.hbm, 79, rfl⟩
abbrev main_call3_v4 : Ref sig .tc := ⟨.hbm, 80, rfl⟩
abbrev main_call3_v5 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_call4_v0 : Ref sig .tc := ⟨.hbm, 96, rfl⟩
abbrev main_call4_v1 : Ref sig .tc := ⟨.hbm, 97, rfl⟩
abbrev main_call4_cst : Ref sig .tc := ⟨.hbm, 98, rfl⟩
abbrev main_call4_v2 : Ref sig .tc := ⟨.hbm, 99, rfl⟩
abbrev main_call4_v3 : Ref sig .tc := ⟨.hbm, 100, rfl⟩
abbrev main_call4_cst_0 : Ref sig .tc := ⟨.hbm, 101, rfl⟩
abbrev main_call4_v4 : Ref sig .tc := ⟨.hbm, 102, rfl⟩
abbrev main_call4_v5 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_call5_v0 : Ref sig .tc := ⟨.hbm, 118, rfl⟩
abbrev main_call5_v1 : Ref sig .tc := ⟨.hbm, 119, rfl⟩
abbrev main_call5_cst : Ref sig .tc := ⟨.hbm, 120, rfl⟩
abbrev main_call5_v2 : Ref sig .tc := ⟨.hbm, 121, rfl⟩
abbrev main_call5_v3 : Ref sig .tc := ⟨.hbm, 122, rfl⟩
abbrev main_call5_cst_0 : Ref sig .tc := ⟨.hbm, 123, rfl⟩
abbrev main_call5_v4 : Ref sig .tc := ⟨.hbm, 124, rfl⟩
abbrev main_call5_v5 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_call6_v0 : Ref sig .tc := ⟨.hbm, 140, rfl⟩
abbrev main_call6_v1 : Ref sig .tc := ⟨.hbm, 141, rfl⟩
abbrev main_call6_cst : Ref sig .tc := ⟨.hbm, 142, rfl⟩
abbrev main_call6_v2 : Ref sig .tc := ⟨.hbm, 143, rfl⟩
abbrev main_call6_v3 : Ref sig .tc := ⟨.hbm, 144, rfl⟩
abbrev main_call6_cst_0 : Ref sig .tc := ⟨.hbm, 145, rfl⟩
abbrev main_call6_v4 : Ref sig .tc := ⟨.hbm, 146, rfl⟩
abbrev main_call6_v5 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_call7_v0 : Ref sig .tc := ⟨.hbm, 162, rfl⟩
abbrev main_call7_v1 : Ref sig .tc := ⟨.hbm, 163, rfl⟩
abbrev main_call7_cst : Ref sig .tc := ⟨.hbm, 164, rfl⟩
abbrev main_call7_v2 : Ref sig .tc := ⟨.hbm, 165, rfl⟩
abbrev main_call7_v3 : Ref sig .tc := ⟨.hbm, 166, rfl⟩
abbrev main_call7_cst_0 : Ref sig .tc := ⟨.hbm, 167, rfl⟩
abbrev main_call7_v4 : Ref sig .tc := ⟨.hbm, 168, rfl⟩
abbrev main_call7_v5 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_call8_v0 : Ref sig .tc := ⟨.hbm, 184, rfl⟩
abbrev main_call8_v1 : Ref sig .tc := ⟨.hbm, 185, rfl⟩
abbrev main_call8_cst : Ref sig .tc := ⟨.hbm, 186, rfl⟩
abbrev main_call8_v2 : Ref sig .tc := ⟨.hbm, 187, rfl⟩
abbrev main_call8_v3 : Ref sig .tc := ⟨.hbm, 188, rfl⟩
abbrev main_call8_cst_0 : Ref sig .tc := ⟨.hbm, 189, rfl⟩
abbrev main_call8_v4 : Ref sig .tc := ⟨.hbm, 190, rfl⟩
abbrev main_call8_v5 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_call9_v0 : Ref sig .tc := ⟨.hbm, 206, rfl⟩
abbrev main_call9_v1 : Ref sig .tc := ⟨.hbm, 207, rfl⟩
abbrev main_call9_cst : Ref sig .tc := ⟨.hbm, 208, rfl⟩
abbrev main_call9_v2 : Ref sig .tc := ⟨.hbm, 209, rfl⟩
abbrev main_call9_v3 : Ref sig .tc := ⟨.hbm, 210, rfl⟩
abbrev main_call9_cst_0 : Ref sig .tc := ⟨.hbm, 211, rfl⟩
abbrev main_call9_v4 : Ref sig .tc := ⟨.hbm, 212, rfl⟩
abbrev main_call9_v5 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_call10_v0 : Ref sig .tc := ⟨.hbm, 228, rfl⟩
abbrev main_call10_v1 : Ref sig .tc := ⟨.hbm, 229, rfl⟩
abbrev main_call10_cst : Ref sig .tc := ⟨.hbm, 230, rfl⟩
abbrev main_call10_v2 : Ref sig .tc := ⟨.hbm, 231, rfl⟩
abbrev main_call10_v3 : Ref sig .tc := ⟨.hbm, 232, rfl⟩
abbrev main_call10_cst_0 : Ref sig .tc := ⟨.hbm, 233, rfl⟩
abbrev main_call10_v4 : Ref sig .tc := ⟨.hbm, 234, rfl⟩
abbrev main_call10_v5 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_v145 : Ref sig .tc := ⟨.hbm, 242, rfl⟩

abbrev nD : Nat := 1
abbrev τ : Topo := Topo.v7x

variable {F : FTy → Type} [FloatOps F]
-- ==== Kernel6.lean ====
abbrev S1024x32768 : Shape := ⟨2, ![1024, 32768]⟩
abbrev S1024x1024 : Shape := ⟨2, ![1024, 1024]⟩
abbrev S32768x1024 : Shape := ⟨2, ![32768, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S1024x32768, .bf16⟩
  | .hbm, ⟨1, _⟩ => ⟨S1024x1024, .f32⟩
  | .hbm, ⟨2, _⟩ => ⟨S32768x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S32768x1024, .f32⟩
  | .hbm, ⟨9, _⟩ => ⟨S32768x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S1024x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S1024x32768 : Shape := ⟨2, ![1024, 32768]⟩
abbrev S1024x1024 : Shape := ⟨2, ![1024, 1024]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S1024x32768, .bf16⟩
  | .hbm, ⟨1, _⟩ => ⟨S1024x1024, .f32⟩
  | .hbm, ⟨2, _⟩ => ⟨S32768x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S32768x1024, .f32⟩
  | .hbm, ⟨7, _⟩ => ⟨S32768x1024, .f32⟩
  | .hbm, ⟨8, _⟩ => ⟨S32768x1024, .bf16⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1, .f32⟩
  | .hbm, ⟨33, _⟩ => ⟨S32768x1024, .f32⟩
  | .hbm, ⟨34, _⟩ => ⟨S32768x1024, .f32⟩
  | .hbm, ⟨35, _⟩ => ⟨S1x1024, .f32⟩
  | .hbm, ⟨36, _⟩ => ⟨S32768x1024, .f32⟩
  | .hbm, ⟨37, _⟩ => ⟨S32768x1024, .f32⟩
  | .hbm, ⟨38, _⟩ => ⟨S1x1024, .f32⟩
  | .hbm, ⟨39, _⟩ => ⟨S32768x1024, .f32⟩
  | .hbm, ⟨40, _⟩ => ⟨S32768x1024, .f32⟩
  | .hbm, ⟨41, _⟩ => ⟨S32768x1024, .bf16⟩
  | _, _ => ⟨S1024x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Kernel7.lean ====
abbrev S32768x1024 : Shape := ⟨2, ![32768, 1024]⟩
abbrev S1024x1072 : Shape := ⟨2, ![1024, 1072]⟩
abbrev S1024x1024 : Shape := ⟨2, ![1024, 1024]⟩
abbrev S1024x48 : Shape := ⟨2, ![1024, 48]⟩
abbrev S48x1024 : Shape := ⟨2, ![48, 1024]⟩
abbrev S4x12x1024 : Shape := ⟨3, ![4, 12, 1024]⟩
abbrev S_ : Shape := ⟨0, ![]⟩
abbrev S4x16x1024 : Shape := ⟨3, ![4, 16, 1024]⟩
abbrev S64x1024 : Shape := ⟨2, ![64, 1024]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S32x2048 : Shape := ⟨2, ![32, 2048]⟩
abbrev S1024x32768 : Shape := ⟨2, ![1024, 32768]⟩
abbrev S64x32768 : Shape := ⟨2, ![64, 32768]⟩
abbrev S512x1024 : Shape := ⟨2, ![512, 1024]⟩
abbrev S32x512 : Shape := ⟨2, ![32, 512]⟩
abbrev S1024x512 : Shape := ⟨2, ![1024, 512]⟩
abbrev S64x512 : Shape := ⟨2, ![64, 512]⟩

abbrev nBuf : Space → Nat
  | .hbm => 40
  | .vmem => 12
  | .smem => 0
  | _ => 0

abbrev bufTy : (tb : Table) → Fin (tcTables nBuf tb) → BufTy
  | .hbm, ⟨0, _⟩ => ⟨S32768x1024, .bf16⟩
  | .hbm, ⟨1, _⟩ => ⟨S1024x1072, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1024x48, .f32⟩
  | .hbm, ⟨6, _⟩ => ⟨S48x1024, .f32⟩
  | .hbm, ⟨7, _⟩ => ⟨S4x12x1024, .f32⟩
  | .hbm, ⟨8, _⟩ => ⟨S_, .i32⟩
  | .hbm, ⟨9, _⟩ => ⟨S_, .f32⟩
  | .hbm, ⟨10, _⟩ => ⟨S4x16x1024, .f32⟩
  | .hbm, ⟨11, _⟩ => ⟨S64x1024, .f32⟩
  | .hbm, ⟨12, _⟩ => ⟨S64x1024, .bf16⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S2048, .f32⟩
  | .hbm, ⟨30, _⟩ => ⟨S2048x1, .f32⟩
  | .hbm, ⟨31, _⟩ => ⟨S1x32, .f32⟩
  | .hbm, ⟨32, _⟩ => ⟨S2048x32, .f32⟩
  | .hbm, ⟨33, _⟩ => ⟨S2048x32, .f32⟩
  | .hbm, ⟨34, _⟩ => ⟨S2048x32, .f32⟩
  | .hbm, ⟨35, _⟩ => ⟨S32x2048, .f32⟩
  | .hbm, ⟨36, _⟩ => ⟨S32x2048, .f32⟩
  | .hbm, ⟨37, _⟩ => ⟨S32x2048, .f32⟩
  | .hbm, ⟨38, _⟩ => ⟨S1024x32768, .bf16⟩
  | .hbm, ⟨39, _⟩ => ⟨S64x32768, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S64x1024, .bf16⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S1024x512, .bf16⟩
  | .local _ .vmem, ⟨9, _⟩ => ⟨S1024x512, .bf16⟩
  | .local _ .vmem, ⟨10, _⟩ => ⟨S64x512, .f32⟩
  | .local _ .vmem, ⟨11, _⟩ => ⟨S64x512, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29_0 : Ref sig .tc := ⟨.hbm, 38, rfl⟩
abbrev main_v29_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S32768x1024 : Shape := ⟨2, ![32768, 1024]⟩
abbrev S1024x1072 : Shape := ⟨2, ![1024, 1072]⟩
abbrev S32768x1072 : Shape := ⟨2, ![32768, 1072]⟩
abbrev S16x2048x1072 : Shape := ⟨3, ![16, 2048, 1072]⟩
abbrev S16x2048x1024 : Shape := ⟨3, ![16, 2048, 1024]⟩
abbrev S16x2048x16x64 : Shape := ⟨4, ![16, 2048, 16, 64]⟩
abbrev S16x16x2048x64 : Shape := ⟨4, ![16, 16, 2048, 64]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S16x16x2048x32 : Shape := ⟨4, ![16, 16, 2048, 32]⟩
abbrev S1x1x2048x32 : Shape := ⟨4, ![1, 1, 2048, 32]⟩
abbrev S16x2048x48 : Shape := ⟨3, ![16, 2048, 48]⟩
abbrev S16x64x16x2048 : Shape := ⟨4, ![16, 64, 16, 2048]⟩
abbrev S1024x32768 : Shape := ⟨2, ![1024, 32768]⟩
abbrev S32768x48 : Shape := ⟨2, ![32768, 48]⟩
abbrev S48x32768 : Shape := ⟨2, ![48, 32768]⟩
abbrev S4x12x32768 : Shape := ⟨3, ![4, 12, 32768]⟩
abbrev S4x16x32768 : Shape := ⟨3, ![4, 16, 32768]⟩
abbrev S64x32768 : Shape := ⟨2, ![64, 32768]⟩

abbrev nBuf : Space → Nat
  | .hbm => 75
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x1072, .f32⟩
  | .hbm, ⟨2, _⟩ => ⟨S32768x1024, .f32⟩
  | .hbm, ⟨3, _⟩ => ⟨S32768x1072, .f32⟩
  | .hbm, ⟨4, _⟩ => ⟨S16x2048x1072, .f32⟩
  | .hbm, ⟨5, _⟩ => ⟨S16x2048x1024, .f32⟩
  | .hbm, ⟨6, _⟩ => ⟨S16x2048x16x64, .f32⟩
  | .hbm, ⟨7, _⟩ => ⟨S16x16x2048x64, .f32⟩
  | .hbm, ⟨8, _⟩ => ⟨S2048, .i32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S2048, .f32⟩
  | .hbm, ⟨26, _⟩ => ⟨S2048x1, .f32⟩
  | .hbm, ⟨27, _⟩ => ⟨S1x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x32, .f32⟩
  | .hbm, ⟨32, _⟩ => ⟨S2048x32, .f32⟩
  | .hbm, ⟨33, _⟩ => ⟨S16x16x2048x32, .f32⟩
  | .hbm, ⟨34, _⟩ => ⟨S16x16x2048x32, .f32⟩
  | .hbm, ⟨35, _⟩ => ⟨S1x1x2048x32, .f32⟩
  | .hbm, ⟨36, _⟩ => ⟨S16x16x2048x32, .f32⟩
  | .hbm, ⟨37, _⟩ => ⟨S16x16x2048x32, .f32⟩
  | .hbm, ⟨38, _⟩ => ⟨S1x1x2048x32, .f32⟩
  | .hbm, ⟨39, _⟩ => ⟨S16x16x2048x32, .f32⟩
  | .hbm, ⟨40, _⟩ => ⟨S16x16x2048x32, .f32⟩
  | .hbm, ⟨41, _⟩ => ⟨S16x16x2048x32, .f32⟩
  | .hbm, ⟨42, _⟩ => ⟨S1x1x2048x32, .f32⟩
  | .hbm, ⟨43, _⟩ => ⟨S16x16x2048x32, .f32⟩
  | .hbm, ⟨44, _⟩ => ⟨S16x16x2048x32, .f32⟩
  | .hbm, ⟨45, _⟩ => ⟨S1x1x2048x32, .f32⟩
  | .hbm, ⟨46, _⟩ => ⟨S16x16x2048x32, .f32⟩
  | .hbm, ⟨47, _⟩ => ⟨S16x16x2048x32, .f32⟩
  | .hbm, ⟨48, _⟩ => ⟨S16x16x2048x32, .f32⟩
  | .hbm, ⟨49, _⟩ => ⟨S16x16x2048x64, .f32⟩
  | .hbm, ⟨50, _⟩ => ⟨S_, .f32⟩
  | .hbm, ⟨51, _⟩ => ⟨S16x16x2048x64, .f32⟩
  | .hbm, ⟨52, _⟩ => ⟨S16x16x2048x64, .f32⟩
  | .hbm, ⟨53, _⟩ => ⟨S16x2048x48, .f32⟩
  | .hbm, ⟨54, _⟩ => ⟨S16x2048x48, .f32⟩
  | .hbm, ⟨55, _⟩ => ⟨S16x2048x48, .f32⟩
  | .hbm, ⟨56, _⟩ => ⟨S_, .f32⟩
  | .hbm, ⟨57, _⟩ => ⟨S16x2048x48, .f32⟩
  | .hbm, ⟨58, _⟩ => ⟨S16x2048x48, .f32⟩
  | .hbm, ⟨59, _⟩ => ⟨S_, .f32⟩
  | .hbm, ⟨60, _⟩ => ⟨S16x2048x48, .f32⟩
  | .hbm, ⟨61, _⟩ => ⟨S16x2048x48, .f32⟩
  | .hbm, ⟨62, _⟩ => ⟨S_, .f32⟩
  | .hbm, ⟨63, _⟩ => ⟨S16x16x2048x64, .f32⟩
  | .hbm, ⟨64, _⟩ => ⟨S16x16x2048x64, .f32⟩
  | .hbm, ⟨65, _⟩ => ⟨S16x64x16x2048, .f32⟩
  | .hbm, ⟨66, _⟩ => ⟨S1024x32768, .f32⟩
  | .hbm, ⟨67, _⟩ => ⟨S1024x32768, .bf16⟩
  | .hbm, ⟨68, _⟩ => ⟨S32768x48, .f32⟩
  | .hbm, ⟨69, _⟩ => ⟨S48x32768, .f32⟩
  | .hbm, ⟨70, _⟩ => ⟨S4x12x32768, .f32⟩
  | .hbm, ⟨71, _⟩ => ⟨S_, .f32⟩
  | .hbm, ⟨72, _⟩ => ⟨S_, .f32⟩
  | .hbm, ⟨73, _⟩ => ⟨S4x16x32768, .f32⟩
  | .hbm, ⟨74, _⟩ => ⟨S64x32768, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_4 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_5 : Ref sig .tc := ⟨.hbm, 56, rfl⟩
abbrev main_v48 : Ref sig .tc := ⟨.hbm, 57, rfl⟩
abbrev main_v49 : Ref sig .tc := ⟨.hbm, 58, rfl⟩
abbrev main_cst_6 : Ref sig .tc := ⟨.hbm, 59, rfl⟩
abbrev main_v50 : Ref sig .tc := ⟨.hbm, 60, rfl⟩
abbrev main_v51 : Ref sig .tc := ⟨.hbm, 61, rfl⟩
abbrev main_cst_7 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_8 : Ref sig .tc := ⟨.hbm, 71, rfl⟩
abbrev main_call0_v0 : Ref sig .tc := ⟨.hbm, 72, rfl⟩
abbrev main_v60 : Ref sig .tc := ⟨.hbm, 73, rfl⟩
abbrev main_v61 : Ref sig .tc := ⟨.hbm, 74, rfl⟩

abbrev nD : Nat := 1
abbrev τ : Topo := Topo.v7x

variable {F : FTy → Type} [FloatOps F]
-- ==== Proof.Pieces.lean ====
/- What the retention kernel's body leaves at one grid point, unit by unit: two batch rows, four chunks of 128 positions each. -/
module

public import proofs.«01_k».proof.Proof.Gen.KernelIdeal.Value
public import Idealize.ShloMosaic.Lib.Pipeline.ReadBack

@[expose] public section

set_option maxRecDepth 16384

noncomputable section

namespace Cert.Ret

open Cert.KernelIdeal Cert.KernelIdeal.Gen Idealize.ShloMosaic Idealize.ShloMosaic.TcCoe Idealize.SL.Sem
open Idealize.ShloMosaic.Pipeline (Dat)

variable {F : FTy → Type} [FloatOps F]

/-- One unit's new state, from the state before, a chunk of keys and of values, and the two decay columns. -/
def uS (st : Vec F S1x256x512 .f32) (k : Vec F S1x128x256 .bf16) (v : Vec F S1x128x512 .bf16)
    (x5 x6 : Vec F S1x128x1 .f32) : Vec F S1x256x512 .f32 :=
  k0_pay15 (k0_pay5 x6) (k0_pay6 x5) (k0_pay9 k) (k0_pay10 v) (k0_pay12 st)

/-- One unit's output rows, from the state before, its chunks of queries, keys, values and gates, and the tables. -/
def uO (st : Vec F S1x256x512 .f32) (q k : Vec F S1x128x256 .bf16) (v g : Vec F S1x128x512 .bf16)
    (x4 : Vec F S1x128x128 .f32) (x5 : Vec F S1x128x1 .f32) (x7 : Vec F S1x1x512 .f32) : Vec F S1x128x512 .bf16 :=
  k0_pay16 (k0_pay7 x7) (k0_pay11 x4 q k v) (k0_pay13 q st) (k0_pay14 x5) g

variable (x0 x1 : Vec F S2x512x256 .bf16) (x2 x3 : Vec F S2x512x512 .bf16) (x4 : Vec F S1x128x128 .f32)
  (x5 x6 : Vec F S1x128x1 .f32) (x7 : Vec F S1x1x512 .f32) (xs : Vec F S2x256x512 .f32)

/-- The state the point starts from, batch row 0. -/
def s0_0 (xs : Vec F S2x256x512 .f32) : Vec F S1x256x512 .f32 :=
  View.ld xs (Rect.unit (s := S2x256x512) ![0, 0, 0] S1x256x512.size inb_S2x256x512_S1x256x512_0_0_0)

/-- The state of batch row 0 after chunk 0. -/
def s0_1 : Vec F S1x256x512 .f32 :=
  uS (s0_0 xs)
    (View.ld x1 (Rect.unit (s := S2x512x256) ![0, 0, 0] S1x128x256.size inb_S2x512x256_S1x128x256_0_0_0))
    (View.ld x2 (Rect.unit (s := S2x512x512) ![0, 0, 0] S1x128x512.size inb_S2x512x512_S1x128x512_0_0_0)) x5 x6

/-- The output rows of batch row 0, chunk 0. -/
def o0_0 : Vec F S1x128x512 .bf16 :=
  uO (s0_0 xs)
    (View.ld x0 (Rect.unit (s := S2x512x256) ![0, 0, 0] S1x128x256.size inb_S2x512x256_S1x128x256_0_0_0))
    (View.ld x1 (Rect.unit (s := S2x512x256) ![0, 0, 0] S1x128x256.size inb_S2x512x256_S1x128x256_0_0_0))
    (View.ld x2 (Rect.unit (s := S2x512x512) ![0, 0, 0] S1x128x512.size inb_S2x512x512_S1x128x512_0_0_0))
    (View.ld x3 (Rect.unit (s := S2x512x512) ![0, 0, 0] S1x128x512.size inb_S2x512x512_S1x128x512_0_0_0)) x4 x5 x7

/-- The state of batch row 0 after chunk 1. -/
def s0_2 : Vec F S1x256x512 .f32 :=
  uS (s0_1 x1 x2 x5 x6 xs)
    (View.ld x1 (Rect.unit (s := S2x512x256) ![0, 128, 0] S1x128x256.size inb_S2x512x256_S1x128x256_0_128_0))
    (View.ld x2 (Rect.unit (s := S2x512x512) ![0, 128, 0] S1x128x512.size inb_S2x512x512_S1x128x512_0_128_0)) x5 x6

/-- The output rows of batch row 0, chunk 1. -/
def o0_1 : Vec F S1x128x512 .bf16 :=
  uO (s0_1 x1 x2 x5 x6 xs)
    (View.ld x0 (Rect.unit (s := S2x512x256) ![0, 128, 0] S1x128x256.size inb_S2x512x256_S1x128x256_0_128_0))
    (View.ld x1 (Rect.unit (s := S2x512x256) ![0, 128, 0] S1x128x256.size inb_S2x512x256_S1x128x256_0_128_0))
    (View.ld x2 (Rect.unit (s := S2x512x512) ![0, 128, 0] S1x128x512.size inb_S2x512x512_S1x128x512_0_128_0))
    (View.ld x3 (Rect.unit (s := S2x512x512) ![0, 128, 0] S1x128x512.size inb_S2x512x512_S1x128x512_0_128_0)) x4 x5 x7

/-- The state of batch row 0 after chunk 2. -/
def s0_3 : Vec F S1x256x512 .f32 :=
  uS (s0_2 x1 x2 x5 x6 xs)
    (View.ld x1 (Rect.unit (s := S2x512x256) ![0, 256, 0] S1x128x256.size inb_S2x512x256_S1x128x256_0_256_0))
    (View.ld x2 (Rect.unit (s := S2x512x512) ![0, 256, 0] S1x128x512.size inb_S2x512x512_S1x128x512_0_256_0)) x5 x6

/-- The output rows of batch row 0, chunk 2. -/
def o0_2 : Vec F S1x128x512 .bf16 :=
  uO (s0_2 x1 x2 x5 x6 xs)
    (View.ld x0 (Rect.unit (s := S2x512x256) ![0, 256, 0] S1x128x256.size inb_S2x512x256_S1x128x256_0_256_0))
    (View.ld x1 (Rect.unit (s := S2x512x256) ![0, 256, 0] S1x128x256.size inb_S2x512x256_S1x128x256_0_256_0))
    (View.ld x2 (Rect.unit (s := S2x512x512) ![0, 256, 0] S1x128x512.size inb_S2x512x512_S1x128x512_0_256_0))
    (View.ld x3 (Rect.unit (s := S2x512x512) ![0, 256, 0] S1x128x512.size inb_S2x512x512_S1x128x512_0_256_0)) x4 x5 x7

/-- The state of batch row 0 after chunk 3. -/
def s0_4 : Vec F S1x256x512 .f32 :=
  uS (s0_3 x1 x2 x5 x6 xs)
    (View.ld x1 (Rect.unit (s := S2x512x256) ![0, 384, 0] S1x128x256.size inb_S2x512x256_S1x128x256_0_384_0))
    (View.ld x2 (Rect.unit (s := S2x512x512) ![0, 384, 0] S1x128x512.size inb_S2x512x512_S1x128x512_0_384_0)) x5 x6

/-- The output rows of batch row 0, chunk 3. -/
def o0_3 : Vec F S1x128x512 .bf16 :=
  uO (s0_3 x1 x2 x5 x6 xs)
    (View.ld x0 (Rect.unit (s := S2x512x256) ![0, 384, 0] S1x128x256.size inb_S2x512x256_S1x128x256_0_384_0))
    (View.ld x1 (Rect.unit (s := S2x512x256) ![0, 384, 0] S1x128x256.size inb_S2x512x256_S1x128x256_0_384_0))
    (View.ld x2 (Rect.unit (s := S2x512x512) ![0, 384, 0] S1x128x512.size inb_S2x512x512_S1x128x512_0_384_0))
    (View.ld x3 (Rect.unit (s := S2x512x512) ![0, 384, 0] S1x128x512.size inb_S2x512x512_S1x128x512_0_384_0)) x4 x5 x7

/-- The state the point starts from, batch row 1. -/
def s1_0 (xs : Vec F S2x256x512 .f32) : Vec F S1x256x512 .f32 :=
  View.ld xs (Rect.unit (s := S2x256x512) ![1, 0, 0] S1x256x512.size inb_S2x256x512_S1x256x512_1_0_0)

/-- The state of batch row 1 after chunk 0. -/
def s1_1 : Vec F S1x256x512 .f32 :=
  uS (s1_0 xs)
    (View.ld x1 (Rect.unit (s := S2x512x256) ![1, 0, 0] S1x128x256.size inb_S2x512x256_S1x128x256_1_0_0))
    (View.ld x2 (Rect.unit (s := S2x512x512) ![1, 0, 0] S1x128x512.size inb_S2x512x512_S1x128x512_1_0_0)) x5 x6

/-- The output rows of batch row 1, chunk 0. -/
def o1_0 : Vec F S1x128x512 .bf16 :=
  uO (s1_0 xs)
    (View.ld x0 (Rect.unit (s := S2x512x256) ![1, 0, 0] S1x128x256.size inb_S2x512x256_S1x128x256_1_0_0))
    (View.ld x1 (Rect.unit (s := S2x512x256) ![1, 0, 0] S1x128x256.size inb_S2x512x256_S1x128x256_1_0_0))
    (View.ld x2 (Rect.unit (s := S2x512x512) ![1, 0, 0] S1x128x512.size inb_S2x512x512_S1x128x512_1_0_0))
    (View.ld x3 (Rect.unit (s := S2x512x512) ![1, 0, 0] S1x128x512.size inb_S2x512x512_S1x128x512_1_0_0)) x4 x5 x7

/-- The state of batch row 1 after chunk 1. -/
def s1_2 : Vec F S1x256x512 .f32 :=
  uS (s1_1 x1 x2 x5 x6 xs)
    (View.ld x1 (Rect.unit (s := S2x512x256) ![1, 128, 0] S1x128x256.size inb_S2x512x256_S1x128x256_1_128_0))
    (View.ld x2 (Rect.unit (s := S2x512x512) ![1, 128, 0] S1x128x512.size inb_S2x512x512_S1x128x512_1_128_0)) x5 x6

/-- The output rows of batch row 1, chunk 1. -/
def o1_1 : Vec F S1x128x512 .bf16 :=
  uO (s1_1 x1 x2 x5 x6 xs)
    (View.ld x0 (Rect.unit (s := S2x512x256) ![1, 128, 0] S1x128x256.size inb_S2x512x256_S1x128x256_1_128_0))
    (View.ld x1 (Rect.unit (s := S2x512x256) ![1, 128, 0] S1x128x256.size inb_S2x512x256_S1x128x256_1_128_0))
    (View.ld x2 (Rect.unit (s := S2x512x512) ![1, 128, 0] S1x128x512.size inb_S2x512x512_S1x128x512_1_128_0))
    (View.ld x3 (Rect.unit (s := S2x512x512) ![1, 128, 0] S1x128x512.size inb_S2x512x512_S1x128x512_1_128_0)) x4 x5 x7

/-- The state of batch row 1 after chunk 2. -/
def s1_3 : Vec F S1x256x512 .f32 :=
  uS (s1_2 x1 x2 x5 x6 xs)
    (View.ld x1 (Rect.unit (s := S2x512x256) ![1, 256, 0] S1x128x256.size inb_S2x512x256_S1x128x256_1_256_0))
    (View.ld x2 (Rect.unit (s := S2x512x512) ![1, 256, 0] S1x128x512.size inb_S2x512x512_S1x128x512_1_256_0)) x5 x6

/-- The output rows of batch row 1, chunk 2. -/
def o1_2 : Vec F S1x128x512 .bf16 :=
  uO (s1_2 x1 x2 x5 x6 xs)
    (View.ld x0 (Rect.unit (s := S2x512x256) ![1, 256, 0] S1x128x256.size inb_S2x512x256_S1x128x256_1_256_0))
    (View.ld x1 (Rect.unit (s := S2x512x256) ![1, 256, 0] S1x128x256.size inb_S2x512x256_S1x128x256_1_256_0))
    (View.ld x2 (Rect.unit (s := S2x512x512) ![1, 256, 0] S1x128x512.size inb_S2x512x512_S1x128x512_1_256_0))
    (View.ld x3 (Rect.unit (s := S2x512x512) ![1, 256, 0] S1x128x512.size inb_S2x512x512_S1x128x512_1_256_0)) x4 x5 x7

/-- The state of batch row 1 after chunk 3. -/
def s1_4 : Vec F S1x256x512 .f32 :=
  uS (s1_3 x1 x2 x5 x6 xs)
    (View.ld x1 (Rect.unit (s := S2x512x256) ![1, 384, 0] S1x128x256.size inb_S2x512x256_S1x128x256_1_384_0))
    (View.ld x2 (Rect.unit (s := S2x512x512) ![1, 384, 0] S1x128x512.size inb_S2x512x512_S1x128x512_1_384_0)) x5 x6

/-- The output rows of batch row 1, chunk 3. -/
def o1_3 : Vec F S1x128x512 .bf16 :=
  uO (s1_3 x1 x2 x5 x6 xs)
    (View.ld x0 (Rect.unit (s := S2x512x256) ![1, 384, 0] S1x128x256.size inb_S2x512x256_S1x128x256_1_384_0))
    (View.ld x1 (Rect.unit (s := S2x512x256) ![1, 384, 0] S1x128x256.size inb_S2x512x256_S1x128x256_1_384_0))
    (View.ld x2 (Rect.unit (s := S2x512x512) ![1, 384, 0] S1x128x512.size inb_S2x512x512_S1x128x512_1_384_0))
    (View.ld x3 (Rect.unit (s := S2x512x512) ![1, 384, 0] S1x128x512.size inb_S2x512x512_S1x128x512_1_384_0)) x4 x5 x7

/-- The output block's pieces, last store first. -/
def oL : List (View.Piece (Elt F) S2x512x512 .bf16) :=
  [⟨Rect.unit (s := S2x512x512) ![1, 384, 0] S1x128x512.size inb_S2x512x512_S1x128x512_1_384_0, o1_3 x0 x1 x2 x3 x4 x5 x6 x7 xs⟩,
    ⟨Rect.unit (s := S2x512x512) ![0, 384, 0] S1x128x512.size inb_S2x512x512_S1x128x512_0_384_0, o0_3 x0 x1 x2 x3 x4 x5 x6 x7 xs⟩,
    ⟨Rect.unit (s := S2x512x512) ![1, 256, 0] S1x128x512.size inb_S2x512x512_S1x128x512_1_256_0, o1_2 x0 x1 x2 x3 x4 x5 x6 x7 xs⟩,
    ⟨Rect.unit (s := S2x512x512) ![0, 256, 0] S1x128x512.size inb_S2x512x512_S1x128x512_0_256_0, o0_2 x0 x1 x2 x3 x4 x5 x6 x7 xs⟩,
    ⟨Rect.unit (s := S2x512x512) ![1, 128, 0] S1x128x512.size inb_S2x512x512_S1x128x512_1_128_0, o1_1 x0 x1 x2 x3 x4 x5 x6 x7 xs⟩,
    ⟨Rect.unit (s := S2x512x512) ![0, 128, 0] S1x128x512.size inb_S2x512x512_S1x128x512_0_128_0, o0_1 x0 x1 x2 x3 x4 x5 x6 x7 xs⟩,
    ⟨Rect.unit (s := S2x512x512) ![1, 0, 0] S1x128x512.size inb_S2x512x512_S1x128x512_1_0_0, o1_0 x0 x1 x2 x3 x4 x5 x7 xs⟩,
    ⟨Rect.unit (s := S2x512x512) ![0, 0, 0] S1x128x512.size inb_S2x512x512_S1x128x512_0_0_0, o0_0 x0 x1 x2 x3 x4 x5 x7 xs⟩]

/-- The scratch's last two pieces, batch row 1 then batch row 0, over whatever earlier stores. -/
def sL (L : List (View.Piece (Elt F) S2x256x512 .f32)) : List (View.Piece (Elt F) S2x256x512 .f32) :=
  ⟨Rect.unit (s := S2x256x512) ![1, 0, 0] S1x256x512.size inb_S2x256x512_S1x256x512_1_0_0, s1_4 x1 x2 x5 x6 xs⟩ ::
  ⟨Rect.unit (s := S2x256x512) ![0, 0, 0] S1x256x512.size inb_S2x256x512_S1x256x512_0_0_0, s0_4 x1 x2 x5 x6 xs⟩ :: L

/-- A load of the whole of a table block is the block. -/
theorem ldW1 (x : Vec F S1x128x1 .f32) (h) : View.ld x (Rect.unit (s := S1x128x1) ![0, 0, 0] ![1, 128, 1] h) = x :=
  View.ld_unit_zero (by funext a; fin_cases a <;> rfl) h x

/-- The same for the decay matrix. -/
theorem ldW2 (x : Vec F S1x128x128 .f32) (h) : View.ld x (Rect.unit (s := S1x128x128) ![0, 0, 0] ![1, 128, 128] h) = x :=
  View.ld_unit_zero (by funext a; fin_cases a <;> rfl) h x

/-- The same for the gain row. -/
theorem ldW3 (x : Vec F S1x1x512 .f32) (h) : View.ld x (Rect.unit (s := S1x1x512) ![0, 0, 0] ![1, 1, 512] h) = x :=
  View.ld_unit_zero (by funext a; fin_cases a <;> rfl) h x

section
variable (c : Dev nD)
  (arg3 : Memref sig .tc .vmem S2x512x256 .bf16) (harg3 : arg3.IsWhole)
  (arg4 : Memref sig .tc .vmem S2x512x256 .bf16) (harg4 : arg4.IsWhole)
  (arg5 : Memref sig .tc .vmem S2x512x512 .bf16) (harg5 : arg5.IsWhole)
  (arg6 : Memref sig .tc .vmem S2x512x512 .bf16) (harg6 : arg6.IsWhole)
  (arg7 : Memref sig .tc .vmem S1x128x128 .f32) (harg7 : arg7.IsWhole)
  (arg8 : Memref sig .tc .vmem S1x128x1 .f32) (harg8 : arg8.IsWhole)
  (arg9 : Memref sig .tc .vmem S1x128x1 .f32) (harg9 : arg9.IsWhole)
  (arg10 : Memref sig .tc .vmem S1x1x512 .f32) (harg10 : arg10.IsWhole)
  (arg11 : Memref sig .tc .vmem S2x512x512 .bf16) (harg11 : arg11.IsWhole)
  (arg12 : Memref sig .tc .vmem S2x256x512 .f32) (harg12 : arg12.IsWhole)

/-- Case A: what the load of batch row 0 before chunk 0 reads. -/
theorem Av22 : (kernelRun0_A.sl.v22 c arg12 : Vec F S1x256x512 .f32) = s0_0 k0_pay2 := by
  unfold kernelRun0_A.sl.v22 kernelRun0_A.sl.HS0_1
  rw [View.readCov_fill _ _ _ _ _ (by decide)]
  rfl

/-- Case A: what the load of batch row 1 before chunk 0 reads. -/
theorem Av78 : (kernelRun0_A.sl.v78 c arg4 harg4 arg5 harg5 arg8 harg8 arg9 harg9 arg12 x1 x2 x5 x6 : Vec F S1x256x512 .f32) = s1_0 k0_pay2 := by
  unfold kernelRun0_A.sl.v78 kernelRun0_A.sl.HS0_2 kernelRun0_A.sl.HS0_1
  rw [View.readCov_skip _ _ _ _ _ (by decide), View.readCov_fill _ _ _ _ _ (by decide)]
  rfl

/-- Case A: what the load of batch row 0 before chunk 1 reads. -/
theorem Av134 : (kernelRun0_A.sl.v134 c arg4 harg4 arg5 harg5 arg8 harg8 arg9 harg9 arg12 x1 x2 x5 x6 : Vec F S1x256x512 .f32) = s0_1 x1 x2 x5 x6 k0_pay2 := by
  unfold kernelRun0_A.sl.v134 kernelRun0_A.sl.HS0_3 kernelRun0_A.sl.HS0_2
  rw [View.readCov_skip _ _ _ _ _ (by decide), View.readCov_cons_toLoadRect]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, Av22, Av78, View.readAt_eq_ld, harg4.read_unread, harg5.read_unread, harg8.read_unread, harg9.read_unread]
  simp only [ldW1, ldW2, ldW3]
  rfl

/-- Case A: what the load of batch row 1 before chunk 1 reads. -/
theorem Av190 : (kernelRun0_A.sl.v190 c arg4 harg4 arg5 harg5 arg8 harg8 arg9 harg9 arg12 x1 x2 x5 x6 : Vec F S1x256x512 .f32) = s1_1 x1 x2 x5 x6 k0_pay2 := by
  unfold kernelRun0_A.sl.v190 kernelRun0_A.sl.HS0_4 kernelRun0_A.sl.HS0_3
  rw [View.readCov_skip _ _ _ _ _ (by decide), View.readCov_cons_toLoadRect]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, Av22, Av78, Av134, View.readAt_eq_ld, harg4.read_unread, harg5.read_unread, harg8.read_unread, harg9.read_unread]
  simp only [ldW1, ldW2, ldW3]
  rfl

/-- Case A: what the load of batch row 0 before chunk 2 reads. -/
theorem Av246 : (kernelRun0_A.sl.v246 c arg4 harg4 arg5 harg5 arg8 harg8 arg9 harg9 arg12 x1 x2 x5 x6 : Vec F S1x256x512 .f32) = s0_2 x1 x2 x5 x6 k0_pay2 := by
  unfold kernelRun0_A.sl.v246 kernelRun0_A.sl.HS0_5 kernelRun0_A.sl.HS0_4
  rw [View.readCov_skip _ _ _ _ _ (by decide), View.readCov_cons_toLoadRect]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, Av22, Av78, Av134, Av190, View.readAt_eq_ld, harg4.read_unread, harg5.read_unread, harg8.read_unread, harg9.read_unread]
  simp only [ldW1, ldW2, ldW3]
  rfl

/-- Case A: what the load of batch row 1 before chunk 2 reads. -/
theorem Av302 : (kernelRun0_A.sl.v302 c arg4 harg4 arg5 harg5 arg8 harg8 arg9 harg9 arg12 x1 x2 x5 x6 : Vec F S1x256x512 .f32) = s1_2 x1 x2 x5 x6 k0_pay2 := by
  unfold kernelRun0_A.sl.v302 kernelRun0_A.sl.HS0_6 kernelRun0_A.sl.HS0_5
  rw [View.readCov_skip _ _ _ _ _ (by decide), View.readCov_cons_toLoadRect]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, Av22, Av78, Av134, Av190, Av246, View.readAt_eq_ld, harg4.read_unread, harg5.read_unread, harg8.read_unread, harg9.read_unread]
  simp only [ldW1, ldW2, ldW3]
  rfl

/-- Case A: what the load of batch row 0 before chunk 3 reads. -/
theorem Av358 : (kernelRun0_A.sl.v358 c arg4 harg4 arg5 harg5 arg8 harg8 arg9 harg9 arg12 x1 x2 x5 x6 : Vec F S1x256x512 .f32) = s0_3 x1 x2 x5 x6 k0_pay2 := by
  unfold kernelRun0_A.sl.v358 kernelRun0_A.sl.HS0_7 kernelRun0_A.sl.HS0_6
  rw [View.readCov_skip _ _ _ _ _ (by decide), View.readCov_cons_toLoadRect]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, Av22, Av78, Av134, Av190, Av246, Av302, View.readAt_eq_ld, harg4.read_unread, harg5.read_unread, harg8.read_unread, harg9.read_unread]
  simp only [ldW1, ldW2, ldW3]
  rfl

/-- Case A: what the load of batch row 1 before chunk 3 reads. -/
theorem Av414 : (kernelRun0_A.sl.v414 c arg4 harg4 arg5 harg5 arg8 harg8 arg9 harg9 arg12 x1 x2 x5 x6 : Vec F S1x256x512 .f32) = s1_3 x1 x2 x5 x6 k0_pay2 := by
  unfold kernelRun0_A.sl.v414 kernelRun0_A.sl.HS0_8 kernelRun0_A.sl.HS0_7
  rw [View.readCov_skip _ _ _ _ _ (by decide), View.readCov_cons_toLoadRect]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, Av22, Av78, Av134, Av190, Av246, Av302, Av358, View.readAt_eq_ld, harg4.read_unread, harg5.read_unread, harg8.read_unread, harg9.read_unread]
  simp only [ldW1, ldW2, ldW3]
  rfl

/-- Case B: what the load of batch row 1 before chunk 0 reads. -/
theorem Bv78 : (kernelRun0_B.sl.v78 c arg12 harg12 xs : Vec F S1x256x512 .f32) = s1_0 xs := by
  unfold kernelRun0_B.sl.v78
  rw [View.readAt_eq_ld, harg12.read_unread]
  rfl

/-- Case B: what the load of batch row 0 before chunk 1 reads. -/
theorem Bv134 : (kernelRun0_B.sl.v134 c arg4 harg4 arg5 harg5 arg8 harg8 arg9 harg9 arg12 harg12 x1 x2 x5 x6 xs : Vec F S1x256x512 .f32) = s0_1 x1 x2 x5 x6 xs := by
  unfold kernelRun0_B.sl.v134 kernelRun0_B.sl.HS0_2
  rw [View.readCov_skip _ _ _ _ _ (by decide), View.readCov_cons_toLoadRect]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, Bv78, View.readAt_eq_ld, harg4.read_unread, harg5.read_unread, harg8.read_unread, harg9.read_unread, harg12.read_unread]
  simp only [ldW1, ldW2, ldW3]
  rfl

/-- Case B: what the load of batch row 1 before chunk 1 reads. -/
theorem Bv190 : (kernelRun0_B.sl.v190 c arg4 harg4 arg5 harg5 arg8 harg8 arg9 harg9 arg12 harg12 x1 x2 x5 x6 xs : Vec F S1x256x512 .f32) = s1_1 x1 x2 x5 x6 xs := by
  unfold kernelRun0_B.sl.v190 kernelRun0_B.sl.HS0_3 kernelRun0_B.sl.HS0_2
  rw [View.readCov_skip _ _ _ _ _ (by decide), View.readCov_cons_toLoadRect]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, Bv78, Bv134, View.readAt_eq_ld, harg4.read_unread, harg5.read_unread, harg8.read_unread, harg9.read_unread, harg12.read_unread]
  simp only [ldW1, ldW2, ldW3]
  rfl

/-- Case B: what the load of batch row 0 before chunk 2 reads. -/
theorem Bv246 : (kernelRun0_B.sl.v246 c arg4 harg4 arg5 harg5 arg8 harg8 arg9 harg9 arg12 harg12 x1 x2 x5 x6 xs : Vec F S1x256x512 .f32) = s0_2 x1 x2 x5 x6 xs := by
  unfold kernelRun0_B.sl.v246 kernelRun0_B.sl.HS0_4 kernelRun0_B.sl.HS0_3
  rw [View.readCov_skip _ _ _ _ _ (by decide), View.readCov_cons_toLoadRect]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, Bv78, Bv134, Bv190, View.readAt_eq_ld, harg4.read_unread, harg5.read_unread, harg8.read_unread, harg9.read_unread, harg12.read_unread]
  simp only [ldW1, ldW2, ldW3]
  rfl

/-- Case B: what the load of batch row 1 before chunk 2 reads. -/
theorem Bv302 : (kernelRun0_B.sl.v302 c arg4 harg4 arg5 harg5 arg8 harg8 arg9 harg9 arg12 harg12 x1 x2 x5 x6 xs : Vec F S1x256x512 .f32) = s1_2 x1 x2 x5 x6 xs := by
  unfold kernelRun0_B.sl.v302 kernelRun0_B.sl.HS0_5 kernelRun0_B.sl.HS0_4
  rw [View.readCov_skip _ _ _ _ _ (by decide), View.readCov_cons_toLoadRect]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, Bv78, Bv134, Bv190, Bv246, View.readAt_eq_ld, harg4.read_unread, harg5.read_unread, harg8.read_unread, harg9.read_unread, harg12.read_unread]
  simp only [ldW1, ldW2, ldW3]
  rfl

/-- Case B: what the load of batch row 0 before chunk 3 reads. -/
theorem Bv358 : (kernelRun0_B.sl.v358 c arg4 harg4 arg5 harg5 arg8 harg8 arg9 harg9 arg12 harg12 x1 x2 x5 x6 xs : Vec F S1x256x512 .f32) = s0_3 x1 x2 x5 x6 xs := by
  unfold kernelRun0_B.sl.v358 kernelRun0_B.sl.HS0_6 kernelRun0_B.sl.HS0_5
  rw [View.readCov_skip _ _ _ _ _ (by decide), View.readCov_cons_toLoadRect]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, Bv78, Bv134, Bv190, Bv246, Bv302, View.readAt_eq_ld, harg4.read_unread, harg5.read_unread, harg8.read_unread, harg9.read_unread, harg12.read_unread]
  simp only [ldW1, ldW2, ldW3]
  rfl

/-- Case B: what the load of batch row 1 before chunk 3 reads. -/
theorem Bv414 : (kernelRun0_B.sl.v414 c arg4 harg4 arg5 harg5 arg8 harg8 arg9 harg9 arg12 harg12 x1 x2 x5 x6 xs : Vec F S1x256x512 .f32) = s1_3 x1 x2 x5 x6 xs := by
  unfold kernelRun0_B.sl.v414 kernelRun0_B.sl.HS0_7 kernelRun0_B.sl.HS0_6
  rw [View.readCov_skip _ _ _ _ _ (by decide), View.readCov_cons_toLoadRect]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, Bv78, Bv134, Bv190, Bv246, Bv302, Bv358, View.readAt_eq_ld, harg4.read_unread, harg5.read_unread, harg8.read_unread, harg9.read_unread, harg12.read_unread]
  simp only [ldW1, ldW2, ldW3]
  rfl

/-- Case A: the output's pieces. -/
theorem outA (i : grid0.Coords) (hc0 : cond0_0 i) :
    (kernelRun0_A c i arg3 harg3 arg4 harg4 arg5 harg5 arg6 harg6 arg7 harg7 arg8 harg8 arg9 harg9 arg10 harg10 arg11 harg11 arg12 harg12 hc0 x0 x1 x2 x3 x4 x5 x6 x7).1 = oL x0 x1 x2 x3 x4 x5 x6 x7 k0_pay2 := by
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, Av22, Av78, Av134, Av190, Av246, Av302, Av358, Av414, View.readAt_eq_ld, harg3.read_unread, harg4.read_unread, harg5.read_unread, harg6.read_unread, harg7.read_unread, harg8.read_unread, harg9.read_unread, harg10.read_unread, harg12.read_unread]
  simp only [ldW1, ldW2, ldW3]
  rfl

/-- Case A: the scratch's pieces. -/
theorem scrA (i : grid0.Coords) (hc0 : cond0_0 i) :
    (kernelRun0_A c i arg3 harg3 arg4 harg4 arg5 harg5 arg6 harg6 arg7 harg7 arg8 harg8 arg9 harg9 arg10 harg10 arg11 harg11 arg12 harg12 hc0 x0 x1 x2 x3 x4 x5 x6 x7).2.1 = sL x1 x2 x5 x6 k0_pay2 ((kernelRun0_A c i arg3 harg3 arg4 harg4 arg5 harg5 arg6 harg6 arg7 harg7 arg8 harg8 arg9 harg9 arg10 harg10 arg11 harg11 arg12 harg12 hc0 x0 x1 x2 x3 x4 x5 x6 x7).2.1.drop 2) := by
  unfold kernelRun0_A
  dsimp only
  unfold kernelRun0_A.sl.HS0_8
  unfold sL
  dsimp only [List.drop_succ_cons, List.drop_zero]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, Av22, Av78, Av134, Av190, Av246, Av302, Av358, Av414, View.readAt_eq_ld, harg3.read_unread, harg4.read_unread, harg5.read_unread, harg6.read_unread, harg7.read_unread, harg8.read_unread, harg9.read_unread, harg10.read_unread, harg12.read_unread]
  simp only [ldW1, ldW2, ldW3]
  rfl

/-- Case B: the output's pieces. -/
theorem outB (i : grid0.Coords) (hc0 : ¬cond0_0 i) :
    (kernelRun0_B c i arg3 harg3 arg4 harg4 arg5 harg5 arg6 harg6 arg7 harg7 arg8 harg8 arg9 harg9 arg10 harg10 arg11 harg11 arg12 harg12 hc0 x0 x1 x2 x3 x4 x5 x6 x7 xs).1 = oL x0 x1 x2 x3 x4 x5 x6 x7 xs := by
  unfold kernelRun0_B
  dsimp only
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, Bv78, Bv134, Bv190, Bv246, Bv302, Bv358, Bv414, View.readAt_eq_ld, harg3.read_unread, harg4.read_unread, harg5.read_unread, harg6.read_unread, harg7.read_unread, harg8.read_unread, harg9.read_unread, harg10.read_unread, harg12.read_unread]
  simp only [ldW1, ldW2, ldW3]
  rfl

/-- Case B: the scratch's pieces. -/
theorem scrB (i : grid0.Coords) (hc0 : ¬cond0_0 i) :
    (kernelRun0_B c i arg3 harg3 arg4 harg4 arg5 harg5 arg6 harg6 arg7 harg7 arg8 harg8 arg9 harg9 arg10 harg10 arg11 harg11 arg12 harg12 hc0 x0 x1 x2 x3 x4 x5 x6 x7 xs).2.1 = sL x1 x2 x5 x6 xs ((kernelRun0_B c i arg3 harg3 arg4 harg4 arg5 harg5 arg6 harg6 arg7 harg7 arg8 harg8 arg9 harg9 arg10 harg10 arg11 harg11 arg12 harg12 hc0 x0 x1 x2 x3 x4 x5 x6 x7 xs).2.1.drop 2) := by
  unfold kernelRun0_B
  dsimp only
  unfold kernelRun0_B.sl.HS0_7
  unfold sL
  dsimp only [List.drop_succ_cons, List.drop_zero]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, Bv78, Bv134, Bv190, Bv246, Bv302, Bv358, Bv414, View.readAt_eq_ld, harg3.read_unread, harg4.read_unread, harg5.read_unread, harg6.read_unread, harg7.read_unread, harg8.read_unread, harg9.read_unread, harg10.read_unread, harg12.read_unread]
  simp only [ldW1, ldW2, ldW3]
  rfl

end

end Cert.Ret

end
-- ==== Proof.Model.lean ====
/- The retention's mathematics, and what the kernel's body computes at one grid point in its words. -/
module

public import proofs.«01_k».proof.Proof.Pieces
public import Idealize.ShloMosaic.Lib.Pointwise

@[expose] public section
set_option maxRecDepth 16384
noncomputable section
namespace Cert.Ret
open Cert.KernelIdeal Cert.KernelIdeal.Gen Idealize.ShloMosaic Idealize.ShloMosaic.TcCoe Idealize.SL.Sem
open Idealize.ShloMosaic.Pipeline (Dat)

/-- The state of one head of one sequence before chunk `n`: decayed by a chunk and added the outer products of decayed keys and values. -/
def stM (cd : EReal) (kd : Fin 128 → EReal) (K : ℕ → Fin 256 → EReal) (V : ℕ → Fin 512 → EReal) : ℕ → Fin 256 → Fin 512 → EReal
  | 0 => fun _ _ => 0
  | n + 1 => fun d e => stM cd kd K V n d e * cd + ∑ r : Fin 128, K (128 * n + r.val) d * kd r * V (128 * n + r.val) e

/-- One position's output before normalisation: the chunk's own scores, decayed, on the values, and the query on the state. -/
def rawM (S : Fin 256 → Fin 512 → EReal) (q : Fin 256 → EReal) (k : Fin 128 → Fin 256 → EReal) (v : Fin 128 → Fin 512 → EReal)
    (D : Fin 128 → EReal) (qd : EReal) (e : Fin 512) : EReal :=
  ∑ j : Fin 128, (∑ d : Fin 256, q d * k j d) * D j * v j e + (∑ d : Fin 256, q d * S d e) * qd

/-- The mean of a row of 512. -/
def meanM (y : Fin 512 → EReal) : EReal := Ideal.div (∑ x, y x) (Ideal.ofBits FTy.f32 1140850688#32)

/-- A row centred and divided by its deviation. -/
def normM (y : Fin 512 → EReal) (e : Fin 512) : EReal :=
  (y e - meanM y) * Ideal.rsqrt (Ideal.div (∑ x, (y x - meanM y) * (y x - meanM y)) (Ideal.ofBits FTy.f32 1140850688#32) + Ideal.ofBits FTy.f32 925353388#32)

/-- One entry of the result: the gate's silu times the normalised output times the gain. -/
def resM (g : EReal) (y : Fin 512 → EReal) (e : Fin 512) (gn : EReal) : EReal := g * Ideal.logistic g * (normM y e * gn)

/-- Position `128 n + r`'s output before normalisation. -/
def yM (cd : EReal) (kd : Fin 128 → EReal) (qd : Fin 128 → EReal) (D : Fin 128 → Fin 128 → EReal) (Q K : ℕ → Fin 256 → EReal) (V : ℕ → Fin 512 → EReal)
    (n : ℕ) (r : Fin 128) : Fin 512 → EReal :=
  rawM (stM cd kd K V n) (Q (128 * n + r.val)) (fun j => K (128 * n + j.val)) (fun j => V (128 * n + j.val)) (D r) (qd r)

/-- One unit's new state at an entry. -/
theorem uS_at (st : Vec Ideal S1x256x512 .f32) (k : Vec Ideal S1x128x256 .bf16) (v : Vec Ideal S1x128x512 .bf16)
    (x5 x6 : Vec Ideal S1x128x1 .f32) (d : Fin 256) (e : Fin 512) :
    uS st k v x5 x6 (ix3 (0 : Fin 1) d e) = st (ix3 0 d e) * x5 (ix3 0 127 0) + ∑ r : Fin 128, k (ix3 0 r d) * x6 (ix3 0 r 0) * v (ix3 0 r e) := by
  unfold uS
  unfold_payloads
  pointwise

/-- One unit's output at an entry. -/
theorem uO_at (st : Vec Ideal S1x256x512 .f32) (q k : Vec Ideal S1x128x256 .bf16) (v g : Vec Ideal S1x128x512 .bf16)
    (x4 : Vec Ideal S1x128x128 .f32) (x5 : Vec Ideal S1x128x1 .f32) (x7 : Vec Ideal S1x1x512 .f32) (r : Fin 128) (e : Fin 512) :
    uO st q k v g x4 x5 x7 (ix3 (0 : Fin 1) r e)
      = resM (g (ix3 0 r e)) (rawM (fun d x => st (ix3 0 d x)) (fun d => q (ix3 0 r d)) (fun j d => k (ix3 0 j d)) (fun j x => v (ix3 0 j x)) (fun j => x4 (ix3 0 r j)) (x5 (ix3 0 r 0))) e (x7 (ix3 0 0 e)) := by
  unfold uO resM normM meanM rawM
  unfold_payloads
  pointwise

section
variable (cd : EReal) (kd qd : Fin 128 → EReal) (D : Fin 128 → Fin 128 → EReal) (Q K : ℕ → Fin 256 → EReal) (V G : ℕ → Fin 512 → EReal) (gn : Fin 512 → EReal) (n : ℕ)
  (x0 x1 : Vec Ideal S2x512x256 .bf16) (x2 x3 : Vec Ideal S2x512x512 .bf16) (x4 : Vec Ideal S1x128x128 .f32)
  (x5 x6 : Vec Ideal S1x128x1 .f32) (x7 : Vec Ideal S1x1x512 .f32) (xs : Vec Ideal S2x256x512 .f32)

/-- Batch row 0's state before chunk 0 of the point. -/
theorem st_0_0 (hS : ∀ d e, xs (ix3 (0 : Fin 2) d e) = stM cd kd K V n d e) (d : Fin 256) (e : Fin 512) :
    s0_0 xs (ix3 (0 : Fin 1) d e) = stM cd kd K V (n + 0) d e := by
  refine Eq.trans ?_ (hS d e)
  unfold s0_0
  pointwise

/-- Batch row 0's chunk 0 of a block of keys (or queries). -/
theorem ld_k0_0 (K : ℕ → Fin 256 → EReal) (n : ℕ) (x1 : Vec Ideal S2x512x256 .bf16) (hK : ∀ j d, x1 (ix3 (0 : Fin 2) j d) = K (128 * n + j.val) d) (r : Fin 128) (d : Fin 256) :
    View.ld x1 (Rect.unit (s := S2x512x256) ![0, 0, 0] S1x128x256.size inb_S2x512x256_S1x128x256_0_0_0) (ix3 (0 : Fin 1) r d) = K (128 * (n + 0) + r.val) d := by
  refine Eq.trans ?_ ((hK (⟨0 + r.val, by omega⟩ : Fin 512) d).trans (by congr 1; show 128 * n + (0 + r.val) = _; omega))
  pointwise

/-- Batch row 0's chunk 0 of a block of values (or gates). -/
theorem ld_v0_0 (V : ℕ → Fin 512 → EReal) (n : ℕ) (x2 : Vec Ideal S2x512x512 .bf16) (hV : ∀ j e, x2 (ix3 (0 : Fin 2) j e) = V (128 * n + j.val) e) (r : Fin 128) (d : Fin 512) :
    View.ld x2 (Rect.unit (s := S2x512x512) ![0, 0, 0] S1x128x512.size inb_S2x512x512_S1x128x512_0_0_0) (ix3 (0 : Fin 1) r d) = V (128 * (n + 0) + r.val) d := by
  refine Eq.trans ?_ ((hV (⟨0 + r.val, by omega⟩ : Fin 512) d).trans (by congr 1; show 128 * n + (0 + r.val) = _; omega))
  pointwise

/-- Batch row 0's state before chunk 1 of the point. -/
theorem st_0_1 (hS : ∀ d e, xs (ix3 (0 : Fin 2) d e) = stM cd kd K V n d e) (hK : ∀ j d, x1 (ix3 (0 : Fin 2) j d) = K (128 * n + j.val) d) (hV : ∀ j e, x2 (ix3 (0 : Fin 2) j e) = V (128 * n + j.val) e) (h5 : x5 (ix3 (0 : Fin 1) (127 : Fin 128) (0 : Fin 1)) = cd) (h6 : ∀ r, x6 (ix3 (0 : Fin 1) r (0 : Fin 1)) = kd r) (d : Fin 256) (e : Fin 512) :
    s0_1 x1 x2 x5 x6 xs (ix3 (0 : Fin 1) d e) = stM cd kd K V (n + 1) d e := by
  unfold s0_1
  rw [uS_at, st_0_0 cd kd K V n xs hS, h5]
  show _ = stM cd kd K V (n + 0) d e * cd + _
  congr 1
  refine Finset.sum_congr rfl fun r _ => ?_
  rw [h6, ld_k0_0 K n x1 hK r d, ld_v0_0 V n x2 hV r e]
  rfl

/-- Batch row 0's chunk 1 of a block of keys (or queries). -/
theorem ld_k0_1 (K : ℕ → Fin 256 → EReal) (n : ℕ) (x1 : Vec Ideal S2x512x256 .bf16) (hK : ∀ j d, x1 (ix3 (0 : Fin 2) j d) = K (128 * n + j.val) d) (r : Fin 128) (d : Fin 256) :
    View.ld x1 (Rect.unit (s := S2x512x256) ![0, 128, 0] S1x128x256.size inb_S2x512x256_S1x128x256_0_128_0) (ix3 (0 : Fin 1) r d) = K (128 * (n + 1) + r.val) d := by
  refine Eq.trans ?_ ((hK (⟨128 + r.val, by omega⟩ : Fin 512) d).trans (by congr 1; show 128 * n + (128 + r.val) = _; omega))
  pointwise

/-- Batch row 0's chunk 1 of a block of values (or gates). -/
theorem ld_v0_1 (V : ℕ → Fin 512 → EReal) (n : ℕ) (x2 : Vec Ideal S2x512x512 .bf16) (hV : ∀ j e, x2 (ix3 (0 : Fin 2) j e) = V (128 * n + j.val) e) (r : Fin 128) (d : Fin 512) :
    View.ld x2 (Rect.unit (s := S2x512x512) ![0, 128, 0] S1x128x512.size inb_S2x512x512_S1x128x512_0_128_0) (ix3 (0 : Fin 1) r d) = V (128 * (n + 1) + r.val) d := by
  refine Eq.trans ?_ ((hV (⟨128 + r.val, by omega⟩ : Fin 512) d).trans (by congr 1; show 128 * n + (128 + r.val) = _; omega))
  pointwise

/-- Batch row 0's state before chunk 2 of the point. -/
theorem st_0_2 (hS : ∀ d e, xs (ix3 (0 : Fin 2) d e) = stM cd kd K V n d e) (hK : ∀ j d, x1 (ix3 (0 : Fin 2) j d) = K (128 * n + j.val) d) (hV : ∀ j e, x2 (ix3 (0 : Fin 2) j e) = V (128 * n + j.val) e) (h5 : x5 (ix3 (0 : Fin 1) (127 : Fin 128) (0 : Fin 1)) = cd) (h6 : ∀ r, x6 (ix3 (0 : Fin 1) r (0 : Fin 1)) = kd r) (d : Fin 256) (e : Fin 512) :
    s0_2 x1 x2 x5 x6 xs (ix3 (0 : Fin 1) d e) = stM cd kd K V (n + 2) d e := by
  unfold s0_2
  rw [uS_at, st_0_1 cd kd K V n x1 x2 x5 x6 xs hS hK hV h5 h6, h5]
  show _ = stM cd kd K V (n + 1) d e * cd + _
  congr 1
  refine Finset.sum_congr rfl fun r _ => ?_
  rw [h6, ld_k0_1 K n x1 hK r d, ld_v0_1 V n x2 hV r e]

/-- Batch row 0's chunk 2 of a block of keys (or queries). -/
theorem ld_k0_2 (K : ℕ → Fin 256 → EReal) (n : ℕ) (x1 : Vec Ideal S2x512x256 .bf16) (hK : ∀ j d, x1 (ix3 (0 : Fin 2) j d) = K (128 * n + j.val) d) (r : Fin 128) (d : Fin 256) :
    View.ld x1 (Rect.unit (s := S2x512x256) ![0, 256, 0] S1x128x256.size inb_S2x512x256_S1x128x256_0_256_0) (ix3 (0 : Fin 1) r d) = K (128 * (n + 2) + r.val) d := by
  refine Eq.trans ?_ ((hK (⟨256 + r.val, by omega⟩ : Fin 512) d).trans (by congr 1; show 128 * n + (256 + r.val) = _; omega))
  pointwise

/-- Batch row 0's chunk 2 of a block of values (or gates). -/
theorem ld_v0_2 (V : ℕ → Fin 512 → EReal) (n : ℕ) (x2 : Vec Ideal S2x512x512 .bf16) (hV : ∀ j e, x2 (ix3 (0 : Fin 2) j e) = V (128 * n + j.val) e) (r : Fin 128) (d : Fin 512) :
    View.ld x2 (Rect.unit (s := S2x512x512) ![0, 256, 0] S1x128x512.size inb_S2x512x512_S1x128x512_0_256_0) (ix3 (0 : Fin 1) r d) = V (128 * (n + 2) + r.val) d := by
  refine Eq.trans ?_ ((hV (⟨256 + r.val, by omega⟩ : Fin 512) d).trans (by congr 1; show 128 * n + (256 + r.val) = _; omega))
  pointwise

/-- Batch row 0's state before chunk 3 of the point. -/
theorem st_0_3 (hS : ∀ d e, xs (ix3 (0 : Fin 2) d e) = stM cd kd K V n d e) (hK : ∀ j d, x1 (ix3 (0 : Fin 2) j d) = K (128 * n + j.val) d) (hV : ∀ j e, x2 (ix3 (0 : Fin 2) j e) = V (128 * n + j.val) e) (h5 : x5 (ix3 (0 : Fin 1) (127 : Fin 128) (0 : Fin 1)) = cd) (h6 : ∀ r, x6 (ix3 (0 : Fin 1) r (0 : Fin 1)) = kd r) (d : Fin 256) (e : Fin 512) :
    s0_3 x1 x2 x5 x6 xs (ix3 (0 : Fin 1) d e) = stM cd kd K V (n + 3) d e := by
  unfold s0_3
  rw [uS_at, st_0_2 cd kd K V n x1 x2 x5 x6 xs hS hK hV h5 h6, h5]
  show _ = stM cd kd K V (n + 2) d e * cd + _
  congr 1
  refine Finset.sum_congr rfl fun r _ => ?_
  rw [h6, ld_k0_2 K n x1 hK r d, ld_v0_2 V n x2 hV r e]

/-- Batch row 0's chunk 3 of a block of keys (or queries). -/
theorem ld_k0_3 (K : ℕ → Fin 256 → EReal) (n : ℕ) (x1 : Vec Ideal S2x512x256 .bf16) (hK : ∀ j d, x1 (ix3 (0 : Fin 2) j d) = K (128 * n + j.val) d) (r : Fin 128) (d : Fin 256) :
    View.ld x1 (Rect.unit (s := S2x512x256) ![0, 384, 0] S1x128x256.size inb_S2x512x256_S1x128x256_0_384_0) (ix3 (0 : Fin 1) r d) = K (128 * (n + 3) + r.val) d := by
  refine Eq.trans ?_ ((hK (⟨384 + r.val, by omega⟩ : Fin 512) d).trans (by congr 1; show 128 * n + (384 + r.val) = _; omega))
  pointwise

/-- Batch row 0's chunk 3 of a block of values (or gates). -/
theorem ld_v0_3 (V : ℕ → Fin 512 → EReal) (n : ℕ) (x2 : Vec Ideal S2x512x512 .bf16) (hV : ∀ j e, x2 (ix3 (0 : Fin 2) j e) = V (128 * n + j.val) e) (r : Fin 128) (d : Fin 512) :
    View.ld x2 (Rect.unit (s := S2x512x512) ![0, 384, 0] S1x128x512.size inb_S2x512x512_S1x128x512_0_384_0) (ix3 (0 : Fin 1) r d) = V (128 * (n + 3) + r.val) d := by
  refine Eq.trans ?_ ((hV (⟨384 + r.val, by omega⟩ : Fin 512) d).trans (by congr 1; show 128 * n + (384 + r.val) = _; omega))
  pointwise

/-- Batch row 0's state before chunk 4 of the point. -/
theorem st_0_4 (hS : ∀ d e, xs (ix3 (0 : Fin 2) d e) = stM cd kd K V n d e) (hK : ∀ j d, x1 (ix3 (0 : Fin 2) j d) = K (128 * n + j.val) d) (hV : ∀ j e, x2 (ix3 (0 : Fin 2) j e) = V (128 * n + j.val) e) (h5 : x5 (ix3 (0 : Fin 1) (127 : Fin 128) (0 : Fin 1)) = cd) (h6 : ∀ r, x6 (ix3 (0 : Fin 1) r (0 : Fin 1)) = kd r) (d : Fin 256) (e : Fin 512) :
    s0_4 x1 x2 x5 x6 xs (ix3 (0 : Fin 1) d e) = stM cd kd K V (n + 4) d e := by
  unfold s0_4
  rw [uS_at, st_0_3 cd kd K V n x1 x2 x5 x6 xs hS hK hV h5 h6, h5]
  show _ = stM cd kd K V (n + 3) d e * cd + _
  congr 1
  refine Finset.sum_congr rfl fun r _ => ?_
  rw [h6, ld_k0_3 K n x1 hK r d, ld_v0_3 V n x2 hV r e]

/-- Batch row 0's rows of chunk 0. -/
theorem out_0_0 (hS : ∀ d e, xs (ix3 (0 : Fin 2) d e) = stM cd kd K V n d e) (hK : ∀ j d, x1 (ix3 (0 : Fin 2) j d) = K (128 * n + j.val) d) (hV : ∀ j e, x2 (ix3 (0 : Fin 2) j e) = V (128 * n + j.val) e) (h5 : x5 (ix3 (0 : Fin 1) (127 : Fin 128) (0 : Fin 1)) = cd) (h6 : ∀ r, x6 (ix3 (0 : Fin 1) r (0 : Fin 1)) = kd r) (hQ : ∀ j d, x0 (ix3 (0 : Fin 2) j d) = Q (128 * n + j.val) d) (hG : ∀ j e, x3 (ix3 (0 : Fin 2) j e) = G (128 * n + j.val) e) (h4 : ∀ r j, x4 (ix3 (0 : Fin 1) r j) = D r j) (hq : ∀ r, x5 (ix3 (0 : Fin 1) r (0 : Fin 1)) = qd r) (h7 : ∀ e, x7 (ix3 (0 : Fin 1) (0 : Fin 1) e) = gn e) (r : Fin 128) (e : Fin 512) :
    o0_0 x0 x1 x2 x3 x4 x5 x7 xs (ix3 (0 : Fin 1) r e) = resM (G (128 * (n + 0) + r.val) e) (yM cd kd qd D Q K V (n + 0) r) e (gn e) := by
  unfold o0_0 yM
  rw [uO_at]
  simp only [st_0_0 cd kd K V n xs hS, ld_k0_0 Q n x0 hQ, ld_k0_0 K n x1 hK, ld_v0_0 V n x2 hV, ld_v0_0 G n x3 hG, h4, hq, h7]

/-- Batch row 0's rows of chunk 1. -/
theorem out_0_1 (hS : ∀ d e, xs (ix3 (0 : Fin 2) d e) = stM cd kd K V n d e) (hK : ∀ j d, x1 (ix3 (0 : Fin 2) j d) = K (128 * n + j.val) d) (hV : ∀ j e, x2 (ix3 (0 : Fin 2) j e) = V (128 * n + j.val) e) (h5 : x5 (ix3 (0 : Fin 1) (127 : Fin 128) (0 : Fin 1)) = cd) (h6 : ∀ r, x6 (ix3 (0 : Fin 1) r (0 : Fin 1)) = kd r) (hQ : ∀ j d, x0 (ix3 (0 : Fin 2) j d) = Q (128 * n + j.val) d) (hG : ∀ j e, x3 (ix3 (0 : Fin 2) j e) = G (128 * n + j.val) e) (h4 : ∀ r j, x4 (ix3 (0 : Fin 1) r j) = D r j) (hq : ∀ r, x5 (ix3 (0 : Fin 1) r (0 : Fin 1)) = qd r) (h7 : ∀ e, x7 (ix3 (0 : Fin 1) (0 : Fin 1) e) = gn e) (r : Fin 128) (e : Fin 512) :
    o0_1 x0 x1 x2 x3 x4 x5 x6 x7 xs (ix3 (0 : Fin 1) r e) = resM (G (128 * (n + 1) + r.val) e) (yM cd kd qd D Q K V (n + 1) r) e (gn e) := by
  unfold o0_1 yM
  rw [uO_at]
  simp only [st_0_1 cd kd K V n x1 x2 x5 x6 xs hS hK hV h5 h6, ld_k0_1 Q n x0 hQ, ld_k0_1 K n x1 hK, ld_v0_1 V n x2 hV, ld_v0_1 G n x3 hG, h4, hq, h7]

/-- Batch row 0's rows of chunk 2. -/
theorem out_0_2 (hS : ∀ d e, xs (ix3 (0 : Fin 2) d e) = stM cd kd K V n d e) (hK : ∀ j d, x1 (ix3 (0 : Fin 2) j d) = K (128 * n + j.val) d) (hV : ∀ j e, x2 (ix3 (0 : Fin 2) j e) = V (128 * n + j.val) e) (h5 : x5 (ix3 (0 : Fin 1) (127 : Fin 128) (0 : Fin 1)) = cd) (h6 : ∀ r, x6 (ix3 (0 : Fin 1) r (0 : Fin 1)) = kd r) (hQ : ∀ j d, x0 (ix3 (0 : Fin 2) j d) = Q (128 * n + j.val) d) (hG : ∀ j e, x3 (ix3 (0 : Fin 2) j e) = G (128 * n + j.val) e) (h4 : ∀ r j, x4 (ix3 (0 : Fin 1) r j) = D r j) (hq : ∀ r, x5 (ix3 (0 : Fin 1) r (0 : Fin 1)) = qd r) (h7 : ∀ e, x7 (ix3 (0 : Fin 1) (0 : Fin 1) e) = gn e) (r : Fin 128) (e : Fin 512) :
    o0_2 x0 x1 x2 x3 x4 x5 x6 x7 xs (ix3 (0 : Fin 1) r e) = resM (G (128 * (n + 2) + r.val) e) (yM cd kd qd D Q K V (n + 2) r) e (gn e) := by
  unfold o0_2 yM
  rw [uO_at]
  simp only [st_0_2 cd kd K V n x1 x2 x5 x6 xs hS hK hV h5 h6, ld_k0_2 Q n x0 hQ, ld_k0_2 K n x1 hK, ld_v0_2 V n x2 hV, ld_v0_2 G n x3 hG, h4, hq, h7]

/-- Batch row 0's rows of chunk 3. -/
theorem out_0_3 (hS : ∀ d e, xs (ix3 (0 : Fin 2) d e) = stM cd kd K V n d e) (hK : ∀ j d, x1 (ix3 (0 : Fin 2) j d) = K (128 * n + j.val) d) (hV : ∀ j e, x2 (ix3 (0 : Fin 2) j e) = V (128 * n + j.val) e) (h5 : x5 (ix3 (0 : Fin 1) (127 : Fin 128) (0 : Fin 1)) = cd) (h6 : ∀ r, x6 (ix3 (0 : Fin 1) r (0 : Fin 1)) = kd r) (hQ : ∀ j d, x0 (ix3 (0 : Fin 2) j d) = Q (128 * n + j.val) d) (hG : ∀ j e, x3 (ix3 (0 : Fin 2) j e) = G (128 * n + j.val) e) (h4 : ∀ r j, x4 (ix3 (0 : Fin 1) r j) = D r j) (hq : ∀ r, x5 (ix3 (0 : Fin 1) r (0 : Fin 1)) = qd r) (h7 : ∀ e, x7 (ix3 (0 : Fin 1) (0 : Fin 1) e) = gn e) (r : Fin 128) (e : Fin 512) :
    o0_3 x0 x1 x2 x3 x4 x5 x6 x7 xs (ix3 (0 : Fin 1) r e) = resM (G (128 * (n + 3) + r.val) e) (yM cd kd qd D Q K V (n + 3) r) e (gn e) := by
  unfold o0_3 yM
  rw [uO_at]
  simp only [st_0_3 cd kd K V n x1 x2 x5 x6 xs hS hK hV h5 h6, ld_k0_3 Q n x0 hQ, ld_k0_3 K n x1 hK, ld_v0_3 V n x2 hV, ld_v0_3 G n x3 hG, h4, hq, h7]

/-- Batch row 1's state before chunk 0 of the point. -/
theorem st_1_0 (hS : ∀ d e, xs (ix3 (1 : Fin 2) d e) = stM cd kd K V n d e) (d : Fin 256) (e : Fin 512) :
    s1_0 xs (ix3 (0 : Fin 1) d e) = stM cd kd K V (n + 0) d e := by
  refine Eq.trans ?_ (hS d e)
  unfold s1_0
  pointwise

/-- Batch row 1's chunk 0 of a block of keys (or queries). -/
theorem ld_k1_0 (K : ℕ → Fin 256 → EReal) (n : ℕ) (x1 : Vec Ideal S2x512x256 .bf16) (hK : ∀ j d, x1 (ix3 (1 : Fin 2) j d) = K (128 * n + j.val) d) (r : Fin 128) (d : Fin 256) :
    View.ld x1 (Rect.unit (s := S2x512x256) ![1, 0, 0] S1x128x256.size inb_S2x512x256_S1x128x256_1_0_0) (ix3 (0 : Fin 1) r d) = K (128 * (n + 0) + r.val) d := by
  refine Eq.trans ?_ ((hK (⟨0 + r.val, by omega⟩ : Fin 512) d).trans (by congr 1; show 128 * n + (0 + r.val) = _; omega))
  pointwise

/-- Batch row 1's chunk 0 of a block of values (or gates). -/
theorem ld_v1_0 (V : ℕ → Fin 512 → EReal) (n : ℕ) (x2 : Vec Ideal S2x512x512 .bf16) (hV : ∀ j e, x2 (ix3 (1 : Fin 2) j e) = V (128 * n + j.val) e) (r : Fin 128) (d : Fin 512) :
    View.ld x2 (Rect.unit (s := S2x512x512) ![1, 0, 0] S1x128x512.size inb_S2x512x512_S1x128x512_1_0_0) (ix3 (0 : Fin 1) r d) = V (128 * (n + 0) + r.val) d := by
  refine Eq.trans ?_ ((hV (⟨0 + r.val, by omega⟩ : Fin 512) d).trans (by congr 1; show 128 * n + (0 + r.val) = _; omega))
  pointwise

/-- Batch row 1's state before chunk 1 of the point. -/
theorem st_1_1 (hS : ∀ d e, xs (ix3 (1 : Fin 2) d e) = stM cd kd K V n d e) (hK : ∀ j d, x1 (ix3 (1 : Fin 2) j d) = K (128 * n + j.val) d) (hV : ∀ j e, x2 (ix3 (1 : Fin 2) j e) = V (128 * n + j.val) e) (h5 : x5 (ix3 (0 : Fin 1) (127 : Fin 128) (0 : Fin 1)) = cd) (h6 : ∀ r, x6 (ix3 (0 : Fin 1) r (0 : Fin 1)) = kd r) (d : Fin 256) (e : Fin 512) :
    s1_1 x1 x2 x5 x6 xs (ix3 (0 : Fin 1) d e) = stM cd kd K V (n + 1) d e := by
  unfold s1_1
  rw [uS_at, st_1_0 cd kd K V n xs hS, h5]
  show _ = stM cd kd K V (n + 0) d e * cd + _
  congr 1
  refine Finset.sum_congr rfl fun r _ => ?_
  rw [h6, ld_k1_0 K n x1 hK r d, ld_v1_0 V n x2 hV r e]
  rfl

/-- Batch row 1's chunk 1 of a block of keys (or queries). -/
theorem ld_k1_1 (K : ℕ → Fin 256 → EReal) (n : ℕ) (x1 : Vec Ideal S2x512x256 .bf16) (hK : ∀ j d, x1 (ix3 (1 : Fin 2) j d) = K (128 * n + j.val) d) (r : Fin 128) (d : Fin 256) :
    View.ld x1 (Rect.unit (s := S2x512x256) ![1, 128, 0] S1x128x256.size inb_S2x512x256_S1x128x256_1_128_0) (ix3 (0 : Fin 1) r d) = K (128 * (n + 1) + r.val) d := by
  refine Eq.trans ?_ ((hK (⟨128 + r.val, by omega⟩ : Fin 512) d).trans (by congr 1; show 128 * n + (128 + r.val) = _; omega))
  pointwise

/-- Batch row 1's chunk 1 of a block of values (or gates). -/
theorem ld_v1_1 (V : ℕ → Fin 512 → EReal) (n : ℕ) (x2 : Vec Ideal S2x512x512 .bf16) (hV : ∀ j e, x2 (ix3 (1 : Fin 2) j e) = V (128 * n + j.val) e) (r : Fin 128) (d : Fin 512) :
    View.ld x2 (Rect.unit (s := S2x512x512) ![1, 128, 0] S1x128x512.size inb_S2x512x512_S1x128x512_1_128_0) (ix3 (0 : Fin 1) r d) = V (128 * (n + 1) + r.val) d := by
  refine Eq.trans ?_ ((hV (⟨128 + r.val, by omega⟩ : Fin 512) d).trans (by congr 1; show 128 * n + (128 + r.val) = _; omega))
  pointwise

/-- Batch row 1's state before chunk 2 of the point. -/
theorem st_1_2 (hS : ∀ d e, xs (ix3 (1 : Fin 2) d e) = stM cd kd K V n d e) (hK : ∀ j d, x1 (ix3 (1 : Fin 2) j d) = K (128 * n + j.val) d) (hV : ∀ j e, x2 (ix3 (1 : Fin 2) j e) = V (128 * n + j.val) e) (h5 : x5 (ix3 (0 : Fin 1) (127 : Fin 128) (0 : Fin 1)) = cd) (h6 : ∀ r, x6 (ix3 (0 : Fin 1) r (0 : Fin 1)) = kd r) (d : Fin 256) (e : Fin 512) :
    s1_2 x1 x2 x5 x6 xs (ix3 (0 : Fin 1) d e) = stM cd kd K V (n + 2) d e := by
  unfold s1_2
  rw [uS_at, st_1_1 cd kd K V n x1 x2 x5 x6 xs hS hK hV h5 h6, h5]
  show _ = stM cd kd K V (n + 1) d e * cd + _
  congr 1
  refine Finset.sum_congr rfl fun r _ => ?_
  rw [h6, ld_k1_1 K n x1 hK r d, ld_v1_1 V n x2 hV r e]

/-- Batch row 1's chunk 2 of a block of keys (or queries). -/
theorem ld_k1_2 (K : ℕ → Fin 256 → EReal) (n : ℕ) (x1 : Vec Ideal S2x512x256 .bf16) (hK : ∀ j d, x1 (ix3 (1 : Fin 2) j d) = K (128 * n + j.val) d) (r : Fin 128) (d : Fin 256) :
    View.ld x1 (Rect.unit (s := S2x512x256) ![1, 256, 0] S1x128x256.size inb_S2x512x256_S1x128x256_1_256_0) (ix3 (0 : Fin 1) r d) = K (128 * (n + 2) + r.val) d := by
  refine Eq.trans ?_ ((hK (⟨256 + r.val, by omega⟩ : Fin 512) d).trans (by congr 1; show 128 * n + (256 + r.val) = _; omega))
  pointwise

/-- Batch row 1's chunk 2 of a block of values (or gates). -/
theorem ld_v1_2 (V : ℕ → Fin 512 → EReal) (n : ℕ) (x2 : Vec Ideal S2x512x512 .bf16) (hV : ∀ j e, x2 (ix3 (1 : Fin 2) j e) = V (128 * n + j.val) e) (r : Fin 128) (d : Fin 512) :
    View.ld x2 (Rect.unit (s := S2x512x512) ![1, 256, 0] S1x128x512.size inb_S2x512x512_S1x128x512_1_256_0) (ix3 (0 : Fin 1) r d) = V (128 * (n + 2) + r.val) d := by
  refine Eq.trans ?_ ((hV (⟨256 + r.val, by omega⟩ : Fin 512) d).trans (by congr 1; show 128 * n + (256 + r.val) = _; omega))
  pointwise

/-- Batch row 1's state before chunk 3 of the point. -/
theorem st_1_3 (hS : ∀ d e, xs (ix3 (1 : Fin 2) d e) = stM cd kd K V n d e) (hK : ∀ j d, x1 (ix3 (1 : Fin 2) j d) = K (128 * n + j.val) d) (hV : ∀ j e, x2 (ix3 (1 : Fin 2) j e) = V (128 * n + j.val) e) (h5 : x5 (ix3 (0 : Fin 1) (127 : Fin 128) (0 : Fin 1)) = cd) (h6 : ∀ r, x6 (ix3 (0 : Fin 1) r (0 : Fin 1)) = kd r) (d : Fin 256) (e : Fin 512) :
    s1_3 x1 x2 x5 x6 xs (ix3 (0 : Fin 1) d e) = stM cd kd K V (n + 3) d e := by
  unfold s1_3
  rw [uS_at, st_1_2 cd kd K V n x1 x2 x5 x6 xs hS hK hV h5 h6, h5]
  show _ = stM cd kd K V (n + 2) d e * cd + _
  congr 1
  refine Finset.sum_congr rfl fun r _ => ?_
  rw [h6, ld_k1_2 K n x1 hK r d, ld_v1_2 V n x2 hV r e]

/-- Batch row 1's chunk 3 of a block of keys (or queries). -/
theorem ld_k1_3 (K : ℕ → Fin 256 → EReal) (n : ℕ) (x1 : Vec Ideal S2x512x256 .bf16) (hK : ∀ j d, x1 (ix3 (1 : Fin 2) j d) = K (128 * n + j.val) d) (r : Fin 128) (d : Fin 256) :
    View.ld x1 (Rect.unit (s := S2x512x256) ![1, 384, 0] S1x128x256.size inb_S2x512x256_S1x128x256_1_384_0) (ix3 (0 : Fin 1) r d) = K (128 * (n + 3) + r.val) d := by
  refine Eq.trans ?_ ((hK (⟨384 + r.val, by omega⟩ : Fin 512) d).trans (by congr 1; show 128 * n + (384 + r.val) = _; omega))
  pointwise

/-- Batch row 1's chunk 3 of a block of values (or gates). -/
theorem ld_v1_3 (V : ℕ → Fin 512 → EReal) (n : ℕ) (x2 : Vec Ideal S2x512x512 .bf16) (hV : ∀ j e, x2 (ix3 (1 : Fin 2) j e) = V (128 * n + j.val) e) (r : Fin 128) (d : Fin 512) :
    View.ld x2 (Rect.unit (s := S2x512x512) ![1, 384, 0] S1x128x512.size inb_S2x512x512_S1x128x512_1_384_0) (ix3 (0 : Fin 1) r d) = V (128 * (n + 3) + r.val) d := by
  refine Eq.trans ?_ ((hV (⟨384 + r.val, by omega⟩ : Fin 512) d).trans (by congr 1; show 128 * n + (384 + r.val) = _; omega))
  pointwise

/-- Batch row 1's state before chunk 4 of the point. -/
theorem st_1_4 (hS : ∀ d e, xs (ix3 (1 : Fin 2) d e) = stM cd kd K V n d e) (hK : ∀ j d, x1 (ix3 (1 : Fin 2) j d) = K (128 * n + j.val) d) (hV : ∀ j e, x2 (ix3 (1 : Fin 2) j e) = V (128 * n + j.val) e) (h5 : x5 (ix3 (0 : Fin 1) (127 : Fin 128) (0 : Fin 1)) = cd) (h6 : ∀ r, x6 (ix3 (0 : Fin 1) r (0 : Fin 1)) = kd r) (d : Fin 256) (e : Fin 512) :
    s1_4 x1 x2 x5 x6 xs (ix3 (0 : Fin 1) d e) = stM cd kd K V (n + 4) d e := by
  unfold s1_4
  rw [uS_at, st_1_3 cd kd K V n x1 x2 x5 x6 xs hS hK hV h5 h6, h5]
  show _ = stM cd kd K V (n + 3) d e * cd + _
  congr 1
  refine Finset.sum_congr rfl fun r _ => ?_
  rw [h6, ld_k1_3 K n x1 hK r d, ld_v1_3 V n x2 hV r e]

/-- Batch row 1's rows of chunk 0. -/
theorem out_1_0 (hS : ∀ d e, xs (ix3 (1 : Fin 2) d e) = stM cd kd K V n d e) (hK : ∀ j d, x1 (ix3 (1 : Fin 2) j d) = K (128 * n + j.val) d) (hV : ∀ j e, x2 (ix3 (1 : Fin 2) j e) = V (128 * n + j.val) e) (h5 : x5 (ix3 (0 : Fin 1) (127 : Fin 128) (0 : Fin 1)) = cd) (h6 : ∀ r, x6 (ix3 (0 : Fin 1) r (0 : Fin 1)) = kd r) (hQ : ∀ j d, x0 (ix3 (1 : Fin 2) j d) = Q (128 * n + j.val) d) (hG : ∀ j e, x3 (ix3 (1 : Fin 2) j e) = G (128 * n + j.val) e) (h4 : ∀ r j, x4 (ix3 (0 : Fin 1) r j) = D r j) (hq : ∀ r, x5 (ix3 (0 : Fin 1) r (0 : Fin 1)) = qd r) (h7 : ∀ e, x7 (ix3 (0 : Fin 1) (0 : Fin 1) e) = gn e) (r : Fin 128) (e : Fin 512) :
    o1_0 x0 x1 x2 x3 x4 x5 x7 xs (ix3 (0 : Fin 1) r e) = resM (G (128 * (n + 0) + r.val) e) (yM cd kd qd D Q K V (n + 0) r) e (gn e) := by
  unfold o1_0 yM
  rw [uO_at]
  simp only [st_1_0 cd kd K V n xs hS, ld_k1_0 Q n x0 hQ, ld_k1_0 K n x1 hK, ld_v1_0 V n x2 hV, ld_v1_0 G n x3 hG, h4, hq, h7]

/-- Batch row 1's rows of chunk 1. -/
theorem out_1_1 (hS : ∀ d e, xs (ix3 (1 : Fin 2) d e) = stM cd kd K V n d e) (hK : ∀ j d, x1 (ix3 (1 : Fin 2) j d) = K (128 * n + j.val) d) (hV : ∀ j e, x2 (ix3 (1 : Fin 2) j e) = V (128 * n + j.val) e) (h5 : x5 (ix3 (0 : Fin 1) (127 : Fin 128) (0 : Fin 1)) = cd) (h6 : ∀ r, x6 (ix3 (0 : Fin 1) r (0 : Fin 1)) = kd r) (hQ : ∀ j d, x0 (ix3 (1 : Fin 2) j d) = Q (128 * n + j.val) d) (hG : ∀ j e, x3 (ix3 (1 : Fin 2) j e) = G (128 * n + j.val) e) (h4 : ∀ r j, x4 (ix3 (0 : Fin 1) r j) = D r j) (hq : ∀ r, x5 (ix3 (0 : Fin 1) r (0 : Fin 1)) = qd r) (h7 : ∀ e, x7 (ix3 (0 : Fin 1) (0 : Fin 1) e) = gn e) (r : Fin 128) (e : Fin 512) :
    o1_1 x0 x1 x2 x3 x4 x5 x6 x7 xs (ix3 (0 : Fin 1) r e) = resM (G (128 * (n + 1) + r.val) e) (yM cd kd qd D Q K V (n + 1) r) e (gn e) := by
  unfold o1_1 yM
  rw [uO_at]
  simp only [st_1_1 cd kd K V n x1 x2 x5 x6 xs hS hK hV h5 h6, ld_k1_1 Q n x0 hQ, ld_k1_1 K n x1 hK, ld_v1_1 V n x2 hV, ld_v1_1 G n x3 hG, h4, hq, h7]

/-- Batch row 1's rows of chunk 2. -/
theorem out_1_2 (hS : ∀ d e, xs (ix3 (1 : Fin 2) d e) = stM cd kd K V n d e) (hK : ∀ j d, x1 (ix3 (1 : Fin 2) j d) = K (128 * n + j.val) d) (hV : ∀ j e, x2 (ix3 (1 : Fin 2) j e) = V (128 * n + j.val) e) (h5 : x5 (ix3 (0 : Fin 1) (127 : Fin 128) (0 : Fin 1)) = cd) (h6 : ∀ r, x6 (ix3 (0 : Fin 1) r (0 : Fin 1)) = kd r) (hQ : ∀ j d, x0 (ix3 (1 : Fin 2) j d) = Q (128 * n + j.val) d) (hG : ∀ j e, x3 (ix3 (1 : Fin 2) j e) = G (128 * n + j.val) e) (h4 : ∀ r j, x4 (ix3 (0 : Fin 1) r j) = D r j) (hq : ∀ r, x5 (ix3 (0 : Fin 1) r (0 : Fin 1)) = qd r) (h7 : ∀ e, x7 (ix3 (0 : Fin 1) (0 : Fin 1) e) = gn e) (r : Fin 128) (e : Fin 512) :
    o1_2 x0 x1 x2 x3 x4 x5 x6 x7 xs (ix3 (0 : Fin 1) r e) = resM (G (128 * (n + 2) + r.val) e) (yM cd kd qd D Q K V (n + 2) r) e (gn e) := by
  unfold o1_2 yM
  rw [uO_at]
  simp only [st_1_2 cd kd K V n x1 x2 x5 x6 xs hS hK hV h5 h6, ld_k1_2 Q n x0 hQ, ld_k1_2 K n x1 hK, ld_v1_2 V n x2 hV, ld_v1_2 G n x3 hG, h4, hq, h7]

/-- Batch row 1's rows of chunk 3. -/
theorem out_1_3 (hS : ∀ d e, xs (ix3 (1 : Fin 2) d e) = stM cd kd K V n d e) (hK : ∀ j d, x1 (ix3 (1 : Fin 2) j d) = K (128 * n + j.val) d) (hV : ∀ j e, x2 (ix3 (1 : Fin 2) j e) = V (128 * n + j.val) e) (h5 : x5 (ix3 (0 : Fin 1) (127 : Fin 128) (0 : Fin 1)) = cd) (h6 : ∀ r, x6 (ix3 (0 : Fin 1) r (0 : Fin 1)) = kd r) (hQ : ∀ j d, x0 (ix3 (1 : Fin 2) j d) = Q (128 * n + j.val) d) (hG : ∀ j e, x3 (ix3 (1 : Fin 2) j e) = G (128 * n + j.val) e) (h4 : ∀ r j, x4 (ix3 (0 : Fin 1) r j) = D r j) (hq : ∀ r, x5 (ix3 (0 : Fin 1) r (0 : Fin 1)) = qd r) (h7 : ∀ e, x7 (ix3 (0 : Fin 1) (0 : Fin 1) e) = gn e) (r : Fin 128) (e : Fin 512) :
    o1_3 x0 x1 x2 x3 x4 x5 x6 x7 xs (ix3 (0 : Fin 1) r e) = resM (G (128 * (n + 3) + r.val) e) (yM cd kd qd D Q K V (n + 3) r) e (gn e) := by
  unfold o1_3 yM
  rw [uO_at]
  simp only [st_1_3 cd kd K V n x1 x2 x5 x6 xs hS hK hV h5 h6, ld_k1_3 Q n x0 hQ, ld_k1_3 K n x1 hK, ld_v1_3 V n x2 hV, ld_v1_3 G n x3 hG, h4, hq, h7]

end
end Cert.Ret
end
-- ==== Proof.Point.lean ====
/- What one grid point of the retention kernel leaves in its output block and in the carried scratch, entry by entry. -/
module

public import proofs.«01_k».proof.Proof.Model

@[expose] public section
set_option maxRecDepth 16384
noncomputable section
namespace Cert.Ret
open Cert.KernelIdeal Cert.KernelIdeal.Gen Idealize.ShloMosaic Idealize.ShloMosaic.TcCoe Idealize.SL.Sem
open Idealize.ShloMosaic.Pipeline (Dat)

/-- The result of one head of one sequence at position `p`. -/
def resAt (cd : EReal) (kd qd : Fin 128 → EReal) (D : Fin 128 → Fin 128 → EReal) (Q K : ℕ → Fin 256 → EReal) (V G : ℕ → Fin 512 → EReal) (gn : Fin 512 → EReal)
    (p : ℕ) (e : Fin 512) : EReal :=
  resM (G p e) (yM cd kd qd D Q K V (p / 128) ⟨p % 128, Nat.mod_lt _ (by decide)⟩) e (gn e)

/-- At position `128 n + r` it is chunk `n`'s row `r`. -/
theorem resAt_chunk (cd : EReal) (kd qd : Fin 128 → EReal) (D : Fin 128 → Fin 128 → EReal) (Q K : ℕ → Fin 256 → EReal) (V G : ℕ → Fin 512 → EReal) (gn : Fin 512 → EReal)
    (n : ℕ) (r : Fin 128) (e : Fin 512) :
    resAt cd kd qd D Q K V G gn (128 * n + r.val) e = resM (G (128 * n + r.val) e) (yM cd kd qd D Q K V n r) e (gn e) := by
  unfold resAt
  have h1 : (128 * n + r.val) / 128 = n := by omega
  have h2 : (128 * n + r.val) % 128 = r.val := by omega
  simp only [h1, h2]

/-- Where a store of 128 rows lies in the output block. -/
theorem emb_out (u : Fin 2) (a b : ℕ) (ha : a = u.val) (inb) (r : Fin 128) (e : Fin 512) (hb : b + r.val < 512) :
    (Rect.unit (s := S2x512x512) ![a, b, 0] S1x128x512.size inb).emb (ix3 (0 : Fin 1) r e) = ix3 u (⟨b + r.val, hb⟩ : Fin 512) e := by
  subst ha
  funext x
  apply Fin.ext
  match x with
  | ⟨0, _⟩ => show u.val + 1 * 0 = u.val; omega
  | ⟨1, _⟩ => show b + 1 * r.val = b + r.val; omega
  | ⟨2, _⟩ => show 0 + 1 * e.val = e.val; omega

/-- Where a store of one batch row's state lies in the scratch. -/
theorem emb_scr (u : Fin 2) (a : ℕ) (ha : a = u.val) (inb) (d : Fin 256) (e : Fin 512) :
    (Rect.unit (s := S2x256x512) ![a, 0, 0] S1x256x512.size inb).emb (ix3 (0 : Fin 1) d e) = ix3 u d e := by
  subst ha
  funext x
  apply Fin.ext
  match x with
  | ⟨0, _⟩ => show u.val + 1 * 0 = u.val; omega
  | ⟨1, _⟩ => show 0 + 1 * d.val = d.val; omega
  | ⟨2, _⟩ => show 0 + 1 * e.val = e.val; omega

section
variable (cd : EReal) (kd qd : Fin 128 → EReal) (D : Fin 128 → Fin 128 → EReal) (Q K : Fin 2 → ℕ → Fin 256 → EReal) (V G : Fin 2 → ℕ → Fin 512 → EReal) (gn : Fin 512 → EReal) (n : ℕ)
  (x0 x1 : Vec Ideal S2x512x256 .bf16) (x2 x3 : Vec Ideal S2x512x512 .bf16) (x4 : Vec Ideal S1x128x128 .f32)
  (x5 x6 : Vec Ideal S1x128x1 .f32) (x7 : Vec Ideal S1x1x512 .f32) (xs : Vec Ideal S2x256x512 .f32)

/-- The scratch after the point: four chunks on. -/
theorem scr_at (hS : ∀ u d e, xs (ix3 (u : Fin 2) d e) = stM cd kd (K u) (V u) n d e)
    (hK : ∀ u j d, x1 (ix3 (u : Fin 2) j d) = K u (128 * n + j.val) d) (hV : ∀ u j e, x2 (ix3 (u : Fin 2) j e) = V u (128 * n + j.val) e)
    (h5 : x5 (ix3 (0 : Fin 1) (127 : Fin 128) (0 : Fin 1)) = cd) (h6 : ∀ r, x6 (ix3 (0 : Fin 1) r (0 : Fin 1)) = kd r)
    (L : List (View.Piece (Elt Ideal) S2x256x512 .f32)) (u : Fin 2) (d : Fin 256) (e : Fin 512) :
    View.canon (sL x1 x2 x5 x6 xs L) (ix3 u d e) = stM cd kd (K u) (V u) (n + 4) d e := by
  unfold sL
  obtain rfl | rfl : u = 1 ∨ u = 0 := by omega
  · rw [← emb_scr 1 1 rfl inb_S2x256x512_S1x256x512_1_0_0 d e]
    exact (View.canon_cons_emb _ _ _ _).trans (st_1_4 cd kd (K 1) (V 1) n x1 x2 x5 x6 xs (hS 1) (hK 1) (hV 1) h5 h6 d e)
  · rw [View.canon_cons_of_not_mem _ _ (by
      intro h
      have := (Rect.unit (s := S2x256x512) ![1, 0, 0] S1x256x512.size inb_S2x256x512_S1x256x512_1_0_0).mem_set.mp h (0 : Fin 3)
      obtain ⟨k, hk, h⟩ := this
      have h' : (0 : ℕ) = 1 + 1 * k := h
      omega)]
    rw [← emb_scr 0 0 rfl inb_S2x256x512_S1x256x512_0_0_0 d e]
    exact (View.canon_cons_emb _ _ _ _).trans (st_0_4 cd kd (K 0) (V 0) n x1 x2 x5 x6 xs (hS 0) (hK 0) (hV 0) h5 h6 d e)

/-- The output block after the point. -/
theorem out_at (hS : ∀ u d e, xs (ix3 (u : Fin 2) d e) = stM cd kd (K u) (V u) n d e)
    (hK : ∀ u j d, x1 (ix3 (u : Fin 2) j d) = K u (128 * n + j.val) d) (hV : ∀ u j e, x2 (ix3 (u : Fin 2) j e) = V u (128 * n + j.val) e)
    (h5 : x5 (ix3 (0 : Fin 1) (127 : Fin 128) (0 : Fin 1)) = cd) (h6 : ∀ r, x6 (ix3 (0 : Fin 1) r (0 : Fin 1)) = kd r)
    (hQ : ∀ u j d, x0 (ix3 (u : Fin 2) j d) = Q u (128 * n + j.val) d) (hG : ∀ u j e, x3 (ix3 (u : Fin 2) j e) = G u (128 * n + j.val) e)
    (h4 : ∀ r j, x4 (ix3 (0 : Fin 1) r j) = D r j) (hq : ∀ r, x5 (ix3 (0 : Fin 1) r (0 : Fin 1)) = qd r) (h7 : ∀ e, x7 (ix3 (0 : Fin 1) (0 : Fin 1) e) = gn e)
    (y : S2x512x512.Idx) :
    View.canon (oL x0 x1 x2 x3 x4 x5 x6 x7 xs) y = resAt cd kd qd D (Q (y 0)) (K (y 0)) (V (y 0)) (G (y 0)) gn (128 * n + (y 1).val) (y 2) := by
  refine View.canon_apply_of_pieces (fun y : S2x512x512.Idx => (resAt cd kd qd D (Q (y 0)) (K (y 0)) (V (y 0)) (G (y 0)) gn (128 * n + (y 1).val) (y 2) : Elt Ideal .bf16)) _ ?_ y
    (View.cover_of_tiledL (s := S2x512x512) (oL x0 x1 x2 x3 x4 x5 x6 x7 xs) S1x128x512.size (by sl_kernel_rfl) y)
  intro pc hpc x
  unfold oL at hpc
  rcases List.mem_cons.mp hpc with rfl | hpc
  · obtain ⟨a, r, e, rfl⟩ : ∃ (a : Fin 1) (r : Fin 128) (e : Fin 512), x = ix3 a r e := ⟨x 0, x 1, x 2, eq_ix3 x⟩
    obtain rfl : a = 0 := Subsingleton.elim _ _
    rw [emb_out 1 1 384 rfl _ r e (by omega)]
    refine (out_1_3 cd kd qd D (Q 1) (K 1) (V 1) (G 1) gn n x0 x1 x2 x3 x4 x5 x6 x7 xs (hS 1) (hK 1) (hV 1) h5 h6 (hQ 1) (hG 1) h4 hq h7 r e).trans ?_
    refine (resAt_chunk cd kd qd D (Q 1) (K 1) (V 1) (G 1) gn (n + 3) r e).symm.trans ?_
    show resAt cd kd qd D (Q 1) (K 1) (V 1) (G 1) gn (128 * (n + 3) + r.val) e = resAt cd kd qd D (Q 1) (K 1) (V 1) (G 1) gn (128 * n + (384 + r.val)) e
    congr 1; omega
  rcases List.mem_cons.mp hpc with rfl | hpc
  · obtain ⟨a, r, e, rfl⟩ : ∃ (a : Fin 1) (r : Fin 128) (e : Fin 512), x = ix3 a r e := ⟨x 0, x 1, x 2, eq_ix3 x⟩
    obtain rfl : a = 0 := Subsingleton.elim _ _
    rw [emb_out 0 0 384 rfl _ r e (by omega)]
    refine (out_0_3 cd kd qd D (Q 0) (K 0) (V 0) (G 0) gn n x0 x1 x2 x3 x4 x5 x6 x7 xs (hS 0) (hK 0) (hV 0) h5 h6 (hQ 0) (hG 0) h4 hq h7 r e).trans ?_
    refine (resAt_chunk cd kd qd D (Q 0) (K 0) (V 0) (G 0) gn (n + 3) r e).symm.trans ?_
    show resAt cd kd qd D (Q 0) (K 0) (V 0) (G 0) gn (128 * (n + 3) + r.val) e = resAt cd kd qd D (Q 0) (K 0) (V 0) (G 0) gn (128 * n + (384 + r.val)) e
    congr 1; omega
  rcases List.mem_cons.mp hpc with rfl | hpc
  · obtain ⟨a, r, e, rfl⟩ : ∃ (a : Fin 1) (r : Fin 128) (e : Fin 512), x = ix3 a r e := ⟨x 0, x 1, x 2, eq_ix3 x⟩
    obtain rfl : a = 0 := Subsingleton.elim _ _
    rw [emb_out 1 1 256 rfl _ r e (by omega)]
    refine (out_1_2 cd kd qd D (Q 1) (K 1) (V 1) (G 1) gn n x0 x1 x2 x3 x4 x5 x6 x7 xs (hS 1) (hK 1) (hV 1) h5 h6 (hQ 1) (hG 1) h4 hq h7 r e).trans ?_
    refine (resAt_chunk cd kd qd D (Q 1) (K 1) (V 1) (G 1) gn (n + 2) r e).symm.trans ?_
    show resAt cd kd qd D (Q 1) (K 1) (V 1) (G 1) gn (128 * (n + 2) + r.val) e = resAt cd kd qd D (Q 1) (K 1) (V 1) (G 1) gn (128 * n + (256 + r.val)) e
    congr 1; omega
  rcases List.mem_cons.mp hpc with rfl | hpc
  · obtain ⟨a, r, e, rfl⟩ : ∃ (a : Fin 1) (r : Fin 128) (e : Fin 512), x = ix3 a r e := ⟨x 0, x 1, x 2, eq_ix3 x⟩
    obtain rfl : a = 0 := Subsingleton.elim _ _
    rw [emb_out 0 0 256 rfl _ r e (by omega)]
    refine (out_0_2 cd kd qd D (Q 0) (K 0) (V 0) (G 0) gn n x0 x1 x2 x3 x4 x5 x6 x7 xs (hS 0) (hK 0) (hV 0) h5 h6 (hQ 0) (hG 0) h4 hq h7 r e).trans ?_
    refine (resAt_chunk cd kd qd D (Q 0) (K 0) (V 0) (G 0) gn (n + 2) r e).symm.trans ?_
    show resAt cd kd qd D (Q 0) (K 0) (V 0) (G 0) gn (128 * (n + 2) + r.val) e = resAt cd kd qd D (Q 0) (K 0) (V 0) (G 0) gn (128 * n + (256 + r.val)) e
    congr 1; omega
  rcases List.mem_cons.mp hpc with rfl | hpc
  · obtain ⟨a, r, e, rfl⟩ : ∃ (a : Fin 1) (r : Fin 128) (e : Fin 512), x = ix3 a r e := ⟨x 0, x 1, x 2, eq_ix3 x⟩
    obtain rfl : a = 0 := Subsingleton.elim _ _
    rw [emb_out 1 1 128 rfl _ r e (by omega)]
    refine (out_1_1 cd kd qd D (Q 1) (K 1) (V 1) (G 1) gn n x0 x1 x2 x3 x4 x5 x6 x7 xs (hS 1) (hK 1) (hV 1) h5 h6 (hQ 1) (hG 1) h4 hq h7 r e).trans ?_
    refine (resAt_chunk cd kd qd D (Q 1) (K 1) (V 1) (G 1) gn (n + 1) r e).symm.trans ?_
    show resAt cd kd qd D (Q 1) (K 1) (V 1) (G 1) gn (128 * (n + 1) + r.val) e = resAt cd kd qd D (Q 1) (K 1) (V 1) (G 1) gn (128 * n + (128 + r.val)) e
    congr 1; omega
  rcases List.mem_cons.mp hpc with rfl | hpc
  · obtain ⟨a, r, e, rfl⟩ : ∃ (a : Fin 1) (r : Fin 128) (e : Fin 512), x = ix3 a r e := ⟨x 0, x 1, x 2, eq_ix3 x⟩
    obtain rfl : a = 0 := Subsingleton.elim _ _
    rw [emb_out 0 0 128 rfl _ r e (by omega)]
    refine (out_0_1 cd kd qd D (Q 0) (K 0) (V 0) (G 0) gn n x0 x1 x2 x3 x4 x5 x6 x7 xs (hS 0) (hK 0) (hV 0) h5 h6 (hQ 0) (hG 0) h4 hq h7 r e).trans ?_
    refine (resAt_chunk cd kd qd D (Q 0) (K 0) (V 0) (G 0) gn (n + 1) r e).symm.trans ?_
    show resAt cd kd qd D (Q 0) (K 0) (V 0) (G 0) gn (128 * (n + 1) + r.val) e = resAt cd kd qd D (Q 0) (K 0) (V 0) (G 0) gn (128 * n + (128 + r.val)) e
    congr 1; omega
  rcases List.mem_cons.mp hpc with rfl | hpc
  · obtain ⟨a, r, e, rfl⟩ : ∃ (a : Fin 1) (r : Fin 128) (e : Fin 512), x = ix3 a r e := ⟨x 0, x 1, x 2, eq_ix3 x⟩
    obtain rfl : a = 0 := Subsingleton.elim _ _
    rw [emb_out 1 1 0 rfl _ r e (by omega)]
    refine (out_1_0 cd kd qd D (Q 1) (K 1) (V 1) (G 1) gn n x0 x1 x2 x3 x4 x5 x6 x7 xs (hS 1) (hK 1) (hV 1) h5 h6 (hQ 1) (hG 1) h4 hq h7 r e).trans ?_
    refine (resAt_chunk cd kd qd D (Q 1) (K 1) (V 1) (G 1) gn (n + 0) r e).symm.trans ?_
    show resAt cd kd qd D (Q 1) (K 1) (V 1) (G 1) gn (128 * (n + 0) + r.val) e = resAt cd kd qd D (Q 1) (K 1) (V 1) (G 1) gn (128 * n + (0 + r.val)) e
    congr 1; omega
  rcases List.mem_cons.mp hpc with rfl | hpc
  · obtain ⟨a, r, e, rfl⟩ : ∃ (a : Fin 1) (r : Fin 128) (e : Fin 512), x = ix3 a r e := ⟨x 0, x 1, x 2, eq_ix3 x⟩
    obtain rfl : a = 0 := Subsingleton.elim _ _
    rw [emb_out 0 0 0 rfl _ r e (by omega)]
    refine (out_0_0 cd kd qd D (Q 0) (K 0) (V 0) (G 0) gn n x0 x1 x2 x3 x4 x5 x6 x7 xs (hS 0) (hK 0) (hV 0) h5 h6 (hQ 0) (hG 0) h4 hq h7 r e).trans ?_
    refine (resAt_chunk cd kd qd D (Q 0) (K 0) (V 0) (G 0) gn (n + 0) r e).symm.trans ?_
    show resAt cd kd qd D (Q 0) (K 0) (V 0) (G 0) gn (128 * (n + 0) + r.val) e = resAt cd kd qd D (Q 0) (K 0) (V 0) (G 0) gn (128 * n + (0 + r.val)) e
    congr 1; omega
  nomatch hpc

end
end Cert.Ret
end
-- ==== Proof.Tables.lean ====
/- What the host operations before the retention kernel leave: the reshaped projections and the decay tables, which are the reference's own. -/
module

public import proofs.«01_k».proof.Proof.Gen.KernelIdeal.Value
public import proofs.«01_k».proof.Proof.Gen.ReferenceIdeal.Step
public import Idealize.ShloMosaic.Lib.Pointwise

@[expose] public section
set_option maxRecDepth 16384
noncomputable section
namespace Cert.Ret
open Cert.KernelIdeal Cert.KernelIdeal.Gen Idealize.ShloMosaic Idealize.ShloMosaic.TcCoe Idealize.SL.Sem
open Cert.ReferenceIdeal (Step.K_main_v35 Step.K_main_v43 Step.K_main_v52)

variable {F : FTy → Type} [FloatOps F] (m : (ℓ : Loc nD τ sig) → Buf (Elt F) ℓ) (c : Dev nD)

/-- The projections, by sequence. -/
theorem V_x : V m c main_v0 = (shapeCast S16x2048x6144 (m ((c : Thread nD τ).loc main_arg0) : Vec F S32768x6144 .bf16) shapeCasts_S32768x6144_S16x2048x6144 : Vec F S16x2048x6144 .bf16) := by
  simp only [V, hostOps0, hostOps0_1, hostOps0_2, List.flatten_cons, List.flatten_nil, List.append_nil, List.cons_append, List.nil_append]
  after_results
  rfl

/-- The gain, by head. -/
theorem V_gn : V m c main_v43 = (shapeCast S4x1x512 (m ((c : Thread nD τ).loc main_arg1) : Vec F S2048 .f32) shapeCasts_S2048_S4x1x512 : Vec F S4x1x512 .f32) := by
  simp only [V, hostOps0, hostOps0_1, hostOps0_2, List.flatten_cons, List.flatten_nil, List.append_nil, List.cons_append, List.nil_append]
  after_results
  rfl

/-- The decay inside a chunk. -/
theorem V_dec : V m c main_v24 = (Step.K_main_v35 (F := F) : Vec F S4x128x128 .f32) := by
  simp only [V, hostOps0, hostOps0_1, hostOps0_2, List.flatten_cons, List.flatten_nil, List.append_nil, List.cons_append, List.nil_append]
  after_results
  rfl

/-- The decay a query takes of the state. -/
theorem V_qd : V m c main_v33 = (broadcastInDim S4x128x1 ![0, 1] bcast_S4x128_S4x128x1_0_1 (Step.K_main_v43 (F := F) : Vec F S4x128 .f32) : Vec F S4x128x1 .f32) := by
  simp only [V, hostOps0, hostOps0_1, hostOps0_2, List.flatten_cons, List.flatten_nil, List.append_nil, List.cons_append, List.nil_append]
  after_results
  rfl

/-- The decay a key takes into the state. -/
theorem V_kd : V m c main_v42 = (broadcastInDim S4x128x1 ![0, 1] bcast_S4x128_S4x128x1_0_1 (Step.K_main_v52 (F := F) : Vec F S4x128 .f32) : Vec F S4x128x1 .f32) := by
  simp only [V, hostOps0, hostOps0_1, hostOps0_2, List.flatten_cons, List.flatten_nil, List.append_nil, List.cons_append, List.nil_append]
  after_results
  rfl
end Cert.Ret
end
-- ==== Proof.Blocks.lean ====
/- The retention kernel's blocks at an index, as entries of the arguments and of the tables. -/
module

public import proofs.«01_k».proof.Proof.Tables
public import Idealize.ShloMosaic.Lib.Pipeline.ValueKit.Point

@[expose] public section
set_option maxRecDepth 16384
noncomputable section
namespace Cert.Ret
open Cert.KernelIdeal Cert.KernelIdeal.Gen Idealize.ShloMosaic Idealize.ShloMosaic.TcCoe Idealize.SL.Sem
open Cert.ReferenceIdeal (Step.K_main_v35 Step.K_main_v43 Step.K_main_v52)

/-- An entry of a matrix at a pair of numbers, zero outside it. -/
def at2 {a b : ℕ} (X : (⟨2, ![a, b]⟩ : Shape).Idx → EReal) (i j : ℕ) : EReal :=
  if h : i < a ∧ j < b then X (ix2 ⟨i, h.1⟩ ⟨j, h.2⟩) else 0

/-- At an index it is the entry. -/
theorem at2_ix {a b : ℕ} (X : (⟨2, ![a, b]⟩ : Shape).Idx → EReal) (i : Fin a) (j : Fin b) (i' j' : ℕ) (hi : i.val = i') (hj : j.val = j') :
    X (ix2 i j) = at2 X i' j' := by
  subst hi hj; simp [at2]

variable (m : (ℓ : Loc nD τ sig) → Buf (Elt Ideal) ℓ) (c : Dev nD)

theorem idx0 : ∀ t : Fin grid0.N, win0_0.index t = ![t.val / 16, t.val % 4, t.val / 4 % 4] := by decide +kernel
theorem idx1 : ∀ t : Fin grid0.N, win0_1.index t = ![t.val / 16, t.val % 4, 4 + t.val / 4 % 4] := by decide +kernel
theorem idx2 : ∀ t : Fin grid0.N, win0_2.index t = ![t.val / 16, t.val % 4, 4 + t.val / 4 % 4] := by decide +kernel
theorem idx3 : ∀ t : Fin grid0.N, win0_3.index t = ![t.val / 16, t.val % 4, 8 + t.val / 4 % 4] := by decide +kernel
theorem idx4 : ∀ t : Fin grid0.N, win0_4.index t = ![t.val / 4 % 4, 0, 0] := by decide +kernel
theorem idx5 : ∀ t : Fin grid0.N, win0_5.index t = ![t.val / 4 % 4, 0, 0] := by decide +kernel
theorem idx6 : ∀ t : Fin grid0.N, win0_6.index t = ![t.val / 4 % 4, 0, 0] := by decide +kernel
theorem idx7 : ∀ t : Fin grid0.N, win0_7.index t = ![t.val / 4 % 4, 0, 0] := by decide +kernel
theorem idx8 : ∀ t : Fin grid0.N, win0_8.index t = ![t.val / 16, t.val % 4, t.val / 4 % 4] := by decide +kernel

theorem hN (t : Fin cfg0.N) : t.val < 128 := lt_of_lt_of_eq t.isLt (show cfg0.N = 128 from N_0)

/-- A reshape to 16 sequences read at an entry. -/
theorem cast_at (X : Vec Ideal S32768x6144 .bf16) (h : S32768x6144.ShapeCasts S16x2048x6144) (i : Fin 16) (j : Fin 2048) (k : Fin 6144) :
    shapeCast S16x2048x6144 X h (ix3 i j k) = at2 X (2048 * i.val + j.val) k.val := by
  rw [shapeCast_apply X h (ix3 i j k) (ix2 (⟨2048 * i.val + j.val, by omega⟩ : Fin 32768) k)]
  · exact at2_ix _ _ _ _ _ rfl rfl
  · simp only [Shape.rowMajor_val_two, Shape.rowMajor_val_three, ix2, ix3]
    show (2048 * i.val + j.val) * 6144 + k.val = (i.val * 2048 + j.val) * 6144 + k.val
    omega

/-- The gain reshaped to heads read at an entry. -/
theorem cast_gn (X : Vec Ideal S2048 .f32) (hc : S2048.ShapeCasts S4x1x512) (h : Fin 4) (e : Fin 512) :
    shapeCast S4x1x512 X hc (ix3 h (0 : Fin 1) e) = X (ix1 (⟨512 * h.val + e.val, by omega⟩ : Fin 2048)) := by
  refine shapeCast_apply _ _ _ _ ?_
  simp only [Shape.rowMajor_val_one, Shape.rowMajor_val_three, ix1, ix3]
  show 512 * h.val + e.val = (h.val * 1 + 0) * 512 + e.val
  omega

/-- An entry of the projections by sequence. -/
theorem V_x_at (i : Fin 16) (j : Fin 2048) (k : Fin 6144) :
    (V m c main_v0 : Vec Ideal S16x2048x6144 .bf16) (ix3 i j k) = at2 (m ((c : Thread nD τ).loc main_arg0) : Vec Ideal S32768x6144 .bf16) (2048 * i.val + j.val) k.val := by
  rw [V_x]
  exact cast_at _ _ i j k

/-- The block of queries at an entry. -/
theorem blk_q (t : Fin cfg0.N) (u : Fin 2) (j : Fin 512) (d : Fin 256) :
    (iblk m c 0 t : Vec Ideal S2x512x256 .bf16) (ix3 u j d)
      = at2 (m ((c : Thread nD τ).loc main_arg0) : Vec Ideal S32768x6144 .bf16) (2048 * (2 * (t.val / 16) + u.val) + (512 * (t.val % 4) + j.val)) (256 * (t.val / 4 % 4) + d.val) := by
  have ht := hN t
  have h : (iblk m c 0 t : Vec Ideal S2x512x256 .bf16) (ix3 u j d) = (V m c main_v0 : Vec Ideal S16x2048x6144 .bf16)
      (ix3 (⟨2 * (t.val / 16) + u.val, by omega⟩ : Fin 16) (⟨512 * (t.val % 4) + j.val, by omega⟩ : Fin 2048) (⟨256 * (t.val / 4 % 4) + d.val, by omega⟩ : Fin 6144)) := by
    blk_ext [iblk, idx0 t]
  rw [h, V_x_at]

/-- The block of keys at an entry. -/
theorem blk_k (t : Fin cfg0.N) (u : Fin 2) (j : Fin 512) (d : Fin 256) :
    (iblk m c 1 t : Vec Ideal S2x512x256 .bf16) (ix3 u j d)
      = at2 (m ((c : Thread nD τ).loc main_arg0) : Vec Ideal S32768x6144 .bf16) (2048 * (2 * (t.val / 16) + u.val) + (512 * (t.val % 4) + j.val)) (1024 + 256 * (t.val / 4 % 4) + d.val) := by
  have ht := hN t
  have h : (iblk m c 1 t : Vec Ideal S2x512x256 .bf16) (ix3 u j d) = (V m c main_v0 : Vec Ideal S16x2048x6144 .bf16)
      (ix3 (⟨2 * (t.val / 16) + u.val, by omega⟩ : Fin 16) (⟨512 * (t.val % 4) + j.val, by omega⟩ : Fin 2048) (⟨1024 + 256 * (t.val / 4 % 4) + d.val, by omega⟩ : Fin 6144)) := by
    blk_ext [iblk, idx1 t]
  rw [h, V_x_at]

/-- The block of values at an entry. -/
theorem blk_v (t : Fin cfg0.N) (u : Fin 2) (j : Fin 512) (d : Fin 512) :
    (iblk m c 2 t : Vec Ideal S2x512x512 .bf16) (ix3 u j d)
      = at2 (m ((c : Thread nD τ).loc main_arg0) : Vec Ideal S32768x6144 .bf16) (2048 * (2 * (t.val / 16) + u.val) + (512 * (t.val % 4) + j.val)) (2048 + 512 * (t.val / 4 % 4) + d.val) := by
  have ht := hN t
  have h : (iblk m c 2 t : Vec Ideal S2x512x512 .bf16) (ix3 u j d) = (V m c main_v0 : Vec Ideal S16x2048x6144 .bf16)
      (ix3 (⟨2 * (t.val / 16) + u.val, by omega⟩ : Fin 16) (⟨512 * (t.val % 4) + j.val, by omega⟩ : Fin 2048) (⟨2048 + 512 * (t.val / 4 % 4) + d.val, by omega⟩ : Fin 6144)) := by
    blk_ext [iblk, idx2 t]
  rw [h, V_x_at]

/-- The block of gates at an entry. -/
theorem blk_g (t : Fin cfg0.N) (u : Fin 2) (j : Fin 512) (d : Fin 512) :
    (iblk m c 3 t : Vec Ideal S2x512x512 .bf16) (ix3 u j d)
      = at2 (m ((c : Thread nD τ).loc main_arg0) : Vec Ideal S32768x6144 .bf16) (2048 * (2 * (t.val / 16) + u.val) + (512 * (t.val % 4) + j.val)) (4096 + 512 * (t.val / 4 % 4) + d.val) := by
  have ht := hN t
  have h : (iblk m c 3 t : Vec Ideal S2x512x512 .bf16) (ix3 u j d) = (V m c main_v0 : Vec Ideal S16x2048x6144 .bf16)
      (ix3 (⟨2 * (t.val / 16) + u.val, by omega⟩ : Fin 16) (⟨512 * (t.val % 4) + j.val, by omega⟩ : Fin 2048) (⟨4096 + 512 * (t.val / 4 % 4) + d.val, by omega⟩ : Fin 6144)) := by
    blk_ext [iblk, idx3 t]
  rw [h, V_x_at]

/-- The block of the decay inside a chunk at an entry. -/
theorem blk_dec (t : Fin cfg0.N) (r j : Fin 128) :
    (iblk m c 4 t : Vec Ideal S1x128x128 .f32) (ix3 (0 : Fin 1) r j) = (Step.K_main_v35 (F := Ideal) : Vec Ideal S4x128x128 .f32) (ix3 (⟨t.val / 4 % 4, Nat.mod_lt _ (by decide)⟩ : Fin 4) r j) := by
  have h : (iblk m c 4 t : Vec Ideal S1x128x128 .f32) (ix3 (0 : Fin 1) r j) = (V m c main_v24 : Vec Ideal S4x128x128 .f32) (ix3 (⟨t.val / 4 % 4, Nat.mod_lt _ (by decide)⟩ : Fin 4) r j) := by
    blk_ext [iblk, idx4 t]
  rw [h, V_dec]

/-- The block of the queries' decay at an entry. -/
theorem blk_qd (t : Fin cfg0.N) (r : Fin 128) :
    (iblk m c 5 t : Vec Ideal S1x128x1 .f32) (ix3 (0 : Fin 1) r (0 : Fin 1)) = (Step.K_main_v43 (F := Ideal) : Vec Ideal S4x128 .f32) (ix2 (⟨t.val / 4 % 4, Nat.mod_lt _ (by decide)⟩ : Fin 4) r) := by
  have h : (iblk m c 5 t : Vec Ideal S1x128x1 .f32) (ix3 (0 : Fin 1) r (0 : Fin 1)) = (V m c main_v33 : Vec Ideal S4x128x1 .f32) (ix3 (⟨t.val / 4 % 4, Nat.mod_lt _ (by decide)⟩ : Fin 4) r (0 : Fin 1)) := by
    blk_ext [iblk, idx5 t]
  rw [h, V_qd]
  generalize (Step.K_main_v43 (F := Ideal)) = T
  pointwise

/-- The block of the keys' decay at an entry. -/
theorem blk_kd (t : Fin cfg0.N) (r : Fin 128) :
    (iblk m c 6 t : Vec Ideal S1x128x1 .f32) (ix3 (0 : Fin 1) r (0 : Fin 1)) = (Step.K_main_v52 (F := Ideal) : Vec Ideal S4x128 .f32) (ix2 (⟨t.val / 4 % 4, Nat.mod_lt _ (by decide)⟩ : Fin 4) r) := by
  have h : (iblk m c 6 t : Vec Ideal S1x128x1 .f32) (ix3 (0 : Fin 1) r (0 : Fin 1)) = (V m c main_v42 : Vec Ideal S4x128x1 .f32) (ix3 (⟨t.val / 4 % 4, Nat.mod_lt _ (by decide)⟩ : Fin 4) r (0 : Fin 1)) := by
    blk_ext [iblk, idx6 t]
  rw [h, V_kd]
  generalize (Step.K_main_v52 (F := Ideal)) = T
  pointwise

/-- The block of the gain at an entry. -/
theorem blk_gn (t : Fin cfg0.N) (e : Fin 512) :
    (iblk m c 7 t : Vec Ideal S1x1x512 .f32) (ix3 (0 : Fin 1) (0 : Fin 1) e) = (m ((c : Thread nD τ).loc main_arg1) : Vec Ideal S2048 .f32) (ix1 (⟨512 * (t.val / 4 % 4) + e.val, by omega⟩ : Fin 2048)) := by
  have h : (iblk m c 7 t : Vec Ideal S1x1x512 .f32) (ix3 (0 : Fin 1) (0 : Fin 1) e) = (V m c main_v43 : Vec Ideal S4x1x512 .f32) (ix3 (⟨t.val / 4 % 4, Nat.mod_lt _ (by decide)⟩ : Fin 4) (0 : Fin 1) e) := by
    blk_ext [iblk, idx7 t]
  rw [h, V_gn]
  exact cast_gn _ _ _ e

end Cert.Ret
end
-- ==== Proof.Result.lean ====
/- The retention kernel's result: the carried scratch holds the recurrence's state, the output array the layer's formula at every entry. -/
module

public import proofs.«01_k».proof.Proof.Point
public import proofs.«01_k».proof.Proof.Blocks
public import Idealize.ShloMosaic.Lib.Pipeline.ValueKit.Geometry

@[expose] public section
set_option maxRecDepth 16384
noncomputable section
namespace Cert.Ret
open Cert.KernelIdeal Cert.KernelIdeal.Gen Cert.KernelIdeal.Value Idealize.ShloMosaic Idealize.ShloMosaic.TcCoe Idealize.SL.Sem
open Idealize.ShloMosaic.Pipeline (Dat)
open Cert.ReferenceIdeal (Step.K_main_v35 Step.K_main_v43 Step.K_main_v52)

/-- The queries of sequence `b`, head `h`. -/
def Qf (X : Vec Ideal S32768x6144 .bf16) (b h p : ℕ) (d : Fin 256) : EReal := at2 X (2048 * b + p) (256 * h + d.val)
/-- The keys. -/
def Kf (X : Vec Ideal S32768x6144 .bf16) (b h p : ℕ) (d : Fin 256) : EReal := at2 X (2048 * b + p) (1024 + 256 * h + d.val)
/-- The values. -/
def Vf (X : Vec Ideal S32768x6144 .bf16) (b h p : ℕ) (e : Fin 512) : EReal := at2 X (2048 * b + p) (2048 + 512 * h + e.val)
/-- The gates. -/
def Gf (X : Vec Ideal S32768x6144 .bf16) (b h p : ℕ) (e : Fin 512) : EReal := at2 X (2048 * b + p) (4096 + 512 * h + e.val)
/-- The decay inside a chunk, head `h`. -/
def Dt (h : Fin 4) (r j : Fin 128) : EReal := (Step.K_main_v35 (F := Ideal) : Vec Ideal S4x128x128 .f32) (ix3 h r j)
/-- The queries' decay. -/
def qdt (h : Fin 4) (r : Fin 128) : EReal := (Step.K_main_v43 (F := Ideal) : Vec Ideal S4x128 .f32) (ix2 h r)
/-- The keys' decay. -/
def kdt (h : Fin 4) (r : Fin 128) : EReal := (Step.K_main_v52 (F := Ideal) : Vec Ideal S4x128 .f32) (ix2 h r)
/-- The gain, head `h`. -/
def gnf (g : Vec Ideal S2048 .f32) (h : Fin 4) (e : Fin 512) : EReal := g (ix1 (⟨512 * h.val + e.val, by omega⟩ : Fin 2048))

/-- The layer's result at sequence `b`, head `h`, position `p`, column `e`, the chunk's decay read from the queries' last row. -/
def resF (X : Vec Ideal S32768x6144 .bf16) (g : Vec Ideal S2048 .f32) (b : ℕ) (h : Fin 4) (p : ℕ) (e : Fin 512) : EReal :=
  resAt (qdt h 127) (kdt h) (qdt h) (Dt h) (Qf X b h.val) (Kf X b h.val) (Vf X b h.val) (Gf X b h.val) (gnf g h) p e

/-- The result array. -/
def resG (X : Vec Ideal S32768x6144 .bf16) (g : Vec Ideal S2048 .f32) : Vec Ideal S16x2048x2048 .bf16 := fun y =>
  resF X g (y 0).val ⟨(y 2).val / 512, by have : (y 2).val < 2048 := (y 2).isLt; omega⟩ (y 1).val ⟨(y 2).val % 512, Nat.mod_lt _ (by decide)⟩

variable (m : (ℓ : Loc nD τ sig) → Buf (Elt Ideal) ℓ) (c : Dev nD)

/-- The projections as the run finds them. -/
abbrev XX : Vec Ideal S32768x6144 .bf16 := m ((c : Thread nD τ).loc main_arg0)
/-- The gain as the run finds it. -/
abbrev GG : Vec Ideal S2048 .f32 := m ((c : Thread nD τ).loc main_arg1)
/-- The head of a grid point. -/
abbrev hd (t : Fin cfg0.N) : Fin 4 := ⟨t.val / 4 % 4, Nat.mod_lt _ (by decide)⟩

/-- Window 0's block in the layer's words. -/
theorem bq (t : Fin cfg0.N) (u : Fin 2) (j : Fin 512) (d : Fin 256) :
    (iblk m c 0 t : Vec Ideal S2x512x256 .bf16) (ix3 u j d) = Qf (XX m c) (2 * (t.val / 16) + u.val) (hd t).val (128 * (4 * (t.val % 4)) + j.val) d := by
  rw [blk_q]
  unfold Qf
  congr 1
  omega

/-- Window 1's block in the layer's words. -/
theorem bk (t : Fin cfg0.N) (u : Fin 2) (j : Fin 512) (d : Fin 256) :
    (iblk m c 1 t : Vec Ideal S2x512x256 .bf16) (ix3 u j d) = Kf (XX m c) (2 * (t.val / 16) + u.val) (hd t).val (128 * (4 * (t.val % 4)) + j.val) d := by
  rw [blk_k]
  unfold Kf
  congr 1
  omega

/-- Window 2's block in the layer's words. -/
theorem bv (t : Fin cfg0.N) (u : Fin 2) (j : Fin 512) (d : Fin 512) :
    (iblk m c 2 t : Vec Ideal S2x512x512 .bf16) (ix3 u j d) = Vf (XX m c) (2 * (t.val / 16) + u.val) (hd t).val (128 * (4 * (t.val % 4)) + j.val) d := by
  rw [blk_v]
  unfold Vf
  congr 1
  omega

/-- Window 3's block in the layer's words. -/
theorem bg (t : Fin cfg0.N) (u : Fin 2) (j : Fin 512) (d : Fin 512) :
    (iblk m c 3 t : Vec Ideal S2x512x512 .bf16) (ix3 u j d) = Gf (XX m c) (2 * (t.val / 16) + u.val) (hd t).val (128 * (4 * (t.val % 4)) + j.val) d := by
  rw [blk_g]
  unfold Gf
  congr 1
  omega

/-- At a sequence's first point the scratch is zeroed. -/
theorem zero_at (t : Fin cfg0.N) (h0 : t.val % 4 = 0) (u : Fin 2) (d : Fin 256) (e : Fin 512) :
    (k0_pay2 (F := Ideal) : Vec Ideal S2x256x512 .f32) (ix3 u d e)
      = stM (qdt (hd t) 127) (kdt (hd t)) (Kf (XX m c) (2 * (t.val / 16) + u.val) (hd t).val) (Vf (XX m c) (2 * (t.val / 16) + u.val) (hd t).val) (4 * (t.val % 4)) d e := by
  rw [h0]
  show _ = (0 : EReal)
  unfold k0_pay2
  pointwise

/-- At any other point the point before has left the state. -/
theorem prev_of (t : Fin cfg0.N) (h0 : ¬t.val % 4 = 0) (xs : Vec Ideal S2x256x512 .f32)
    (h : ∀ (u : Fin 2) (d : Fin 256) (e : Fin 512), xs (ix3 u d e)
      = stM (qdt (hd ⟨t.val - 1, Nat.lt_of_le_of_lt (Nat.sub_le _ _) t.isLt⟩) 127) (kdt (hd ⟨t.val - 1, Nat.lt_of_le_of_lt (Nat.sub_le _ _) t.isLt⟩))
        (Kf (XX m c) (2 * ((t.val - 1) / 16) + u.val) (hd ⟨t.val - 1, Nat.lt_of_le_of_lt (Nat.sub_le _ _) t.isLt⟩).val) (Vf (XX m c) (2 * ((t.val - 1) / 16) + u.val) (hd ⟨t.val - 1, Nat.lt_of_le_of_lt (Nat.sub_le _ _) t.isLt⟩).val) (4 * ((t.val - 1) % 4) + 4) d e)
    (u : Fin 2) (d : Fin 256) (e : Fin 512) : xs (ix3 u d e)
      = stM (qdt (hd t) 127) (kdt (hd t)) (Kf (XX m c) (2 * (t.val / 16) + u.val) (hd t).val) (Vf (XX m c) (2 * (t.val / 16) + u.val) (hd t).val) (4 * (t.val % 4)) d e := by
  rw [h]
  have e1 : hd ⟨t.val - 1, Nat.lt_of_le_of_lt (Nat.sub_le _ _) t.isLt⟩ = hd t := Fin.ext (by show (t.val - 1) / 4 % 4 = t.val / 4 % 4; omega)
  have e2 : (t.val - 1) / 16 = t.val / 16 := by omega
  have e3 : 4 * ((t.val - 1) % 4) + 4 = 4 * (t.val % 4) := by omega
  rw [e1, e2, e3]

/-- The carried scratch after a point is the recurrence's state after the point's four chunks. -/
theorem scratch_at : ∀ (n : ℕ) (t : Fin cfg0.N), t.val = n → ∀ (u : Fin 2) (d : Fin 256) (e : Fin 512),
    ((outsAt0 m c t.val t.isLt).2 : Vec Ideal S2x256x512 .f32) (ix3 u d e)
      = stM (qdt (hd t) 127) (kdt (hd t)) (Kf (XX m c) (2 * (t.val / 16) + u.val) (hd t).val) (Vf (XX m c) (2 * (t.val / 16) + u.val) (hd t).val) (4 * (t.val % 4) + 4) d e := by
  intro n
  induction n using Nat.strong_induction_on with
  | _ n ih =>
    intro t ht u d e
    by_cases h0 : t.val % 4 = 0
    · rw [outsAt0_A m c t h0]
      dsimp only
      unfold sout0_A_0
      rw [View.read_writes_junk_eq_canon, scrA]
      refine scr_at (qdt (hd t) 127) (kdt (hd t)) (fun u => Kf (XX m c) (2 * (t.val / 16) + u.val) (hd t).val) (fun u => Vf (XX m c) (2 * (t.val / 16) + u.val) (hd t).val)
        (4 * (t.val % 4)) _ _ _ _ _ (zero_at m c t h0) (bk m c t) (bv m c t) (blk_qd m c t 127) (blk_kd m c t) _ u d e
    · rw [outsAt0_B m c t h0]
      dsimp only
      unfold sout0_B_0
      rw [View.read_writes_junk_eq_canon, scrB]
      refine scr_at (qdt (hd t) 127) (kdt (hd t)) (fun u => Kf (XX m c) (2 * (t.val / 16) + u.val) (hd t).val) (fun u => Vf (XX m c) (2 * (t.val / 16) + u.val) (hd t).val)
        (4 * (t.val % 4)) _ _ _ _ _ (prev_of m c t h0 _ (ih (t.val - 1) (by omega) ⟨t.val - 1, Nat.lt_of_le_of_lt (Nat.sub_le _ _) t.isLt⟩ rfl)) (bk m c t) (bv m c t) (blk_qd m c t 127) (blk_kd m c t) _ u d e

/-- What a point writes back, at an entry of its block. -/
theorem flushed_at (t : Fin cfg0.N) (y : S2x512x512.Idx) :
    ((outsAt0 m c t.val t.isLt).1 : Vec Ideal S2x512x512 .bf16) y
      = resF (XX m c) (GG m c) (2 * (t.val / 16) + (y 0).val) (hd t) (512 * (t.val % 4) + (y 1).val) (y 2) := by
  have hp : 512 * (t.val % 4) + (y 1).val = 128 * (4 * (t.val % 4)) + (y 1).val := by omega
  rw [hp]
  unfold resF
  by_cases h0 : t.val % 4 = 0
  · rw [outsAt0_A m c t h0]
    dsimp only
    unfold out0_A_8
    rw [View.read_writes_junk_eq_canon, outA]
    refine out_at (qdt (hd t) 127) (kdt (hd t)) (qdt (hd t)) (Dt (hd t)) (fun u => Qf (XX m c) (2 * (t.val / 16) + u.val) (hd t).val) (fun u => Kf (XX m c) (2 * (t.val / 16) + u.val) (hd t).val) (fun u => Vf (XX m c) (2 * (t.val / 16) + u.val) (hd t).val)
      (fun u => Gf (XX m c) (2 * (t.val / 16) + u.val) (hd t).val) (gnf (GG m c) (hd t))
      (4 * (t.val % 4)) _ _ _ _ _ _ _ _ _ (zero_at m c t h0) (bk m c t) (bv m c t) (blk_qd m c t 127) (blk_kd m c t) (bq m c t) (bg m c t) (blk_dec m c t) (blk_qd m c t) (blk_gn m c t) y
  · rw [outsAt0_B m c t h0]
    dsimp only
    unfold out0_B_8
    rw [View.read_writes_junk_eq_canon, outB]
    refine out_at (qdt (hd t) 127) (kdt (hd t)) (qdt (hd t)) (Dt (hd t)) (fun u => Qf (XX m c) (2 * (t.val / 16) + u.val) (hd t).val) (fun u => Kf (XX m c) (2 * (t.val / 16) + u.val) (hd t).val) (fun u => Vf (XX m c) (2 * (t.val / 16) + u.val) (hd t).val)
      (fun u => Gf (XX m c) (2 * (t.val / 16) + u.val) (hd t).val) (gnf (GG m c) (hd t))
      (4 * (t.val % 4)) _ _ _ _ _ _ _ _ _ (prev_of m c t h0 _ (scratch_at m c (t.val - 1) ⟨t.val - 1, Nat.lt_of_le_of_lt (Nat.sub_le _ _) t.isLt⟩ rfl)) (bk m c t) (bv m c t) (blk_qd m c t 127) (blk_kd m c t) (bq m c t) (bg m c t) (blk_dec m c t) (blk_qd m c t) (blk_gn m c t) y

/-- The result array after the run. -/
theorem result_eq : (dats m 0 c).arrAt 8 cfg0.N = resG (XX m c) (GG m c) := by
  refine (dats m 0 c).arrAt_eq_of_covers 8 _ (by decide +kernel) fun t hf y => ?_
  have e0 : ((((cfg0.win 8).blk t).view.emb y) 0).val = 2 * (t.val / 16) + (y 0).val := by blk_simp [idx8 t]; omega
  have e1 : ((((cfg0.win 8).blk t).view.emb y) 1).val = 512 * (t.val % 4) + (y 1).val := by blk_simp [idx8 t]; omega
  have e2 : ((((cfg0.win 8).blk t).view.emb y) 2).val = 512 * (t.val / 4 % 4) + (y 2).val := by blk_simp [idx8 t]; omega
  have hy : (y 2).val < 512 := (y 2).isLt
  refine (flushed_at m c t y).trans ?_
  unfold resG
  have h1 : hd t = ⟨((((cfg0.win 8).blk t).view.emb y) 2).val / 512, by rw [e2]; omega⟩ := Fin.ext (by show t.val / 4 % 4 = ((((cfg0.win 8).blk t).view.emb y) 2).val / 512; omega)
  have h2 : y 2 = ⟨((((cfg0.win 8).blk t).view.emb y) 2).val % 512, Nat.mod_lt _ (by decide)⟩ := Fin.ext (by show (y 2).val = ((((cfg0.win 8).blk t).view.emb y) 2).val % 512; omega)
  rw [e0, e1]
  exact congrArg₂ (fun h e => resF (XX m c) (GG m c) (2 * (t.val / 16) + (y 0).val) h (512 * (t.val % 4) + (y 1).val) e) h1 h2
end Cert.Ret
end
-- ==== Proof.RefLoop.lean ====
/- The run of the reference as its step iterated: the generated module's text with the step of the stacked outputs closed up to unfolding. -/
module

public import proofs.«01_k».proof.Proof.Gen.ReferenceIdeal.Run
public import proofs.«01_k».proof.Proof.Gen.ReferenceIdeal.Step

@[expose] public section

noncomputable section

namespace Cert.RefLoop

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_8 : V0 (Proc.devRef .tc main_v66_8) = s.main_v66_8
  f_9 : V0 (Proc.devRef .tc main_v66_9) = s.main_v66_9
  f_0 : V0 (Proc.devRef .tc main_v66_0) = s.main_v66_0
  f_1 : V0 (Proc.devRef .tc main_v66_1) = s.main_v66_1
  f_2 : V0 (Proc.devRef .tc main_v66_2) = s.main_v66_2
  n_7 : V0 (Proc.devRef .tc main_v66_7) = constantI S_ 32 (BitVec.ofNat 32 j)
  k_3 : V0 (Proc.devRef .tc main_v66_3) = Cert.ReferenceIdeal.Step.K_main_v35 (F := F)
  k_4 : V0 (Proc.devRef .tc main_v66_4) = Cert.ReferenceIdeal.Step.K_main_v44 (F := F)
  k_5 : V0 (Proc.devRef .tc main_v66_5) = Cert.ReferenceIdeal.Step.K_main_v57 (F := F)
  k_6 : V0 (Proc.devRef .tc main_v66_6) = Cert.ReferenceIdeal.Step.K_main_v53 (F := F)

variable {V0 s j}

set_option maxRecDepth 8192 in
theorem al_0 (h : Holds V0 s j) : (constantI S_ 32 0#32 : (Proc.devRef .tc main_while0b_call1_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call1_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call1_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call1_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x16x4x128x256 (V0 (Proc.devRef .tc main_v66_0)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S16x16x4x128x256_S1x16x4x128x256 : (Proc.devRef .tc main_while0b_call1_v0 : DevRef τ sig).ty.Contents (Elt F)) = Cert.ReferenceIdeal.Step.b4 j s := by
  unfold Cert.ReferenceIdeal.Step.b4
  rw [← al_0 h, ← al_1 h, ← al_2 h, ← al_3 h, h.f_0, h.n_7]
  try rfl
set_option maxRecDepth 8192 in
theorem al_5 (h : Holds V0 s j) : (res_main_while0b_v99 V0 : (Proc.devRef .tc main_while0b_v99 : DevRef τ sig).ty.Contents (Elt F)) = Cert.ReferenceIdeal.Step.b5 j s := by
  unfold res_main_while0b_v99 Cert.ReferenceIdeal.Step.b5
  rw [← al_4 h]
  try rfl
set_option maxRecDepth 8192 in
theorem al_6 (h : Holds V0 s j) : (constantI S_ 32 0#32 : (Proc.devRef .tc main_while0b_call2_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call2_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call2_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call2_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x16x4x128x256 (V0 (Proc.devRef .tc main_v66_1)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S16x16x4x128x256_S1x16x4x128x256 : (Proc.devRef .tc main_while0b_call2_v0 : DevRef τ sig).ty.Contents (Elt F)) = Cert.ReferenceIdeal.Step.b10 j s := by
  unfold Cert.ReferenceIdeal.Step.b10
  rw [← al_6 h, ← al_7 h, ← al_8 h, ← al_9 h, h.f_1, h.n_7]
  try rfl
set_option maxRecDepth 8192 in
theorem al_11 (h : Holds V0 s j) : (res_main_while0b_v100 V0 : (Proc.devRef .tc main_while0b_v100 : DevRef τ sig).ty.Contents (Elt F)) = Cert.ReferenceIdeal.Step.b11 j s := by
  unfold res_main_while0b_v100 Cert.ReferenceIdeal.Step.b11
  rw [← al_10 h]
  try rfl
set_option maxRecDepth 8192 in
theorem al_12 (h : Holds V0 s j) : (constantI S_ 32 0#32 : (Proc.devRef .tc main_while0b_call3_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call3_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call3_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call3_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x16x4x128x512 (V0 (Proc.devRef .tc main_v66_2)) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) sliceFits_S16x16x4x128x512_S1x16x4x128x512 : (Proc.devRef .tc main_while0b_call3_v0 : DevRef τ sig).ty.Contents (Elt F)) = Cert.ReferenceIdeal.Step.b16 j s := by
  unfold Cert.ReferenceIdeal.Step.b16
  rw [← al_12 h, ← al_13 h, ← al_14 h, ← al_15 h, h.f_2, h.n_7]
  try rfl
set_option maxRecDepth 8192 in
theorem al_17 (h : Holds V0 s j) : (res_main_while0b_v101 V0 : (Proc.devRef .tc main_while0b_v101 : DevRef τ sig).ty.Contents (Elt F)) = Cert.ReferenceIdeal.Step.b17 j s := by
  unfold res_main_while0b_v101 Cert.ReferenceIdeal.Step.b17
  rw [← al_16 h]
  try rfl
set_option maxRecDepth 8192 in
theorem al_18 (h : Holds V0 s j) : (Host.dotGeneral dot_S16x4x128x256_S16x4x128x256_S16x4x128x128_3_3_2_2_01_01 none (res_main_while0b_v99 V0) (res_main_while0b_v100 V0) : (Proc.devRef .tc main_while0b_v102 : DevRef τ sig).ty.Contents (Elt F)) = Cert.ReferenceIdeal.Step.b18 j s := by
  unfold Cert.ReferenceIdeal.Step.b18
  rw [← al_5 h, ← al_11 h]
  try rfl
set_option maxRecDepth 8192 in
theorem al_19 (h : Holds V0 s j) : (broadcastInDim S1x4x128x128 ![1, 2, 3] bcast_S4x128x128_S1x4x128x128_1_2_3 (V0 (Proc.devRef .tc main_v66_3)) : (Proc.devRef .tc main_while0b_v103 : DevRef τ sig).ty.Contents (Elt F)) = Cert.ReferenceIdeal.Step.b19 j s := by
  unfold Cert.ReferenceIdeal.Step.b19
  rw [h.k_3]
  try rfl
set_option maxRecDepth 8192 in
theorem al_20 (h : Holds V0 s j) : (broadcastInDim S16x4x128x128 ![0, 1, 2, 3] bcast_S1x4x128x128_S16x4x128x128_0_1_2_3 (broadcastInDim S1x4x128x128 ![1, 2, 3] bcast_S4x128x128_S1x4x128x128_1_2_3 (V0 (Proc.devRef .tc main_v66_3))) : (Proc.devRef .tc main_while0b_v104 : DevRef τ sig).ty.Contents (Elt F)) = Cert.ReferenceIdeal.Step.b20 j s := by
  unfold Cert.ReferenceIdeal.Step.b20
  rw [← al_19 h]
  try rfl
set_option maxRecDepth 8192 in
theorem al_21 (h : Holds V0 s j) : (mulf (Host.dotGeneral dot_S16x4x128x256_S16x4x128x256_S16x4x128x128_3_3_2_2_01_01 none (res_main_while0b_v99 V0) (res_main_while0b_v100 V0)) (broadcastInDim S16x4x128x128 ![0, 1, 2, 3] bcast_S1x4x128x128_S16x4x128x128_0_1_2_3 (broadcastInDim S1x4x128x128 ![1, 2, 3] bcast_S4x128x128_S1x4x128x128_1_2_3 (V0 (Proc.devRef .tc main_v66_3)))) : (Proc.devRef .tc main_while0b_v105 : DevRef τ sig).ty.Contents (Elt F)) = Cert.ReferenceIdeal.Step.b21 j s := by
  unfold Cert.ReferenceIdeal.Step.b21
  rw [← al_18 h, ← al_20 h]
  try rfl
set_option maxRecDepth 8192 in
theorem al_22 (h : Holds V0 s j) : (Host.dotGeneral dot_S16x4x128x128_S16x4x128x512_S16x4x128x512_3_2_2_3_01_01 none (mulf (Host.dotGeneral dot_S16x4x128x256_S16x4x128x256_S16x4x128x128_3_3_2_2_01_01 none (res_main_while0b_v99 V0) (res_main_while0b_v100 V0)) (broadcastInDim S16x4x128x128 ![0, 1, 2, 3] bcast_S1x4x128x128_S16x4x128x128_0_1_2_3 (broadcastInDim S1x4x128x128 ![1, 2, 3] bcast_S4x128x128_S1x4x128x128_1_2_3 (V0 (Proc.devRef .tc main_v66_3))))) (res_main_while0b_v101 V0) : (Proc.devRef .tc main_while0b_v106 : DevRef τ sig).ty.Contents (Elt F)) = Cert.ReferenceIdeal.Step.b22 j s := by
  unfold Cert.ReferenceIdeal.Step.b22
  rw [← al_21 h, ← al_17 h]
  try rfl
set_option maxRecDepth 8192 in
theorem al_23 (h : Holds V0 s j) : (Host.dotGeneral dot_S16x4x128x256_S16x4x256x512_S16x4x128x512_3_2_2_3_01_01 none (res_main_while0b_v99 V0) (V0 (Proc.devRef .tc main_v66_8)) : (Proc.devRef .tc main_while0b_v107 : DevRef τ sig).ty.Contents (Elt F)) = Cert.ReferenceIdeal.Step.b23 j s := by
  unfold Cert.ReferenceIdeal.Step.b23
  rw [← al_5 h, h.f_8]
  try rfl
set_option maxRecDepth 8192 in
theorem al_24 (h : Holds V0 s j) : (broadcastInDim S16x4x128x512 ![0, 1, 2, 3] bcast_S1x4x128x1_S16x4x128x512_0_1_2_3 (V0 (Proc.devRef .tc main_v66_4)) : (Proc.devRef .tc main_while0b_v108 : DevRef τ sig).ty.Contents (Elt F)) = Cert.ReferenceIdeal.Step.b24 j s := by
  unfold Cert.ReferenceIdeal.Step.b24
  rw [h.k_4]
  try rfl
set_option maxRecDepth 8192 in
theorem al_25 (h : Holds V0 s j) : (mulf (Host.dotGeneral dot_S16x4x128x256_S16x4x256x512_S16x4x128x512_3_2_2_3_01_01 none (res_main_while0b_v99 V0) (V0 (Proc.devRef .tc main_v66_8))) (broadcastInDim S16x4x128x512 ![0, 1, 2, 3] bcast_S1x4x128x1_S16x4x128x512_0_1_2_3 (V0 (Proc.devRef .tc main_v66_4))) : (Proc.devRef .tc main_while0b_v109 : DevRef τ sig).ty.Contents (Elt F)) = Cert.ReferenceIdeal.Step.b25 j s := by
  unfold Cert.ReferenceIdeal.Step.b25
  rw [← al_23 h, ← al_24 h]
  try rfl
set_option maxRecDepth 8192 in
theorem al_26 (h : Holds V0 s j) : (broadcastInDim S16x4x256x512 ![0, 1, 2, 3] bcast_S1x4x1x1_S16x4x256x512_0_1_2_3 (V0 (Proc.devRef .tc main_v66_5)) : (Proc.devRef .tc main_while0b_v110 : DevRef τ sig).ty.Contents (Elt F)) = Cert.ReferenceIdeal.Step.b26 j s := by
  unfold Cert.ReferenceIdeal.Step.b26
  rw [h.k_5]
  try rfl
set_option maxRecDepth 8192 in
theorem al_27 (h : Holds V0 s j) : (mulf (V0 (Proc.devRef .tc main_v66_8)) (broadcastInDim S16x4x256x512 ![0, 1, 2, 3] bcast_S1x4x1x1_S16x4x256x512_0_1_2_3 (V0 (Proc.devRef .tc main_v66_5))) : (Proc.devRef .tc main_while0b_v111 : DevRef τ sig).ty.Contents (Elt F)) = Cert.ReferenceIdeal.Step.b27 j s := by
  unfold Cert.ReferenceIdeal.Step.b27
  rw [← al_26 h, h.f_8]
  try rfl
set_option maxRecDepth 8192 in
theorem al_28 (h : Holds V0 s j) : (broadcastInDim S16x4x128x256 ![0, 1, 2, 3] bcast_S1x4x128x1_S16x4x128x256_0_1_2_3 (V0 (Proc.devRef .tc main_v66_6)) : (Proc.devRef .tc main_while0b_v112 : DevRef τ sig).ty.Contents (Elt F)) = Cert.ReferenceIdeal.Step.b28 j s := by
  unfold Cert.ReferenceIdeal.Step.b28
  rw [h.k_6]
  try rfl
set_option maxRecDepth 8192 in
theorem al_29 (h : Holds V0 s j) : (mulf (res_main_while0b_v100 V0) (broadcastInDim S16x4x128x256 ![0, 1, 2, 3] bcast_S1x4x128x1_S16x4x128x256_0_1_2_3 (V0 (Proc.devRef .tc main_v66_6))) : (Proc.devRef .tc main_while0b_v113 : DevRef τ sig).ty.Contents (Elt F)) = Cert.ReferenceIdeal.Step.b29 j s := by
  unfold Cert.ReferenceIdeal.Step.b29
  rw [← al_11 h, ← al_28 h]
  try rfl
set_option maxRecDepth 8192 in
theorem al_30 (h : Holds V0 s j) : (Host.dotGeneral dot_S16x4x128x256_S16x4x128x512_S16x4x256x512_2_2_3_3_01_01 none (mulf (res_main_while0b_v100 V0) (broadcastInDim S16x4x128x256 ![0, 1, 2, 3] bcast_S1x4x128x1_S16x4x128x256_0_1_2_3 (V0 (Proc.devRef .tc main_v66_6)))) (res_main_while0b_v101 V0) : (Proc.devRef .tc main_while0b_v114 : DevRef τ sig).ty.Contents (Elt F)) = Cert.ReferenceIdeal.Step.b30 j s := by
  unfold Cert.ReferenceIdeal.Step.b30
  rw [← al_29 h, ← al_17 h]
  try rfl
set_option maxRecDepth 8192 in
theorem al_31 (h : Holds V0 s j) : (addf (mulf (V0 (Proc.devRef .tc main_v66_8)) (broadcastInDim S16x4x256x512 ![0, 1, 2, 3] bcast_S1x4x1x1_S16x4x256x512_0_1_2_3 (V0 (Proc.devRef .tc main_v66_5)))) (Host.dotGeneral dot_S16x4x128x256_S16x4x128x512_S16x4x256x512_2_2_3_3_01_01 none (mulf (res_main_while0b_v100 V0) (broadcastInDim S16x4x128x256 ![0, 1, 2, 3] bcast_S1x4x128x1_S16x4x128x256_0_1_2_3 (V0 (Proc.devRef .tc main_v66_6)))) (res_main_while0b_v101 V0)) : (Proc.devRef .tc main_while0b_v115 : DevRef τ sig).ty.Contents (Elt F)) = Cert.ReferenceIdeal.Step.b31 j s := by
  unfold Cert.ReferenceIdeal.Step.b31
  rw [← al_27 h, ← al_30 h]
  try rfl
set_option maxRecDepth 8192 in
theorem al_32 (h : Holds V0 s j) : (addf (Host.dotGeneral dot_S16x4x128x128_S16x4x128x512_S16x4x128x512_3_2_2_3_01_01 none (mulf (Host.dotGeneral dot_S16x4x128x256_S16x4x128x256_S16x4x128x128_3_3_2_2_01_01 none (res_main_while0b_v99 V0) (res_main_while0b_v100 V0)) (broadcastInDim S16x4x128x128 ![0, 1, 2, 3] bcast_S1x4x128x128_S16x4x128x128_0_1_2_3 (broadcastInDim S1x4x128x128 ![1, 2, 3] bcast_S4x128x128_S1x4x128x128_1_2_3 (V0 (Proc.devRef .tc main_v66_3))))) (res_main_while0b_v101 V0)) (mulf (Host.dotGeneral dot_S16x4x128x256_S16x4x256x512_S16x4x128x512_3_2_2_3_01_01 none (res_main_while0b_v99 V0) (V0 (Proc.devRef .tc main_v66_8))) (broadcastInDim S16x4x128x512 ![0, 1, 2, 3] bcast_S1x4x128x1_S16x4x128x512_0_1_2_3 (V0 (Proc.devRef .tc main_v66_4)))) : (Proc.devRef .tc main_while0b_v116 : DevRef τ sig).ty.Contents (Elt F)) = Cert.ReferenceIdeal.Step.b32 j s := by
  unfold Cert.ReferenceIdeal.Step.b32
  rw [← al_22 h, ← al_25 h]
  try rfl
set_option maxRecDepth 8192 in
theorem al_33 (h : Holds V0 s j) : (broadcastInDim S1x16x4x128x512 ![1, 2, 3, 4] bcast_S16x4x128x512_S1x16x4x128x512_1_2_3_4 (addf (Host.dotGeneral dot_S16x4x128x128_S16x4x128x512_S16x4x128x512_3_2_2_3_01_01 none (mulf (Host.dotGeneral dot_S16x4x128x256_S16x4x128x256_S16x4x128x128_3_3_2_2_01_01 none (res_main_while0b_v99 V0) (res_main_while0b_v100 V0)) (broadcastInDim S16x4x128x128 ![0, 1, 2, 3] bcast_S1x4x128x128_S16x4x128x128_0_1_2_3 (broadcastInDim S1x4x128x128 ![1, 2, 3] bcast_S4x128x128_S1x4x128x128_1_2_3 (V0 (Proc.devRef .tc main_v66_3))))) (res_main_while0b_v101 V0)) (mulf (Host.dotGeneral dot_S16x4x128x256_S16x4x256x512_S16x4x128x512_3_2_2_3_01_01 none (res_main_while0b_v99 V0) (V0 (Proc.devRef .tc main_v66_8))) (broadcastInDim S16x4x128x512 ![0, 1, 2, 3] bcast_S1x4x128x1_S16x4x128x512_0_1_2_3 (V0 (Proc.devRef .tc main_v66_4))))) : (Proc.devRef .tc main_while0b_call4_v0 : DevRef τ sig).ty.Contents (Elt F)) = Cert.ReferenceIdeal.Step.b33 j s := by
  unfold Cert.ReferenceIdeal.Step.b33
  rw [← al_32 h]
  try rfl
set_option maxRecDepth 8192 in
theorem al_34 (h : Holds V0 s j) : (constantI S_ 32 0#32 : (Proc.devRef .tc main_while0b_call4_c : DevRef τ sig).ty.Contents (Elt F)) = Cert.ReferenceIdeal.Step.b34 j s := by
  unfold Cert.ReferenceIdeal.Step.b34
  rfl
set_option maxRecDepth 8192 in
theorem al_35 (h : Holds V0 s j) : (constantI S_ 32 0#32 : (Proc.devRef .tc main_while0b_call4_c_0 : DevRef τ sig).ty.Contents (Elt F)) = Cert.ReferenceIdeal.Step.b35 j s := by
  unfold Cert.ReferenceIdeal.Step.b35
  rfl
set_option maxRecDepth 8192 in
theorem al_36 (h : Holds V0 s j) : (constantI S_ 32 0#32 : (Proc.devRef .tc main_while0b_call4_c_1 : DevRef τ sig).ty.Contents (Elt F)) = Cert.ReferenceIdeal.Step.b36 j s := by
  unfold Cert.ReferenceIdeal.Step.b36
  rfl
set_option maxRecDepth 8192 in
theorem al_37 (h : Holds V0 s j) : (constantI S_ 32 0#32 : (Proc.devRef .tc main_while0b_call4_c_2 : DevRef τ sig).ty.Contents (Elt F)) = Cert.ReferenceIdeal.Step.b37 j s := by
  unfold Cert.ReferenceIdeal.Step.b37
  rfl
set_option maxRecDepth 8192 in
theorem al_38 (h : Holds V0 s j) : (Host.dynamicUpdateSlice (V0 (Proc.devRef .tc main_v66_9)) (broadcastInDim S1x16x4x128x512 ![1, 2, 3, 4] bcast_S16x4x128x512_S1x16x4x128x512_1_2_3_4 (addf (Host.dotGeneral dot_S16x4x128x128_S16x4x128x512_S16x4x128x512_3_2_2_3_01_01 none (mulf (Host.dotGeneral dot_S16x4x128x256_S16x4x128x256_S16x4x128x128_3_3_2_2_01_01 none (res_main_while0b_v99 V0) (res_main_while0b_v100 V0)) (broadcastInDim S16x4x128x128 ![0, 1, 2, 3] bcast_S1x4x128x128_S16x4x128x128_0_1_2_3 (broadcastInDim S1x4x128x128 ![1, 2, 3] bcast_S4x128x128_S1x4x128x128_1_2_3 (V0 (Proc.devRef .tc main_v66_3))))) (res_main_while0b_v101 V0)) (mulf (Host.dotGeneral dot_S16x4x128x256_S16x4x256x512_S16x4x128x512_3_2_2_3_01_01 none (res_main_while0b_v99 V0) (V0 (Proc.devRef .tc main_v66_8))) (broadcastInDim S16x4x128x512 ![0, 1, 2, 3] bcast_S1x4x128x1_S16x4x128x512_0_1_2_3 (V0 (Proc.devRef .tc main_v66_4)))))) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) updateFits_S16x16x4x128x512_S1x16x4x128x512 : (Proc.devRef .tc main_while0b_v117 : DevRef τ sig).ty.Contents (Elt F)) = Cert.ReferenceIdeal.Step.b38 j s := by
  unfold Cert.ReferenceIdeal.Step.b38
  rw [← al_33 h, ← al_34 h, ← al_35 h, ← al_36 h, ← al_37 h, h.f_9, h.n_7]
  try rfl

/-! One trip's step of the carried values is `step`, field by field; a counter steps to the next number. -/

theorem step_8 (h : Holds V0 s j) : step_main_v66_8 V0 = (step j s).main_v66_8 := by
  unfold step_main_v66_8 Cert.ReferenceIdeal.Step.step
  show id (addf (mulf (V0 (Proc.devRef .tc main_v66_8)) (broadcastInDim S16x4x256x512 ![0, 1, 2, 3] bcast_S1x4x1x1_S16x4x256x512_0_1_2_3 (V0 (Proc.devRef .tc main_v66_5)))) (Host.dotGeneral dot_S16x4x128x256_S16x4x128x512_S16x4x256x512_2_2_3_3_01_01 none (mulf (res_main_while0b_v100 V0) (broadcastInDim S16x4x128x256 ![0, 1, 2, 3] bcast_S1x4x128x1_S16x4x128x256_0_1_2_3 (V0 (Proc.devRef .tc main_v66_6)))) (res_main_while0b_v101 V0))) = _
  rw [al_31 h]
  try rfl
theorem step_9 (h : Holds V0 s j) : step_main_v66_9 V0 = (step j s).main_v66_9 := by
  unfold step_main_v66_9 Cert.ReferenceIdeal.Step.step
  show id (Host.dynamicUpdateSlice (V0 (Proc.devRef .tc main_v66_9)) (broadcastInDim S1x16x4x128x512 ![1, 2, 3, 4] bcast_S16x4x128x512_S1x16x4x128x512_1_2_3_4 (addf (Host.dotGeneral dot_S16x4x128x128_S16x4x128x512_S16x4x128x512_3_2_2_3_01_01 none (mulf (Host.dotGeneral dot_S16x4x128x256_S16x4x128x256_S16x4x128x128_3_3_2_2_01_01 none (res_main_while0b_v99 V0) (res_main_while0b_v100 V0)) (broadcastInDim S16x4x128x128 ![0, 1, 2, 3] bcast_S1x4x128x128_S16x4x128x128_0_1_2_3 (broadcastInDim S1x4x128x128 ![1, 2, 3] bcast_S4x128x128_S1x4x128x128_1_2_3 (V0 (Proc.devRef .tc main_v66_3))))) (res_main_while0b_v101 V0)) (mulf (Host.dotGeneral dot_S16x4x128x256_S16x4x256x512_S16x4x128x512_3_2_2_3_01_01 none (res_main_while0b_v99 V0) (V0 (Proc.devRef .tc main_v66_8))) (broadcastInDim S16x4x128x512 ![0, 1, 2, 3] bcast_S1x4x128x1_S16x4x128x512_0_1_2_3 (V0 (Proc.devRef .tc main_v66_4)))))) (fun k => (((![V0 (Proc.devRef .tc main_v66_7), constantI S_ 32 0#32, constantI S_ 32 0#32, constantI S_ 32 0#32, constantI S_ 32 0#32] : Fin 5 → (⟨S_, .i32⟩ : BufTy).Contents (Elt F))) k (Shape.Idx.first h_S_)).toInt) updateFits_S16x16x4x128x512_S1x16x4x128x512) = _
  exact al_38 h
theorem step_7 (h : Holds V0 s j) : step_main_v66_7 V0 = constantI S_ 32 (BitVec.ofNat 32 (j + 1)) := by
  unfold step_main_v66_7
  rw [h.n_7]
  funext i
  show BitVec.ofNat 32 j + 1#32 = BitVec.ofNat 32 (j + 1)
  simp only [BitVec.ofNat_add]

set_option maxRecDepth 8192 in
theorem out_main_v98_holds (h : Holds V0 s j) {x_main_arg0 : (⟨S32768x6144, .bf16⟩ : BufTy).Contents (Elt F)} (h_main_arg0 : V0 (Proc.devRef .tc main_arg0) = x_main_arg0) {x_main_arg1 : (⟨S2048, .f32⟩ : BufTy).Contents (Elt F)} (h_main_arg1 : V0 (Proc.devRef .tc main_arg1) = x_main_arg1) : out_main_v98 V0 = Cert.ReferenceIdeal.Step.R_main_v98 s x_main_arg0 x_main_arg1 := by
  unfold out_main_v98 Cert.ReferenceIdeal.Step.R_main_v98
  rw [h.f_9, h_main_arg0, h_main_arg1]
  try rfl

/-- One trip keeps the valuation holding: `step` of the state, the same set-up values, the next number. -/
theorem holds_step (h : Holds V0 s j) : Holds (STEP V0) (step j s) (j + 1) where
  f_8 := (STEP_main_v66_8 V0).trans (step_8 h)
  f_9 := (STEP_main_v66_9 V0).trans (step_9 h)
  n_7 := (STEP_main_v66_7 V0).trans (step_7 h)
  k_3 := (STEP_main_v66_3 V0).trans h.k_3
  k_4 := (STEP_main_v66_4 V0).trans h.k_4
  k_5 := (STEP_main_v66_5 V0).trans h.k_5
  k_6 := (STEP_main_v66_6 V0).trans h.k_6
  f_0 := (STEP_main_v66_0 V0).trans h.f_0
  f_1 := (STEP_main_v66_1 V0).trans h.f_1
  f_2 := (STEP_main_v66_2 V0).trans h.f_2

/-- The state the first trip starts from, of the memory the run starts from. -/
abbrev initState (m : (ℓ : Loc nD τ sig) → Buf (Elt F) ℓ) (c : Dev nD) : State F :=
  init (m ((c.tc : Thread nD τ).loc main_arg0))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 16 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v98) = Cert.ReferenceIdeal.Step.R_main_v98 (it c 16) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    have hk := holds_iter m c (it c) (h0 c) (hs c) 16
    ⟨(h c).1.trans (out_main_v98_holds hk (iter_main_arg0 m c 16) (iter_main_arg1 m c 16)), (h c).2.1, (h c).2.2⟩) (Value.run m ρ)

end Cert.RefLoop

end
-- ==== Proof.Ref.lean ====
/- The reference's loop and result at an index. -/
module

public import proofs.«01_k».proof.Proof.RefLoop
public import proofs.«01_k».proof.Proof.Result
public import Idealize.ShloMosaic.Lib.Pointwise

@[expose] public section
set_option maxRecDepth 16384
noncomputable section
namespace Cert.RefValue
open Cert.ReferenceIdeal Cert.ReferenceIdeal.Gen Cert.ReferenceIdeal.Step Idealize.ShloMosaic Idealize.ShloMosaic.TcCoe Idealize.SL.Sem

/-- A trip's number as a word. -/
theorem ofNat_toInt : ∀ n : Fin 16, (BitVec.ofNat 32 n.val).toInt = (n.val : Int) := by decide

/-- An update of one trip's slice read at an index. -/
theorem dus_at (n n' : Fin 16) (X : Vec Ideal S16x16x4x128x512 .f32) (U : Vec Ideal S1x16x4x128x512 .f32) (st : Fin 5 → Int)
    (h0 : st 0 = (n.val : Int)) (h1 : st 1 = 0) (h2 : st 2 = 0) (h3 : st 3 = 0) (h4 : st 4 = 0) (hf) (b : Fin 16) (h : Fin 4) (r : Fin 128) (e : Fin 512) :
    Host.dynamicUpdateSlice X U st hf (ix5 n' b h r e) = if n' = n then U (ix5 0 b h r e) else X (ix5 n' b h r e) := by
  have c0 : ∀ q, Host.clampedStart S16x16x4x128x512 S1x16x4x128x512 q st 0 = n.val := fun q => Host.clampedStart_of_le _ _ _ _ h0 (by show n.val + 1 ≤ 16; omega)
  have c1 : ∀ q, Host.clampedStart S16x16x4x128x512 S1x16x4x128x512 q st 1 = 0 := fun q => Host.clampedStart_of_le _ _ _ _ h1 (le_of_eq (Nat.zero_add _))
  have c2 : ∀ q, Host.clampedStart S16x16x4x128x512 S1x16x4x128x512 q st 2 = 0 := fun q => Host.clampedStart_of_le _ _ _ _ h2 (le_of_eq (Nat.zero_add _))
  have c3 : ∀ q, Host.clampedStart S16x16x4x128x512 S1x16x4x128x512 q st 3 = 0 := fun q => Host.clampedStart_of_le _ _ _ _ h3 (le_of_eq (Nat.zero_add _))
  have c4 : ∀ q, Host.clampedStart S16x16x4x128x512 S1x16x4x128x512 q st 4 = 0 := fun q => Host.clampedStart_of_le _ _ _ _ h4 (le_of_eq (Nat.zero_add _))
  pointwise
  simp only [c0, c1, c2, c3, c4]
  by_cases hn : n' = n
  · subst hn
    rw [if_pos rfl, dif_pos (by omega)]
    congr 1
    refine congrArg (fun z => (ix5 z b h r e : S1x16x4x128x512.Idx)) (Fin.ext ?_)
    show n'.val - n'.val = 0
    omega
  · have hv : n'.val ≠ n.val := fun q => hn (Fin.ext q)
    rw [if_neg hn, dif_neg (by omega)]

/-- One trip's slice read at an index. -/
theorem ds_at256 (n : Fin 16) (X : Vec Ideal S16x16x4x128x256 .f32) (st : Fin 5 → Int)
    (h0 : st 0 = (n.val : Int)) (h1 : st 1 = 0) (h2 : st 2 = 0) (h3 : st 3 = 0) (h4 : st 4 = 0) (hf) (b : Fin 16) (h : Fin 4) (r : Fin 128) (d : Fin 256) :
    Host.dynamicSlice S1x16x4x128x256 X st hf (ix5 0 b h r d) = X (ix5 n b h r d) := by
  have c0 : ∀ q, Host.clampedStart S16x16x4x128x256 S1x16x4x128x256 q st 0 = n.val := fun q => Host.clampedStart_of_le _ _ _ _ h0 (by show n.val + 1 ≤ 16; omega)
  have c1 : ∀ q, Host.clampedStart S16x16x4x128x256 S1x16x4x128x256 q st 1 = 0 := fun q => Host.clampedStart_of_le _ _ _ _ h1 (le_of_eq (Nat.zero_add _))
  have c2 : ∀ q, Host.clampedStart S16x16x4x128x256 S1x16x4x128x256 q st 2 = 0 := fun q => Host.clampedStart_of_le _ _ _ _ h2 (le_of_eq (Nat.zero_add _))
  have c3 : ∀ q, Host.clampedStart S16x16x4x128x256 S1x16x4x128x256 q st 3 = 0 := fun q => Host.clampedStart_of_le _ _ _ _ h3 (le_of_eq (Nat.zero_add _))
  have c4 : ∀ q, Host.clampedStart S16x16x4x128x256 S1x16x4x128x256 q st 4 = 0 := fun q => Host.clampedStart_of_le _ _ _ _ h4 (le_of_eq (Nat.zero_add _))
  pointwise
  simp only [c0, c1, c2, c3, c4, Nat.zero_add, Fin.eta]

/-- One trip's slice read at an index. -/
theorem ds_at512 (n : Fin 16) (X : Vec Ideal S16x16x4x128x512 .f32) (st : Fin 5 → Int)
    (h0 : st 0 = (n.val : Int)) (h1 : st 1 = 0) (h2 : st 2 = 0) (h3 : st 3 = 0) (h4 : st 4 = 0) (hf) (b : Fin 16) (h : Fin 4) (r : Fin 128) (d : Fin 512) :
    Host.dynamicSlice S1x16x4x128x512 X st hf (ix5 0 b h r d) = X (ix5 n b h r d) := by
  have c0 : ∀ q, Host.clampedStart S16x16x4x128x512 S1x16x4x128x512 q st 0 = n.val := fun q => Host.clampedStart_of_le _ _ _ _ h0 (by show n.val + 1 ≤ 16; omega)
  have c1 : ∀ q, Host.clampedStart S16x16x4x128x512 S1x16x4x128x512 q st 1 = 0 := fun q => Host.clampedStart_of_le _ _ _ _ h1 (le_of_eq (Nat.zero_add _))
  have c2 : ∀ q, Host.clampedStart S16x16x4x128x512 S1x16x4x128x512 q st 2 = 0 := fun q => Host.clampedStart_of_le _ _ _ _ h2 (le_of_eq (Nat.zero_add _))
  have c3 : ∀ q, Host.clampedStart S16x16x4x128x512 S1x16x4x128x512 q st 3 = 0 := fun q => Host.clampedStart_of_le _ _ _ _ h3 (le_of_eq (Nat.zero_add _))
  have c4 : ∀ q, Host.clampedStart S16x16x4x128x512 S1x16x4x128x512 q st 4 = 0 := fun q => Host.clampedStart_of_le _ _ _ _ h4 (le_of_eq (Nat.zero_add _))
  pointwise
  simp only [c0, c1, c2, c3, c4, Nat.zero_add, Fin.eta]

/-- A trip's chunk of the projections. -/
theorem b5_at (n : Fin 16) (s : State Ideal) (b : Fin 16) (h : Fin 4) (r : Fin 128) (d : Fin 256) :
    (b5 n.val s : Vec Ideal S16x4x128x256 .f32) (ix4 b h r d) = (s.main_v66_0 : Vec Ideal S16x16x4x128x256 .f32) (ix5 n b h r d) := by
  refine Eq.trans (b := (b4 n.val s : Vec Ideal S1x16x4x128x256 .f32) (ix5 0 b h r d)) ?_ ?_
  · unfold b5
    generalize b4 n.val s = T
    pointwise
  · unfold b4 b0 b1 b2 b3
    exact ds_at256 n _ _ (ofNat_toInt n) rfl rfl rfl rfl _ b h r d

/-- A trip's chunk of the projections. -/
theorem b11_at (n : Fin 16) (s : State Ideal) (b : Fin 16) (h : Fin 4) (r : Fin 128) (d : Fin 256) :
    (b11 n.val s : Vec Ideal S16x4x128x256 .f32) (ix4 b h r d) = (s.main_v66_1 : Vec Ideal S16x16x4x128x256 .f32) (ix5 n b h r d) := by
  refine Eq.trans (b := (b10 n.val s : Vec Ideal S1x16x4x128x256 .f32) (ix5 0 b h r d)) ?_ ?_
  · unfold b11
    generalize b10 n.val s = T
    pointwise
  · unfold b10 b6 b7 b8 b9
    exact ds_at256 n _ _ (ofNat_toInt n) rfl rfl rfl rfl _ b h r d

/-- A trip's chunk of the projections. -/
theorem b17_at (n : Fin 16) (s : State Ideal) (b : Fin 16) (h : Fin 4) (r : Fin 128) (d : Fin 512) :
    (b17 n.val s : Vec Ideal S16x4x128x512 .f32) (ix4 b h r d) = (s.main_v66_2 : Vec Ideal S16x16x4x128x512 .f32) (ix5 n b h r d) := by
  refine Eq.trans (b := (b16 n.val s : Vec Ideal S1x16x4x128x512 .f32) (ix5 0 b h r d)) ?_ ?_
  · unfold b17
    generalize b16 n.val s = T
    pointwise
  · unfold b16 b12 b13 b14 b15
    exact ds_at512 n _ _ (ofNat_toInt n) rfl rfl rfl rfl _ b h r d

/-- The stacked outputs after a trip: this trip's row, the others as they were. -/
theorem b38_at (n n' : Fin 16) (s : State Ideal) (b : Fin 16) (h : Fin 4) (r : Fin 128) (e : Fin 512) :
    (b38 n.val s : Vec Ideal S16x16x4x128x512 .f32) (ix5 n' b h r e) = if n' = n then (b32 n.val s : Vec Ideal S16x4x128x512 .f32) (ix4 b h r e) else (s.main_v66_9 : Vec Ideal S16x16x4x128x512 .f32) (ix5 n' b h r e) := by
  have hu : (b33 n.val s : Vec Ideal S1x16x4x128x512 .f32) (ix5 0 b h r e) = (b32 n.val s : Vec Ideal S16x4x128x512 .f32) (ix4 b h r e) := by
    unfold b33
    generalize b32 n.val s = T
    pointwise
  unfold b38 b34 b35 b36 b37
  rw [← hu]
  exact dus_at n n' _ _ _ (ofNat_toInt n) rfl rfl rfl rfl _ b h r e

/-- The state after a trip. -/
theorem b31_at (n : Fin 16) (s : State Ideal) (b : Fin 16) (h : Fin 4) (d : Fin 256) (e : Fin 512) :
    (b31 n.val s : Vec Ideal S16x4x256x512 .f32) (ix4 b h d e) = (s.main_v66_8 : Vec Ideal S16x4x256x512 .f32) (ix4 b h d e) * (K_main_v57 (F := Ideal) : Vec Ideal S1x4x1x1 .f32) (ix4 (0 : Fin 1) h (0 : Fin 1) (0 : Fin 1))
      + ∑ r : Fin 128, (s.main_v66_1 : Vec Ideal S16x16x4x128x256 .f32) (ix5 n b h r d) * Cert.Ret.kdt h r * (s.main_v66_2 : Vec Ideal S16x16x4x128x512 .f32) (ix5 n b h r e) := by
  have hk : ∀ r : Fin 128, (K_main_v53 (F := Ideal) : Vec Ideal S1x4x128x1 .f32) (ix4 (0 : Fin 1) h r (0 : Fin 1)) = Cert.Ret.kdt h r := fun r => by
    unfold Cert.Ret.kdt K_main_v53
    generalize (K_main_v52 (F := Ideal)) = T
    pointwise
  simp only [← hk, ← b11_at, ← b17_at]
  unfold b31 b27 b26 b30 b29 b28
  pointwise

/-- A trip's outputs before normalisation. -/
theorem b32_at (n : Fin 16) (s : State Ideal) (b : Fin 16) (h : Fin 4) (r : Fin 128) (e : Fin 512) :
    (b32 n.val s : Vec Ideal S16x4x128x512 .f32) (ix4 b h r e)
      = Cert.Ret.rawM (fun d x => (s.main_v66_8 : Vec Ideal S16x4x256x512 .f32) (ix4 b h d x)) (fun d => (s.main_v66_0 : Vec Ideal S16x16x4x128x256 .f32) (ix5 n b h r d))
          (fun j d => (s.main_v66_1 : Vec Ideal S16x16x4x128x256 .f32) (ix5 n b h j d)) (fun j x => (s.main_v66_2 : Vec Ideal S16x16x4x128x512 .f32) (ix5 n b h j x))
          (Cert.Ret.Dt h r) (Cert.Ret.qdt h r) e := by
  have hk : (K_main_v44 (F := Ideal) : Vec Ideal S1x4x128x1 .f32) (ix4 (0 : Fin 1) h r (0 : Fin 1)) = Cert.Ret.qdt h r := by
    unfold Cert.Ret.qdt K_main_v44
    generalize (K_main_v43 (F := Ideal)) = T
    pointwise
  unfold Cert.Ret.rawM Cert.Ret.Dt
  simp only [← hk, ← b5_at, ← b11_at, ← b17_at]
  unfold b32 b25 b24 b23 b22 b21 b20 b19 b18
  pointwise

/-- The chunk's decay is the queries' decay at the chunk's last row. -/
theorem k57_at (h : Fin 4) : (K_main_v57 (F := Ideal) : Vec Ideal S1x4x1x1 .f32) (ix4 (0 : Fin 1) h (0 : Fin 1) (0 : Fin 1)) = Cert.Ret.qdt h 127 := by
  have h128 : Ideal.ofBits FTy.f32 1124073472#32 = ((128 : ℝ) : EReal) := by
    simp [Ideal.ofBits, Ideal.ieee, -EReal.coe_mul]; norm_num
  have h127 : (FloatOps.sitofp FTy.f32 127#32 : Ideal .f32) + (1 : EReal) = ((128 : ℝ) : EReal) := by
    show ((((127#32 : BitVec 32).toInt : ℤ) : ℝ) : EReal) + 1 = ((128 : ℝ) : EReal)
    rw [show (127#32 : BitVec 32).toInt = 127 from by decide, show (1 : EReal) = ((1 : ℝ) : EReal) from by norm_cast, ← EReal.coe_add]
    norm_num
  unfold Cert.Ret.qdt K_main_v57 K_main_v56 K_main_v55 K_main_v54 K_main_cst_6 K_main_v43 K_main_v42 K_main_v40 K_main_v36 K_main_v41 K_main_v39 K_main_v38 K_main_v37 K_main_cst_4 K_main_v19
  generalize (K_main_v18 (F := Ideal)) = T
  pointwise
  first
    | rw [h128, h127]
    | (rw [h128]; erw [h127])

/-- The result array from the stacked outputs. -/
theorem R_at (s : State Ideal) (X : Vec Ideal S32768x6144 .bf16) (g : Vec Ideal S2048 .f32) (b : Fin 16) (p : Fin 2048) (h : Fin 4) (e : Fin 512) :
    (R_main_v98 s X g : Vec Ideal S16x2048x2048 .bf16) (ix3 b p (⟨512 * h.val + e.val, by omega⟩ : Fin 2048))
      = Cert.Ret.resM (Cert.Ret.Gf X b.val h.val p.val e)
          (fun x => (s.main_v66_9 : Vec Ideal S16x16x4x128x512 .f32) (ix5 (⟨p.val / 128, by omega⟩ : Fin 16) b h (⟨p.val % 128, by omega⟩ : Fin 128) x)) e (Cert.Ret.gnf g h e) := by
  have hG : X (ix2 (⟨b.val * 2048 + p.val, by omega⟩ : Fin 32768) (⟨4096 + (512 * h.val + e.val), by omega⟩ : Fin 6144)) = Cert.Ret.Gf X b.val h.val p.val e :=
    Cert.Ret.at2_ix X _ _ _ _ (by show b.val * 2048 + p.val = _; omega) (by show 4096 + (512 * h.val + e.val) = _; omega)
  have hg : g (ix1 (⟨h.val * 512 + e.val, by omega⟩ : Fin 2048)) = Cert.Ret.gnf g h e := by
    unfold Cert.Ret.gnf
    exact congrArg (fun z => g (ix1 z)) (Fin.ext (by show h.val * 512 + e.val = 512 * h.val + e.val; omega))
  rw [← hG, ← hg]
  unfold R_main_v98 Cert.Ret.resM Cert.Ret.normM Cert.Ret.meanM Ideal.logistic
  pointwise

/-- The chunked projections read from the argument. -/
theorem chunk_q (X : Vec Ideal S32768x6144 .bf16) (n b : Fin 16) (h : Fin 4) (r : Fin 128) (d : Fin 256) :
    (A_main_v60 X : Vec Ideal S16x16x4x128x256 .f32) (ix5 n b h r d) = Cert.Ret.Qf X b.val h.val (128 * n.val + r.val) d := by
  have hp : (A_main_v6 X : Vec Ideal S16x2048x4x256 .f32) (ix4 b (⟨n.val * 128 + r.val, by omega⟩ : Fin 2048) h d) = Cert.Ret.Qf X b.val h.val (128 * n.val + r.val) d := by
    unfold Cert.Ret.Qf A_main_v6 A_main_v3 A_main_v2 A_main_v1 A_main_v0
    pointwise
    refine Cert.Ret.at2_ix X _ _ _ _ ?_ ?_
    · show b.val * 2048 + (n.val * 128 + r.val) = _
      omega
    · show h.val * 256 + d.val = _
      omega
  rw [← hp]
  unfold A_main_v60 A_main_v59 A_main_v7
  pointwise

/-- The chunked projections read from the argument. -/
theorem chunk_k (X : Vec Ideal S32768x6144 .bf16) (n b : Fin 16) (h : Fin 4) (r : Fin 128) (d : Fin 256) :
    (A_main_v62 X : Vec Ideal S16x16x4x128x256 .f32) (ix5 n b h r d) = Cert.Ret.Kf X b.val h.val (128 * n.val + r.val) d := by
  have hp : (A_main_v8 X : Vec Ideal S16x2048x4x256 .f32) (ix4 b (⟨n.val * 128 + r.val, by omega⟩ : Fin 2048) h d) = Cert.Ret.Kf X b.val h.val (128 * n.val + r.val) d := by
    unfold Cert.Ret.Kf A_main_v8 A_main_v4 A_main_v2 A_main_v1 A_main_v0
    pointwise
    refine Cert.Ret.at2_ix X _ _ _ _ ?_ ?_
    · show b.val * 2048 + (n.val * 128 + r.val) = _
      omega
    · show 1024 + (h.val * 256 + d.val) = _
      omega
  rw [← hp]
  unfold A_main_v62 A_main_v61 A_main_v9
  pointwise

/-- The chunked projections read from the argument. -/
theorem chunk_v (X : Vec Ideal S32768x6144 .bf16) (n b : Fin 16) (h : Fin 4) (r : Fin 128) (d : Fin 512) :
    (A_main_v64 X : Vec Ideal S16x16x4x128x512 .f32) (ix5 n b h r d) = Cert.Ret.Vf X b.val h.val (128 * n.val + r.val) d := by
  have hp : (A_main_v10 X : Vec Ideal S16x2048x4x512 .f32) (ix4 b (⟨n.val * 128 + r.val, by omega⟩ : Fin 2048) h d) = Cert.Ret.Vf X b.val h.val (128 * n.val + r.val) d := by
    unfold Cert.Ret.Vf A_main_v10 A_main_v5 A_main_v2 A_main_v1 A_main_v0
    pointwise
    refine Cert.Ret.at2_ix X _ _ _ _ ?_ ?_
    · show b.val * 2048 + (n.val * 128 + r.val) = _
      omega
    · show 2048 + (h.val * 512 + d.val) = _
      omega
  rw [← hp]
  unfold A_main_v64 A_main_v63 A_main_v11
  pointwise

/-- The loop's state after `n` trips. -/
def it (X : Vec Ideal S32768x6144 .bf16) : ℕ → State Ideal
  | 0 => init X
  | n + 1 => step n (it X n)

/-- The state and the outputs of the first `n` trips, in the layer's words. -/
theorem it_at (X : Vec Ideal S32768x6144 .bf16) (n : ℕ) (hn : n ≤ 16) :
    (it X n).main_v66_0 = A_main_v60 X ∧ (it X n).main_v66_1 = A_main_v62 X ∧ (it X n).main_v66_2 = A_main_v64 X
    ∧ (∀ (b : Fin 16) (h : Fin 4) (d : Fin 256) (e : Fin 512), ((it X n).main_v66_8 : Vec Ideal S16x4x256x512 .f32) (ix4 b h d e)
        = Cert.Ret.stM (Cert.Ret.qdt h 127) (Cert.Ret.kdt h) (Cert.Ret.Kf X b.val h.val) (Cert.Ret.Vf X b.val h.val) n d e)
    ∧ (∀ (n' b : Fin 16) (h : Fin 4) (r : Fin 128) (e : Fin 512), n'.val < n → ((it X n).main_v66_9 : Vec Ideal S16x16x4x128x512 .f32) (ix5 n' b h r e)
        = Cert.Ret.yM (Cert.Ret.qdt h 127) (Cert.Ret.kdt h) (Cert.Ret.qdt h) (Cert.Ret.Dt h) (Cert.Ret.Qf X b.val h.val) (Cert.Ret.Kf X b.val h.val) (Cert.Ret.Vf X b.val h.val) n'.val r e) := by
  induction n with
  | zero =>
    refine ⟨rfl, rfl, rfl, fun b h d e => ?_, fun n' b h r e hl => absurd hl (Nat.not_lt_zero _)⟩
    show (K_main_v58 (F := Ideal) : Vec Ideal S16x4x256x512 .f32) (ix4 b h d e) = 0
    unfold K_main_v58 K_main_cst_7
    pointwise
  | succ n ih =>
    obtain ⟨h0, h1, h2, h8, h9⟩ := ih (by omega)
    have hs : it X (n + 1) = step (⟨n, by omega⟩ : Fin 16).val (it X n) := rfl
    refine ⟨h0, h1, h2, fun b h d e => ?_, fun n' b h r e hl => ?_⟩
    · rw [hs, step_main_v66_8, b31_at, h8, h1, h2, k57_at]
      simp only [chunk_k, chunk_v]
      rfl
    · rw [hs, step_main_v66_9, b38_at, b32_at]
      by_cases hv : n' = (⟨n, by omega⟩ : Fin 16)
      · rw [if_pos hv, h0, h1, h2]
        simp only [h8, chunk_q, chunk_k, chunk_v]
        have hv' : n'.val = n := congrArg Fin.val hv
        unfold Cert.Ret.yM
        rw [hv']
      · have hv' : n'.val ≠ n := fun q => hv (Fin.ext q)
        rw [if_neg hv]
        exact h9 n' b h r e (by omega)

/-- The reference's result is the layer's formula at every entry. -/
theorem ref_eq (X : Vec Ideal S32768x6144 .bf16) (g : Vec Ideal S2048 .f32) : (R_main_v98 (it X 16) X g : Vec Ideal S16x2048x2048 .bf16) = Cert.Ret.resG X g := by
  funext y
  obtain ⟨b, p, c, rfl⟩ : ∃ (b : Fin 16) (p c : Fin 2048), y = ix3 b p c := ⟨y 0, y 1, y 2, eq_ix3 y⟩
  have hc : c = (⟨512 * (⟨c.val / 512, by omega⟩ : Fin 4).val + (⟨c.val % 512, by omega⟩ : Fin 512).val, by show 512 * (c.val / 512) + c.val % 512 < 2048; omega⟩ : Fin 2048) :=
    Fin.ext (by show c.val = 512 * (c.val / 512) + c.val % 512; omega)
  have hr := R_at (it X 16) X g b p ⟨c.val / 512, by omega⟩ ⟨c.val % 512, by omega⟩
  rw [← hc] at hr
  rw [hr]
  simp only [fun n' b h r e => (it_at X 16 (le_refl _)).2.2.2.2 n' b h r e n'.isLt]
  rfl

end Cert.RefValue
end
-- ==== Proof.Norm.lean ====
/- A row's layer norm over the extended reals, as the kernels and the references both compute it. -/
module

public import Idealize.ShloMosaic.Lib.Pointwise

@[expose] public section
noncomputable section
namespace Cert.Ret
open Idealize.ShloMosaic

/-- The mean of a row of 1024 entries. -/
def mean (z : Fin 1024 → EReal) : EReal := Ideal.div (∑ k, z k) (Ideal.ofBits .f32 0x44800000#32)

/-- The layer norm of a row with its gain and shift, at one entry. -/
def lnAt (z : Fin 1024 → EReal) (g b : EReal) (j : Fin 1024) : EReal :=
  (z j - mean z) * Ideal.rsqrt (mean (fun k => (z k - mean z) * (z k - mean z)) + Ideal.ofBits .f32 0x3727C5AC#32) * g + b

/-- The gate's function. -/
def swish (x : EReal) : EReal := x * Ideal.logistic x

/-- The residual's factor. -/
def alpha : EReal := Ideal.ofBits .f32 0x3FB504F3#32
end Cert.Ret
end
-- ==== Proof.Ffn.lean ====
/- The feed-forward part of layer 0 with residual and layer norm: the kernel's results as one function of the arguments. -/
module

public import proofs.«01_k».proof.Proof.Norm
public import proofs.«01_k».proof.Proof.Gen.Kernel2Ideal.Value
public import Idealize.ShloMosaic.Lib.Pipeline.ValueKit.Point

@[expose] public section
set_option maxRecDepth 16384
noncomputable section
namespace Cert.Ret.Ffn
open Cert.Kernel2Ideal Cert.Kernel2Ideal.Gen Idealize.ShloMosaic Idealize.ShloMosaic.TcCoe Idealize.SL.Sem

/-- One hidden entry: the gated product of a row with two columns of the first weights. -/
def hid (x : Fin 1024 → EReal) (W : Vec Ideal S1024x5632 .bf16) (f : Fin 2816) : EReal :=
  swish (∑ k : Fin 1024, x k * W (ix2 k (⟨f.val, by omega⟩ : Fin 5632))) * ∑ k : Fin 1024, x k * W (ix2 k (⟨2816 + f.val, by omega⟩ : Fin 5632))

/-- One entry of the feed-forward part. -/
def ffn (x : Fin 1024 → EReal) (W : Vec Ideal S1024x5632 .bf16) (Wo : Vec Ideal S2816x1024 .bf16) (j : Fin 1024) : EReal :=
  ∑ f : Fin 2816, hid x W f * Wo (ix2 f j)

/-- The sum over the hidden entries in its two halves. -/
theorem ffn_halves (x : Fin 1024 → EReal) (W : Vec Ideal S1024x5632 .bf16) (Wo : Vec Ideal S2816x1024 .bf16) (j : Fin 1024) :
    ffn x W Wo j = (∑ f : Fin 1408, hid x W ⟨f.val, by omega⟩ * Wo (ix2 (⟨f.val, by omega⟩ : Fin 2816) j))
      + ∑ f : Fin 1408, hid x W ⟨1408 + f.val, by omega⟩ * Wo (ix2 (⟨1408 + f.val, by omega⟩ : Fin 2816) j) :=
  Fin.sum_univ_add (a := 1408) (b := 1408) fun f => hid x W f * Wo (ix2 f j)

theorem fin_eq {n : ℕ} {a b : ℕ} (ha : a < n) (hb : b < n) (h : a = b) : (⟨a, ha⟩ : Fin n) = ⟨b, hb⟩ := Fin.ext h

/-- What enters the layer norm, at an entry. -/
theorem pay4_at (x0 : Vec Ideal S512x1024 .bf16) (x1 : Vec Ideal S1024x5632 .bf16) (x2 : Vec Ideal S2816x1024 .bf16) (x3 : Vec Ideal S512x1024 .f32) (x4 x5 : Vec Ideal S1x1024 .f32)
    (r : Fin 512) (j : Fin 1024) :
    k0_pay4 x0 x1 x2 x3 x4 x5 (ix2 r j) = alpha * x3 (ix2 r j) + ffn (fun k => x0 (ix2 r k)) x1 x2 j := by
  have hz : (![0, 0] : Fin 2 → ℕ) = fun _ => 0 := by funext d; fin_cases d <;> rfl
  rw [ffn_halves]
  unfold k0_pay4 k0_pay3 alpha hid swish
  simp only [View.ld_unit]
  pointwise
  simp only [← Nat.add_assoc, Nat.reduceAdd]

/-- The stored block at an entry. -/
theorem pay1_at (z : FVec Ideal S512x1024 .f32) (g b : Vec Ideal S1x1024 .f32) (r : Fin 512) (j : Fin 1024) :
    k0_pay1 z g b (ix2 r j) = lnAt (fun k => z (ix2 r k)) (g (ix2 (0 : Fin 1) j)) (b (ix2 (0 : Fin 1) j)) j := by
  unfold k0_pay1 lnAt mean
  pointwise

variable (m : (ℓ : Loc nD τ sig) → Buf (Elt Ideal) ℓ) (c : Dev nD)

theorem V_xb : V m c main_v0 = (m ((c : Thread nD τ).loc main_arg0) : Vec Ideal S32768x1024 .f32) := by
  simp only [V, hostOps0, List.flatten_cons, List.flatten_nil, List.append_nil, List.cons_append, List.nil_append]
  after_results
  rfl

theorem V_w : V m c main_v1 = (m ((c : Thread nD τ).loc main_arg1) : Vec Ideal S1024x5632 .f32) := by
  simp only [V, hostOps0, List.flatten_cons, List.flatten_nil, List.append_nil, List.cons_append, List.nil_append]
  after_results
  rfl

theorem V_wo : V m c main_v2 = (m ((c : Thread nD τ).loc main_arg2) : Vec Ideal S2816x1024 .f32) := by
  simp only [V, hostOps0, List.flatten_cons, List.flatten_nil, List.append_nil, List.cons_append, List.nil_append]
  after_results
  rfl

/-- The gain as a row. -/
theorem V_g : V m c main_v3 = (shapeCast S1x1024 (m ((c : Thread nD τ).loc main_arg3) : Vec Ideal S1024 .f32) shapeCasts_S1024_S1x1024 : Vec Ideal S1x1024 .f32) := by
  simp only [V, hostOps0, List.flatten_cons, List.flatten_nil, List.append_nil, List.cons_append, List.nil_append]
  after_results
  rfl

/-- The shift as a row. -/
theorem V_b : V m c main_v4 = (shapeCast S1x1024 (m ((c : Thread nD τ).loc main_arg4) : Vec Ideal S1024 .f32) shapeCasts_S1024_S1x1024 : Vec Ideal S1x1024 .f32) := by
  simp only [V, hostOps0, List.flatten_cons, List.flatten_nil, List.append_nil, List.cons_append, List.nil_append]
  after_results
  rfl

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![t.val, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![t.val, 0] := by decide +kernel
theorem idx7 : ∀ t : Fin grid0.N, win0_7.index t = ![t.val, 0] := by decide +kernel

theorem hN (t : Fin cfg0.N) : t.val < 64 := lt_of_lt_of_eq t.isLt (show cfg0.N = 64 from N_0)

/-- The array's row that a block's row is. -/
def row (t : Fin cfg0.N) (r : Fin 512) : Fin 32768 := ⟨512 * t.val + r.val, by have := hN t; omega⟩

theorem blk_xb (t : Fin cfg0.N) (r : Fin 512) (k : Fin 1024) :
    (iblk m c 0 t : Vec Ideal S512x1024 .bf16) (ix2 r k) = (m ((c : Thread nD τ).loc main_arg0) : Vec Ideal S32768x1024 .f32) (ix2 (row t r) k) := by
  rw [← V_xb m c]
  unfold row
  blk_ext [iblk, idx0 t]

theorem blk_w (t : Fin cfg0.N) : (iblk m c 1 t : Vec Ideal S1024x5632 .bf16) = (m ((c : Thread nD τ).loc main_arg1) : Vec Ideal S1024x5632 .f32) := by
  rw [← V_w m c]
  funext i
  rw [show i = ix2 (i 0) (i 1) from eq_ix2 i]
  generalize i 0 = s
  generalize i 1 = k
  blk_ext [iblk, idx1 t]

theorem blk_wo (t : Fin cfg0.N) : (iblk m c 2 t : Vec Ideal S2816x1024 .bf16) = (m ((c : Thread nD τ).loc main_arg2) : Vec Ideal S2816x1024 .f32) := by
  rw [← V_wo m c]
  funext i
  rw [show i = ix2 (i 0) (i 1) from eq_ix2 i]
  generalize i 0 = s
  generalize i 1 = k
  blk_ext [iblk, idx2 t]

theorem blk_x (t : Fin cfg0.N) (r : Fin 512) (k : Fin 1024) :
    (iblk m c 3 t : Vec Ideal S512x1024 .f32) (ix2 r k) = (m ((c : Thread nD τ).loc main_arg0) : Vec Ideal S32768x1024 .f32) (ix2 (row t r) k) := by
  rw [← V_main_arg0 m c]
  unfold row
  blk_ext [iblk, idx3 t]

/-- A row reshaped from a vector at an entry. -/
theorem cast_row (X : Vec Ideal S1024 .f32) (hc : S1024.ShapeCasts S1x1024) (e : Fin 1024) :
    shapeCast S1x1024 X hc (ix2 (0 : Fin 1) e) = X (ix1 e) := by
  refine shapeCast_apply _ _ _ _ ?_
  simp only [Shape.rowMajor_val_one, Shape.rowMajor_val_two, ix1, ix2]
  show e.val = 0 * 1024 + e.val
  omega

theorem blk_g (t : Fin cfg0.N) (k : Fin 1024) :
    (iblk m c 4 t : Vec Ideal S1x1024 .f32) (ix2 (0 : Fin 1) k) = (m ((c : Thread nD τ).loc main_arg3) : Vec Ideal S1024 .f32) (ix1 k) := by
  have h : (iblk m c 4 t : Vec Ideal S1x1024 .f32) (ix2 (0 : Fin 1) k) = (V m c main_v3 : Vec Ideal S1x1024 .f32) (ix2 (0 : Fin 1) k) := by
    blk_ext [iblk, idx4 t]
  rw [h, V_g, cast_row]

theorem blk_b (t : Fin cfg0.N) (k : Fin 1024) :
    (iblk m c 5 t : Vec Ideal S1x1024 .f32) (ix2 (0 : Fin 1) k) = (m ((c : Thread nD τ).loc main_arg4) : Vec Ideal S1024 .f32) (ix1 k) := by
  have h : (iblk m c 5 t : Vec Ideal S1x1024 .f32) (ix2 (0 : Fin 1) k) = (V m c main_v4 : Vec Ideal S1x1024 .f32) (ix2 (0 : Fin 1) k) := by
    blk_ext [iblk, idx5 t]
  rw [h, V_b, cast_row]

/-- The result of the whole part, as one function of its arguments. -/
def outG (X : Vec Ideal S32768x1024 .f32) (W : Vec Ideal S1024x5632 .f32) (Wo : Vec Ideal S2816x1024 .f32) (g b : Vec Ideal S1024 .f32) : Vec Ideal S32768x1024 .f32 := fun i =>
  lnAt (fun k => alpha * X (ix2 (i 0) k) + ffn (fun s => X (ix2 (i 0) s)) W Wo k) (g (ix1 (i 1))) (b (ix1 (i 1))) (i 1)

/-- The whole result as one function of the launch contents. -/
def res : Vec Ideal S32768x1024 .f32 :=
  outG (m ((c : Thread nD τ).loc main_arg0)) (m ((c : Thread nD τ).loc main_arg1)) (m ((c : Thread nD τ).loc main_arg2)) (m ((c : Thread nD τ).loc main_arg3)) (m ((c : Thread nD τ).loc main_arg4))

/-- What a grid point computes at an entry of its block. -/
theorem point_at (t : Fin cfg0.N) (r : Fin 512) (j : Fin 1024) :
    k0_pay1 (k0_pay4 (iblk m c 0 t) (iblk m c 1 t) (iblk m c 2 t) (iblk m c 3 t) (iblk m c 4 t) (iblk m c 5 t)) (iblk m c 4 t) (iblk m c 5 t) (ix2 r j)
      = res m c (ix2 (row t r) j) := by
  rw [pay1_at, blk_g, blk_b]
  simp only [pay4_at, blk_x, blk_xb]
  rw [blk_w, blk_wo]
  rfl

theorem after6 (t : Fin cfg0.N) (y : S512x1024.Idx) :
    (out0_6 (iblk m c 0 t) (iblk m c 1 t) (iblk m c 2 t) (iblk m c 3 t) (iblk m c 4 t) (iblk m c 5 t) : Vec Ideal S512x1024 .f32) y = res m c (ix2 (row t (y 0)) (y 1)) := by
  have hz : (![0, 0] : Fin 2 → ℕ) = fun _ => 0 := by funext d; fin_cases d <;> rfl
  unfold out0_6
  rw [View.canon_unit_zero hz]
  rw [View.ld_unit_zero (S := S1x1024) hz, View.ld_unit_zero (S := S1x1024) hz]
  exact (congrArg _ (eq_ix2 y)).trans (point_at m c t (y 0) (y 1))

theorem after7 (t : Fin cfg0.N) (y : S512x1024.Idx) :
    (out0_7 (iblk m c 0 t) (iblk m c 1 t) (iblk m c 2 t) (iblk m c 3 t) (iblk m c 4 t) (iblk m c 5 t) : Vec Ideal S512x1024 .bf16) y = res m c (ix2 (row t (y 0)) (y 1)) := by
  have hz : (![0, 0] : Fin 2 → ℕ) = fun _ => 0 := by funext d; fin_cases d <;> rfl
  unfold out0_7
  rw [View.canon_unit_zero hz]
  rw [View.ld_unit_zero (S := S1x1024) hz, View.ld_unit_zero (S := S1x1024) hz]
  exact (congrArg _ (eq_ix2 y)).trans (point_at m c t (y 0) (y 1))

/-- An index of the result from its two numbers. -/
theorem ix_of {x : S32768x1024.Idx} {t : Fin cfg0.N} {a : Fin 512} {b : Fin 1024} (h0 : (x 0).val = 512 * t.val + a.val) (h1 : (x 1).val = b.val) :
    ix2 (row t a) b = x := by
  funext d; fin_cases d
  · exact Fin.ext h0.symm
  · exact Fin.ext h1.symm

/-- The first result after the run. -/
theorem result6 : (dats m 0 c).arrAt 6 cfg0.N = res m c := by
  refine (dats m 0 c).arrAt_eq_of_covers 6 _ (by decide +kernel) fun t hf y => ?_
  have e0 : ((((cfg0.win 6).blk t).view.emb y) 0).val = 512 * t.val + (y 0).val := by blk_simp [idx6 t]; omega
  have e1 : ((((cfg0.win 6).blk t).view.emb y) 1).val = (y 1).val := by blk_simp [idx6 t]
  refine (congrFun (Value.flushed6 m c t) y).trans ?_
  refine (after6 m c t y).trans ?_
  exact congrArg (res m c) (ix_of e0 e1)

/-- The second result after the run. -/
theorem result7 : (dats m 0 c).arrAt 7 cfg0.N = (res m c : Vec Ideal S32768x1024 .bf16) := by
  refine (dats m 0 c).arrAt_eq_of_covers 7 _ (by decide +kernel) fun t hf y => ?_
  have e0 : ((((cfg0.win 7).blk t).view.emb y) 0).val = 512 * t.val + (y 0).val := by blk_simp [idx7 t]; omega
  have e1 : ((((cfg0.win 7).blk t).view.emb y) 1).val = (y 1).val := by blk_simp [idx7 t]
  refine (congrFun (Value.flushed7 m c t) y).trans ?_
  refine (after7 m c t y).trans ?_
  exact congrArg (res m c) (ix_of e0 e1)
end Cert.Ret.Ffn
end
-- ==== Proof.FfnRef.lean ====
/- The feed-forward part of layer 0 with residual and layer norm: what the reference computes. -/
module

public import proofs.«01_k».proof.Proof.Ffn
public import proofs.«01_k».proof.Proof.Gen.Reference2Ideal.Run
public import Idealize.ShloMosaic.Lib.Claim

@[expose] public section
set_option maxRecDepth 16384
noncomputable section
namespace Cert.Ret.Ffn
open Cert.Reference2Ideal Cert.Reference2Ideal.Gen Idealize.ShloMosaic Idealize.ShloMosaic.TcCoe Idealize.SL.Sem

/-- The reference's run, its results as the same function of the arguments. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = outG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v33) = outG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2.1.trans ?_, (h c).2.2⟩) (Value.run (F := Ideal) m ρ)
  all_goals
    first | unfold Value.res_main_v32 | unfold Value.res_main_v33
    generalize m ((c.tc : Thread nD τ).loc main_arg0) = X
    generalize m ((c.tc : Thread nD τ).loc main_arg1) = W
    generalize m ((c.tc : Thread nD τ).loc main_arg2) = Wo
    generalize m ((c.tc : Thread nD τ).loc main_arg3) = g
    generalize m ((c.tc : Thread nD τ).loc main_arg4) = b
    funext i
    rw [eq_ix2 i]
    generalize i 0 = r
    generalize i 1 = j
    unfold outG lnAt mean alpha ffn hid swish Ideal.logistic
    pointwise
    try simp only [Ideal.ofBits_one_f32]
end Cert.Ret.Ffn
end
-- ==== Proof.Rot.lean ====
/- The retention's input projection with its rotary: what one grid point of the kernel leaves, store by store. -/
module

public import proofs.«01_k».proof.Proof.Gen.Kernel3Ideal.Value
public import Idealize.ShloMosaic.Lib.Pipeline.ReadBack
public import Idealize.ShloMosaic.Lib.Pipeline.ValueKit.Point

@[expose] public section
set_option maxRecDepth 16384
noncomputable section
namespace Cert.Ret.Rot
open Cert.Kernel3Ideal Cert.Kernel3Ideal.Gen Idealize.ShloMosaic Idealize.ShloMosaic.TcCoe Idealize.SL.Sem

section
variable {F : FTy → Type} [FloatOps F]
variable (x0 : Vec F S512x1024 .f32) (x1 : Vec F S1024x6144 .bf16) (x2 : Vec F S512x128 .f32) (x3 : Vec F S512x128 .f32)

/-- The point's twenty stores, the last first. -/
def oL : List (View.Piece (Elt F) S512x6144 .bf16) :=
  [⟨Rect.unit (s := S512x6144) ![0, 5120] S512x1024.size inb_S512x6144_S512x1024_0_5120,
      k0_pay5 (k0_pay6 x0) (View.ld x1 (Rect.unit (s := S1024x6144) ![0, 5120] S1024x1024.size inb_S1024x6144_S1024x1024_0_5120))⟩,
   ⟨Rect.unit (s := S512x6144) ![0, 4096] S512x1024.size inb_S512x6144_S512x1024_0_4096,
      k0_pay4 (k0_pay6 x0) (View.ld x1 (Rect.unit (s := S1024x6144) ![0, 4096] S1024x1024.size inb_S1024x6144_S1024x1024_0_4096))⟩,
   ⟨Rect.unit (s := S512x6144) ![0, 3072] S512x1024.size inb_S512x6144_S512x1024_0_3072,
      k0_pay3 (k0_pay6 x0) (View.ld x1 (Rect.unit (s := S1024x6144) ![0, 3072] S1024x1024.size inb_S1024x6144_S1024x1024_0_3072))⟩,
   ⟨Rect.unit (s := S512x6144) ![0, 2048] S512x1024.size inb_S512x6144_S512x1024_0_2048,
      k0_pay2 (k0_pay6 x0) (View.ld x1 (Rect.unit (s := S1024x6144) ![0, 2048] S1024x1024.size inb_S1024x6144_S1024x1024_0_2048))⟩,
   ⟨Rect.unit (s := S512x6144) ![0, 1920] S512x128.size inb_S512x6144_S512x128_0_1920,
      k0_pay1 (k0_pay27 x2) (k0_pay28 x3) (k0_pay42 (k0_pay26 (k0_pay6 x0) (View.ld x1 (Rect.unit (s := S1024x6144) ![0, 1024] S1024x1024.size inb_S1024x6144_S1024x1024_0_1024)))) (k0_pay43 (k0_pay26 (k0_pay6 x0) (View.ld x1 (Rect.unit (s := S1024x6144) ![0, 1024] S1024x1024.size inb_S1024x6144_S1024x1024_0_1024))))⟩,
   ⟨Rect.unit (s := S512x6144) ![0, 1792] S512x128.size inb_S512x6144_S512x128_0_1792,
      k0_pay44 (k0_pay26 (k0_pay6 x0) (View.ld x1 (Rect.unit (s := S1024x6144) ![0, 1024] S1024x1024.size inb_S1024x6144_S1024x1024_0_1024))) (k0_pay27 x2) (k0_pay28 x3)⟩,
   ⟨Rect.unit (s := S512x6144) ![0, 1664] S512x128.size inb_S512x6144_S512x128_0_1664,
      k0_pay41 (k0_pay26 (k0_pay6 x0) (View.ld x1 (Rect.unit (s := S1024x6144) ![0, 1024] S1024x1024.size inb_S1024x6144_S1024x1024_0_1024))) (k0_pay27 x2) (k0_pay28 x3)⟩,
   ⟨Rect.unit (s := S512x6144) ![0, 1536] S512x128.size inb_S512x6144_S512x128_0_1536,
      k0_pay40 (k0_pay26 (k0_pay6 x0) (View.ld x1 (Rect.unit (s := S1024x6144) ![0, 1024] S1024x1024.size inb_S1024x6144_S1024x1024_0_1024))) (k0_pay27 x2) (k0_pay28 x3)⟩,
   ⟨Rect.unit (s := S512x6144) ![0, 1408] S512x128.size inb_S512x6144_S512x128_0_1408,
      k0_pay37 (k0_pay26 (k0_pay6 x0) (View.ld x1 (Rect.unit (s := S1024x6144) ![0, 1024] S1024x1024.size inb_S1024x6144_S1024x1024_0_1024))) (k0_pay27 x2) (k0_pay28 x3)⟩,
   ⟨Rect.unit (s := S512x6144) ![0, 1280] S512x128.size inb_S512x6144_S512x128_0_1280,
      k0_pay36 (k0_pay26 (k0_pay6 x0) (View.ld x1 (Rect.unit (s := S1024x6144) ![0, 1024] S1024x1024.size inb_S1024x6144_S1024x1024_0_1024))) (k0_pay27 x2) (k0_pay28 x3)⟩,
   ⟨Rect.unit (s := S512x6144) ![0, 1152] S512x128.size inb_S512x6144_S512x128_0_1152,
      k0_pay33 (k0_pay27 x2) (k0_pay28 x3) (k0_pay29 (k0_pay6 x0) (View.ld x1 (Rect.unit (s := S1024x6144) ![0, 1024] S1024x1024.size inb_S1024x6144_S1024x1024_0_1024))) (k0_pay30 (k0_pay6 x0) (View.ld x1 (Rect.unit (s := S1024x6144) ![0, 1024] S1024x1024.size inb_S1024x6144_S1024x1024_0_1024)))⟩,
   ⟨Rect.unit (s := S512x6144) ![0, 1024] S512x128.size inb_S512x6144_S512x128_0_1024,
      k0_pay32 (k0_pay28 x3) (k0_pay30 (k0_pay6 x0) (View.ld x1 (Rect.unit (s := S1024x6144) ![0, 1024] S1024x1024.size inb_S1024x6144_S1024x1024_0_1024))) (k0_pay31 (k0_pay6 x0) (View.ld x1 (Rect.unit (s := S1024x6144) ![0, 1024] S1024x1024.size inb_S1024x6144_S1024x1024_0_1024)) x2)⟩,
   ⟨Rect.unit (s := S512x6144) ![0, 896] S512x128.size inb_S512x6144_S512x128_0_896,
      k0_pay25 (k0_pay7 x0 (View.ld x1 (Rect.unit (s := S1024x6144) ![0, 0] S1024x1024.size inb_S1024x6144_S1024x1024_0_0))) (k0_pay8 x2) (k0_pay9 x3)⟩,
   ⟨Rect.unit (s := S512x6144) ![0, 768] S512x128.size inb_S512x6144_S512x128_0_768,
      k0_pay24 (k0_pay7 x0 (View.ld x1 (Rect.unit (s := S1024x6144) ![0, 0] S1024x1024.size inb_S1024x6144_S1024x1024_0_0))) (k0_pay8 x2) (k0_pay9 x3)⟩,
   ⟨Rect.unit (s := S512x6144) ![0, 640] S512x128.size inb_S512x6144_S512x128_0_640,
      k0_pay21 (k0_pay7 x0 (View.ld x1 (Rect.unit (s := S1024x6144) ![0, 0] S1024x1024.size inb_S1024x6144_S1024x1024_0_0))) (k0_pay8 x2) (k0_pay9 x3)⟩,
   ⟨Rect.unit (s := S512x6144) ![0, 512] S512x128.size inb_S512x6144_S512x128_0_512,
      k0_pay20 (k0_pay7 x0 (View.ld x1 (Rect.unit (s := S1024x6144) ![0, 0] S1024x1024.size inb_S1024x6144_S1024x1024_0_0))) (k0_pay8 x2) (k0_pay9 x3)⟩,
   ⟨Rect.unit (s := S512x6144) ![0, 384] S512x128.size inb_S512x6144_S512x128_0_384,
      k0_pay17 x0 (View.ld x1 (Rect.unit (s := S1024x6144) ![0, 0] S1024x1024.size inb_S1024x6144_S1024x1024_0_0)) x2 x3⟩,
   ⟨Rect.unit (s := S512x6144) ![0, 256] S512x128.size inb_S512x6144_S512x128_0_256,
      k0_pay16 x0 (View.ld x1 (Rect.unit (s := S1024x6144) ![0, 0] S1024x1024.size inb_S1024x6144_S1024x1024_0_0)) x2 x3⟩,
   ⟨Rect.unit (s := S512x6144) ![0, 128] S512x128.size inb_S512x6144_S512x128_0_128,
      k0_pay13 x0 (View.ld x1 (Rect.unit (s := S1024x6144) ![0, 0] S1024x1024.size inb_S1024x6144_S1024x1024_0_0)) x2 x3⟩,
   ⟨Rect.unit (s := S512x6144) ![0, 0] S512x128.size inb_S512x6144_S512x128_0_0,
      k0_pay12 x0 (View.ld x1 (Rect.unit (s := S1024x6144) ![0, 0] S1024x1024.size inb_S1024x6144_S1024x1024_0_0)) x2 x3⟩]

/-- A load of the whole block of rows is the block. -/
theorem ldX (x : Vec F S512x1024 .f32) (h) : View.ld x (Rect.unit (s := S512x1024) ![0, 0] ![512, 1024] h) = x :=
  View.ld_unit_zero (by funext a; fin_cases a <;> rfl) h x

/-- The same for a block of a table. -/
theorem ldT (x : Vec F S512x128 .f32) (h) : View.ld x (Rect.unit (s := S512x128) ![0, 0] ![512, 128] h) = x :=
  View.ld_unit_zero (by funext a; fin_cases a <;> rfl) h x

variable (c : Dev nD) (i : grid0.Coords) (arg1 : Memref sig .tc .vmem S512x1024 .f32) (harg1 : arg1.IsWhole) (arg2 : Memref sig .tc .vmem S1024x6144 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S512x6144 .bf16) (harg5 : arg5.IsWhole)

/-- The run's pieces are these stores. -/
theorem outA : (kernelRun0_A c i arg1 harg1 arg2 harg2 arg3 harg3 arg4 harg4 arg5 harg5 x0 x1 x2 x3).1 = oL x0 x1 x2 x3 := by
  unfold kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, View.readAt_eq_ld, harg1.read_unread, harg2.read_unread, harg3.read_unread, harg4.read_unread]
  simp only [ldX, ldT]
  rfl
end

/-- Output column `n` of the product for one row, counted by a natural number. -/
def colN (X : Fin 1024 → EReal) (W : Vec Ideal S1024x6144 .bf16) (n : ℕ) : EReal :=
  if h : n < 6144 then ∑ k : Fin 1024, X k * W (ix2 k (⟨n, h⟩ : Fin 6144)) else 0

/-- The rotary of one entry: column `n` of a row `P` in heads of 256, `C` and `S` the row's cosines and sines. -/
def headN (P C S : ℕ → EReal) (n : ℕ) : EReal :=
  if n % 256 < 128 then P n * C (n % 256) - P (n + 128) * S (n % 256) else P (n - 128) * S (n % 256 - 128) + P n * C (n % 256 - 128)

/-- The keys' scale, 1/16. -/
def sc : EReal := Ideal.ofBits .f32 0x3D800000#32

/-- The result of one row: the rotary of the queries, the scaled rotary of the keys, and the values and gates as they are. -/
def outN (P C S : ℕ → EReal) (n : ℕ) : EReal :=
  if n < 1024 then headN P C S n else if n < 2048 then headN P C S n * sc else P n

/-- The keys' scale as a real number: 1/16. -/
theorem sc_val : sc = ((1 / 16 : ℝ) : EReal) := by
  unfold sc
  simp [Ideal.ofBits, Ideal.ieee, -EReal.coe_mul]; norm_num

/-- The keys' scale is not negative. -/
theorem sc_nonneg : 0 ≤ sc := by rw [sc_val]; exact_mod_cast (by norm_num : (0 : ℝ) ≤ 1 / 16)

/-- The keys' scale is finite. -/
theorem sc_ne_top : sc ≠ ⊤ := by rw [sc_val]; exact EReal.coe_ne_top _

/-- Scaling the tables scales the first half of a rotary. -/
theorem scale_sub (a b c s : EReal) : a * (c * sc) - b * (s * sc) = (a * c - b * s) * sc := by
  rw [← mul_assoc, ← mul_assoc]
  refine Eq.symm ?_
  rw [sub_eq_add_neg, EReal.right_distrib_of_nonneg_of_ne_top sc_nonneg sc_ne_top, EReal.neg_mul, ← sub_eq_add_neg]

/-- The same for the second half. -/
theorem scale_add (a b c s : EReal) : a * (c * sc) + b * (s * sc) = (a * c + b * s) * sc := by
  rw [← mul_assoc, ← mul_assoc]
  exact (EReal.right_distrib_of_nonneg_of_ne_top sc_nonneg sc_ne_top _ _).symm

/-- The first half of a head's rotary, read off the product `M` at column `o`. -/
def hA (M : FVec Ideal S512x1024 .f32) (C S : FVec Ideal S512x128 .f32) (o1 o2 : ℕ) (h1 : S512x1024.Slices ![0, o1] S512x128) (h2 : S512x1024.Slices ![0, o2] S512x128) : FVec Ideal S512x128 .bf16 :=
  truncf .bf16 (subf (mulf (extractStridedSlice S512x128 ![0, o1] M h1) C) (mulf (extractStridedSlice S512x128 ![0, o2] M h2) S)) bitsLt_bf16_f32

/-- The second half. -/
def hB (M : FVec Ideal S512x1024 .f32) (C S : FVec Ideal S512x128 .f32) (o1 o2 : ℕ) (h1 : S512x1024.Slices ![0, o1] S512x128) (h2 : S512x1024.Slices ![0, o2] S512x128) : FVec Ideal S512x128 .bf16 :=
  truncf .bf16 (addf (mulf (extractStridedSlice S512x128 ![0, o1] M h1) S) (mulf (extractStridedSlice S512x128 ![0, o2] M h2) C)) bitsLt_bf16_f32

section
variable (M : FVec Ideal S512x1024 .f32) (C S : FVec Ideal S512x128 .f32) (r : Fin 512) (P c s : ℕ → EReal) (b o : ℕ)

/-- A slice of 128 columns of a head's product, at a row and a column. -/
theorem slice_at (o : ℕ) (h : S512x1024.Slices ![0, o] S512x128) (hM : ∀ j : Fin 1024, M (ix2 r j) = P (b + j.val)) (ho : o + 128 ≤ 1024) (e : Fin 128) :
    extractStridedSlice S512x128 ![0, o] M h (ix2 r e) = P (b + (o + e.val)) := by
  refine Eq.trans ?_ (hM (⟨o + e.val, by omega⟩ : Fin 1024))
  rw [extractStridedSlice_apply]
  intro x
  match x with
  | ⟨0, _⟩ => show r.val = 0 + r.val; omega
  | ⟨1, _⟩ => rfl

/-- The first half of a head, computed from two slices of a product: the rotary's first half at that head's columns. -/
theorem hA_at (h1 : S512x1024.Slices ![0, o] S512x128) (h2 : S512x1024.Slices ![0, o + 128] S512x128)
    (hM : ∀ j : Fin 1024, M (ix2 r j) = P (b + j.val)) (hb : b % 256 = 0) (ho : o % 256 = 0) (ho' : o + 256 ≤ 1024)
    (hC : ∀ e : Fin 128, C (ix2 r e) = c e.val) (hS : ∀ e : Fin 128, S (ix2 r e) = s e.val) (e : Fin 128) :
    hA M C S o (o + 128) h1 h2 (ix2 r e) = headN P c s (b + o + e.val) := by
  have he := e.isLt
  have q : (b + o + e.val) % 256 = e.val := by omega
  unfold headN
  rw [q, if_pos he, ← hC, ← hS]
  show extractStridedSlice S512x128 ![0, o] M h1 (ix2 r e) * C (ix2 r e) - extractStridedSlice S512x128 ![0, o + 128] M h2 (ix2 r e) * S (ix2 r e) = _
  rw [slice_at M r P b o h1 hM (by omega), slice_at M r P b (o + 128) h2 hM (by omega)]
  rw [show b + (o + e.val) = b + o + e.val by omega, show b + (o + 128 + e.val) = b + o + e.val + 128 by omega]

/-- The second half of a head, computed from two slices of a product: the rotary's second half at that head's columns. -/
theorem hB_at (h1 : S512x1024.Slices ![0, o] S512x128) (h2 : S512x1024.Slices ![0, o + 128] S512x128)
    (hM : ∀ j : Fin 1024, M (ix2 r j) = P (b + j.val)) (hb : b % 256 = 0) (ho : o % 256 = 0) (ho' : o + 256 ≤ 1024)
    (hC : ∀ e : Fin 128, C (ix2 r e) = c e.val) (hS : ∀ e : Fin 128, S (ix2 r e) = s e.val) (e : Fin 128) :
    hB M C S o (o + 128) h1 h2 (ix2 r e) = headN P c s (b + (o + 128) + e.val) := by
  have he := e.isLt
  have q : (b + (o + 128) + e.val) % 256 = 128 + e.val := by omega
  have q' : (128 + e.val) - 128 = e.val := by omega
  unfold headN
  rw [q, q', if_neg (by omega), ← hC, ← hS]
  show extractStridedSlice S512x128 ![0, o] M h1 (ix2 r e) * S (ix2 r e) + extractStridedSlice S512x128 ![0, o + 128] M h2 (ix2 r e) * C (ix2 r e) = _
  rw [slice_at M r P b o h1 hM (by omega), slice_at M r P b (o + 128) h2 hM (by omega)]
  rw [show b + (o + e.val) = b + (o + 128) + e.val - 128 by omega, show b + (o + 128 + e.val) = b + (o + 128) + e.val by omega]

/-- A rotary with scaled tables is the scaled rotary. -/
theorem headN_scale (n : ℕ) : headN P (fun e => c e * sc) (fun e => s e * sc) n = headN P c s n * sc := by
  unfold headN
  split
  · exact scale_sub _ _ _ _
  · exact scale_add _ _ _ _
end

section
variable (x0 : Vec Ideal S512x1024 .f32) (x1 : Vec Ideal S1024x6144 .bf16) (x2 : Vec Ideal S512x128 .f32) (x3 : Vec Ideal S512x128 .f32)

/-- A row of the block of rows. -/
abbrev rowN (r : Fin 512) : Fin 1024 → EReal := fun k => x0 (ix2 r k)

/-- A load of 1024 columns of the weight, at a row and a column. -/
theorem ldw (o : ℕ) (inb) (ho : o + 1024 ≤ 6144) (k j : Fin 1024) :
    View.ld x1 (Rect.unit (s := S1024x6144) ![0, o] S1024x1024.size inb) (ix2 k j) = x1 (ix2 k (⟨o + j.val, by omega⟩ : Fin 6144)) := by
  refine congrArg x1 ?_
  funext x
  apply Fin.ext
  match x with
  | ⟨0, _⟩ => show 0 + 1 * k.val = k.val; omega
  | ⟨1, _⟩ => show o + 1 * j.val = o + j.val; omega

/-- A tile of the product at an entry. -/
theorem mm_at (w : Vec Ideal S1024x1024 .bf16) (r : Fin 512) (j : Fin 1024) :
    k0_pay26 (k0_pay6 x0) w (ix2 r j) = ∑ k : Fin 1024, x0 (ix2 r k) * w (ix2 k j) := by
  unfold k0_pay26 k0_pay6
  pointwise

/-- The product of a block's rows with 1024 columns of the weight, at a row and a column. -/
theorem mmN_at (o : ℕ) (inb) (ho : o + 1024 ≤ 6144) (r : Fin 512) (j : Fin 1024) :
    k0_pay26 (k0_pay6 x0) (View.ld x1 (Rect.unit (s := S1024x6144) ![0, o] S1024x1024.size inb)) (ix2 r j) = colN (rowN x0 r) x1 (o + j.val) := by
  rw [mm_at]
  unfold colN rowN
  rw [dif_pos (by omega)]
  exact Finset.sum_congr rfl fun k _ => congrArg _ (ldw x1 o inb ho k j)

/-- The queries' cosine table in a block is the argument's. -/
theorem c0_at (r : Fin 512) (e : Fin 128) : k0_pay8 x2 (ix2 r e) = x2 (ix2 r e) := by
  unfold k0_pay8
  pointwise

/-- The keys' cosine table in a block is the argument's times the scale. -/
theorem c1_at (r : Fin 512) (e : Fin 128) : k0_pay27 x2 (ix2 r e) = x2 (ix2 r e) * sc := by
  unfold k0_pay27 sc
  pointwise

/-- The queries' sine table in a block is the argument's. -/
theorem s0_at (r : Fin 512) (e : Fin 128) : k0_pay9 x3 (ix2 r e) = x3 (ix2 r e) := by
  unfold k0_pay9
  pointwise

/-- The keys' sine table in a block is the argument's times the scale. -/
theorem s1_at (r : Fin 512) (e : Fin 128) : k0_pay28 x3 (ix2 r e) = x3 (ix2 r e) * sc := by
  unfold k0_pay28 sc
  pointwise

/-- A row of a table block, counted by a natural number. -/
def tabN (x : Vec Ideal S512x128 .f32) (r : Fin 512) (n : ℕ) : EReal := if h : n < 128 then x (ix2 r (⟨n, h⟩ : Fin 128)) else 0

/-- A table read by a natural column is the table at that column. -/
theorem tabN_val (x : Vec Ideal S512x128 .f32) (r : Fin 512) (e : Fin 128) : tabN x r e.val = x (ix2 r e) := by
  unfold tabN; rw [dif_pos e.isLt]

/-- The point's output block at row `r`, column `n`. -/
def blkN (r : Fin 512) (n : ℕ) : EReal := outN (colN (rowN x0 r) x1) (tabN x2 r) (tabN x3 r) n

/-- What is stored for the first half of a query head. -/
theorem qA (o : ℕ) (h1 : S512x1024.Slices ![0, o] S512x128) (h2 : S512x1024.Slices ![0, o + 128] S512x128) (inb) (ho : o % 256 = 0) (ho' : o + 256 ≤ 1024) (r : Fin 512) (e : Fin 128) :
    hA (k0_pay26 (k0_pay6 x0) (View.ld x1 (Rect.unit (s := S1024x6144) ![0, 0] S1024x1024.size inb))) (k0_pay8 x2) (k0_pay9 x3) o (o + 128) h1 h2 (ix2 r e) = blkN x0 x1 x2 x3 r (o + e.val) := by
  refine (hA_at _ _ _ r (colN (rowN x0 r) x1) (tabN x2 r) (tabN x3 r) 0 o h1 h2 (mmN_at x0 x1 0 inb (by omega) r) (by omega) ho ho' (fun e => (c0_at x2 r e).trans (tabN_val x2 r e).symm) (fun e => (s0_at x3 r e).trans (tabN_val x3 r e).symm) e).trans ?_
  unfold blkN outN
  rw [if_pos (by omega), show 0 + o + e.val = o + e.val by omega]

/-- What is stored for the second half of a query head. -/
theorem qB (o : ℕ) (h1 : S512x1024.Slices ![0, o] S512x128) (h2 : S512x1024.Slices ![0, o + 128] S512x128) (inb) (ho : o % 256 = 0) (ho' : o + 256 ≤ 1024) (r : Fin 512) (e : Fin 128) :
    hB (k0_pay26 (k0_pay6 x0) (View.ld x1 (Rect.unit (s := S1024x6144) ![0, 0] S1024x1024.size inb))) (k0_pay8 x2) (k0_pay9 x3) o (o + 128) h1 h2 (ix2 r e) = blkN x0 x1 x2 x3 r (o + 128 + e.val) := by
  refine (hB_at _ _ _ r (colN (rowN x0 r) x1) (tabN x2 r) (tabN x3 r) 0 o h1 h2 (mmN_at x0 x1 0 inb (by omega) r) (by omega) ho ho' (fun e => (c0_at x2 r e).trans (tabN_val x2 r e).symm) (fun e => (s0_at x3 r e).trans (tabN_val x3 r e).symm) e).trans ?_
  unfold blkN outN
  rw [if_pos (by omega), show 0 + (o + 128) + e.val = o + 128 + e.val by omega]

/-- What is stored for the first half of a key head, with the scale taken out of the tables. -/
theorem kA (o : ℕ) (h1 : S512x1024.Slices ![0, o] S512x128) (h2 : S512x1024.Slices ![0, o + 128] S512x128) (inb) (ho : o % 256 = 0) (ho' : o + 256 ≤ 1024) (r : Fin 512) (e : Fin 128) :
    hA (k0_pay26 (k0_pay6 x0) (View.ld x1 (Rect.unit (s := S1024x6144) ![0, 1024] S1024x1024.size inb))) (k0_pay27 x2) (k0_pay28 x3) o (o + 128) h1 h2 (ix2 r e) = blkN x0 x1 x2 x3 r (1024 + o + e.val) := by
  refine (hA_at _ _ _ r (colN (rowN x0 r) x1) (fun e => tabN x2 r e * sc) (fun e => tabN x3 r e * sc) 1024 o h1 h2 (mmN_at x0 x1 1024 inb (by omega) r) (by omega) ho ho' (fun e => (c1_at x2 r e).trans (congrArg (· * sc) (tabN_val x2 r e).symm)) (fun e => (s1_at x3 r e).trans (congrArg (· * sc) (tabN_val x3 r e).symm)) e).trans ?_
  unfold blkN outN
  rw [if_neg (by omega), if_pos (by omega)]
  exact headN_scale _ _ _ _

/-- What is stored for the second half of a key head, with the scale taken out of the tables. -/
theorem kB (o : ℕ) (h1 : S512x1024.Slices ![0, o] S512x128) (h2 : S512x1024.Slices ![0, o + 128] S512x128) (inb) (ho : o % 256 = 0) (ho' : o + 256 ≤ 1024) (r : Fin 512) (e : Fin 128) :
    hB (k0_pay26 (k0_pay6 x0) (View.ld x1 (Rect.unit (s := S1024x6144) ![0, 1024] S1024x1024.size inb))) (k0_pay27 x2) (k0_pay28 x3) o (o + 128) h1 h2 (ix2 r e) = blkN x0 x1 x2 x3 r (1024 + (o + 128) + e.val) := by
  refine (hB_at _ _ _ r (colN (rowN x0 r) x1) (fun e => tabN x2 r e * sc) (fun e => tabN x3 r e * sc) 1024 o h1 h2 (mmN_at x0 x1 1024 inb (by omega) r) (by omega) ho ho' (fun e => (c1_at x2 r e).trans (congrArg (· * sc) (tabN_val x2 r e).symm)) (fun e => (s1_at x3 r e).trans (congrArg (· * sc) (tabN_val x3 r e).symm)) e).trans ?_
  unfold blkN outN
  rw [if_neg (by omega), if_pos (by omega)]
  exact headN_scale _ _ _ _

/-- The tiles of values and gates. -/
theorem vG (o : ℕ) (inb) (ho : 2048 ≤ o) (ho' : o + 1024 ≤ 6144) (r : Fin 512) (j : Fin 1024) :
    truncf (F := Ideal) .bf16 (k0_pay26 (k0_pay6 x0) (View.ld x1 (Rect.unit (s := S1024x6144) ![0, o] S1024x1024.size inb))) bitsLt_bf16_f32 (ix2 r j) = blkN x0 x1 x2 x3 r (o + j.val) := by
  refine (mmN_at x0 x1 o inb ho' r j).trans ?_
  unfold blkN outN
  rw [if_neg (by omega), if_neg (by omega)]

/-- Where a store of `w` columns lies in the output block. -/
theorem emb_out (o w : ℕ) (inb) (r : Fin 512) (e : Fin w) (h : o + e.val < 6144) :
    (Rect.unit (s := S512x6144) ![0, o] ![512, w] inb).emb (ix2 r e) = ix2 r (⟨o + e.val, h⟩ : Fin 6144) := by
  funext x
  apply Fin.ext
  match x with
  | ⟨0, _⟩ => show 0 + 1 * r.val = r.val; omega
  | ⟨1, _⟩ => show o + 1 * e.val = o + e.val; omega

/-- The output block after the point. -/
theorem out_at (y : S512x6144.Idx) : View.canon (oL x0 x1 x2 x3) y = blkN x0 x1 x2 x3 (y 0) (y 1).val := by
  refine View.canon_apply_of_pieces (fun y : S512x6144.Idx => (blkN x0 x1 x2 x3 (y 0) (y 1).val : Elt Ideal .bf16)) _ ?_ y
    (View.cover_of_tiledBy (oL x0 x1 x2 x3) ![512, 128] (by sl_kernel_rfl) y)
  intro pc hpc x
  unfold oL at hpc
  rcases List.mem_cons.mp hpc with rfl | hpc
  · obtain ⟨r, e, rfl⟩ : ∃ (r : Fin 512) (e : Fin 1024), x = ix2 r e := ⟨x 0, x 1, eq_ix2 x⟩
    exact (vG x0 x1 x2 x3 5120 inb_S1024x6144_S1024x1024_0_5120 (by omega) (by omega) r e).trans (congrArg (fun y : S512x6144.Idx => blkN x0 x1 x2 x3 (y 0) (y 1).val) (emb_out 5120 1024 inb_S512x6144_S512x1024_0_5120 r e (by omega)).symm)
  rcases List.mem_cons.mp hpc with rfl | hpc
  · obtain ⟨r, e, rfl⟩ : ∃ (r : Fin 512) (e : Fin 1024), x = ix2 r e := ⟨x 0, x 1, eq_ix2 x⟩
    exact (vG x0 x1 x2 x3 4096 inb_S1024x6144_S1024x1024_0_4096 (by omega) (by omega) r e).trans (congrArg (fun y : S512x6144.Idx => blkN x0 x1 x2 x3 (y 0) (y 1).val) (emb_out 4096 1024 inb_S512x6144_S512x1024_0_4096 r e (by omega)).symm)
  rcases List.mem_cons.mp hpc with rfl | hpc
  · obtain ⟨r, e, rfl⟩ : ∃ (r : Fin 512) (e : Fin 1024), x = ix2 r e := ⟨x 0, x 1, eq_ix2 x⟩
    exact (vG x0 x1 x2 x3 3072 inb_S1024x6144_S1024x1024_0_3072 (by omega) (by omega) r e).trans (congrArg (fun y : S512x6144.Idx => blkN x0 x1 x2 x3 (y 0) (y 1).val) (emb_out 3072 1024 inb_S512x6144_S512x1024_0_3072 r e (by omega)).symm)
  rcases List.mem_cons.mp hpc with rfl | hpc
  · obtain ⟨r, e, rfl⟩ : ∃ (r : Fin 512) (e : Fin 1024), x = ix2 r e := ⟨x 0, x 1, eq_ix2 x⟩
    exact (vG x0 x1 x2 x3 2048 inb_S1024x6144_S1024x1024_0_2048 (by omega) (by omega) r e).trans (congrArg (fun y : S512x6144.Idx => blkN x0 x1 x2 x3 (y 0) (y 1).val) (emb_out 2048 1024 inb_S512x6144_S512x1024_0_2048 r e (by omega)).symm)
  rcases List.mem_cons.mp hpc with rfl | hpc
  · obtain ⟨r, e, rfl⟩ : ∃ (r : Fin 512) (e : Fin 128), x = ix2 r e := ⟨x 0, x 1, eq_ix2 x⟩
    exact (kB x0 x1 x2 x3 768 slices_S512x1024_o0_768_S512x128 slices_S512x1024_o0_896_S512x128 inb_S1024x6144_S1024x1024_0_1024 (by omega) (by omega) r e).trans (congrArg (fun y : S512x6144.Idx => blkN x0 x1 x2 x3 (y 0) (y 1).val) (emb_out 1920 128 inb_S512x6144_S512x128_0_1920 r e (by omega)).symm)
  rcases List.mem_cons.mp hpc with rfl | hpc
  · obtain ⟨r, e, rfl⟩ : ∃ (r : Fin 512) (e : Fin 128), x = ix2 r e := ⟨x 0, x 1, eq_ix2 x⟩
    exact (kA x0 x1 x2 x3 768 slices_S512x1024_o0_768_S512x128 slices_S512x1024_o0_896_S512x128 inb_S1024x6144_S1024x1024_0_1024 (by omega) (by omega) r e).trans (congrArg (fun y : S512x6144.Idx => blkN x0 x1 x2 x3 (y 0) (y 1).val) (emb_out 1792 128 inb_S512x6144_S512x128_0_1792 r e (by omega)).symm)
  rcases List.mem_cons.mp hpc with rfl | hpc
  · obtain ⟨r, e, rfl⟩ : ∃ (r : Fin 512) (e : Fin 128), x = ix2 r e := ⟨x 0, x 1, eq_ix2 x⟩
    exact (kB x0 x1 x2 x3 512 slices_S512x1024_o0_512_S512x128 slices_S512x1024_o0_640_S512x128 inb_S1024x6144_S1024x1024_0_1024 (by omega) (by omega) r e).trans (congrArg (fun y : S512x6144.Idx => blkN x0 x1 x2 x3 (y 0) (y 1).val) (emb_out 1664 128 inb_S512x6144_S512x128_0_1664 r e (by omega)).symm)
  rcases List.mem_cons.mp hpc with rfl | hpc
  · obtain ⟨r, e, rfl⟩ : ∃ (r : Fin 512) (e : Fin 128), x = ix2 r e := ⟨x 0, x 1, eq_ix2 x⟩
    exact (kA x0 x1 x2 x3 512 slices_S512x1024_o0_512_S512x128 slices_S512x1024_o0_640_S512x128 inb_S1024x6144_S1024x1024_0_1024 (by omega) (by omega) r e).trans (congrArg (fun y : S512x6144.Idx => blkN x0 x1 x2 x3 (y 0) (y 1).val) (emb_out 1536 128 inb_S512x6144_S512x128_0_1536 r e (by omega)).symm)
  rcases List.mem_cons.mp hpc with rfl | hpc
  · obtain ⟨r, e, rfl⟩ : ∃ (r : Fin 512) (e : Fin 128), x = ix2 r e := ⟨x 0, x 1, eq_ix2 x⟩
    exact (kB x0 x1 x2 x3 256 slices_S512x1024_o0_256_S512x128 slices_S512x1024_o0_384_S512x128 inb_S1024x6144_S1024x1024_0_1024 (by omega) (by omega) r e).trans (congrArg (fun y : S512x6144.Idx => blkN x0 x1 x2 x3 (y 0) (y 1).val) (emb_out 1408 128 inb_S512x6144_S512x128_0_1408 r e (by omega)).symm)
  rcases List.mem_cons.mp hpc with rfl | hpc
  · obtain ⟨r, e, rfl⟩ : ∃ (r : Fin 512) (e : Fin 128), x = ix2 r e := ⟨x 0, x 1, eq_ix2 x⟩
    exact (kA x0 x1 x2 x3 256 slices_S512x1024_o0_256_S512x128 slices_S512x1024_o0_384_S512x128 inb_S1024x6144_S1024x1024_0_1024 (by omega) (by omega) r e).trans (congrArg (fun y : S512x6144.Idx => blkN x0 x1 x2 x3 (y 0) (y 1).val) (emb_out 1280 128 inb_S512x6144_S512x128_0_1280 r e (by omega)).symm)
  rcases List.mem_cons.mp hpc with rfl | hpc
  · obtain ⟨r, e, rfl⟩ : ∃ (r : Fin 512) (e : Fin 128), x = ix2 r e := ⟨x 0, x 1, eq_ix2 x⟩
    exact (kB x0 x1 x2 x3 0 slices_S512x1024_o0_0_S512x128 slices_S512x1024_o0_128_S512x128 inb_S1024x6144_S1024x1024_0_1024 (by omega) (by omega) r e).trans (congrArg (fun y : S512x6144.Idx => blkN x0 x1 x2 x3 (y 0) (y 1).val) (emb_out 1152 128 inb_S512x6144_S512x128_0_1152 r e (by omega)).symm)
  rcases List.mem_cons.mp hpc with rfl | hpc
  · obtain ⟨r, e, rfl⟩ : ∃ (r : Fin 512) (e : Fin 128), x = ix2 r e := ⟨x 0, x 1, eq_ix2 x⟩
    exact (kA x0 x1 x2 x3 0 slices_S512x1024_o0_0_S512x128 slices_S512x1024_o0_128_S512x128 inb_S1024x6144_S1024x1024_0_1024 (by omega) (by omega) r e).trans (congrArg (fun y : S512x6144.Idx => blkN x0 x1 x2 x3 (y 0) (y 1).val) (emb_out 1024 128 inb_S512x6144_S512x128_0_1024 r e (by omega)).symm)
  rcases List.mem_cons.mp hpc with rfl | hpc
  · obtain ⟨r, e, rfl⟩ : ∃ (r : Fin 512) (e : Fin 128), x = ix2 r e := ⟨x 0, x 1, eq_ix2 x⟩
    exact (qB x0 x1 x2 x3 768 slices_S512x1024_o0_768_S512x128 slices_S512x1024_o0_896_S512x128 inb_S1024x6144_S1024x1024_0_0 (by omega) (by omega) r e).trans (congrArg (fun y : S512x6144.Idx => blkN x0 x1 x2 x3 (y 0) (y 1).val) (emb_out 896 128 inb_S512x6144_S512x128_0_896 r e (by omega)).symm)
  rcases List.mem_cons.mp hpc with rfl | hpc
  · obtain ⟨r, e, rfl⟩ : ∃ (r : Fin 512) (e : Fin 128), x = ix2 r e := ⟨x 0, x 1, eq_ix2 x⟩
    exact (qA x0 x1 x2 x3 768 slices_S512x1024_o0_768_S512x128 slices_S512x1024_o0_896_S512x128 inb_S1024x6144_S1024x1024_0_0 (by omega) (by omega) r e).trans (congrArg (fun y : S512x6144.Idx => blkN x0 x1 x2 x3 (y 0) (y 1).val) (emb_out 768 128 inb_S512x6144_S512x128_0_768 r e (by omega)).symm)
  rcases List.mem_cons.mp hpc with rfl | hpc
  · obtain ⟨r, e, rfl⟩ : ∃ (r : Fin 512) (e : Fin 128), x = ix2 r e := ⟨x 0, x 1, eq_ix2 x⟩
    exact (qB x0 x1 x2 x3 512 slices_S512x1024_o0_512_S512x128 slices_S512x1024_o0_640_S512x128 inb_S1024x6144_S1024x1024_0_0 (by omega) (by omega) r e).trans (congrArg (fun y : S512x6144.Idx => blkN x0 x1 x2 x3 (y 0) (y 1).val) (emb_out 640 128 inb_S512x6144_S512x128_0_640 r e (by omega)).symm)
  rcases List.mem_cons.mp hpc with rfl | hpc
  · obtain ⟨r, e, rfl⟩ : ∃ (r : Fin 512) (e : Fin 128), x = ix2 r e := ⟨x 0, x 1, eq_ix2 x⟩
    exact (qA x0 x1 x2 x3 512 slices_S512x1024_o0_512_S512x128 slices_S512x1024_o0_640_S512x128 inb_S1024x6144_S1024x1024_0_0 (by omega) (by omega) r e).trans (congrArg (fun y : S512x6144.Idx => blkN x0 x1 x2 x3 (y 0) (y 1).val) (emb_out 512 128 inb_S512x6144_S512x128_0_512 r e (by omega)).symm)
  rcases List.mem_cons.mp hpc with rfl | hpc
  · obtain ⟨r, e, rfl⟩ : ∃ (r : Fin 512) (e : Fin 128), x = ix2 r e := ⟨x 0, x 1, eq_ix2 x⟩
    exact (qB x0 x1 x2 x3 256 slices_S512x1024_o0_256_S512x128 slices_S512x1024_o0_384_S512x128 inb_S1024x6144_S1024x1024_0_0 (by omega) (by omega) r e).trans (congrArg (fun y : S512x6144.Idx => blkN x0 x1 x2 x3 (y 0) (y 1).val) (emb_out 384 128 inb_S512x6144_S512x128_0_384 r e (by omega)).symm)
  rcases List.mem_cons.mp hpc with rfl | hpc
  · obtain ⟨r, e, rfl⟩ : ∃ (r : Fin 512) (e : Fin 128), x = ix2 r e := ⟨x 0, x 1, eq_ix2 x⟩
    exact (qA x0 x1 x2 x3 256 slices_S512x1024_o0_256_S512x128 slices_S512x1024_o0_384_S512x128 inb_S1024x6144_S1024x1024_0_0 (by omega) (by omega) r e).trans (congrArg (fun y : S512x6144.Idx => blkN x0 x1 x2 x3 (y 0) (y 1).val) (emb_out 256 128 inb_S512x6144_S512x128_0_256 r e (by omega)).symm)
  rcases List.mem_cons.mp hpc with rfl | hpc
  · obtain ⟨r, e, rfl⟩ : ∃ (r : Fin 512) (e : Fin 128), x = ix2 r e := ⟨x 0, x 1, eq_ix2 x⟩
    exact (qB x0 x1 x2 x3 0 slices_S512x1024_o0_0_S512x128 slices_S512x1024_o0_128_S512x128 inb_S1024x6144_S1024x1024_0_0 (by omega) (by omega) r e).trans (congrArg (fun y : S512x6144.Idx => blkN x0 x1 x2 x3 (y 0) (y 1).val) (emb_out 128 128 inb_S512x6144_S512x128_0_128 r e (by omega)).symm)
  obtain rfl := List.mem_singleton.mp hpc
  · obtain ⟨r, e, rfl⟩ : ∃ (r : Fin 512) (e : Fin 128), x = ix2 r e := ⟨x 0, x 1, eq_ix2 x⟩
    exact (qA x0 x1 x2 x3 0 slices_S512x1024_o0_0_S512x128 slices_S512x1024_o0_128_S512x128 inb_S1024x6144_S1024x1024_0_0 (by omega) (by omega) r e).trans (congrArg (fun y : S512x6144.Idx => blkN x0 x1 x2 x3 (y 0) (y 1).val) (emb_out 0 128 inb_S512x6144_S512x128_0_0 r e (by omega)).symm)
end

/-- The angles of the rotary: position times inverse frequency. -/
def angV : FVec Ideal S2048x128 .f32 :=
  mulf (broadcastInDim S2048x128 ![0, 1] bcast_S2048x1_S2048x128_0_1 (broadcastInDim S2048x1 ![0] bcast_S2048_S2048x1_0 (sitofp .f32 (iotaInDim S2048 32 0))))
    (broadcastInDim S2048x128 ![0, 1] bcast_S1x128_S2048x128_0_1 (broadcastInDim S1x128 ![1] bcast_S128_S1x128_1
      (Host.divf (broadcastInDim S128 ![] bcast_S_S128 (constant S_ .f32 0x3F800000#32))
        (Host.powf (broadcastInDim S128 ![] bcast_S_S128 (constant S_ .f32 0x461C4000#32))
          (Host.divf (addf (broadcastInDim S128 ![] bcast_S_S128 (constant S_ .f32 0x00000000#32)) (mulf (broadcastInDim S128 ![] bcast_S_S128 (constant S_ .f32 0x40000000#32)) (sitofp .f32 (iotaInDim S128 32 0))))
            (broadcastInDim S128 ![] bcast_S_S128 (constant S_ .f32 0x43800000#32)))))))

/-- Their cosines. -/
def cosV : FVec Ideal S2048x128 .f32 := Host.cos angV
/-- Their sines. -/
def sinV : FVec Ideal S2048x128 .f32 := Host.sin angV

/-- A table as the host code lays it out: two halves side by side, reshaped there and back, the first half cut out. -/
def layV (a b : FVec Ideal S2048x128 .f32) : FVec Ideal S2048x128 .f32 :=
  extractStridedSlice S2048x128 ![0, 0] (shapeCast S2048x256 (broadcastInDim S1x2048x1x256 ![0, 1, 2, 3] bcast_S1x2048x1x256_S1x2048x1x256_0_1_2_3 (shapeCast S1x2048x1x256 (concatenate S2048x256 1 [⟨S2048x128, a⟩, ⟨S2048x128, b⟩] concatenates_S2048x128_S2048x128_S2048x256_d1) shapeCasts_S2048x256_S1x2048x1x256)) shapeCasts_S1x2048x1x256_S2048x256) slices_S2048x256_S2048x128_0_0

/-- It is the first half. -/
theorem layV_at (a b : FVec Ideal S2048x128 .f32) (p : Fin 2048) (e : Fin 128) : layV a b (ix2 p e) = a (ix2 p e) := by
  unfold layV
  have h1 : ∀ (X : FVec Ideal S2048x256 .f32), shapeCast S2048x256 (broadcastInDim S1x2048x1x256 ![0, 1, 2, 3] bcast_S1x2048x1x256_S1x2048x1x256_0_1_2_3 (shapeCast S1x2048x1x256 X shapeCasts_S2048x256_S1x2048x1x256)) shapeCasts_S1x2048x1x256_S2048x256 (ix2 p (⟨e.val, by omega⟩ : Fin 256)) = X (ix2 p (⟨e.val, by omega⟩ : Fin 256)) := by
    intro X
    refine (shapeCast_apply _ _ _ (ix4 (0 : Fin 1) p (0 : Fin 1) (⟨e.val, by omega⟩ : Fin 256)) ?_).trans ?_
    · simp only [Shape.rowMajor_val_two, Shape.rowMajor_val_four, ix2, ix4]
      show ((0 * 2048 + p.val) * 1 + 0) * 256 + e.val = p.val * 256 + e.val
      omega
    · refine (broadcastInDim_apply _ _ _ _ (ix4 (0 : Fin 1) p (0 : Fin 1) (⟨e.val, by omega⟩ : Fin 256)) ?_).trans ?_
      · intro x
        match x with
        | ⟨0, _⟩ => rfl
        | ⟨1, _⟩ => rfl
        | ⟨2, _⟩ => rfl
        | ⟨3, _⟩ => rfl
      refine shapeCast_apply _ _ _ _ ?_
      simp only [Shape.rowMajor_val_two, Shape.rowMajor_val_four, ix2, ix4]
      show p.val * 256 + e.val = ((0 * 2048 + p.val) * 1 + 0) * 256 + e.val
      omega
  refine (extractStridedSlice_apply _ _ _ _ (ix2 p (⟨e.val, by omega⟩ : Fin 256)) ?_).trans ((h1 _).trans ?_)
  · intro x
    match x with
    | ⟨0, _⟩ => show p.val = 0 + p.val; omega
    | ⟨1, _⟩ => show e.val = 0 + e.val; omega
  · pointwise

variable (m : (ℓ : Loc nD τ sig) → Buf (Elt Ideal) ℓ) (c : Dev nD)

/-- The weight that the call reads is the argument: over the reals its cast to bfloat16 is the identity. -/
theorem V_w : V m c main_v28 = (m ((c : Thread nD τ).loc main_arg1) : Vec Ideal S1024x6144 .f32) := by
  simp only [V, hostOps0, List.flatten_cons, List.flatten_nil, List.append_nil, List.cons_append, List.nil_append]
  after_results
  rfl

/-- The cosines the host code hands over. -/
theorem V_c : V m c main_v29 = (layV cosV cosV : Vec Ideal S2048x128 .f32) := by
  simp only [V, hostOps0, List.flatten_cons, List.flatten_nil, List.append_nil, List.cons_append, List.nil_append]
  after_results
  unfold layV cosV angV
  rfl

/-- The sines it hands over. -/
theorem V_s : V m c main_v31 = (Host.negf (layV (Host.negf sinV) sinV) : Vec Ideal S2048x128 .f32) := by
  simp only [V, hostOps0, List.flatten_cons, List.flatten_nil, List.append_nil, List.cons_append, List.nil_append]
  after_results
  unfold layV sinV angV
  rfl

/-- Step `t` reads the `t`-th block of rows. -/
theorem idx0 : ∀ t : Fin grid0.N, win0_0.index t = ![t.val, 0] := by decide +kernel

/-- Every step reads the whole weight. -/
theorem idx1 : ∀ t : Fin grid0.N, win0_1.index t = ![0, 0] := by decide +kernel

/-- The cosine table's block repeats every four steps. -/
theorem idx2 : ∀ t : Fin grid0.N, win0_2.index t = ![t.val % 4, 0] := by decide +kernel

/-- The sine table's block repeats every four steps. -/
theorem idx3 : ∀ t : Fin grid0.N, win0_3.index t = ![t.val % 4, 0] := by decide +kernel

/-- Step `t` writes the `t`-th block of rows. -/
theorem idx4 : ∀ t : Fin grid0.N, win0_4.index t = ![t.val, 0] := by decide +kernel

/-- The grid has 64 steps. -/
theorem hN (t : Fin cfg0.N) : t.val < 64 := lt_of_lt_of_eq t.isLt (show cfg0.N = 64 from N_0)

/-- The array's row that a block's row is. -/
def row (t : Fin cfg0.N) (r : Fin 512) : Fin 32768 := ⟨512 * t.val + r.val, by have := hN t; omega⟩

/-- The position in the sequence that a row is. -/
def pos (p : Fin 32768) : Fin 2048 := ⟨p.val % 2048, Nat.mod_lt _ (by decide)⟩

/-- The position in its sequence of a block's row. -/
theorem pos_row (t : Fin cfg0.N) (r : Fin 512) : pos (row t r) = ⟨512 * (t.val % 4) + r.val, by omega⟩ := by
  apply Fin.ext
  show (512 * t.val + r.val) % 2048 = 512 * (t.val % 4) + r.val
  omega

/-- The rows' block of a step, entry by entry. -/
theorem blk_x (t : Fin cfg0.N) (r : Fin 512) (k : Fin 1024) :
    (iblk m c 0 t : Vec Ideal S512x1024 .f32) (ix2 r k) = (m ((c : Thread nD τ).loc main_arg0) : Vec Ideal S32768x1024 .f32) (ix2 (row t r) k) := by
  rw [← V_main_arg0 m c]
  unfold row
  blk_ext [iblk, idx0 t]

/-- The weight's block of a step is the whole weight. -/
theorem blk_w (t : Fin cfg0.N) : (iblk m c 1 t : Vec Ideal S1024x6144 .bf16) = (m ((c : Thread nD τ).loc main_arg1) : Vec Ideal S1024x6144 .f32) := by
  rw [← V_w m c]
  funext i
  rw [show i = ix2 (i 0) (i 1) from eq_ix2 i]
  generalize i 0 = s
  generalize i 1 = k
  blk_ext [iblk, idx1 t]

/-- The cosine table's block of a step, at the positions of its rows. -/
theorem blk_c (t : Fin cfg0.N) (r : Fin 512) (e : Fin 128) : (iblk m c 2 t : Vec Ideal S512x128 .f32) (ix2 r e) = cosV (ix2 (pos (row t r)) e) := by
  have h : (iblk m c 2 t : Vec Ideal S512x128 .f32) (ix2 r e) = (V m c main_v29 : Vec Ideal S2048x128 .f32) (ix2 (⟨512 * (t.val % 4) + r.val, by omega⟩ : Fin 2048) e) := by
    blk_ext [iblk, idx2 t]
  rw [h, V_c, layV_at, pos_row]

/-- The sine table's block of a step, at the positions of its rows. -/
theorem blk_s (t : Fin cfg0.N) (r : Fin 512) (e : Fin 128) : (iblk m c 3 t : Vec Ideal S512x128 .f32) (ix2 r e) = sinV (ix2 (pos (row t r)) e) := by
  have h : (iblk m c 3 t : Vec Ideal S512x128 .f32) (ix2 r e) = (V m c main_v31 : Vec Ideal S2048x128 .f32) (ix2 (⟨512 * (t.val % 4) + r.val, by omega⟩ : Fin 2048) e) := by
    blk_ext [iblk, idx3 t]
  rw [h, V_s, pos_row]
  rw [Host.negf_apply, layV_at, Host.negf_apply]
  exact neg_neg (sinV (ix2 (⟨512 * (t.val % 4) + r.val, by omega⟩ : Fin 2048) e) : EReal)

/-- A row of a table, counted by a natural number. -/
def posN (T : FVec Ideal S2048x128 .f32) (p : Fin 32768) (n : ℕ) : EReal := if h : n < 128 then T (ix2 (pos p) (⟨n, h⟩ : Fin 128)) else 0

/-- The result of the whole part, as one function of its arguments. -/
def outG (X : Vec Ideal S32768x1024 .f32) (W : Vec Ideal S1024x6144 .f32) : Vec Ideal S32768x6144 .bf16 := fun i =>
  outN (colN (fun k => X (ix2 (i 0) k)) W) (posN cosV (i 0)) (posN sinV (i 0)) (i 1).val

/-- The whole result as one function of the launch contents. -/
def res : Vec Ideal S32768x6144 .bf16 := outG (m ((c : Thread nD τ).loc main_arg0)) (m ((c : Thread nD τ).loc main_arg1))

/-- What a grid point leaves at an entry of its block. -/
theorem point_at (t : Fin cfg0.N) (y : S512x6144.Idx) : (outsAt0 m c t : Vec Ideal S512x6144 .bf16) y = res m c (ix2 (row t (y 0)) (y 1)) := by
  unfold outsAt0 out0_A_4
  rw [View.read_writes_junk_eq_canon, outA]
  refine (out_at _ _ _ _ y).trans ?_
  have hx : rowN (iblk m c 0 t) (y 0) = fun k => (m ((c : Thread nD τ).loc main_arg0) : Vec Ideal S32768x1024 .f32) (ix2 (row t (y 0)) k) := funext fun k => blk_x m c t (y 0) k
  have hc : tabN (iblk m c 2 t) (y 0) = posN cosV (row t (y 0)) := by
    funext n
    unfold tabN posN
    split
    · exact blk_c m c t (y 0) _
    · rfl
  have hs : tabN (iblk m c 3 t) (y 0) = posN sinV (row t (y 0)) := by
    funext n
    unfold tabN posN
    split
    · exact blk_s m c t (y 0) _
    · rfl
  unfold blkN res outG
  rw [hx, hc, hs, blk_w]
  rfl

/-- An index of the result from its two numbers. -/
theorem ix_of {x : S32768x6144.Idx} {t : Fin cfg0.N} {a : Fin 512} {b : Fin 6144} (h0 : (x 0).val = 512 * t.val + a.val) (h1 : (x 1).val = b.val) :
    ix2 (row t a) b = x := by
  funext d; fin_cases d
  · exact Fin.ext h0.symm
  · exact Fin.ext h1.symm

/-- The result after the run. -/
theorem result4 : (dats m 0 c).arrAt 4 cfg0.N = res m c := by
  refine (dats m 0 c).arrAt_eq_of_covers 4 _ (by decide +kernel) fun t hf y => ?_
  have e0 : ((((cfg0.win 4).blk t).view.emb y) 0).val = 512 * t.val + (y 0).val := by blk_simp [idx4 t]; omega
  have e1 : ((((cfg0.win 4).blk t).view.emb y) 1).val = (y 1).val := by blk_simp [idx4 t]
  refine (congrFun (Value.flushed4 m c t) y).trans ?_
  refine (point_at m c t y).trans ?_
  exact congrArg (res m c) (ix_of e0 e1)

end Cert.Ret.Rot
end
-- ==== Proof.RotRef.lean ====
/- The retention's input projection with its rotary: what the reference computes. -/
module

public import proofs.«01_k».proof.Proof.Rot
public import proofs.«01_k».proof.Proof.Gen.Reference3Ideal.Run
public import Idealize.ShloMosaic.Lib.Claim

@[expose] public section
set_option maxRecDepth 16384
noncomputable section
namespace Cert.Ret.Rot
open Cert.Reference3Ideal Cert.Reference3Ideal.Gen Idealize.ShloMosaic Idealize.ShloMosaic.TcCoe Idealize.SL.Sem

/-- The product, a sequence of rows per batch row. -/
def prjV (X : FVec Ideal S32768x1024 .f32) (W : FVec Ideal S1024x6144 .f32) : FVec Ideal S16x2048x6144 .f32 :=
  shapeCast _ (Host.dotGeneral dot_S32768x1024_S1024x6144_S32768x6144_1_0_0_1_n_n none X W) shapeCasts_S32768x6144_S16x2048x6144

/-- A part of it split into heads. -/
def headsV (Z : FVec Ideal S16x2048x1024 .f32) : FVec Ideal S16x4x2048x256 .f32 :=
  transpose S16x4x2048x256 [0, 2, 1, 3] (shapeCast _ Z shapeCasts_S16x2048x1024_S16x2048x4x256) transposes_S16x2048x4x256_S16x4x2048x256_0_2_1_3

/-- A table spread over batch rows and heads. -/
def sprV (T : FVec Ideal S2048x128 .f32) : FVec Ideal S16x4x2048x128 .f32 :=
  broadcastInDim S16x4x2048x128 ![0, 1, 2, 3] bcast_S1x1x2048x128_S16x4x2048x128_0_1_2_3 (broadcastInDim S1x1x2048x128 ![2, 3] bcast_S2048x128_S1x1x2048x128_2_3 T)

/-- The rotary of every head. -/
def rotV (H : FVec Ideal S16x4x2048x256 .f32) : FVec Ideal S16x4x2048x256 .f32 :=
  concatenate S16x4x2048x256 3 [⟨S16x4x2048x128, subf (mulf (extractStridedSlice S16x4x2048x128 ![0, 0, 0, 0] H slices_S16x4x2048x256_S16x4x2048x128_0_0_0_0) (sprV cosV)) (mulf (extractStridedSlice S16x4x2048x128 ![0, 0, 0, 128] H slices_S16x4x2048x256_S16x4x2048x128_0_0_0_128) (sprV sinV))⟩,
    ⟨S16x4x2048x128, addf (mulf (extractStridedSlice S16x4x2048x128 ![0, 0, 0, 0] H slices_S16x4x2048x256_S16x4x2048x128_0_0_0_0) (sprV sinV)) (mulf (extractStridedSlice S16x4x2048x128 ![0, 0, 0, 128] H slices_S16x4x2048x256_S16x4x2048x128_0_0_0_128) (sprV cosV))⟩]
    concatenates_S16x4x2048x128_S16x4x2048x128_S16x4x2048x256_d3

/-- The heads side by side again. -/
def joinV (H : FVec Ideal S16x4x2048x256 .f32) : FVec Ideal S16x2048x1024 .f32 :=
  shapeCast _ (transpose S16x2048x4x256 [0, 2, 1, 3] H transposes_S16x4x2048x256_S16x2048x4x256_0_2_1_3) shapeCasts_S16x2048x4x256_S16x2048x1024

/-- The four parts side by side. -/
def catV (q k : FVec Ideal S16x2048x1024 .f32) (v g : FVec Ideal S16x2048x2048 .f32) : FVec Ideal S16x2048x6144 .f32 :=
  concatenate S16x2048x6144 2 [⟨S16x2048x1024, q⟩, ⟨S16x2048x1024, k⟩, ⟨S16x2048x2048, v⟩, ⟨S16x2048x2048, g⟩] concatenates_S16x2048x1024_S16x2048x1024_S16x2048x2048_S16x2048x2048_S16x2048x6144_d2

/-- The reference's result from these parts. -/
def refV (X : FVec Ideal S32768x1024 .f32) (W : FVec Ideal S1024x6144 .f32) : FVec Ideal S32768x6144 .bf16 :=
  truncf .bf16 (shapeCast _ (catV
    (joinV (rotV (headsV (extractStridedSlice S16x2048x1024 ![0, 0, 0] (prjV X W) slices_S16x2048x6144_S16x2048x1024_0_0_0))))
    (joinV (mulf (rotV (headsV (extractStridedSlice S16x2048x1024 ![0, 0, 1024] (prjV X W) slices_S16x2048x6144_S16x2048x1024_0_0_1024))) (broadcastInDim S16x4x2048x256 ![] bcast_S_S16x4x2048x256 (constant S_ .f32 0x3D800000#32))))
    (extractStridedSlice S16x2048x2048 ![0, 0, 2048] (prjV X W) slices_S16x2048x6144_S16x2048x2048_0_0_2048)
    (extractStridedSlice S16x2048x2048 ![0, 0, 4096] (prjV X W) slices_S16x2048x6144_S16x2048x2048_0_0_4096)) shapeCasts_S16x2048x6144_S32768x6144) bitsLt_bf16_f32

/-- The reference's run ends with `refV` of its arguments. -/
theorem res_eq (m : (ℓ : Loc nD τ sig) → Buf (Elt Ideal) ℓ) (c : Dev nD) :
    Value.res_main_v91 m c = refV (m ((c.tc : Thread nD τ).loc main_arg0)) (m ((c.tc : Thread nD τ).loc main_arg1)) := by
  unfold Value.res_main_v91 refV catV joinV rotV headsV prjV sprV cosV sinV angV
  rfl

/-- Row `p` of batch row `b`. -/
def rowOf (b : Fin 16) (p : Fin 2048) : Fin 32768 := ⟨2048 * b.val + p.val, by omega⟩

/-- Row `p` of sequence `b` has position `p`. -/
theorem pos_rowOf (b : Fin 16) (p : Fin 2048) : pos (rowOf b p) = p := by
  apply Fin.ext
  show (2048 * b.val + p.val) % 2048 = p.val
  omega

section
variable (X : FVec Ideal S32768x1024 .f32) (W : FVec Ideal S1024x6144 .f32) (b : Fin 16) (p : Fin 2048)

/-- A row of the product, counted by a natural number. -/
abbrev PN : ℕ → EReal := colN (fun k => X (ix2 (rowOf b p) k)) W

/-- The reference's projection at a sequence, a position and a column. -/
theorem prj_at (n : Fin 6144) : prjV X W (ix3 b p n) = PN X W b p n.val := by
  unfold prjV PN colN
  rw [dif_pos n.isLt]
  refine (shapeCast_apply _ _ _ (ix2 (rowOf b p) n) ?_).trans ?_
  · simp only [Shape.rowMajor_val_two, Shape.rowMajor_val_three, ix2, ix3]
    show (2048 * b.val + p.val) * 6144 + n.val = (b.val * 2048 + p.val) * 6144 + n.val
    omega
  · pointwise

/-- Splitting the columns into four heads: head `h`, column `e` is column `256 h + e`. -/
theorem heads_at (Z : FVec Ideal S16x2048x1024 .f32) (h : Fin 4) (e : Fin 256) :
    headsV Z (ix4 b h p e) = Z (ix3 b p (⟨256 * h.val + e.val, by omega⟩ : Fin 1024)) := by
  unfold headsV
  have h1 : ∀ Y : FVec Ideal S16x2048x4x256 .f32, transpose S16x4x2048x256 [0, 2, 1, 3] Y transposes_S16x2048x4x256_S16x4x2048x256_0_2_1_3 (ix4 b h p e) = Y (ix4 b p h e) := by
    intro Y
    pointwise
  refine (h1 _).trans (shapeCast_apply _ _ _ _ ?_)
  simp only [Shape.rowMajor_val_four, Shape.rowMajor_val_three, ix4, ix3]
  show (b.val * 2048 + p.val) * 1024 + (256 * h.val + e.val) = ((b.val * 2048 + p.val) * 4 + h.val) * 256 + e.val
  omega

/-- Joining the heads again: column `n` is column `n % 256` of head `n / 256`. -/
theorem join_at (H : FVec Ideal S16x4x2048x256 .f32) (n : Fin 1024) :
    joinV H (ix3 b p n) = H (ix4 b (⟨n.val / 256, by omega⟩ : Fin 4) p (⟨n.val % 256, Nat.mod_lt _ (by decide)⟩ : Fin 256)) := by
  unfold joinV
  have h1 : ∀ (h : Fin 4) (e : Fin 256), transpose S16x2048x4x256 [0, 2, 1, 3] H transposes_S16x4x2048x256_S16x2048x4x256_0_2_1_3 (ix4 b p h e) = H (ix4 b h p e) := by
    intro h e
    pointwise
  refine (shapeCast_apply _ _ _ (ix4 b p (⟨n.val / 256, by omega⟩ : Fin 4) (⟨n.val % 256, Nat.mod_lt _ (by decide)⟩ : Fin 256)) ?_).trans (h1 _ _)
  simp only [Shape.rowMajor_val_four, Shape.rowMajor_val_three, ix4, ix3]
  show ((b.val * 2048 + p.val) * 4 + n.val / 256) * 256 + n.val % 256 = (b.val * 2048 + p.val) * 1024 + n.val
  omega

/-- A table spread over sequences and heads is the table. -/
theorem spr_at (T : FVec Ideal S2048x128 .f32) (h : Fin 4) (e : Fin 128) : sprV T (ix4 b h p e) = T (ix2 p e) := by
  unfold sprV
  pointwise

/-- The rotary of a head at an entry of its first half. -/
theorem rot_lo (H : FVec Ideal S16x4x2048x256 .f32) (h : Fin 4) (e : Fin 256) (he : e.val < 128) :
    rotV H (ix4 b h p e) = H (ix4 b h p e) * cosV (ix2 p (⟨e.val, he⟩ : Fin 128)) - H (ix4 b h p (⟨e.val + 128, by omega⟩ : Fin 256)) * sinV (ix2 p (⟨e.val, he⟩ : Fin 128)) := by
  rw [← spr_at b p cosV h ⟨e.val, he⟩, ← spr_at b p sinV h ⟨e.val, he⟩]
  unfold rotV
  generalize sprV cosV = C
  generalize sprV sinV = S
  pointwise
  rw [dif_pos he]
  rw [show (⟨128 + e.val, by omega⟩ : Fin 256) = ⟨e.val + 128, by omega⟩ from Fin.ext (Nat.add_comm _ _)]

/-- At an entry of its second half. -/
theorem rot_hi (H : FVec Ideal S16x4x2048x256 .f32) (h : Fin 4) (e : Fin 256) (he : ¬ e.val < 128) :
    rotV H (ix4 b h p e) = H (ix4 b h p (⟨e.val - 128, by omega⟩ : Fin 256)) * sinV (ix2 p (⟨e.val - 128, by omega⟩ : Fin 128)) + H (ix4 b h p e) * cosV (ix2 p (⟨e.val - 128, by omega⟩ : Fin 128)) := by
  rw [← spr_at b p cosV h ⟨e.val - 128, by omega⟩, ← spr_at b p sinV h ⟨e.val - 128, by omega⟩]
  unfold rotV
  generalize sprV cosV = C
  generalize sprV sinV = S
  pointwise
  rw [dif_neg he]
  rw [show (⟨128 + (e.val - 128), by omega⟩ : Fin 256) = e from Fin.ext (by show 128 + (e.val - 128) = e.val; omega)]

/-- The four parts side by side: which part a column comes from. -/
theorem cat_at (q k : FVec Ideal S16x2048x1024 .f32) (v g : FVec Ideal S16x2048x2048 .f32) (n : Fin 6144) :
    catV q k v g (ix3 b p n) = if h1 : n.val < 1024 then q (ix3 b p ⟨n.val, h1⟩) else if h2 : n.val < 2048 then k (ix3 b p (⟨n.val - 1024, by omega⟩ : Fin 1024))
      else if h3 : n.val < 4096 then v (ix3 b p (⟨n.val - 2048, by omega⟩ : Fin 2048)) else g (ix3 b p (⟨n.val - 4096, by omega⟩ : Fin 2048)) := by
  unfold catV
  pointwise
  split
  · rfl
  · rename_i h1
    by_cases h2 : n.val < 2048
    · rw [dif_pos (by omega), dif_pos h2]
    · rw [dif_neg (by omega), dif_neg h2]
      by_cases h3 : n.val < 4096
      · rw [dif_pos (by omega), dif_pos h3]
        exact congrArg (fun a => v (ix3 b p a)) (Fin.ext (by show n.val - 1024 - 1024 = n.val - 2048; omega))
      · rw [dif_neg (by omega), dif_neg h3]
        exact congrArg (fun a => g (ix3 b p a)) (Fin.ext (by show n.val - 1024 - 1024 - 2048 = n.val - 4096; omega))

/-- A slice of the projection's columns, entry by entry. -/
theorem slice3_at (Z : FVec Ideal S16x2048x6144 .f32) (w o : ℕ) (h : S16x2048x6144.Slices ![0, 0, o] ⟨3, ![16, 2048, w]⟩) (n : Fin w) (hn : o + n.val < 6144) :
    extractStridedSlice (⟨3, ![16, 2048, w]⟩ : Shape) ![0, 0, o] Z h (ix3 b p n) = Z (ix3 b p (⟨o + n.val, hn⟩ : Fin 6144)) := by
  refine extractStridedSlice_apply _ _ _ _ _ ?_
  intro x
  match x with
  | ⟨0, _⟩ => show b.val = 0 + b.val; omega
  | ⟨1, _⟩ => show p.val = 0 + p.val; omega
  | ⟨2, _⟩ => rfl

/-- The rotary of a part `Z` of the product, the heads side by side, at an entry. -/
theorem rot_at (Z : FVec Ideal S16x2048x1024 .f32) (P : ℕ → EReal) (o : ℕ) (ho : o % 256 = 0) (hZ : ∀ j : Fin 1024, Z (ix3 b p j) = P (o + j.val)) (n : Fin 1024) :
    rotV (headsV Z) (ix4 b (⟨n.val / 256, by omega⟩ : Fin 4) p (⟨n.val % 256, Nat.mod_lt _ (by decide)⟩ : Fin 256)) = headN P (posN cosV (rowOf b p)) (posN sinV (rowOf b p)) (o + n.val) := by
  have q : (o + n.val) % 256 = n.val % 256 := by omega
  unfold headN
  rw [q]
  by_cases hlt : n.val % 256 < 128
  · rw [if_pos hlt, rot_lo b p _ _ _ hlt, heads_at, heads_at, hZ, hZ]
    unfold posN
    rw [dif_pos hlt, dif_pos hlt, pos_rowOf]
    show P (o + (256 * (n.val / 256) + n.val % 256)) * _ - P (o + (256 * (n.val / 256) + (n.val % 256 + 128))) * _ = _
    rw [show o + (256 * (n.val / 256) + n.val % 256) = o + n.val by omega, show o + (256 * (n.val / 256) + (n.val % 256 + 128)) = o + n.val + 128 by omega]
  · have hs : n.val % 256 - 128 < 128 := by omega
    rw [if_neg hlt, rot_hi b p _ _ _ hlt, heads_at, heads_at, hZ, hZ]
    unfold posN
    rw [dif_pos hs, dif_pos hs, pos_rowOf]
    show P (o + (256 * (n.val / 256) + (n.val % 256 - 128))) * _ + P (o + (256 * (n.val / 256) + n.val % 256)) * _ = _
    rw [show o + (256 * (n.val / 256) + n.val % 256) = o + n.val by omega, show o + (256 * (n.val / 256) + (n.val % 256 - 128)) = o + n.val - 128 by omega]

/-- The reference's result at an entry, before the last reshape. -/
theorem ref_at (n : Fin 6144) : refV X W (ix2 (rowOf b p) n) = outN (PN X W b p) (posN cosV (rowOf b p)) (posN sinV (rowOf b p)) n.val := by
  unfold refV
  rw [truncf_apply]
  refine (shapeCast_apply _ _ _ (ix3 b p n) ?_).trans ?_
  · simp only [Shape.rowMajor_val_two, Shape.rowMajor_val_three, ix2, ix3]
    show (b.val * 2048 + p.val) * 6144 + n.val = (2048 * b.val + p.val) * 6144 + n.val
    omega
  rw [cat_at]
  unfold outN
  have hp : ∀ (o : ℕ) (j : Fin 1024) (h : o + j.val < 6144), prjV X W (ix3 b p (⟨o + j.val, h⟩ : Fin 6144)) = PN X W b p (o + j.val) := fun o j h => prj_at X W b p _
  by_cases h1 : n.val < 1024
  · rw [dif_pos h1, if_pos h1, join_at]
    refine (rot_at b p _ (PN X W b p) 0 rfl (fun j => (slice3_at b p _ 1024 0 _ j (by omega)).trans (hp 0 j _)) (⟨n.val, h1⟩ : Fin 1024)).trans ?_
    rw [show 0 + (⟨n.val, h1⟩ : Fin 1024).val = n.val from Nat.zero_add _]
  rw [dif_neg h1, if_neg h1]
  by_cases h2 : n.val < 2048
  · rw [dif_pos h2, if_pos h2, join_at]
    refine (congrArg (· * sc) (rot_at b p _ (PN X W b p) 1024 rfl (fun j => (slice3_at b p _ 1024 1024 _ j (by omega)).trans (hp 1024 j _)) (⟨n.val - 1024, by omega⟩ : Fin 1024))).trans ?_
    rw [show 1024 + (⟨n.val - 1024, by omega⟩ : Fin 1024).val = n.val by show 1024 + (n.val - 1024) = n.val; omega]
  rw [dif_neg h2, if_neg h2]
  by_cases h3 : n.val < 4096
  · rw [dif_pos h3]
    refine (slice3_at b p _ 2048 2048 _ _ (by show 2048 + (n.val - 2048) < 6144; omega)).trans ((prj_at X W b p _).trans ?_)
    exact congrArg _ (by show 2048 + (n.val - 2048) = n.val; omega)
  · rw [dif_neg h3]
    refine (slice3_at b p _ 2048 4096 _ _ (by show 4096 + (n.val - 4096) < 6144; omega)).trans ((prj_at X W b p _).trans ?_)
    exact congrArg _ (by show 4096 + (n.val - 4096) = n.val; omega)
end

/-- The reference computes the same function of the arguments. -/
theorem ref_eq (X : FVec Ideal S32768x1024 .f32) (W : FVec Ideal S1024x6144 .f32) : refV X W = outG X W := by
  funext i
  obtain ⟨r, n, rfl⟩ : ∃ (r : Fin 32768) (n : Fin 6144), i = ix2 r n := ⟨i 0, i 1, eq_ix2 i⟩
  obtain ⟨b, p, rfl⟩ : ∃ (b : Fin 16) (p : Fin 2048), r = rowOf b p := ⟨⟨r.val / 2048, by omega⟩, ⟨r.val % 2048, Nat.mod_lt _ (by decide)⟩, Fin.ext (by show r.val = 2048 * (r.val / 2048) + r.val % 2048; omega)⟩
  exact ref_at X W b p n

/-- The reference's run, its result as the same function of the arguments. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v91) = outG (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((res_eq m c).trans (ref_eq _ _)), (h c).2⟩) (Value.run (F := Ideal) m ρ)
end Cert.Ret.Rot
end
-- ==== Proof.Proj.lean ====
/- The output projection with residual and layer norm: the kernel's results are the reference's. -/
module

public import proofs.«01_k».proof.Proof.Norm
public import proofs.«01_k».proof.Proof.Gen.Kernel4Ideal.Value
public import Idealize.ShloMosaic.Lib.Pipeline.ValueKit.Point

@[expose] public section
set_option maxRecDepth 16384
noncomputable section
namespace Cert.Ret.Proj
open Cert.Kernel4Ideal Cert.Kernel4Ideal.Gen Idealize.ShloMosaic Idealize.ShloMosaic.TcCoe Idealize.SL.Sem

/-- The stored block at an entry. -/
theorem pay1_at (y : Vec Ideal S1024x2048 .bf16) (w : Vec Ideal S2048x1024 .bf16) (x : Vec Ideal S1024x1024 .f32) (g b : Vec Ideal S1x1024 .f32) (r j : Fin 1024) :
    k0_pay1 y w x g b (ix2 r j) = lnAt (fun k => alpha * x (ix2 r k) + ∑ s : Fin 2048, y (ix2 r s) * w (ix2 s k)) (g (ix2 (0 : Fin 1) j)) (b (ix2 (0 : Fin 1) j)) j := by
  unfold k0_pay1 lnAt mean alpha
  pointwise

variable (m : (ℓ : Loc nD τ sig) → Buf (Elt Ideal) ℓ) (c : Dev nD)

theorem V_w : V m c main_v0 = (m ((c : Thread nD τ).loc main_arg1) : Vec Ideal S2048x1024 .f32) := by
  simp only [V, hostOps0, List.flatten_cons, List.flatten_nil, List.append_nil, List.cons_append, List.nil_append]
  after_results
  rfl

/-- The gain as a row. -/
theorem V_g : V m c main_v1 = (shapeCast S1x1024 (m ((c : Thread nD τ).loc main_arg3) : Vec Ideal S1024 .f32) shapeCasts_S1024_S1x1024 : Vec Ideal S1x1024 .f32) := by
  simp only [V, hostOps0, List.flatten_cons, List.flatten_nil, List.append_nil, List.cons_append, List.nil_append]
  after_results
  rfl

/-- The shift as a row. -/
theorem V_b : V m c main_v2 = (shapeCast S1x1024 (m ((c : Thread nD τ).loc main_arg4) : Vec Ideal S1024 .f32) shapeCasts_S1024_S1x1024 : Vec Ideal S1x1024 .f32) := by
  simp only [V, hostOps0, List.flatten_cons, List.flatten_nil, List.append_nil, List.cons_append, List.nil_append]
  after_results
  rfl

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![t.val, 0] := by decide +kernel
theorem idx6 : ∀ t : Fin grid0.N, win0_6.index t = ![t.val, 0] := by decide +kernel

theorem hN (t : Fin cfg0.N) : t.val < 32 := lt_of_lt_of_eq t.isLt (show cfg0.N = 32 from N_0)

/-- The array's row that a block's row is. -/
def row (t : Fin cfg0.N) (r : Fin 1024) : Fin 32768 := ⟨1024 * t.val + r.val, by have := hN t; omega⟩

theorem blk_y (t : Fin cfg0.N) (r : Fin 1024) (s : Fin 2048) :
    (iblk m c 0 t : Vec Ideal S1024x2048 .bf16) (ix2 r s) = (m ((c : Thread nD τ).loc main_arg0) : Vec Ideal S32768x2048 .bf16) (ix2 (row t r) s) := by
  rw [← V_main_arg0 m c]
  unfold row
  blk_ext [iblk, idx0 t]

theorem blk_w (t : Fin cfg0.N) (s : Fin 2048) (k : Fin 1024) :
    (iblk m c 1 t : Vec Ideal S2048x1024 .bf16) (ix2 s k) = (m ((c : Thread nD τ).loc main_arg1) : Vec Ideal S2048x1024 .f32) (ix2 s k) := by
  rw [← V_w m c]
  blk_ext [iblk, idx1 t]

theorem blk_x (t : Fin cfg0.N) (r k : Fin 1024) :
    (iblk m c 2 t : Vec Ideal S1024x1024 .f32) (ix2 r k) = (m ((c : Thread nD τ).loc main_arg2) : Vec Ideal S32768x1024 .f32) (ix2 (row t r) k) := by
  rw [← V_main_arg2 m c]
  unfold row
  blk_ext [iblk, idx2 t]

/-- A row reshaped from a vector at an entry. -/
theorem cast_row (X : Vec Ideal S1024 .f32) (hc : S1024.ShapeCasts S1x1024) (e : Fin 1024) :
    shapeCast S1x1024 X hc (ix2 (0 : Fin 1) e) = X (ix1 e) := by
  refine shapeCast_apply _ _ _ _ ?_
  simp only [Shape.rowMajor_val_one, Shape.rowMajor_val_two, ix1, ix2]
  show e.val = 0 * 1024 + e.val
  omega

theorem blk_g (t : Fin cfg0.N) (k : Fin 1024) :
    (iblk m c 3 t : Vec Ideal S1x1024 .f32) (ix2 (0 : Fin 1) k) = (m ((c : Thread nD τ).loc main_arg3) : Vec Ideal S1024 .f32) (ix1 k) := by
  have h : (iblk m c 3 t : Vec Ideal S1x1024 .f32) (ix2 (0 : Fin 1) k) = (V m c main_v1 : Vec Ideal S1x1024 .f32) (ix2 (0 : Fin 1) k) := by
    blk_ext [iblk, idx3 t]
  rw [h, V_g, cast_row]

theorem blk_b (t : Fin cfg0.N) (k : Fin 1024) :
    (iblk m c 4 t : Vec Ideal S1x1024 .f32) (ix2 (0 : Fin 1) k) = (m ((c : Thread nD τ).loc main_arg4) : Vec Ideal S1024 .f32) (ix1 k) := by
  have h : (iblk m c 4 t : Vec Ideal S1x1024 .f32) (ix2 (0 : Fin 1) k) = (V m c main_v2 : Vec Ideal S1x1024 .f32) (ix2 (0 : Fin 1) k) := by
    blk_ext [iblk, idx4 t]
  rw [h, V_b, cast_row]

/-- The result of the whole part, as one function of its arguments. -/
def outG (Y : Vec Ideal S32768x2048 .bf16) (W : Vec Ideal S2048x1024 .f32) (X : Vec Ideal S32768x1024 .f32) (g b : Vec Ideal S1024 .f32) : Vec Ideal S32768x1024 .f32 := fun i =>
  lnAt (fun k => alpha * X (ix2 (i 0) k) + ∑ s : Fin 2048, Y (ix2 (i 0) s) * W (ix2 s k)) (g (ix1 (i 1))) (b (ix1 (i 1))) (i 1)

/-- What a grid point computes at an entry of its block. -/
theorem point_at (t : Fin cfg0.N) (r j : Fin 1024) :
    k0_pay1 (iblk m c 0 t) (iblk m c 1 t) (iblk m c 2 t) (iblk m c 3 t) (iblk m c 4 t) (ix2 r j)
      = outG (m ((c : Thread nD τ).loc main_arg0)) (m ((c : Thread nD τ).loc main_arg1)) (m ((c : Thread nD τ).loc main_arg2)) (m ((c : Thread nD τ).loc main_arg3)) (m ((c : Thread nD τ).loc main_arg4)) (ix2 (row t r) j) := by
  rw [pay1_at, blk_g, blk_b]
  simp only [blk_x, blk_y, blk_w]
  rfl

/-- The whole result as one function of the launch contents. -/
def res : Vec Ideal S32768x1024 .f32 :=
  outG (m ((c : Thread nD τ).loc main_arg0)) (m ((c : Thread nD τ).loc main_arg1)) (m ((c : Thread nD τ).loc main_arg2)) (m ((c : Thread nD τ).loc main_arg3)) (m ((c : Thread nD τ).loc main_arg4))

theorem after5 (t : Fin cfg0.N) (y : S1024x1024.Idx) :
    (out0_5 (iblk m c 0 t) (iblk m c 1 t) (iblk m c 2 t) (iblk m c 3 t) (iblk m c 4 t) : Vec Ideal S1024x1024 .f32) y = res m c (ix2 (row t (y 0)) (y 1)) := by
  have hz : (![0, 0] : Fin 2 → ℕ) = fun _ => 0 := by funext d; fin_cases d <;> rfl
  unfold out0_5
  rw [View.canon_unit_zero hz]
  rw [View.ld_unit_zero (S := S1024x2048) hz, View.ld_unit_zero (S := S2048x1024) hz, View.ld_unit_zero (S := S1024x1024) hz, View.ld_unit_zero (S := S1x1024) hz, View.ld_unit_zero (S := S1x1024) hz]
  exact (congrArg _ (eq_ix2 y)).trans (point_at m c t (y 0) (y 1))

theorem after6 (t : Fin cfg0.N) (y : S1024x1024.Idx) :
    (out0_6 (iblk m c 0 t) (iblk m c 1 t) (iblk m c 2 t) (iblk m c 3 t) (iblk m c 4 t) : Vec Ideal S1024x1024 .bf16) y = res m c (ix2 (row t (y 0)) (y 1)) := by
  have hz : (![0, 0] : Fin 2 → ℕ) = fun _ => 0 := by funext d; fin_cases d <;> rfl
  unfold out0_6
  rw [View.canon_unit_zero hz]
  rw [View.ld_unit_zero (S := S1024x2048) hz, View.ld_unit_zero (S := S2048x1024) hz, View.ld_unit_zero (S := S1024x1024) hz, View.ld_unit_zero (S := S1x1024) hz, View.ld_unit_zero (S := S1x1024) hz]
  exact (congrArg _ (eq_ix2 y)).trans (point_at m c t (y 0) (y 1))

/-- An index of the result from its two numbers. -/
theorem ix_of {x : S32768x1024.Idx} {t : Fin cfg0.N} {a b : Fin 1024} (h0 : (x 0).val = 1024 * t.val + a.val) (h1 : (x 1).val = b.val) :
    ix2 (row t a) b = x := by
  funext d; fin_cases d
  · exact Fin.ext h0.symm
  · exact Fin.ext h1.symm

/-- The first result after the run. -/
theorem result5 : (dats m 0 c).arrAt 5 cfg0.N = res m c := by
  refine (dats m 0 c).arrAt_eq_of_covers 5 _ (by decide +kernel) fun t hf y => ?_
  have e0 : ((((cfg0.win 5).blk t).view.emb y) 0).val = 1024 * t.val + (y 0).val := by blk_simp [idx5 t]; omega
  have e1 : ((((cfg0.win 5).blk t).view.emb y) 1).val = (y 1).val := by blk_simp [idx5 t]
  refine (congrFun (Value.flushed5 m c t) y).trans ?_
  refine (after5 m c t y).trans ?_
  exact congrArg (res m c) (ix_of e0 e1)

/-- The second result after the run. -/
theorem result6 : (dats m 0 c).arrAt 6 cfg0.N = (res m c : Vec Ideal S32768x1024 .bf16) := by
  refine (dats m 0 c).arrAt_eq_of_covers 6 _ (by decide +kernel) fun t hf y => ?_
  have e0 : ((((cfg0.win 6).blk t).view.emb y) 0).val = 1024 * t.val + (y 0).val := by blk_simp [idx6 t]; omega
  have e1 : ((((cfg0.win 6).blk t).view.emb y) 1).val = (y 1).val := by blk_simp [idx6 t]
  refine (congrFun (Value.flushed6 m c t) y).trans ?_
  refine (after6 m c t y).trans ?_
  exact congrArg (res m c) (ix_of e0 e1)
end Cert.Ret.Proj
end
-- ==== Proof.ProjRef.lean ====
/- The output projection with residual and layer norm: what the reference computes. -/
module

public import proofs.«01_k».proof.Proof.Proj
public import proofs.«01_k».proof.Proof.Gen.Reference4Ideal.Run
public import Idealize.ShloMosaic.Lib.Claim

@[expose] public section
set_option maxRecDepth 16384
noncomputable section
namespace Cert.Ret.Proj
open Cert.Reference4Ideal Cert.Reference4Ideal.Gen Idealize.ShloMosaic Idealize.ShloMosaic.TcCoe Idealize.SL.Sem

/-- The reference's run, its results as the same function of the arguments. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = outG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v29) = outG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2.1.trans ?_, (h c).2.2⟩) (Value.run (F := Ideal) m ρ)
  all_goals
    generalize m ((c.tc : Thread nD τ).loc main_arg0) = Y
    generalize m ((c.tc : Thread nD τ).loc main_arg1) = W
    generalize m ((c.tc : Thread nD τ).loc main_arg2) = X
    generalize m ((c.tc : Thread nD τ).loc main_arg3) = g
    generalize m ((c.tc : Thread nD τ).loc main_arg4) = b
    funext i
    rw [eq_ix2 i]
    generalize i 0 = r
    generalize i 1 = j
    unfold outG lnAt mean alpha
    pointwise
end Cert.Ret.Proj
end
-- ==== Proof.MoeBody.lean ====
/- The expert kernel's body, one statement per way through it: what the running sum and the output block hold
   afterwards, over any float values. -/
module

public import proofs.«01_k».proof.Proof.Gen.Kernel5Ideal.Launch
public import proofs.«01_k».proof.Proof.Gen.Kernel5Ideal.Skeleton
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.Pipeline.Value

@[expose] public section

set_option maxRecDepth 16384

noncomputable section

namespace Cert.Ret.Moe

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table naming each tile's expert, as the body is handed it. -/
abbrev tbE : Memref sig .tc .smem S136 .i32 := Memref.whole main_v18
/-- The table saying which tiles hold rows. -/
abbrev tbV : Memref sig .tc .smem S136 .i32 := Memref.whole main_v23
/-- The running sum over the hidden units. -/
abbrev sc : Memref sig .tc .vmem S512x1024 .f32 := Memref.whole cc0_scratch0

/-- The word of the second table the body's first load reads. -/
abbrev word1 (T : S136.Idx → Elt F .i32) (i : grid0.Coords) : BitVec 32 :=
  View.readAt (Elt F) tbV.view (Rect.unit (s := S136) (k0_off1 i) S1.size (k0_off1_inb i)).toLoadRect T (Shape.Idx.first (numel1_S1.symm ▸ Nat.one_pos))
/-- The word of the second table the body's last load reads. -/
abbrev word2 (T : S136.Idx → Elt F .i32) (i : grid0.Coords) : BitVec 32 :=
  View.readAt (Elt F) tbV.view (Rect.unit (s := S136) (k0_off2 i) S1.size (k0_off2_inb i)).toLoadRect T (Shape.Idx.first (numel1_S1.symm ▸ Nat.one_pos))
/-- The body's test for the first block of hidden units. -/
abbrev isFirst (i : grid0.Coords) : BitVec 1 := Scalar.cmpi .ne (Scalar.extui (Scalar.cmpi .eq (BitVec.ofNat 32 (i 1).val) 0#32) : BitVec 32) 0#32
/-- The body's test for a later block of hidden units. -/
abbrev isLater (i : grid0.Coords) : BitVec 1 := Scalar.cmpi .ne (Scalar.extui (Scalar.cmpi .sgt (BitVec.ofNat 32 (i 1).val) 0#32) : BitVec 32) 0#32

/-- The gate's column of the block of gates. -/
abbrev col (x1 : Vec F S512x128 .f32) : Vec F S512x1 .f32 := View.ld x1 (Rect.unit (s := S512x128) ![0, 0] S512x1.size inb_S512x128_S512x1_0_0)

theorem hz2 : (![0, 0] : Fin 2 → ℕ) = fun _ => 0 := by funext d; fin_cases d <;> rfl
theorem hz3 : (![0, 0, 0] : Fin 3 → ℕ) = fun _ => 0 := by funext d; fin_cases d <;> rfl

/-- Storing a whole block leaves the block stored. -/
theorem stored {S : Shape} {e : EltTy} (v : View sig .tc .vmem S e) (f : v.ty.Contents (Elt F)) {off : Fin S.rank → ℕ} (h : off = fun _ => 0)
    (inb : ∀ a, off a + S.size a ≤ S.size a) (w : S.Idx → Elt F e) :
    v.read (Elt F) (v.writes (Elt F) f [(⟨Rect.unit (s := S) off S.size inb, w⟩ : View.Piece (Elt F) S e)]) = w := by
  refine (View.read_writes_eq_canon v f _ fun y => ?_).trans (View.canon_unit_zero h inb w)
  exact ⟨_, List.mem_singleton_self _, View.mem_set_unit_zero h inb y⟩

/-- Loading a whole block of a buffer reads what the buffer holds. -/
theorem loaded {S : Shape} {e : EltTy} (v : View sig .tc .vmem S e) {f : v.ty.Contents (Elt F)} {x : S.Idx → Elt F e} (hf : v.read (Elt F) f = x)
    {off : Fin S.rank → ℕ} (h : off = fun _ => 0) (inb : ∀ a, off a + S.size a ≤ S.size a) :
    View.readAt (Elt F) v (Rect.unit (s := S) off S.size inb).toLoadRect f = x := by
  rw [View.readAt_eq_ld, hf, View.ld_unit_zero h]

variable (c : Dev nD) (i : grid0.Coords)
  (arg4 : Memref sig .tc .vmem S512x1024 .bf16) (harg4 : arg4.IsWhole) (arg5 : Memref sig .tc .vmem S512x128 .f32) (harg5 : arg5.IsWhole)
  (arg6 : Memref sig .tc .vmem S1x1024x896 .bf16) (harg6 : arg6.IsWhole) (arg7 : Memref sig .tc .vmem S1x1024x896 .bf16) (harg7 : arg7.IsWhole)
  (arg8 : Memref sig .tc .vmem S1x896x1024 .bf16) (harg8 : arg8.IsWhole) (arg9 : Memref sig .tc .vmem S512x1024 .bf16) (harg9 : arg9.IsWhole)
  (T0 T1 : S136.Idx → Elt F .i32)
  (x0 : S512x1024.Idx → Elt F .bf16) (x1 : S512x128.Idx → Elt F .f32) (x2 x3 : S1x1024x896.Idx → Elt F .bf16) (x4 : S1x896x1024.Idx → Elt F .bf16)
  (xa : S512x1024.Idx → Elt F .f32)

/-- What the body is handed and hands back, the running sum at `a` and the output block at what `o` says. -/
def holds (a : S512x1024.Idx → Elt F .f32) (o : sProp 𝕄) : sProp 𝕄 :=
  iprop(owns (c : Thread nD τ) arg4 fullShare x0 ∗ owns (c : Thread nD τ) arg5 fullShare x1
    ∗ owns (c : Thread nD τ) arg6 fullShare x2 ∗ owns (c : Thread nD τ) arg7 fullShare x3 ∗ owns (c : Thread nD τ) arg8 fullShare x4
    ∗ (tbE.view.loc (c : Thread nD τ) ↦{fullShare.right} T0) ∗ (tbV.view.loc (c : Thread nD τ) ↦{fullShare.right} T1)
    ∗ owns (c : Thread nD τ) sc fullShare a ∗ o)

/-- The body on these buffers. -/
abbrev bodyOn : Prog (TpuEff nD τ sig (Elt F) Λ₀ .tc) PUnit :=
  cc0__moe_kernel i tbE (Memref.isWhole_whole _) tbV (Memref.isWhole_whole _) arg4 harg4 arg5 harg5 arg6 harg6 arg7 harg7 arg8 harg8 arg9 harg9 sc (Memref.isWhole_whole _)

set_option maxHeartbeats 8000000 in
/-- At the first block of hidden units of a tile with rows the running sum becomes that block's contribution. -/
theorem body_first (y : S512x1024.Idx → Elt F .bf16) (h1 : k0_cond1 (word1 T1 i) = 1#1) (h2 : isFirst i = 1#1) (h3 : ¬isLater i = 1#1) (h4 : ¬k0_cond4 i = 1#1) (h5 : ¬k0_cond5 i (word2 T1 i) = 1#1) (K : PUnit → sProp 𝕄) :
    iprop(holds c arg4 arg5 arg6 arg7 arg8 T0 T1 x0 x1 x2 x3 x4 xa (owns (c : Thread nD τ) arg9 fullShare y)
        ∗ (holds c arg4 arg5 arg6 arg7 arg8 T0 T1 x0 x1 x2 x3 x4 (k0_pay2 x0 x2 x3 (col x1) x4) (owns (c : Thread nD τ) arg9 fullShare y) -∗ K ⟨⟩))
      ⊢ wp frame (wpE (defs₀ (F := F)) Variants.none c none) Set.univ (bodyOn i arg4 harg4 arg5 harg5 arg6 harg6 arg7 harg7 arg8 harg8 arg9 harg9) K := by
  unfold bodyOn holds owns
  rw [cc0__moe_kernel_eq_skeleton]; unfold cc0__moe_kernel_skel
  iintro ⟨⟨⟨%f0, %hf0, H0⟩, ⟨%f1, %hf1, H1⟩, ⟨%f2, %hf2, H2⟩, ⟨%f3, %hf3, H3⟩, ⟨%f4, %hf4, H4⟩, HT0, HT1, ⟨%fs, %hfs, HS⟩, ⟨%f5, %hf5, HO⟩⟩, Hk⟩
  obtain rfl := harg4.eq_unread hf0
  obtain rfl := harg5.eq_unread hf1
  obtain rfl := harg6.eq_unread hf2
  obtain rfl := harg7.eq_unread hf3
  obtain rfl := harg8.eq_unread hf4
  have hT0 : tbE.IsWhole := Memref.isWhole_whole _
  have hT1 : tbV.IsWhole := Memref.isWhole_whole _
  have hS : sc.IsWhole := Memref.isWhole_whole _
  sl_exec! (disch := first | exact h1 | exact h2 | exact h3 | exact h4 | exact h5)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [HT0]; · iexact HT0
  isplitl [HT1]; · iexact HT1
  isplitl [HS]
  · iexists _; isplitr; swap
    · iexact HS
    · ipureintro
      unfold body_first.sl.HS_1
      rw [stored _ _ hz2, loaded arg4.view hf0 hz2, loaded arg6.view hf2 hz3, loaded arg7.view hf3 hz3, loaded arg8.view hf4 hz3, View.readAt_eq_ld, hf1]
  · iexists _; isplitr; swap
    · iexact HO
    · ipureintro
      exact hf5

set_option maxHeartbeats 8000000 in
/-- At a later block that is not the last the contribution is added. -/
theorem body_later (y : S512x1024.Idx → Elt F .bf16) (h1 : k0_cond1 (word1 T1 i) = 1#1) (h2 : ¬isFirst i = 1#1) (h3 : isLater i = 1#1) (h4 : ¬k0_cond4 i = 1#1) (h5 : ¬k0_cond5 i (word2 T1 i) = 1#1) (K : PUnit → sProp 𝕄) :
    iprop(holds c arg4 arg5 arg6 arg7 arg8 T0 T1 x0 x1 x2 x3 x4 xa (owns (c : Thread nD τ) arg9 fullShare y)
        ∗ (holds c arg4 arg5 arg6 arg7 arg8 T0 T1 x0 x1 x2 x3 x4 (k0_pay3 x0 x2 x3 (col x1) x4 xa) (owns (c : Thread nD τ) arg9 fullShare y) -∗ K ⟨⟩))
      ⊢ wp frame (wpE (defs₀ (F := F)) Variants.none c none) Set.univ (bodyOn i arg4 harg4 arg5 harg5 arg6 harg6 arg7 harg7 arg8 harg8 arg9 harg9) K := by
  unfold bodyOn holds owns
  rw [cc0__moe_kernel_eq_skeleton]; unfold cc0__moe_kernel_skel
  iintro ⟨⟨⟨%f0, %hf0, H0⟩, ⟨%f1, %hf1, H1⟩, ⟨%f2, %hf2, H2⟩, ⟨%f3, %hf3, H3⟩, ⟨%f4, %hf4, H4⟩, HT0, HT1, ⟨%fs, %hfs, HS⟩, ⟨%f5, %hf5, HO⟩⟩, Hk⟩
  obtain rfl := harg4.eq_unread hf0
  obtain rfl := harg5.eq_unread hf1
  obtain rfl := harg6.eq_unread hf2
  obtain rfl := harg7.eq_unread hf3
  obtain rfl := harg8.eq_unread hf4
  have hT0 : tbE.IsWhole := Memref.isWhole_whole _
  have hT1 : tbV.IsWhole := Memref.isWhole_whole _
  have hS : sc.IsWhole := Memref.isWhole_whole _
  sl_exec! (disch := first | exact h1 | exact h2 | exact h3 | exact h4 | exact h5)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [HT0]; · iexact HT0
  isplitl [HT1]; · iexact HT1
  isplitl [HS]
  · iexists _; isplitr; swap
    · iexact HS
    · ipureintro
      unfold body_later.sl.HS_1
      rw [stored _ _ hz2, loaded arg4.view hf0 hz2, loaded arg6.view hf2 hz3, loaded arg7.view hf3 hz3, loaded arg8.view hf4 hz3, View.readAt_eq_ld, hf1, loaded sc.view hfs hz2]
  · iexists _; isplitr; swap
    · iexact HO
    · ipureintro
      exact hf5

set_option maxHeartbeats 8000000 in
/-- At the last block the contribution is added and the sum rounded into the output block. -/
theorem body_last (h1 : k0_cond1 (word1 T1 i) = 1#1) (h2 : ¬isFirst i = 1#1) (h3 : isLater i = 1#1) (h4 : k0_cond4 i = 1#1) (h5 : ¬k0_cond5 i (word2 T1 i) = 1#1) (K : PUnit → sProp 𝕄) :
    iprop(holds c arg4 arg5 arg6 arg7 arg8 T0 T1 x0 x1 x2 x3 x4 xa iprop(∃ d, owns (c : Thread nD τ) arg9 fullShare d)
        ∗ (holds c arg4 arg5 arg6 arg7 arg8 T0 T1 x0 x1 x2 x3 x4 (k0_pay3 x0 x2 x3 (col x1) x4 xa) (owns (c : Thread nD τ) arg9 fullShare (k0_pay4 (k0_pay3 x0 x2 x3 (col x1) x4 xa))) -∗ K ⟨⟩))
      ⊢ wp frame (wpE (defs₀ (F := F)) Variants.none c none) Set.univ (bodyOn i arg4 harg4 arg5 harg5 arg6 harg6 arg7 harg7 arg8 harg8 arg9 harg9) K := by
  unfold bodyOn holds owns
  rw [cc0__moe_kernel_eq_skeleton]; unfold cc0__moe_kernel_skel
  iintro ⟨⟨⟨%f0, %hf0, H0⟩, ⟨%f1, %hf1, H1⟩, ⟨%f2, %hf2, H2⟩, ⟨%f3, %hf3, H3⟩, ⟨%f4, %hf4, H4⟩, HT0, HT1, ⟨%fs, %hfs, HS⟩, ⟨%d5, %f5, -, HO⟩⟩, Hk⟩
  obtain rfl := harg4.eq_unread hf0
  obtain rfl := harg5.eq_unread hf1
  obtain rfl := harg6.eq_unread hf2
  obtain rfl := harg7.eq_unread hf3
  obtain rfl := harg8.eq_unread hf4
  have hT0 : tbE.IsWhole := Memref.isWhole_whole _
  have hT1 : tbV.IsWhole := Memref.isWhole_whole _
  have hS : sc.IsWhole := Memref.isWhole_whole _
  sl_exec! (disch := first | exact h1 | exact h2 | exact h3 | exact h4 | exact h5)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [HT0]; · iexact HT0
  isplitl [HT1]; · iexact HT1
  isplitl [HS]
  · iexists _; isplitr; swap
    · iexact HS
    · ipureintro
      unfold body_last.sl.HS_1
      rw [stored _ _ hz2, loaded arg4.view hf0 hz2, loaded arg6.view hf2 hz3, loaded arg7.view hf3 hz3, loaded arg8.view hf4 hz3, View.readAt_eq_ld, hf1, loaded sc.view hfs hz2]
  · iexists _; isplitr; swap
    · iexact HO
    · ipureintro
      unfold body_last.sl.HO_1 body_last.sl.v38 body_last.sl.HS_1
      rw [stored _ _ hz2, View.readCov_unit_zero _ hz2, loaded arg4.view hf0 hz2, loaded arg6.view hf2 hz3, loaded arg7.view hf3 hz3, loaded arg8.view hf4 hz3, View.readAt_eq_ld, hf1, loaded sc.view hfs hz2]

set_option maxHeartbeats 8000000 in
/-- At a tile without rows nothing happens before the last block. -/
theorem body_skip (y : S512x1024.Idx → Elt F .bf16) (h1 : ¬k0_cond1 (word1 T1 i) = 1#1) (h5 : ¬k0_cond5 i (word2 T1 i) = 1#1) (K : PUnit → sProp 𝕄) :
    iprop(holds c arg4 arg5 arg6 arg7 arg8 T0 T1 x0 x1 x2 x3 x4 xa (owns (c : Thread nD τ) arg9 fullShare y)
        ∗ (holds c arg4 arg5 arg6 arg7 arg8 T0 T1 x0 x1 x2 x3 x4 xa (owns (c : Thread nD τ) arg9 fullShare y) -∗ K ⟨⟩))
      ⊢ wp frame (wpE (defs₀ (F := F)) Variants.none c none) Set.univ (bodyOn i arg4 harg4 arg5 harg5 arg6 harg6 arg7 harg7 arg8 harg8 arg9 harg9) K := by
  unfold bodyOn holds owns
  rw [cc0__moe_kernel_eq_skeleton]; unfold cc0__moe_kernel_skel
  iintro ⟨⟨⟨%f0, %hf0, H0⟩, ⟨%f1, %hf1, H1⟩, ⟨%f2, %hf2, H2⟩, ⟨%f3, %hf3, H3⟩, ⟨%f4, %hf4, H4⟩, HT0, HT1, ⟨%fs, %hfs, HS⟩, ⟨%f5, %hf5, HO⟩⟩, Hk⟩
  obtain rfl := harg4.eq_unread hf0
  obtain rfl := harg5.eq_unread hf1
  obtain rfl := harg6.eq_unread hf2
  obtain rfl := harg7.eq_unread hf3
  obtain rfl := harg8.eq_unread hf4
  have hT0 : tbE.IsWhole := Memref.isWhole_whole _
  have hT1 : tbV.IsWhole := Memref.isWhole_whole _
  have hS : sc.IsWhole := Memref.isWhole_whole _
  sl_exec! (disch := first | exact h1 | exact h5)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [HT0]; · iexact HT0
  isplitl [HT1]; · iexact HT1
  isplitl [HS]
  · iexists _; isplitr; swap
    · iexact HS
    · ipureintro
      exact hfs
  · iexists _; isplitr; swap
    · iexact HO
    · ipureintro
      exact hf5

set_option maxHeartbeats 8000000 in
/-- At the last block of a tile without rows the output block becomes zero. -/
theorem body_zero (h1 : ¬k0_cond1 (word1 T1 i) = 1#1) (h5 : k0_cond5 i (word2 T1 i) = 1#1) (K : PUnit → sProp 𝕄) :
    iprop(holds c arg4 arg5 arg6 arg7 arg8 T0 T1 x0 x1 x2 x3 x4 xa iprop(∃ d, owns (c : Thread nD τ) arg9 fullShare d)
        ∗ (holds c arg4 arg5 arg6 arg7 arg8 T0 T1 x0 x1 x2 x3 x4 xa (owns (c : Thread nD τ) arg9 fullShare (k0_pay5 (F := F))) -∗ K ⟨⟩))
      ⊢ wp frame (wpE (defs₀ (F := F)) Variants.none c none) Set.univ (bodyOn i arg4 harg4 arg5 harg5 arg6 harg6 arg7 harg7 arg8 harg8 arg9 harg9) K := by
  unfold bodyOn holds owns
  rw [cc0__moe_kernel_eq_skeleton]; unfold cc0__moe_kernel_skel
  iintro ⟨⟨⟨%f0, %hf0, H0⟩, ⟨%f1, %hf1, H1⟩, ⟨%f2, %hf2, H2⟩, ⟨%f3, %hf3, H3⟩, ⟨%f4, %hf4, H4⟩, HT0, HT1, ⟨%fs, %hfs, HS⟩, ⟨%d5, %f5, -, HO⟩⟩, Hk⟩
  obtain rfl := harg4.eq_unread hf0
  obtain rfl := harg5.eq_unread hf1
  obtain rfl := harg6.eq_unread hf2
  obtain rfl := harg7.eq_unread hf3
  obtain rfl := harg8.eq_unread hf4
  have hT0 : tbE.IsWhole := Memref.isWhole_whole _
  have hT1 : tbV.IsWhole := Memref.isWhole_whole _
  have hS : sc.IsWhole := Memref.isWhole_whole _
  sl_exec! (disch := first | exact h1 | exact h5)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [HT0]; · iexact HT0
  isplitl [HT1]; · iexact HT1
  isplitl [HS]
  · iexists _; isplitr; swap
    · iexact HS
    · ipureintro
      exact hfs
  · iexists _; isplitr; swap
    · iexact HO
    · ipureintro
      exact stored _ _ hz2 _ _

end Cert.Ret.Moe

end
-- ==== Proof.MoeEnds.lean ====
/- The experts of layer 2: the two tables of the row groups, made from the experts' row counts. -/
module

public import proofs.«01_k».proof.Proof.Gen.Kernel5Ideal.Launch
public import Idealize.ShloMosaic.Lib.IndicatorCount
public import Idealize.ShloMosaic.Lib.Pointwise

@[expose] public section
set_option maxRecDepth 16384
noncomputable section
namespace Cert.Ret.Moe
open Cert.Kernel5Ideal Cert.Kernel5Ideal.Gen Idealize.ShloMosaic

/-- How many groups of 512 rows each expert has, rounded up, as the host's floor division computes it. -/
def groups {F : FTy → Type} [FloatOps F] (tot : Vec F S8x128 .f32) : IVec S8 32 :=
  let n : IVec S8 32 := subi (addi (fptosi 32 (shapeCast S8 (extractStridedSlice S1x8 ![0, 0] tot slices_S8x128_S1x8_0_0) shapeCasts_S1x8_S8))
    (broadcastInDim S8 ![] bcast_S_S8 (constantI S_ 32 512#32))) (broadcastInDim S8 ![] bcast_S_S8 (constantI S_ 32 1#32))
  let q : IVec S8 32 := Host.divsi n (broadcastInDim S8 ![] bcast_S_S8 (id (constantI S_ 32 512#32)))
  select (andi (cmpi .ne (signi n) (broadcastInDim S8 ![] bcast_S_S8 (signi (id (constantI S_ 32 512#32)))))
      (cmpi .ne (Host.remsi n (broadcastInDim S8 ![] bcast_S_S8 (id (constantI S_ 32 512#32)))) (broadcastInDim S8 ![] bcast_S_S8 (constantI S_ 32 0#32))))
    (subi q (broadcastInDim S8 ![] bcast_S_S8 (constantI S_ 32 1#32))) q

/-- Where each expert's groups end: the running sum of the numbers of groups. -/
def ends {F : FTy → Type} [FloatOps F] (tot : Vec F S8x128 .f32) : IVec S8 32 :=
  Host.reduceWindow IntOp.addi ![8] ![1] ![7] ![0] (groups tot) (broadcastInDim S_ ![] bcast_S_S_ (constantI S_ 32 0#32)) reduceWindows_S8_S8_w8s1p7_0 h_S_

/-- How many experts' groups end at or before each group. -/
def cnt (E : IVec S8 32) : IVec S136 32 :=
  Host.reduce IntOp.addi (extui 32 (cmpi .sge (broadcastInDim S136x8 ![0, 1] bcast_S136x1_S136x8_0_1 (broadcastInDim S136x1 ![0] bcast_S136_S136x1_0 (iotaInDim S136 32 0)))
    (broadcastInDim S136x8 ![0, 1] bcast_S1x8_S136x8_0_1 (broadcastInDim S1x8 ![1] bcast_S8_S1x8_1 E))) natLt_1_32) (constantI S_ 32 0#32) reducesTo_S136x8_S136_d1 h_S_

/-- Whether each group lies before the last expert's end. -/
def isUsed (E : IVec S8 32) : IVec S136 1 :=
  cmpi .slt (iotaInDim S136 32 0) (broadcastInDim S136 ![] bcast_S_S136 (shapeCast S_ (extractStridedSlice S1 ![7] E slices_S8_S1_7) shapeCasts_S1_S_))

/-- Each group's expert, the last one's for groups past the end. -/
def expertTab (E : IVec S8 32) : IVec S136 32 := minsi (cnt E) (broadcastInDim S136 ![] bcast_S_S136 (constantI S_ 32 7#32))

/-- The same yes or no as a word. -/
def validTab (E : IVec S8 32) : IVec S136 32 := extui 32 (isUsed E) natLt_1_32

theorem cnt_at (E : IVec S8 32) (n : Fin 136) :
    cnt E (ix1 n) = BitVec.ofNat 32 (Finset.univ.filter fun e : Fin 8 => IntOp.cmpi .sge (BitVec.ofNat 32 n.val) (E (ix1 e)) = 1#1).card := by
  refine Eq.trans ?_ (IndicatorCount.fold_addi_setWidth_eq_card _ _)
  unfold cnt
  pointwise

theorem isUsed_at (E : IVec S8 32) (n : Fin 136) : isUsed E (ix1 n) = IntOp.cmpi .slt (BitVec.ofNat 32 n.val) (E (ix1 (7 : Fin 8))) := by
  unfold isUsed
  pointwise

/-- No more than eight experts are counted. -/
theorem cnt_le (E : IVec S8 32) (n : Fin 136) : (cnt E (ix1 n)).toNat ≤ 8 := by
  rw [cnt_at, BitVec.toNat_ofNat]
  refine (Nat.mod_le _ _).trans ((Finset.card_le_univ _).trans ?_)
  simp

/-- Before the last expert's end, that expert is not counted. -/
theorem cnt_lt (E : IVec S8 32) (n : Fin 136) (h : isUsed E (ix1 n) = 1#1) : (cnt E (ix1 n)).toNat < 8 := by
  rw [isUsed_at] at h
  rw [cnt_at, BitVec.toNat_ofNat]
  refine (Nat.mod_le _ _).trans_lt ?_
  have hs : (Finset.univ.filter fun e : Fin 8 => IntOp.cmpi .sge (BitVec.ofNat 32 n.val) (E (ix1 e)) = 1#1) ⊂ Finset.univ := by
    refine Finset.filter_ssubset.mpr ⟨7, Finset.mem_univ _, fun h' => ?_⟩
    have a := IntOp.cmpi_slt.1 h
    have b := IntOp.cmpi_sge.1 h'
    omega
  simpa using Finset.card_lt_card hs

theorem min_seven {v : BitVec 32} (h : v.toNat ≤ 8) : IntOp.minsi v 7#32 = if v.toNat < 8 then v else 7#32 := by
  have e : v = BitVec.ofNat 32 v.toNat := BitVec.eq_of_toNat_eq (by rw [BitVec.toNat_ofNat]; omega)
  generalize v.toNat = n at h e
  subst e
  have key : ∀ n : Fin 9, IntOp.minsi (BitVec.ofNat 32 n.val) 7#32 = if n.val < 8 then BitVec.ofNat 32 n.val else 7#32 := by decide
  exact key ⟨n, by omega⟩

theorem expertTab_eq (E : IVec S8 32) (n : Fin 136) : expertTab E (ix1 n) = if (cnt E (ix1 n)).toNat < 8 then cnt E (ix1 n) else 7#32 :=
  (show _ = IntOp.minsi (cnt E (ix1 n)) 7#32 from rfl).trans (min_seven (cnt_le E n))

/-- The table names experts there are. -/
theorem expertTab_lt (E : IVec S8 32) (n : Fin 136) : (expertTab E (ix1 n)).toNat < 8 := by
  rw [expertTab_eq]
  split
  · assumption
  · decide

theorem bit_word : ∀ b : BitVec 1, b.setWidth 32 = 0#32 ∨ b.setWidth 32 = 1#32 := by decide
theorem bit_one : ∀ b : BitVec 1, b.setWidth 32 = 1#32 → b = 1#1 := by decide

/-- The other table says yes or no. -/
theorem validTab_or (E : IVec S8 32) (n : Fin 136) : validTab E (ix1 n) = 0#32 ∨ validTab E (ix1 n) = 1#32 := bit_word (isUsed E (ix1 n))

/-- For a group before the end the table holds the count itself. -/
theorem expertTab_of_used (E : IVec S8 32) (n : Fin 136) (h : isUsed E (ix1 n) = 1#1) : expertTab E (ix1 n) = cnt E (ix1 n) :=
  (expertTab_eq E n).trans (if_pos (cnt_lt E n h))
end Cert.Ret.Moe
end
-- ==== Proof.MoeTab.lean ====
module

public import proofs.«01_k».proof.Proof.Gen.Kernel5Ideal.Skeleton
public import proofs.«01_k».proof.Proof.Gen.Kernel5Ideal.Launch
public import proofs.«01_k».proof.Proof.MoeBody
public import proofs.«01_k».proof.Proof.MoeEnds
public import Idealize.ShloMosaic.Lib.Affine
public import Idealize.ShloMosaic.Lib.Pointwise

/-! # The expert tables

What the two tables have to hold for the kernel to run, the blocks the tables choose, and which of the body's paths each grid
point takes. -/

@[expose] public section

set_option maxRecDepth 16384

noncomputable section

namespace Cert.Ret.Moe

open Cert.Kernel5Ideal Cert.Kernel5Ideal.Gen
open Idealize.ShloMosaic Idealize.ShloMosaic.TcCoe

variable {F : FTy → Type} [FloatOps F]

/-- The core whose tables the launch reads. -/
abbrev c0 : Dev nD := ⟨0, by decide⟩

theorem dev_eq (c : Dev nD) : c = c0 := Subsingleton.elim _ _

/-- Where each expert's tiles end. -/
def tileEnds (m : (ℓ : Loc nD τ sig) → Buf (Elt F) ℓ) : IVec S8 32 := ends (m ((c0 : Thread nD τ).loc main_arg2))
/-- Each tile's expert. -/
def te (m : (ℓ : Loc nD τ sig) → Buf (Elt F) ℓ) : S136.Idx → BitVec 32 := expertTab (tileEnds m)
/-- Whether each tile holds rows. -/
def tv (m : (ℓ : Loc nD τ sig) → Buf (Elt F) ℓ) : S136.Idx → BitVec 32 := validTab (tileEnds m)

/-- The tables name experts there are, and say of each tile yes or no. -/
structure Good (m : (ℓ : Loc nD τ sig) → Buf (Elt F) ℓ) : Prop where
  expert : ∀ k, (te m k).toNat < 8
  valid : ∀ k, tv m k = 0#32 ∨ tv m k = 1#32

theorem kx_eq (k : S136.Idx) : k = ix1 (k 0) := by
  funext a; match a with | ⟨0, _⟩ => rfl

/-- So they always do. -/
theorem good (m : (ℓ : Loc nD τ sig) → Buf (Elt F) ℓ) : Good m where
  expert k := by rw [kx_eq k]; exact expertTab_lt _ _
  valid k := by rw [kx_eq k]; exact validTab_or _ _

/-- The two tables together. -/
def tabs (m : (ℓ : Loc nD τ sig) → Buf (Elt F) ℓ) : pre0.Contents (Elt F) :=
  fun | ⟨0, _⟩ => te m | ⟨1, _⟩ => tv m | ⟨_ + 2, h⟩ => absurd h (by simp)

/-- A table's entry for tile `n`. -/
abbrev kx (n : Fin 136) : S136.Idx := fun a => match a with | ⟨0, _⟩ => n

theorem ext1 {x y : S136.Idx} (h : (x 0).val = (y 0).val) : x = y := by
  funext a; match a with | ⟨0, _⟩ => exact Fin.ext h

theorem off1_val (i : grid0.Coords) : (k0_off1 i) 0 = (i 0).val := by
  have : (i 0).val < 136 := (i 0).isLt
  show (BitVec.ofNat 32 (i 0).val).toNat = _
  rw [BitVec.toNat_ofNat]; exact Nat.mod_eq_of_lt (by omega)

theorem word1_eq (T : S136.Idx → Elt F .i32) (i : grid0.Coords) : word1 T i = T (kx (i 0)) :=
  congrArg T (ext1 ((Nat.add_zero _).trans (off1_val i)))

theorem word2_eq (T : S136.Idx → Elt F .i32) (i : grid0.Coords) : word2 T i = T (kx (i 0)) :=
  congrArg T (ext1 ((Nat.add_zero _).trans (off1_val i)))

/-- A word of the first table as the block indices read it. -/
theorem at0_eq (m : (ℓ : Loc nD τ sig) → Buf (Elt F) ℓ) (i : grid0.Coords) (h) (h1) :
    (tabs m).at 0 (Rect.unit (s := S136) (k0_off1 i) S1.size h) h1 = te m (kx (i 0)) :=
  congrArg (te m) (ext1 ((Nat.add_zero _).trans (off1_val i)))

/-- A word of the second table as the block indices read it. -/
theorem at1_eq (m : (ℓ : Loc nD τ sig) → Buf (Elt F) ℓ) (i : grid0.Coords) (h) (h1) :
    (tabs m).at 1 (Rect.unit (s := S136) (k0_off1 i) S1.size h) h1 = tv m (kx (i 0)) :=
  congrArg (tv m) (ext1 ((Nat.add_zero _).trans (off1_val i)))

/-- A table's word as the idle points read it. -/
theorem atD_eq (m : (ℓ : Loc nD τ sig) → Buf (Elt F) ℓ) (i : grid0.Coords) :
    (tabs m).atD 1 (k0_off1 i) = tv m (kx (i 0)) := by
  unfold Pipeline.Prefetch.Contents.atD
  have hi : (i 0).val < 136 := (i 0).isLt
  rw [dif_pos (fun a => by match a with | ⟨0, _⟩ => exact (congrArg (· + 1) (off1_val i)).trans_le hi)]
  exact congrArg (tv m) (ext1 (off1_val i))

/-- The block of hidden units the block indices name: the point's own, or the last where the tile holds no rows. -/
def hid (m : (ℓ : Loc nD τ sig) → Buf (Elt F) ℓ) (i : grid0.Coords) : ℕ :=
  if tv m (kx (i 0)) = 1#32 then (i 1).val else 3

theorem hid_lt (m : (ℓ : Loc nD τ sig) → Buf (Elt F) ℓ) (i : grid0.Coords) : hid m i < 4 := by
  unfold hid; split; exact (i 1).isLt; decide

theorem cmp_ne {v w : BitVec 32} (h : v ≠ w) : (Scalar.cmpi .eq v w : BitVec 1) = 0#1 := by
  show BitVec.ofBool (v == w) = 0#1
  rw [beq_eq_false_iff_ne.mpr h]; rfl

theorem sel_toNat (v : BitVec 32) (n : Fin 4) :
    (Scalar.select (Scalar.cmpi .eq v 1#32) (BitVec.ofNat 32 n.val) 3#32 : BitVec 32) = if v = 1#32 then BitVec.ofNat 32 n.val else 3#32 := by
  by_cases h : v = 1#32
  · subst h; rfl
  · rw [cmp_ne h, if_neg h]; rfl

theorem hid_word (m : (ℓ : Loc nD τ sig) → Buf (Elt F) ℓ) (i : grid0.Coords) :
    (if tv m (kx (i 0)) = 1#32 then BitVec.ofNat 32 (i 1).val else 3#32) = BitVec.ofNat 32 (hid m i) := by
  unfold hid; split <;> rfl

theorem small : ∀ n : Fin 4, (Scalar.addi (4#32 : BitVec 32) (BitVec.ofNat 32 n.val) : BitVec 32).toNat = 4 + n.val
    ∧ (Scalar.addi (BitVec.ofNat 32 n.val) (4#32 : BitVec 32) : BitVec 32).toNat = 4 + n.val ∧ (BitVec.ofNat 32 n.val).toNat = n.val := by decide

theorem ix2_eq (m : (ℓ : Loc nD τ sig) → Buf (Elt F) ℓ) (i : grid0.Coords) :
    cc0_transform_2 k0_off1_inb numel1_S1 (tabs m) i = ![(te m (kx (i 0))).toNat, 0, hid m i] := by
  have h0 := at0_eq m i (k0_off1_inb i) numel1_S1
  have h1 := at1_eq m i (k0_off1_inb i) numel1_S1
  have hs := small ⟨hid m i, hid_lt m i⟩
  unfold cc0_transform_2
  dsimp only
  erw [h0, h1]
  erw [sel_toNat, hid_word, hs.2.2]
  rfl

theorem ix3_eq (m : (ℓ : Loc nD τ sig) → Buf (Elt F) ℓ) (i : grid0.Coords) :
    cc0_transform_3 k0_off1_inb numel1_S1 (tabs m) i = ![(te m (kx (i 0))).toNat, 0, 4 + hid m i] := by
  have h0 := at0_eq m i (k0_off1_inb i) numel1_S1
  have h1 := at1_eq m i (k0_off1_inb i) numel1_S1
  have hs := small ⟨hid m i, hid_lt m i⟩
  unfold cc0_transform_3
  dsimp only
  erw [h0, h1]
  erw [sel_toNat, hid_word, hs.1]
  rfl

theorem ix4_eq (m : (ℓ : Loc nD τ sig) → Buf (Elt F) ℓ) (i : grid0.Coords) :
    cc0_transform_4 k0_off1_inb numel1_S1 (tabs m) i = ![(te m (kx (i 0))).toNat, hid m i, 0] := by
  have h0 := at0_eq m i (k0_off1_inb i) numel1_S1
  have h1 := at1_eq m i (k0_off1_inb i) numel1_S1
  have hs := small ⟨hid m i, hid_lt m i⟩
  unfold cc0_transform_4
  dsimp only
  erw [h0, h1]
  erw [sel_toNat, hid_word, hs.2.2]
  rfl

/-- Every block the tables choose lies in its array. -/
theorem ok (m : (ℓ : Loc nD τ sig) → Buf (Elt F) ℓ) (hg : Good m) : ok0 (tabs m) := by
  refine ⟨fun i => ⟨fun a => ?_, .inr (Affine.block_words_dvd (s := S8x1024x7168) (p := EltTy.packing .bf16) (by decide) (by decide))⟩,
    fun i => ⟨fun a => ?_, .inr (Affine.block_words_dvd (s := S8x1024x7168) (p := EltTy.packing .bf16) (by decide) (by decide))⟩,
    fun i => ⟨fun a => ?_, .inr (Affine.block_words_dvd (s := S8x3584x1024) (p := EltTy.packing .bf16) (by decide) (by decide))⟩⟩
  · have e := hg.expert (kx (i 0)); have h := hid_lt m i
    rw [ix2_eq]
    match a with
    | ⟨0, _⟩ => show ((te m (kx (i 0))).toNat + 1) * 1 ≤ 8; omega
    | ⟨1, _⟩ => exact Nat.le_refl _
    | ⟨2, _⟩ => show (hid m i + 1) * 896 ≤ 7168; omega
  · have e := hg.expert (kx (i 0)); have h := hid_lt m i
    rw [ix3_eq]
    match a with
    | ⟨0, _⟩ => show ((te m (kx (i 0))).toNat + 1) * 1 ≤ 8; omega
    | ⟨1, _⟩ => exact Nat.le_refl _
    | ⟨2, _⟩ => show (4 + hid m i + 1) * 896 ≤ 7168; omega
  · have e := hg.expert (kx (i 0)); have h := hid_lt m i
    rw [ix4_eq]
    match a with
    | ⟨0, _⟩ => show ((te m (kx (i 0))).toNat + 1) * 1 ≤ 8; omega
    | ⟨1, _⟩ => show (hid m i + 1) * 896 ≤ 3584; omega
    | ⟨2, _⟩ => exact Nat.le_refl _

/-- The kernel's grid and windows, at these tables. -/
def adm (m : (ℓ : Loc nD τ sig) → Buf (Elt F) ℓ) (hg : Good m) : (pcfg0 (F := F)).Adm := ⟨tabs m, ok m hg⟩
abbrev cfgA (m : (ℓ : Loc nD τ sig) → Buf (Elt F) ℓ) (hg : Good m) : Pipeline.Cfg sig Λ₀ := cfg0 (F := F) (adm m hg)

/-! ## The grid's points -/

theorem coords_val : ∀ t : Fin grid0.N, (grid0.coords t 0).val = t.val / 4 ∧ (grid0.coords t 1).val = t.val % 4 := by decide +kernel

theorem out_flush : ∀ t : Fin grid0.N, Pipeline.Window.flushOf grid0 true cc0_transform_5 t = decide (t.val % 4 = 3) := by decide +kernel

theorem flush5 (m : (ℓ : Loc nD τ sig) → Buf (Elt F) ℓ) (hg : Good m) (t : Fin (cfgA m hg).N) :
    ((cfgA m hg).win (5 : Fin 6)).flush t = decide (t.val % 4 = 3) :=
  (show _ = Pipeline.Window.flushOf grid0 true cc0_transform_5 t from rfl).trans (out_flush t)

/-- The tile a point works on. -/
def tile (t : Fin grid0.N) : Fin 136 := grid0.coords t 0

theorem tile_val (t : Fin grid0.N) : (tile t).val = t.val / 4 := (coords_val t).1

theorem cond1_iff (v : BitVec 32) : k0_cond1 v = 1#1 ↔ v = 1#32 := by
  by_cases h : v = 1#32
  · subst h; exact iff_of_true (by decide) rfl
  · refine iff_of_false ?_ h
    have e : (Scalar.cmpi .eq v 1#32 : BitVec 1) = 0#1 := cmp_ne h
    unfold k0_cond1; simp only [e]; decide

theorem first_iff (i : grid0.Coords) : isFirst i = 1#1 ↔ (i 1).val = 0 := by
  unfold isFirst; generalize i 1 = n; revert n; decide

theorem later_iff (i : grid0.Coords) : isLater i = 1#1 ↔ (i 1).val ≠ 0 := by
  unfold isLater; generalize i 1 = n; revert n; decide

theorem cond4_iff (i : grid0.Coords) : k0_cond4 i = 1#1 ↔ (i 1).val = 3 := by
  unfold k0_cond4; generalize i 1 = n; revert n; decide

theorem cond5_iff (i : grid0.Coords) (v : BitVec 32) : k0_cond5 i v = 1#1 ↔ v = 0#32 ∧ (i 1).val = 3 := by
  unfold k0_cond5; generalize i 1 = n
  by_cases h : v = 0#32
  · subst h; revert n; decide
  · refine iff_of_false ?_ (fun g => h g.1)
    have e : (Scalar.cmpi .eq v 0#32 : BitVec 1) = 0#1 := cmp_ne h
    simp only [e]; revert n; decide

end Cert.Ret.Moe

end
-- ==== Proof.MoeRun.lean ====
module

public import proofs.«01_k».proof.Proof.MoeTab
public import Idealize.ShloMosaic.Lib.Pipeline.Frame
public import Idealize.ShloMosaic.Lib.Pipeline.FrameBody
public import Idealize.ShloMosaic.Lib.Pipeline.TableIdle

/-! # The expert kernel's run

From any memory whose tables are in range the kernel runs to its end; the result array is written block by block with the sums
the body forms, and everything else stays as it was. Stated once, over any float values. -/

@[expose] public section

set_option maxRecDepth 16384

noncomputable section

namespace Cert.Ret.Moe

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hg : Good m)

/-! ## The arrays the region finds -/

/-- What the host operations before the kernel leave in each array. -/
abbrev V (c : Dev nD) (b : Ref sig .tc) : Buf (Elt F) ((c : Thread nD τ).loc b) :=
  StableHlo.after (List.flatten [hostOps0, hostOps0_1, hostOps0_2, hostOps0_3]) (fun b => m (c, b)) b

theorem fresh_0 : (hostOps0 : List (HloOp τ sig (Elt F))).Forall fun op => op.fresh = ∅ := by
  simp only [List.Forall]; repeat' constructor
theorem fresh_1 : (hostOps0_1 : List (HloOp τ sig (Elt F))).Forall fun op => op.fresh = ∅ := by
  simp only [List.Forall]; repeat' constructor
theorem fresh_2 : (hostOps0_2 : List (HloOp τ sig (Elt F))).Forall fun op => op.fresh = ∅ := by
  simp only [List.Forall]; repeat' constructor
theorem fresh_3 : (hostOps0_3 : List (HloOp τ sig (Elt F))).Forall fun op => op.fresh = ∅ := by
  simp only [List.Forall]; repeat' constructor

set_option maxHeartbeats 800000 in
theorem to_region : Pipeline.HMainP (Ix := Unit) (Name := ℕ) (U := UR sig nD τ) (Lvl := ℕ) pcfgs 0 defs₀ Variants.none m (main (F := F)) (V m) :=
  Pipeline.hmainP_prefixes pcfgs 0 defs₀ Variants.none m main [hostOps0, hostOps0_1, hostOps0_2, hostOps0_3]
    (by simp only [List.Forall]; exact ⟨hostOps0_sub, hostOps0_1_sub, hostOps0_2_sub, hostOps0_3_sub⟩)
    (by simp only [List.Forall]; exact ⟨fresh_0, fresh_1, fresh_2, fresh_3⟩) main_chain

/-- No host operation writes `main_arg0`. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.reshape_writes,
      Finset.mem_singleton]
    repeat' apply And.intro
    all_goals exact StableHlo.devRef_ne_of_ne (by decide)))
/-- No host operation writes `main_arg1`. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.reshape_writes,
      Finset.mem_singleton]
    repeat' apply And.intro
    all_goals exact StableHlo.devRef_ne_of_ne (by decide)))
/-- No host operation writes `main_arg2`. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.reshape_writes,
      Finset.mem_singleton]
    repeat' apply And.intro
    all_goals exact StableHlo.devRef_ne_of_ne (by decide)))
/-- No host operation writes `main_arg3`. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.reshape_writes,
      Finset.mem_singleton]
    repeat' apply And.intro
    all_goals exact StableHlo.devRef_ne_of_ne (by decide)))
/-- No host operation writes `main_arg4`. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.reshape_writes,
      Finset.mem_singleton]
    repeat' apply And.intro
    all_goals exact StableHlo.devRef_ne_of_ne (by decide)))
/-- The host operations leave the first table, each tile's expert. -/
theorem V_te : V m c0 main_v18 = te m := by
  simp only [V, hostOps0, hostOps0_1, hostOps0_2, hostOps0_3, List.flatten_cons, List.flatten_nil, List.append_nil, List.cons_append, List.nil_append]
  after_results
  simp -implicitDefEqProofs only [StableHlo.TRef.toBuf, StableHlo.TRef.ofBuf, cast_cast, cast_eq]
  unfold te expertTab cnt tileEnds ends groups
  rfl
/-- They leave the second one, whether each tile holds rows. -/
theorem V_tv : V m c0 main_v23 = tv m := by
  simp only [V, hostOps0, hostOps0_1, hostOps0_2, hostOps0_3, List.flatten_cons, List.flatten_nil, List.append_nil, List.cons_append, List.nil_append]
  after_results
  simp -implicitDefEqProofs only [StableHlo.TRef.toBuf, StableHlo.TRef.ofBuf, cast_cast, cast_eq]
  unfold tv validTab isUsed tileEnds ends groups
  rfl

/-! ## What the body leaves -/

/-- A window's block at a point. -/
def iblk (c : Dev nD) (w : Fin (cfgA m hg).W) (t : Fin (cfgA m hg).N) :
    (((cfgA m hg).win w).xblock ((cfgA m hg).grid.coords t)).Idx → Elt F ((cfgA m hg).win w).elt :=
  (((cfgA m hg).win w).blk t).view.read (Elt F) (V m c (Pipeline.arrRef spec0 w))

/-- A point's five input blocks, at their shapes. -/
def b0 (c : Dev nD) (t : Fin grid0.N) : S512x1024.Idx → Elt F .bf16 := iblk m hg c (0 : Fin 6) t
def b1 (c : Dev nD) (t : Fin grid0.N) : S512x128.Idx → Elt F .f32 := iblk m hg c (1 : Fin 6) t
def b2 (c : Dev nD) (t : Fin grid0.N) : S1x1024x896.Idx → Elt F .bf16 := iblk m hg c (2 : Fin 6) t
def b3 (c : Dev nD) (t : Fin grid0.N) : S1x1024x896.Idx → Elt F .bf16 := iblk m hg c (3 : Fin 6) t
def b4 (c : Dev nD) (t : Fin grid0.N) : S1x896x1024.Idx → Elt F .bf16 := iblk m hg c (4 : Fin 6) t

/-- The `n`-th point. -/
def pt (n : ℕ) : Fin grid0.N := ⟨n % 544, (Nat.mod_lt _ (by decide)).trans_eq N_0.symm⟩

theorem pt_val (t : Fin grid0.N) : pt t.val = t := Fin.ext (Nat.mod_eq_of_lt (t.isLt.trans_eq N_0))

/-- The running sum of a tile with rows after the `n`-th point: the point's contribution, on top of the earlier ones' of the
    same tile. -/
def acc (c : Dev nD) : ℕ → S512x1024.Idx → Elt F .f32
  | 0 => k0_pay2 (b0 m hg c (pt 0)) (b2 m hg c (pt 0)) (b3 m hg c (pt 0)) (col (b1 m hg c (pt 0))) (b4 m hg c (pt 0))
  | n + 1 =>
    if (n + 1) % 4 = 0 then
      k0_pay2 (b0 m hg c (pt (n + 1))) (b2 m hg c (pt (n + 1))) (b3 m hg c (pt (n + 1))) (col (b1 m hg c (pt (n + 1)))) (b4 m hg c (pt (n + 1)))
    else
      k0_pay3 (b0 m hg c (pt (n + 1))) (b2 m hg c (pt (n + 1))) (b3 m hg c (pt (n + 1))) (col (b1 m hg c (pt (n + 1)))) (b4 m hg c (pt (n + 1)))
        (acc c n)

theorem acc_first (c : Dev nD) (t : Fin grid0.N) (h : t.val % 4 = 0) :
    acc m hg c t.val = k0_pay2 (b0 m hg c t) (b2 m hg c t) (b3 m hg c t) (col (b1 m hg c t)) (b4 m hg c t) := by
  have e := pt_val t
  generalize t.val = n at e h
  match n with
  | 0 => unfold acc; rw [e]
  | n + 1 => unfold acc; rw [if_pos h, e]

theorem acc_later (c : Dev nD) (t : Fin grid0.N) (h : t.val % 4 ≠ 0) :
    acc m hg c t.val = k0_pay3 (b0 m hg c t) (b2 m hg c t) (b3 m hg c t) (col (b1 m hg c t)) (b4 m hg c t) (acc m hg c (t.val - 1)) := by
  have e := pt_val t
  generalize t.val = n at e h
  match n with
  | 0 => exact absurd rfl h
  | n + 1 => rw [acc, if_neg h, e]; rfl

/-- What a tile's block of the result is written with: the sum over the hidden units, or zeros where the tile holds no rows. -/
def outAt (c : Dev nD) (t : Fin grid0.N) : S512x1024.Idx → Elt F .bf16 :=
  if tv m (kx (tile t)) = 1#32 then k0_pay4 (acc m hg c t.val) else k0_pay5 (F := F)

/-- Which tiles hold rows, by number. -/
def rows (n : ℕ) : Prop := ∃ h : n < 136, tv m (kx ⟨n, h⟩) = 1#32

theorem rows_iff (t : Fin grid0.N) : rows m (t.val / 4) ↔ tv m (kx (tile t)) = 1#32 := by
  have e : tile t = ⟨t.val / 4, (tile_val t) ▸ (tile t).isLt⟩ := Fin.ext (tile_val t)
  rw [e]; exact ⟨fun ⟨_, h⟩ => h, fun h => ⟨_, h⟩⟩

/-- What the points pass on: within a tile with rows, the running sum so far; and the tables. -/
def Phi (c : Dev nD) (n : ℕ) : sProp 𝕄 :=
  iprop((∃ a, ⌜n % 4 ≠ 0 → rows m (n / 4) → a = acc m hg c (n - 1)⌝ ∗ owns (c : Thread nD τ) sc fullShare a)
    ∗ (tbE.view.loc (c : Thread nD τ) ↦{fullShare.right} te m) ∗ (tbV.view.loc (c : Thread nD τ) ↦{fullShare.right} tv m)
    ∗ ∃ r, prngReg c r)

/-- The pipeline's account of the run. -/
def dats (p : Fin 1) (c : Dev nD) : Dat τ (Elt F) Unit ℕ (UR sig nD τ) ℕ (Pipeline.pin pcfgs (fun _ => adm m hg) p) c where
  A w := V m c (Pipeline.arrRef spec0 w)
  after := fun
    | ⟨0, _⟩ => fun t => b0 m hg c t | ⟨1, _⟩ => fun t => b1 m hg c t | ⟨2, _⟩ => fun t => b2 m hg c t
    | ⟨3, _⟩ => fun t => b3 m hg c t | ⟨4, _⟩ => fun t => b4 m hg c t | ⟨5, _⟩ => fun t => outAt m hg c t
    | ⟨_ + 6, h⟩ => absurd h (Nat.not_lt.2 (Nat.le_add_left _ _))
  Φ t := Phi m hg c t.val
  q w := Pipeline.shareOf spec0 w
  owed _ := 0

theorem before_0 (c : Dev nD) (t : Fin (cfgA m hg).N) (d) : (dats m hg 0 c).before (0 : Fin 6) t d = b0 m hg c t :=
  ((dats m hg 0 c).before_in_eq_fetched (0 : Fin 6) rfl (fun _ => rfl) (fun _ _ _ => rfl) (fun t => rfl) t d).trans
    (by unfold Dat.fetched Dat.blockOf b0 iblk; rfl)
theorem before_1 (c : Dev nD) (t : Fin (cfgA m hg).N) (d) : (dats m hg 0 c).before (1 : Fin 6) t d = b1 m hg c t :=
  ((dats m hg 0 c).before_in_eq_fetched (1 : Fin 6) rfl (fun _ => rfl) (fun _ _ _ => rfl) (fun t => rfl) t d).trans
    (by unfold Dat.fetched Dat.blockOf b1 iblk; rfl)
theorem before_2 (c : Dev nD) (t : Fin (cfgA m hg).N) (d) : (dats m hg 0 c).before (2 : Fin 6) t d = b2 m hg c t :=
  ((dats m hg 0 c).before_in_eq_fetched (2 : Fin 6) rfl (fun _ => rfl) (fun _ _ _ => rfl) (fun t => rfl) t d).trans
    (by unfold Dat.fetched Dat.blockOf b2 iblk; rfl)
theorem before_3 (c : Dev nD) (t : Fin (cfgA m hg).N) (d) : (dats m hg 0 c).before (3 : Fin 6) t d = b3 m hg c t :=
  ((dats m hg 0 c).before_in_eq_fetched (3 : Fin 6) rfl (fun _ => rfl) (fun _ _ _ => rfl) (fun t => rfl) t d).trans
    (by unfold Dat.fetched Dat.blockOf b3 iblk; rfl)
theorem before_4 (c : Dev nD) (t : Fin (cfgA m hg).N) (d) : (dats m hg 0 c).before (4 : Fin 6) t d = b4 m hg c t :=
  ((dats m hg 0 c).before_in_eq_fetched (4 : Fin 6) rfl (fun _ => rfl) (fun _ _ _ => rfl) (fun t => rfl) t d).trans
    (by unfold Dat.fetched Dat.blockOf b4 iblk; rfl)

/-! ## The points -/

theorem idle5 (t : Fin (cfgA m hg).N) : (cfgA m hg).idle (5 : Fin 6) ((cfgA m hg).grid.coords t) = !decide (t.val % 4 = 3) := by
  have h0 : (k0_cond1 ((tabs m).atD 1 (k0_off1 (grid0.coords t))) = 1#1) ↔ tv m (kx (tile t)) = 1#32 := by
    rw [atD_eq]; exact cond1_iff _
  have h5 : (k0_cond5 (grid0.coords t) ((tabs m).atD 1 (k0_off2 (grid0.coords t))) = 1#1) ↔ tv m (kx (tile t)) = 0#32 ∧ t.val % 4 = 3 := by
    rw [show k0_off2 (grid0.coords t) = k0_off1 (grid0.coords t) from rfl, atD_eq]
    exact (cond5_iff _ _).trans (and_congr Iff.rfl (by rw [(coords_val t).2]))
  have h4 : (k0_cond4 (grid0.coords t) = 1#1) ↔ t.val % 4 = 3 := (cond4_iff _).trans (by rw [(coords_val t).2])
  show (!(k0_cond1 ((tabs m).atD 1 (k0_off1 (grid0.coords t))) == 1#1 && k0_cond4 (grid0.coords t) == 1#1)
    && !(k0_cond5 (grid0.coords t) ((tabs m).atD 1 (k0_off2 (grid0.coords t))) == 1#1)) = _
  rw [Bool.eq_iff_iff]
  simp only [Bool.and_eq_true, Bool.not_eq_true', Bool.and_eq_false_iff, beq_eq_false_iff_ne, ne_eq, decide_eq_false_iff_not, h0, h4, h5]
  rcases hg.valid (kx (tile t)) with h | h <;> simp [h]

abbrev ms0 (t : Fin (cfgA m hg).N) : Memref sig .tc .vmem S512x1024 .bf16 := spec0_0.stage ((cfgA m hg).slots t (0 : Fin 6))
theorem hs0 (t : Fin (cfgA m hg).N) : (ms0 m hg t).IsWhole := hstage0_0 (((cfgA m hg).slots t (0 : Fin 6)).cast nbuf0_0)
abbrev ms1 (t : Fin (cfgA m hg).N) : Memref sig .tc .vmem S512x128 .f32 := spec0_1.stage ((cfgA m hg).slots t (1 : Fin 6))
theorem hs1 (t : Fin (cfgA m hg).N) : (ms1 m hg t).IsWhole := hstage0_1 (((cfgA m hg).slots t (1 : Fin 6)).cast nbuf0_1)
abbrev ms2 (t : Fin (cfgA m hg).N) : Memref sig .tc .vmem S1x1024x896 .bf16 := spec0_2.stage ((cfgA m hg).slots t (2 : Fin 6))
theorem hs2 (t : Fin (cfgA m hg).N) : (ms2 m hg t).IsWhole := hstage0_2 (((cfgA m hg).slots t (2 : Fin 6)).cast nbuf0_2)
abbrev ms3 (t : Fin (cfgA m hg).N) : Memref sig .tc .vmem S1x1024x896 .bf16 := spec0_3.stage ((cfgA m hg).slots t (3 : Fin 6))
theorem hs3 (t : Fin (cfgA m hg).N) : (ms3 m hg t).IsWhole := hstage0_3 (((cfgA m hg).slots t (3 : Fin 6)).cast nbuf0_3)
abbrev ms4 (t : Fin (cfgA m hg).N) : Memref sig .tc .vmem S1x896x1024 .bf16 := spec0_4.stage ((cfgA m hg).slots t (4 : Fin 6))
theorem hs4 (t : Fin (cfgA m hg).N) : (ms4 m hg t).IsWhole := hstage0_4 (((cfgA m hg).slots t (4 : Fin 6)).cast nbuf0_4)
abbrev ms5 (t : Fin (cfgA m hg).N) : Memref sig .tc .vmem S512x1024 .bf16 := spec0_5.stage ((cfgA m hg).slots t (5 : Fin 6))
theorem hs5 (t : Fin (cfgA m hg).N) : (ms5 m hg t).IsWhole := hstage0_5 (((cfgA m hg).slots t (5 : Fin 6)).cast nbuf0_5)

/-- A point of the run, as the pipeline states it: handed its blocks and what the points before left, the body leaves its own. -/
def Sound (c : Dev nD) (t : Fin (cfgA m hg).N) : Prop :=
    iprop((dats m hg 0 c).Φ t.castSucc ∗ (dats m hg 0 c).owesAt () t.castSucc
        ∗ (∃ d, owns (c : Thread nD τ) (ms0 m hg t) fullShare ((dats m hg 0 c).before (0 : Fin 6) t d))
        ∗ (∃ d, owns (c : Thread nD τ) (ms1 m hg t) fullShare ((dats m hg 0 c).before (1 : Fin 6) t d))
        ∗ (∃ d, owns (c : Thread nD τ) (ms2 m hg t) fullShare ((dats m hg 0 c).before (2 : Fin 6) t d))
        ∗ (∃ d, owns (c : Thread nD τ) (ms3 m hg t) fullShare ((dats m hg 0 c).before (3 : Fin 6) t d))
        ∗ (∃ d, owns (c : Thread nD τ) (ms4 m hg t) fullShare ((dats m hg 0 c).before (4 : Fin 6) t d))
        ∗ (∃ d, owns (c : Thread nD τ) (ms5 m hg t) fullShare ((dats m hg 0 c).before (5 : Fin 6) t d)))
      ⊢ wp frame (wpE (defs₀ (F := F)) Variants.none c none) Set.univ (bodyOn (grid0.coords t) (ms0 m hg t) (hs0 m hg t) (ms1 m hg t) (hs1 m hg t) (ms2 m hg t) (hs2 m hg t) (ms3 m hg t) (hs3 m hg t) (ms4 m hg t) (hs4 m hg t) (ms5 m hg t) (hs5 m hg t)) fun _ =>
          iprop((dats m hg 0 c).Φ t.succ ∗ (dats m hg 0 c).owesAt () t.succ
            ∗ bigSep Finset.univ fun w : Fin (cfgA m hg).W =>
                match (cfgA m hg).idle w ((cfgA m hg).grid.coords t) with
                | true =>
                  match ((cfgA m hg).win w).flush t with
                  | false => iprop(∃ d, owns (c : Thread nD τ) (((cfgA m hg).win w).stage ((cfgA m hg).slots t w)) fullShare ((dats m hg 0 c).before w t d))
                  | true => owns (c : Thread nD τ) (((cfgA m hg).win w).stage ((cfgA m hg).slots t w)) fullShare ((dats m hg 0 c).after w t)
                | false => owns (c : Thread nD τ) (((cfgA m hg).win w).stage ((cfgA m hg).slots t w)) fullShare ((dats m hg 0 c).after w t))

set_option maxHeartbeats 4000000 in
theorem sound_first (c : Dev nD) (t : Fin (cfgA m hg).N) (hv : tv m (kx (tile t)) = 1#32) (hf : t.val % 4 = 0) : Sound m hg c t := by
  unfold Sound
  have e1 : word1 (F := F) (tv m) (grid0.coords t) = tv m (kx (tile t)) := word1_eq _ _
  have e2 : word2 (F := F) (tv m) (grid0.coords t) = tv m (kx (tile t)) := word2_eq _ _
  have ec : (grid0.coords t 1).val = t.val % 4 := (coords_val t).2
  have hr := rows_iff m t
  have f5 := flush5 m hg t
  have i5 := idle5 m hg t
  rw [show decide (t.val % 4 = 3) = false from by simp only [decide_eq_false_iff_not]; omega] at f5 i5
  rw [bigSep_W0]
  rewrite [i5, f5]
  simp only [before_0, before_1, before_2, before_3, before_4, f5, Bool.not_false, Bool.not_true]
  rewrite [show (dats m hg 0 c).Φ t.succ = Phi m hg c (t.val + 1) from rfl, show (dats m hg 0 c).Φ t.castSucc = Phi m hg c t.val from rfl,
    show (dats m hg 0 c).owesAt () t.succ = (dats m hg 0 c).owesAt () t.castSucc from rfl]
  unfold Phi
  iintro ⟨⟨⟨%a, %ha, HS⟩, HT0, HT1, HR⟩, Ho, ⟨%d0, H0⟩, ⟨%d1, H1⟩, ⟨%d2, H2⟩, ⟨%d3, H3⟩, ⟨%d4, H4⟩, ⟨%d5, H5⟩⟩
  iapply (body_first (F := F) c (grid0.coords t) (ms0 m hg t) (hs0 m hg t) (ms1 m hg t) (hs1 m hg t) (ms2 m hg t) (hs2 m hg t) (ms3 m hg t) (hs3 m hg t) (ms4 m hg t) (hs4 m hg t) (ms5 m hg t) (hs5 m hg t) (te m) (tv m) (b0 m hg c t) (b1 m hg c t) (b2 m hg c t) (b3 m hg c t) (b4 m hg c t) a ((dats m hg 0 c).before (5 : Fin 6) t d5) ((cond1_iff _).mpr (e1.trans hv)) ((first_iff _).mpr (ec.trans hf)) (fun h => (later_iff _).mp h (ec.trans hf)) (fun h => absurd (ec.symm.trans ((cond4_iff _).mp h)) (by omega)) (fun h => absurd (e2.symm.trans ((cond5_iff _ _).mp h).1) (by rw [hv]; decide)) _)
  unfold holds
  isplitl [H0 H1 H2 H3 H4 HT0 HT1 HS H5]
  · isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HS]; · iexact HS
    iexact H5
  iintro ⟨H0, H1, H2, H3, H4, HT0, HT1, HS, H5⟩
  isplitl [HS HT0 HT1 HR]
  · isplitl [HS]
    · iexists _; isplitr; swap
      · iexact HS
      · ipureintro; intro h4 h1
        exact (acc_first m hg c t hf).symm
    isplitl [HT0]; · iexact HT0
    isplitl [HT1]; · iexact HT1
    iexact HR
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4000000 in
theorem sound_later (c : Dev nD) (t : Fin (cfgA m hg).N) (hv : tv m (kx (tile t)) = 1#32) (hf : t.val % 4 ≠ 0) (hl : t.val % 4 ≠ 3) : Sound m hg c t := by
  unfold Sound
  have e1 : word1 (F := F) (tv m) (grid0.coords t) = tv m (kx (tile t)) := word1_eq _ _
  have e2 : word2 (F := F) (tv m) (grid0.coords t) = tv m (kx (tile t)) := word2_eq _ _
  have ec : (grid0.coords t 1).val = t.val % 4 := (coords_val t).2
  have hr := rows_iff m t
  have f5 := flush5 m hg t
  have i5 := idle5 m hg t
  rw [show decide (t.val % 4 = 3) = false from by simp only [decide_eq_false_iff_not]; omega] at f5 i5
  rw [bigSep_W0]
  rewrite [i5, f5]
  simp only [before_0, before_1, before_2, before_3, before_4, f5, Bool.not_false, Bool.not_true]
  rewrite [show (dats m hg 0 c).Φ t.succ = Phi m hg c (t.val + 1) from rfl, show (dats m hg 0 c).Φ t.castSucc = Phi m hg c t.val from rfl,
    show (dats m hg 0 c).owesAt () t.succ = (dats m hg 0 c).owesAt () t.castSucc from rfl]
  unfold Phi
  iintro ⟨⟨⟨%a, %ha, HS⟩, HT0, HT1, HR⟩, Ho, ⟨%d0, H0⟩, ⟨%d1, H1⟩, ⟨%d2, H2⟩, ⟨%d3, H3⟩, ⟨%d4, H4⟩, ⟨%d5, H5⟩⟩
  iapply (body_later (F := F) c (grid0.coords t) (ms0 m hg t) (hs0 m hg t) (ms1 m hg t) (hs1 m hg t) (ms2 m hg t) (hs2 m hg t) (ms3 m hg t) (hs3 m hg t) (ms4 m hg t) (hs4 m hg t) (ms5 m hg t) (hs5 m hg t) (te m) (tv m) (b0 m hg c t) (b1 m hg c t) (b2 m hg c t) (b3 m hg c t) (b4 m hg c t) a ((dats m hg 0 c).before (5 : Fin 6) t d5) ((cond1_iff _).mpr (e1.trans hv)) (fun h => absurd (ec.symm.trans ((first_iff _).mp h)) hf) ((later_iff _).mpr (fun h => hf (ec.symm.trans h))) (fun h => hl (ec.symm.trans ((cond4_iff _).mp h))) (fun h => absurd (e2.symm.trans ((cond5_iff _ _).mp h).1) (by rw [hv]; decide)) _)
  unfold holds
  isplitl [H0 H1 H2 H3 H4 HT0 HT1 HS H5]
  · isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HS]; · iexact HS
    iexact H5
  iintro ⟨H0, H1, H2, H3, H4, HT0, HT1, HS, H5⟩
  isplitl [HS HT0 HT1 HR]
  · isplitl [HS]
    · iexists _; isplitr; swap
      · iexact HS
      · ipureintro; intro h4 h1
        rw [ha hf (hr.mpr hv)]; exact (acc_later m hg c t hf).symm
    isplitl [HT0]; · iexact HT0
    isplitl [HT1]; · iexact HT1
    iexact HR
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4000000 in
theorem sound_last (c : Dev nD) (t : Fin (cfgA m hg).N) (hv : tv m (kx (tile t)) = 1#32) (hl : t.val % 4 = 3) : Sound m hg c t := by
  unfold Sound
  have e1 : word1 (F := F) (tv m) (grid0.coords t) = tv m (kx (tile t)) := word1_eq _ _
  have e2 : word2 (F := F) (tv m) (grid0.coords t) = tv m (kx (tile t)) := word2_eq _ _
  have ec : (grid0.coords t 1).val = t.val % 4 := (coords_val t).2
  have hr := rows_iff m t
  have f5 := flush5 m hg t
  have i5 := idle5 m hg t
  rw [show decide (t.val % 4 = 3) = true from by simp only [decide_eq_true_iff]; omega] at f5 i5
  rw [bigSep_W0]
  rewrite [i5]
  simp only [before_0, before_1, before_2, before_3, before_4, f5, Bool.not_false, Bool.not_true]
  rewrite [show (dats m hg 0 c).Φ t.succ = Phi m hg c (t.val + 1) from rfl, show (dats m hg 0 c).Φ t.castSucc = Phi m hg c t.val from rfl,
    show (dats m hg 0 c).owesAt () t.succ = (dats m hg 0 c).owesAt () t.castSucc from rfl]
  unfold Phi
  iintro ⟨⟨⟨%a, %ha, HS⟩, HT0, HT1, HR⟩, Ho, ⟨%d0, H0⟩, ⟨%d1, H1⟩, ⟨%d2, H2⟩, ⟨%d3, H3⟩, ⟨%d4, H4⟩, ⟨%d5, H5⟩⟩
  iapply (body_last (F := F) c (grid0.coords t) (ms0 m hg t) (hs0 m hg t) (ms1 m hg t) (hs1 m hg t) (ms2 m hg t) (hs2 m hg t) (ms3 m hg t) (hs3 m hg t) (ms4 m hg t) (hs4 m hg t) (ms5 m hg t) (hs5 m hg t) (te m) (tv m) (b0 m hg c t) (b1 m hg c t) (b2 m hg c t) (b3 m hg c t) (b4 m hg c t) a ((cond1_iff _).mpr (e1.trans hv)) (fun h => absurd (ec.symm.trans ((first_iff _).mp h)) (by omega)) ((later_iff _).mpr (fun h => absurd (ec.symm.trans h) (by omega))) ((cond4_iff _).mpr (ec.trans hl)) (fun h => absurd (e2.symm.trans ((cond5_iff _ _).mp h).1) (by rw [hv]; decide)) _)
  unfold holds
  isplitl [H0 H1 H2 H3 H4 HT0 HT1 HS H5]
  · isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HS]; · iexact HS
    iexists _; iexact H5
  iintro ⟨H0, H1, H2, H3, H4, HT0, HT1, HS, H5⟩
  isplitl [HS HT0 HT1 HR]
  · isplitl [HS]
    · iexists _; isplitr; swap
      · iexact HS
      · ipureintro; intro h4 h1
        omega
    isplitl [HT0]; · iexact HT0
    isplitl [HT1]; · iexact HT1
    iexact HR
  isplitl [Ho]; · iexact Ho
  isplitl [H0]; · iexact H0
  isplitl [H1]; · iexact H1
  isplitl [H2]; · iexact H2
  isplitl [H3]; · iexact H3
  isplitl [H4]; · iexact H4
  rewrite [show (dats m hg 0 c).after (5 : Fin 6) t = k0_pay4 (acc m hg c t.val) from if_pos hv, acc_later m hg c t (by omega), ← ha (by omega) (hr.mpr hv)]
  iexact H5

set_option maxHeartbeats 4000000 in
theorem sound_skip (c : Dev nD) (t : Fin (cfgA m hg).N) (hv0 : ¬tv m (kx (tile t)) = 1#32) (hl : t.val % 4 ≠ 3) : Sound m hg c t := by
  unfold Sound
  have e1 : word1 (F := F) (tv m) (grid0.coords t) = tv m (kx (tile t)) := word1_eq _ _
  have e2 : word2 (F := F) (tv m) (grid0.coords t) = tv m (kx (tile t)) := word2_eq _ _
  have ec : (grid0.coords t 1).val = t.val % 4 := (coords_val t).2
  have hr := rows_iff m t
  have f5 := flush5 m hg t
  have i5 := idle5 m hg t
  rw [show decide (t.val % 4 = 3) = false from by simp only [decide_eq_false_iff_not]; omega] at f5 i5
  rw [bigSep_W0]
  rewrite [i5, f5]
  simp only [before_0, before_1, before_2, before_3, before_4, f5, Bool.not_false, Bool.not_true]
  rewrite [show (dats m hg 0 c).Φ t.succ = Phi m hg c (t.val + 1) from rfl, show (dats m hg 0 c).Φ t.castSucc = Phi m hg c t.val from rfl,
    show (dats m hg 0 c).owesAt () t.succ = (dats m hg 0 c).owesAt () t.castSucc from rfl]
  unfold Phi
  iintro ⟨⟨⟨%a, %ha, HS⟩, HT0, HT1, HR⟩, Ho, ⟨%d0, H0⟩, ⟨%d1, H1⟩, ⟨%d2, H2⟩, ⟨%d3, H3⟩, ⟨%d4, H4⟩, ⟨%d5, H5⟩⟩
  iapply (body_skip (F := F) c (grid0.coords t) (ms0 m hg t) (hs0 m hg t) (ms1 m hg t) (hs1 m hg t) (ms2 m hg t) (hs2 m hg t) (ms3 m hg t) (hs3 m hg t) (ms4 m hg t) (hs4 m hg t) (ms5 m hg t) (hs5 m hg t) (te m) (tv m) (b0 m hg c t) (b1 m hg c t) (b2 m hg c t) (b3 m hg c t) (b4 m hg c t) a ((dats m hg 0 c).before (5 : Fin 6) t d5) (fun h => hv0 (e1.symm.trans ((cond1_iff _).mp h))) (fun h => hl (ec.symm.trans ((cond5_iff _ _).mp h).2)) _)
  unfold holds
  isplitl [H0 H1 H2 H3 H4 HT0 HT1 HS H5]
  · isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HS]; · iexact HS
    iexact H5
  iintro ⟨H0, H1, H2, H3, H4, HT0, HT1, HS, H5⟩
  isplitl [HS HT0 HT1 HR]
  · isplitl [HS]
    · iexists _; isplitr; swap
      · iexact HS
      · ipureintro; intro h4 h1
        exact absurd (hr.mp (by rwa [show (t.val + 1) / 4 = t.val / 4 by omega] at h1)) hv0
    isplitl [HT0]; · iexact HT0
    isplitl [HT1]; · iexact HT1
    iexact HR
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4000000 in
theorem sound_zero (c : Dev nD) (t : Fin (cfgA m hg).N) (hv0 : ¬tv m (kx (tile t)) = 1#32) (hv : tv m (kx (tile t)) = 0#32) (hl : t.val % 4 = 3) : Sound m hg c t := by
  unfold Sound
  have e1 : word1 (F := F) (tv m) (grid0.coords t) = tv m (kx (tile t)) := word1_eq _ _
  have e2 : word2 (F := F) (tv m) (grid0.coords t) = tv m (kx (tile t)) := word2_eq _ _
  have ec : (grid0.coords t 1).val = t.val % 4 := (coords_val t).2
  have hr := rows_iff m t
  have f5 := flush5 m hg t
  have i5 := idle5 m hg t
  rw [show decide (t.val % 4 = 3) = true from by simp only [decide_eq_true_iff]; omega] at f5 i5
  rw [bigSep_W0]
  rewrite [i5]
  simp only [before_0, before_1, before_2, before_3, before_4, f5, Bool.not_false, Bool.not_true]
  rewrite [show (dats m hg 0 c).Φ t.succ = Phi m hg c (t.val + 1) from rfl, show (dats m hg 0 c).Φ t.castSucc = Phi m hg c t.val from rfl,
    show (dats m hg 0 c).owesAt () t.succ = (dats m hg 0 c).owesAt () t.castSucc from rfl]
  unfold Phi
  iintro ⟨⟨⟨%a, %ha, HS⟩, HT0, HT1, HR⟩, Ho, ⟨%d0, H0⟩, ⟨%d1, H1⟩, ⟨%d2, H2⟩, ⟨%d3, H3⟩, ⟨%d4, H4⟩, ⟨%d5, H5⟩⟩
  iapply (body_zero (F := F) c (grid0.coords t) (ms0 m hg t) (hs0 m hg t) (ms1 m hg t) (hs1 m hg t) (ms2 m hg t) (hs2 m hg t) (ms3 m hg t) (hs3 m hg t) (ms4 m hg t) (hs4 m hg t) (ms5 m hg t) (hs5 m hg t) (te m) (tv m) (b0 m hg c t) (b1 m hg c t) (b2 m hg c t) (b3 m hg c t) (b4 m hg c t) a (fun h => hv0 (e1.symm.trans ((cond1_iff _).mp h))) ((cond5_iff _ _).mpr ⟨e2.trans hv, ec.trans hl⟩) _)
  unfold holds
  isplitl [H0 H1 H2 H3 H4 HT0 HT1 HS H5]
  · isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HS]; · iexact HS
    iexists _; iexact H5
  iintro ⟨H0, H1, H2, H3, H4, HT0, HT1, HS, H5⟩
  isplitl [HS HT0 HT1 HR]
  · isplitl [HS]
    · iexists _; isplitr; swap
      · iexact HS
      · ipureintro; intro h4 h1
        omega
    isplitl [HT0]; · iexact HT0
    isplitl [HT1]; · iexact HT1
    iexact HR
  isplitl [Ho]; · iexact Ho
  isplitl [H0]; · iexact H0
  isplitl [H1]; · iexact H1
  isplitl [H2]; · iexact H2
  isplitl [H3]; · iexact H3
  isplitl [H4]; · iexact H4
  rewrite [show (dats m hg 0 c).after (5 : Fin 6) t = k0_pay5 (F := F) from if_neg hv0]
  iexact H5

/-- Every point, whichever way the body takes. -/
theorem sound (c : Dev nD) (t : Fin (cfgA m hg).N) : Sound m hg c t := by
  by_cases hv : tv m (kx (tile t)) = 1#32
  · by_cases hf : t.val % 4 = 0
    · exact sound_first m hg c t hv hf
    · by_cases hl : t.val % 4 = 3
      · exact sound_last m hg c t hv hl
      · exact sound_later m hg c t hv hf hl
  · by_cases hl : t.val % 4 = 3
    · exact sound_zero m hg c t hv ((hg.valid _).resolve_right hv) hl
    · exact sound_skip m hg c t hv hl

theorem body_ok (c : Dev nD) : BodyObligation (dats m hg 0 c) (defs₀ (F := F)) Variants.none () Set.univ := fun t => by
  rw [bigSep_W0]
  exact sound m hg c t

/-! ## The launch -/

theorem tables_held (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v18) ↦{q 0} v 0) ∗ (((c : Thread nD τ).loc main_v23) ↦{q 1} v 1)) := by
  unfold Pipeline.prefHeld
  rw [show (Finset.univ : Finset (Fin 2)) = insert (0 : Fin 2) {(1 : Fin 2)} from by decide,
    bigSep_insert (by decide), bigSep_singleton]
  rfl

theorem sum_held (c : Dev nD) (a : S512x1024.Idx → Elt F .f32) :
    (owns (c : Thread nD τ) sc fullShare a : sProp 𝕄) = (((c : Thread nD τ).loc cc0_scratch0) ↦{fullShare} a) :=
  owns_whole (c : Thread nD τ) cc0_scratch0 fullShare a

/-- The first point finds the tables and a running sum it does not read. -/
theorem start (c : Dev nD) : iprop(Pipeline.ΦA spec0 c ∗ Pipeline.ΦT pre0 (tabs m) c) ⊢ (Phi m hg c 0 : sProp 𝕄) := by
  unfold Pipeline.ΦA Pipeline.ΦT
  rw [scopedRest0_eq, tables_held]
  unfold Phi; simp only [sum_held]
  iintro ⟨⟨⟨%a, HS⟩, HR⟩, HT0, HT1⟩
  isplitl [HS]
  · iexists a; isplitr
    · ipureintro; intro h; exact absurd rfl h
    · iexact HS
  isplitl [HT0]; · iexact HT0
  isplitl [HT1]; · iexact HT1
  iexact HR

/-- The last point leaves the running sum's buffer behind. -/
theorem finish (c : Dev nD) (n : ℕ) : (Phi m hg c n : sProp 𝕄) ⊢ Pipeline.ΦA spec0 c := by
  unfold Pipeline.ΦA
  rw [scopedRest0_eq]
  unfold Phi; simp only [sum_held]
  iintro ⟨⟨%a, -, HS⟩, -, -, HR⟩
  isplitl [HS]
  · iexists a; iexact HS
  iexact HR

theorem tables_found (c : Dev nD) (k : Fin 2) : V m c (pre0.ref k) = (tabs m) k := by
  rw [dev_eq c]
  match k with
  | ⟨0, _⟩ => exact V_te m
  | ⟨1, _⟩ => exact V_tv m

set_option backward.isDefEq.respectTransparency.types false in
set_option maxHeartbeats 4000000 in
/-- The launch: it ends, every array holds what the pipeline computes, and every counter is back at zero. -/
theorem run_main : θ_run (defs (F := F)) (onTc (τ := τ) (main (F := F))) (s₀ m ρ)
    (fun r => Pipeline.FramePost (Pipeline.pin pcfgs fun _ => adm m hg) (dats m hg) 0 (V m) r ∧ r.2.sem = fun _ => 0) :=
  Pipeline.θ_run_frameP_track_shared (Q' := _) pcfgs (fun _ => adm m hg) (dats m hg) 0 launch₀0 defs₀ Variants.none m ρ main
    (fun c => (body_ok m hg c).loose) (hq := fun _ _ _ => rfl) (howed := fun _ _ => rfl) (V := V m) (to_region m)
    (fun _ _ => rfl) (tables_found m) (start m hg) (fun c => finish m hg c _)

include hg in
/-- Every weakly fair execution ends with the result array holding the blocks the body wrote, the arguments as they were and
    every counter at zero. -/
theorem run_all :
    θ_run (defs (F := F)) (onTc (τ := τ) (main (F := F))) ⟨m, fun _ => 0, ρ⟩ (fun r => (∀ c : Dev nD,
      r.2.mem ((c.tc : Thread nD τ).loc main_v26) = (dats m hg 0 c).arrAt (5 : Fin 6) (cfgA m hg).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c =>
    ⟨(h.1 c).1 (5 : Fin 6), ((h.1 c).1 (0 : Fin 6)).trans (((dats m hg 0 c).arrAt_in (0 : Fin 6) rfl _).trans (V_arg0 m c)),
      ((h.1 c).1 (1 : Fin 6)).trans (((dats m hg 0 c).arrAt_in (1 : Fin 6) rfl _).trans (V_arg1 m c)),
      ((h.1 c).2 main_arg2 (Pipeline.mem_restRefs_of main_arg2 (by decide) (show ∀ w : Fin 6, (spec0 w).arr.view.ref ≠ main_arg2 by decide))).trans (V_arg2 m c),
      ((h.1 c).2 main_arg3 (Pipeline.mem_restRefs_of main_arg3 (by decide) (show ∀ w : Fin 6, (spec0 w).arr.view.ref ≠ main_arg3 by decide))).trans (V_arg3 m c),
      ((h.1 c).2 main_arg4 (Pipeline.mem_restRefs_of main_arg4 (by decide) (show ∀ w : Fin 6, (spec0 w).arr.view.ref ≠ main_arg4 by decide))).trans (V_arg4 m c)⟩,
    h.2⟩) (run_main m ρ hg)

include hg in
/-- Every weakly fair execution ends with the arguments as they were and every counter at zero. -/
theorem frame_all :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => (h.1 c).2, h.2⟩) (run_all m ρ hg)

end Cert.Ret.Moe

end
-- ==== Proof.MoeModel.lean ====
/- The experts of layer 2: the gated product of a row with one expert's weights, as plain sums. -/
module

public import proofs.«01_k».proof.Proof.Norm

@[expose] public section
set_option maxRecDepth 16384
noncomputable section
namespace Cert.Ret.Moe
open Idealize.ShloMosaic

/-- The first weights of every expert, and the second ones. -/
abbrev Wi : Type := Vec Ideal ⟨3, ![8, 1024, 7168]⟩ .f32
abbrev Wo : Type := Vec Ideal ⟨3, ![8, 3584, 1024]⟩ .f32

/-- One hidden entry of an expert: the gated product of a row with two columns of the first weights. -/
def unit (x : Fin 1024 → EReal) (W : Wi) (e : Fin 8) (f : Fin 3584) : EReal :=
  swish (∑ k : Fin 1024, x k * W (ix3 e k (⟨f.val, by omega⟩ : Fin 7168))) * ∑ k : Fin 1024, x k * W (ix3 e k (⟨3584 + f.val, by omega⟩ : Fin 7168))

/-- One entry of an expert's answer to a row. -/
def expert (x : Fin 1024 → EReal) (W : Wi) (U : Wo) (e : Fin 8) (j : Fin 1024) : EReal :=
  ∑ f : Fin 3584, unit x W e f * U (ix3 e f j)

/-- The same with the row's gate taken to the hidden entries. -/
def gatedExpert (x : Fin 1024 → EReal) (W : Wi) (U : Wo) (e : Fin 8) (g : EReal) (j : Fin 1024) : EReal :=
  ∑ f : Fin 3584, unit x W e f * g * U (ix3 e f j)

/-- A nonnegative finite factor goes into a sum. -/
theorem mul_sum' {n : ℕ} {g : EReal} (h0 : 0 ≤ g) (h1 : g ≠ ⊤) (a : Fin n → EReal) : g * ∑ f, a f = ∑ f, g * a f := by
  classical
  induction (Finset.univ : Finset (Fin n)) using Finset.induction with
  | empty => simp
  | insert f s hf ih => rw [Finset.sum_insert hf, Finset.sum_insert hf, EReal.left_distrib_of_nonneg_of_ne_top h0 h1, ih]

/-- The gate before the second weights or after them: the same. -/
theorem gate_inside (x : Fin 1024 → EReal) (W : Wi) (U : Wo) (e : Fin 8) (j : Fin 1024) {g : EReal} (h0 : 0 ≤ g) (h1 : g ≠ ⊤) :
    g * expert x W U e j = gatedExpert x W U e g j := by
  unfold expert gatedExpert
  rw [mul_sum' h0 h1]
  refine Finset.sum_congr rfl fun f _ => ?_
  rw [← mul_assoc, mul_comm g]

/-- A quarter of the sum over the hidden entries. -/
def quarter (x : Fin 1024 → EReal) (W : Wi) (U : Wo) (e : Fin 8) (g : EReal) (j : Fin 1024) (q : Fin 4) : EReal :=
  ∑ f : Fin 896, unit x W e ⟨896 * q.val + f.val, by omega⟩ * g * U (ix3 e (⟨896 * q.val + f.val, by omega⟩ : Fin 3584) j)

/-- The sum over the hidden entries in its four quarters, one after the other. -/
theorem gatedExpert_quarters (x : Fin 1024 → EReal) (W : Wi) (U : Wo) (e : Fin 8) (g : EReal) (j : Fin 1024) :
    gatedExpert x W U e g j = quarter x W U e g j 0 + quarter x W U e g j 1 + quarter x W U e g j 2 + quarter x W U e g j 3 := by
  have h : ∀ a : Fin 3584 → EReal, ∑ f, a f = (((∑ f : Fin 896, a ⟨896 * 0 + f.val, by omega⟩) + ∑ f : Fin 896, a ⟨896 * 1 + f.val, by omega⟩)
      + ∑ f : Fin 896, a ⟨896 * 2 + f.val, by omega⟩) + ∑ f : Fin 896, a ⟨896 * 3 + f.val, by omega⟩ := by
    intro a
    refine (Fin.sum_univ_add (a := 2688) (b := 896) a).trans ?_
    refine congrArg₂ _ ?_ (Finset.sum_congr rfl fun f _ => congrArg a (Fin.ext rfl))
    refine (Fin.sum_univ_add (a := 1792) (b := 896) _).trans ?_
    refine congrArg₂ _ ?_ (Finset.sum_congr rfl fun f _ => congrArg a (Fin.ext rfl))
    refine (Fin.sum_univ_add (a := 896) (b := 896) _).trans ?_
    refine congrArg₂ _ (Finset.sum_congr rfl fun f _ => congrArg a (Fin.ext ?_)) (Finset.sum_congr rfl fun f _ => congrArg a (Fin.ext rfl))
    show f.val = 896 * 0 + f.val
    omega
  exact h _

/-- The tile of 512 rows a row lies in. -/
def tileOf (r : Fin 69632) : Fin 136 := ⟨r.val / 512, by omega⟩

/-- The expert a tile's word names. -/
def expertOf (w : BitVec 32) : Fin 8 := ⟨w.toNat % 8, Nat.mod_lt _ (by decide)⟩

/-- Every row's gate lies between zero and one. -/
def Gated (g : Vec Ideal ⟨2, ![69632, 128]⟩ .f32) : Prop :=
  ∀ r : Fin 69632, 0 ≤ g (ix2 r (0 : Fin 128)) ∧ g (ix2 r (0 : Fin 128)) ≤ 1

/-- The whole result as one function of the arguments: each row through its tile's expert, times its gate; zero in tiles that
    hold no rows. -/
def outE (X : Vec Ideal ⟨2, ![69632, 1024]⟩ .f32) (g : Vec Ideal ⟨2, ![69632, 128]⟩ .f32) (te tv : Fin 136 → BitVec 32) (W : Wi) (U : Wo) :
    Vec Ideal ⟨2, ![69632, 1024]⟩ .f32 := fun i =>
  if tv (tileOf (i 0)) = 1#32 then
    gatedExpert (fun k => X (ix2 (i 0) k)) W U (expertOf (te (tileOf (i 0)))) (g (ix2 (i 0) (0 : Fin 128))) (i 1)
  else 0
end Cert.Ret.Moe
end
-- ==== Proof.Moe.lean ====
/- The experts' kernel: its result as one function of the arguments. -/
module

public import proofs.«01_k».proof.Proof.MoeModel
public import proofs.«01_k».proof.Proof.MoeRun
public import Idealize.ShloMosaic.Lib.Pipeline.ValueKit.Point

@[expose] public section
set_option maxRecDepth 16384
noncomputable section
namespace Cert.Ret.Moe
open Cert.Kernel5Ideal Cert.Kernel5Ideal.Gen Idealize.ShloMosaic Idealize.ShloMosaic.TcCoe Idealize.SL.Sem

/-- What one point adds, at an entry. -/
theorem pay1_at (v12 : Vec Ideal S512x1024 .bf16) (v13 v18 : Vec Ideal S1x1024x896 .bf16) (v22 : Vec Ideal S512x1 .f32) (v26 : Vec Ideal S1x896x1024 .bf16)
    (r : Fin 512) (j : Fin 1024) :
    k0_pay1 v12 v13 v18 v22 v26 (ix2 r j)
      = ∑ f : Fin 896, swish (∑ k : Fin 1024, v12 (ix2 r k) * v13 (ix3 (0 : Fin 1) k f)) * (∑ k : Fin 1024, v12 (ix2 r k) * v18 (ix3 (0 : Fin 1) k f))
          * v22 (ix2 r (0 : Fin 1)) * v26 (ix3 (0 : Fin 1) f j) := by
  unfold k0_pay1 swish
  pointwise

theorem pay2_eq (v12 : Vec Ideal S512x1024 .bf16) (v13 v18 : Vec Ideal S1x1024x896 .bf16) (v22 : Vec Ideal S512x1 .f32) (v26 : Vec Ideal S1x896x1024 .bf16)
    (r : Fin 512) (j : Fin 1024) : k0_pay2 v12 v13 v18 v22 v26 (ix2 r j) = k0_pay1 v12 v13 v18 v22 v26 (ix2 r j) := by
  unfold k0_pay2
  rw [shapeCast_self]

theorem pay3_eq (v12 : Vec Ideal S512x1024 .bf16) (v13 v18 : Vec Ideal S1x1024x896 .bf16) (v22 : Vec Ideal S512x1 .f32) (v26 : Vec Ideal S1x896x1024 .bf16)
    (a : Vec Ideal S512x1024 .f32) (r : Fin 512) (j : Fin 1024) :
    k0_pay3 v12 v13 v18 v22 v26 a (ix2 r j) = a (ix2 r j) + k0_pay1 v12 v13 v18 v22 v26 (ix2 r j) := by
  unfold k0_pay3
  rw [shapeCast_self]
  rfl

variable (m : (ℓ : Loc nD τ sig) → Buf (Elt Ideal) ℓ) (hg : Good m) (c : Dev nD)

theorem V_wi : V m c main_v24 = (m ((c : Thread nD τ).loc main_arg3) : Vec Ideal S8x1024x7168 .f32) := by
  simp only [V, hostOps0, hostOps0_1, hostOps0_2, hostOps0_3, List.flatten_cons, List.flatten_nil, List.append_nil, List.cons_append, List.nil_append]
  after_results
  rfl

theorem V_wo : V m c main_v25 = (m ((c : Thread nD τ).loc main_arg4) : Vec Ideal S8x3584x1024 .f32) := by
  simp only [V, hostOps0, hostOps0_1, hostOps0_2, hostOps0_3, List.flatten_cons, List.flatten_nil, List.append_nil, List.cons_append, List.nil_append]
  after_results
  rfl

theorem V_xs : V m c main_arg0 = m ((c : Thread nD τ).loc main_arg0) := V_arg0 m c
theorem V_gs : V m c main_arg1 = m ((c : Thread nD τ).loc main_arg1) := V_arg1 m c

theorem lt_N (t : Fin grid0.N) : t.val < 544 := t.isLt.trans_eq N_0

/-- The array's row that a block's row is. -/
def row (t : Fin grid0.N) (r : Fin 512) : Fin 69632 := ⟨512 * (t.val / 4) + r.val, by have := lt_N t; omega⟩

theorem tileOf_row (t : Fin grid0.N) (r : Fin 512) : tileOf (row t r) = tile t :=
  Fin.ext ((show (512 * (t.val / 4) + r.val) / 512 = t.val / 4 by omega).trans (tile_val t).symm)

theorem map0 : ∀ t : Fin grid0.N, cc0_transform_0 (grid0.coords t) = ![t.val / 4, 0] := by decide +kernel
theorem map1 : ∀ t : Fin grid0.N, cc0_transform_1 (grid0.coords t) = ![t.val / 4, 0] := by decide +kernel
theorem map5 : ∀ t : Fin grid0.N, cc0_transform_5 (grid0.coords t) = ![t.val / 4, 0] := by decide +kernel

theorem idx0 (t : Fin (cfgA m hg).N) : ((cfgA m hg).win (0 : Fin 6)).index t = ![t.val / 4, 0] := map0 t
theorem idx1 (t : Fin (cfgA m hg).N) : ((cfgA m hg).win (1 : Fin 6)).index t = ![t.val / 4, 0] := map1 t
theorem idx2 (t : Fin (cfgA m hg).N) : ((cfgA m hg).win (2 : Fin 6)).index t = ![(te m (kx (tile t))).toNat, 0, hid m (grid0.coords t)] := ix2_eq m _
theorem idx3 (t : Fin (cfgA m hg).N) : ((cfgA m hg).win (3 : Fin 6)).index t = ![(te m (kx (tile t))).toNat, 0, 4 + hid m (grid0.coords t)] := ix3_eq m _
theorem idx4 (t : Fin (cfgA m hg).N) : ((cfgA m hg).win (4 : Fin 6)).index t = ![(te m (kx (tile t))).toNat, hid m (grid0.coords t), 0] := ix4_eq m _
theorem idx5 (t : Fin (cfgA m hg).N) : ((cfgA m hg).win (5 : Fin 6)).index t = ![t.val / 4, 0] := map5 t

theorem hid_val (t : Fin grid0.N) (hv : tv m (kx (tile t)) = 1#32) : hid m (grid0.coords t) = t.val % 4 := by
  exact (if_pos hv).trans (coords_val t).2

include hg in
theorem expertOf_val (k : S136.Idx) : (expertOf (te m k)).val = (te m k).toNat := Nat.mod_eq_of_lt (hg.expert k)

theorem blk0 (t : Fin (cfgA m hg).N) (r : Fin 512) (k : Fin 1024) :
    b0 m hg c t (ix2 r k) = (m ((c : Thread nD τ).loc main_arg0) : Vec Ideal S69632x1024 .bf16) (ix2 (row t r) k) := by
  rw [← V_xs m c]
  unfold row
  blk_ext [b0, iblk, idx0 m hg t]

theorem blk1 (t : Fin (cfgA m hg).N) (r : Fin 512) (k : Fin 128) :
    b1 m hg c t (ix2 r k) = (m ((c : Thread nD τ).loc main_arg1) : Vec Ideal S69632x128 .f32) (ix2 (row t r) k) := by
  rw [← V_gs m c]
  unfold row
  blk_ext [b1, iblk, idx1 m hg t]

theorem blk2 (t : Fin (cfgA m hg).N) (hv : tv m (kx (tile t)) = 1#32) (k : Fin 1024) (f : Fin 896) :
    b2 m hg c t (ix3 (0 : Fin 1) k f) = (m ((c : Thread nD τ).loc main_arg3) : Vec Ideal S8x1024x7168 .f32)
      (ix3 (expertOf (te m (kx (tile t)))) k (⟨896 * (t.val % 4) + f.val, by omega⟩ : Fin 7168)) := by
  have e1 := expertOf_val m hg (kx (tile t))
  have e2 := hid_val m t hv
  rw [← V_wi m c]
  blk_ext [b2, iblk, idx2 m hg t]

theorem blk3 (t : Fin (cfgA m hg).N) (hv : tv m (kx (tile t)) = 1#32) (k : Fin 1024) (f : Fin 896) :
    b3 m hg c t (ix3 (0 : Fin 1) k f) = (m ((c : Thread nD τ).loc main_arg3) : Vec Ideal S8x1024x7168 .f32)
      (ix3 (expertOf (te m (kx (tile t)))) k (⟨3584 + (896 * (t.val % 4) + f.val), by omega⟩ : Fin 7168)) := by
  have e1 := expertOf_val m hg (kx (tile t))
  have e2 := hid_val m t hv
  rw [← V_wi m c]
  blk_ext [b3, iblk, idx3 m hg t]

theorem blk4 (t : Fin (cfgA m hg).N) (hv : tv m (kx (tile t)) = 1#32) (f : Fin 896) (j : Fin 1024) :
    b4 m hg c t (ix3 (0 : Fin 1) f j) = (m ((c : Thread nD τ).loc main_arg4) : Vec Ideal S8x3584x1024 .f32)
      (ix3 (expertOf (te m (kx (tile t)))) (⟨896 * (t.val % 4) + f.val, by omega⟩ : Fin 3584) j) := by
  have e1 := expertOf_val m hg (kx (tile t))
  have e2 := hid_val m t hv
  rw [← V_wo m c]
  blk_ext [b4, iblk, idx4 m hg t]

/-- The array's row behind a block's row. -/
abbrev rowOf (t : Fin grid0.N) (r : Fin 512) : Fin 1024 → EReal := fun k => (m ((c : Thread nD τ).loc main_arg0) : Vec Ideal S69632x1024 .bf16) (ix2 (row t r) k)

/-- One quarter at a row of the arrays. -/
abbrev part (t : Fin grid0.N) (r : Fin 512) (j : Fin 1024) (q : Fin 4) : EReal :=
  quarter (rowOf m c t r) (m ((c : Thread nD τ).loc main_arg3)) (m ((c : Thread nD τ).loc main_arg4)) (expertOf (te m (kx (tile t))))
    ((m ((c : Thread nD τ).loc main_arg1) : Vec Ideal S69632x128 .f32) (ix2 (row t r) (0 : Fin 128))) j q

theorem col_at (x : Vec Ideal S512x128 .f32) (r : Fin 512) : col x (ix2 r (0 : Fin 1)) = x (ix2 r (0 : Fin 128)) := by
  unfold col
  pointwise

/-- What a point of a tile with rows adds is its quarter of the sum. -/
theorem point_at (t : Fin (cfgA m hg).N) (hv : tv m (kx (tile t)) = 1#32) (r : Fin 512) (j : Fin 1024) :
    k0_pay1 (b0 m hg c t) (b2 m hg c t) (b3 m hg c t) (col (b1 m hg c t)) (b4 m hg c t) (ix2 r j)
      = part m c t r j ⟨t.val % 4, Nat.mod_lt _ (by decide)⟩ := by
  rw [pay1_at]
  rw [col_at, blk1]
  simp only [blk0, blk2 m hg c t hv, blk3 m hg c t hv, blk4 m hg c t hv]
  rfl

/-- The point before one, in the same tile. -/
theorem part_eq (t s : Fin grid0.N) (h : t.val / 4 = s.val / 4) (r : Fin 512) (j : Fin 1024) (q q' : Fin 4) (hq : q.val = q'.val) :
    part m c t r j q = part m c s r j q' := by
  have e1 : row t r = row s r := Fin.ext (by show 512 * (t.val / 4) + r.val = 512 * (s.val / 4) + r.val; rw [h])
  have e2 : tile t = tile s := Fin.ext ((tile_val t).trans (h.trans (tile_val s).symm))
  have e3 : q = q' := Fin.ext hq
  subst e3
  unfold part rowOf
  rw [e1, e2]

/-- The running sum at a tile's last point is the whole sum over the hidden entries. -/
theorem acc_last (t : Fin (cfgA m hg).N) (hv : tv m (kx (tile t)) = 1#32) (h3 : t.val % 4 = 3) (r : Fin 512) (j : Fin 1024) :
    acc m hg c t.val (ix2 r j) = part m c t r j 0 + part m c t r j 1 + part m c t r j 2 + part m c t r j 3 := by
  have hN := lt_N t
  have lt : ∀ k, t.val - k < grid0.N := fun k => (show t.val - k < 544 by omega).trans_eq N_0.symm
  have tl : ∀ k, k ≤ 3 → (t.val - k) / 4 = t.val / 4 := fun k hk => by omega
  have vl : ∀ k (hk : k ≤ 3), tv m (kx (tile ⟨t.val - k, lt k⟩)) = 1#32 := fun k hk => by
    rw [show tile ⟨t.val - k, lt k⟩ = tile t from Fin.ext ((tile_val _).trans ((tl k hk).trans (tile_val t).symm))]; exact hv
  have a0 : acc m hg c (t.val - 3) (ix2 r j) = part m c t r j 0 :=
    (congrFun (acc_first m hg c ⟨t.val - 3, lt 3⟩ (by show (t.val - 3) % 4 = 0; omega)) _).trans ((pay2_eq _ _ _ _ _ r j).trans
      ((point_at m hg c _ (vl 3 (by omega)) r j).trans (part_eq m c _ t (tl 3 (by omega)) r j _ _ (by show (t.val - 3) % 4 = 0; omega))))
  have step : ∀ k (hk : k < 3) (q : Fin 4), q.val = 3 - k → acc m hg c (t.val - k) (ix2 r j) = acc m hg c (t.val - k - 1) (ix2 r j) + part m c t r j q :=
    fun k hk q hq => (congrFun (acc_later m hg c ⟨t.val - k, lt k⟩ (by show ¬(t.val - k) % 4 = 0; omega)) _).trans ((pay3_eq _ _ _ _ _ _ r j).trans
      (congrArg _ ((point_at m hg c _ (vl k (by omega)) r j).trans (part_eq m c _ t (tl k (by omega)) r j _ _ (by show (t.val - k) % 4 = q.val; omega)))))
  have s0 := step 0 (by omega) 3 rfl
  have s1 := step 1 (by omega) 2 rfl
  have s2 := step 2 (by omega) 1 rfl
  simp only [Nat.sub_zero, Nat.sub_sub, Nat.reduceAdd] at s0 s1 s2
  rw [s0, s1, s2, a0]

/-- The whole result as one function of the launch contents. -/
def res : Vec Ideal S69632x1024 .bf16 :=
  outE (m ((c : Thread nD τ).loc main_arg0)) (m ((c : Thread nD τ).loc main_arg1)) (fun n => te m (kx n)) (fun n => tv m (kx n))
    (m ((c : Thread nD τ).loc main_arg3)) (m ((c : Thread nD τ).loc main_arg4))

/-- What a tile's last point writes, at an entry. -/
theorem outAt_at (t : Fin (cfgA m hg).N) (h3 : t.val % 4 = 3) (r : Fin 512) (j : Fin 1024) :
    outAt m hg c t (ix2 r j) = res m c (ix2 (row t r) j) := by
  unfold outAt res outE
  show _ = if tv m (kx (tileOf (row t r))) = 1#32 then _ else _
  rw [tileOf_row]
  by_cases hv : tv m (kx (tile t)) = 1#32
  · rw [if_pos hv, if_pos hv]
    refine (show _ = acc m hg c t.val (ix2 r j) from rfl).trans ((acc_last m hg c t hv h3 r j).trans ?_)
    refine (gatedExpert_quarters _ _ _ _ _ _).symm.trans ?_
    exact congrArg (fun n => gatedExpert (rowOf m c t r) (m ((c : Thread nD τ).loc main_arg3)) (m ((c : Thread nD τ).loc main_arg4)) (expertOf (te m (kx n)))
      ((m ((c : Thread nD τ).loc main_arg1) : Vec Ideal S69632x128 .f32) (ix2 (row t r) (0 : Fin 128))) j) (tileOf_row t r).symm
  · rw [if_neg hv, if_neg hv]
    unfold k0_pay5
    pointwise

/-- An index of the result from its two numbers. -/
theorem ix_of {x : S69632x1024.Idx} {t : Fin grid0.N} {a : Fin 512} {b : Fin 1024} (h0 : (x 0).val = 512 * (t.val / 4) + a.val) (h1 : (x 1).val = b.val) :
    ix2 (row t a) b = x := by
  funext d; fin_cases d
  · exact Fin.ext h0.symm
  · exact Fin.ext h1.symm

/-- The tiles' last points write the whole result. -/
theorem covers5 : ((cfgA m hg).win (5 : Fin 6)).Covers := by
  refine ⟨fun a => by match a with | ⟨0, _⟩ => exact Nat.succ_pos _ | ⟨1, _⟩ => exact Nat.succ_pos _, fun β => ?_⟩
  have h0 : (β (0 : Fin 2)).val < (69632 + 512 - 1) / 512 := (β (0 : Fin 2)).isLt
  have h1 : (β (1 : Fin 2)).val < (1024 + 1024 - 1) / 1024 := (β (1 : Fin 2)).isLt
  refine ⟨⟨4 * (β (0 : Fin 2)).val + 3, (show 4 * (β (0 : Fin 2)).val + 3 < 544 by omega).trans_eq N_0.symm⟩, ?_, fun a => ⟨?_, Or.inl rfl⟩⟩
  · exact (flush5 m hg _).trans (decide_eq_true (show (4 * (β (0 : Fin 2)).val + 3) % 4 = 3 by omega))
  · rw [idx5 m hg]
    match a with
    | ⟨0, _⟩ => show (4 * (β (0 : Fin 2)).val + 3) / 4 = (β (0 : Fin 2)).val; omega
    | ⟨1, _⟩ => show 0 = (β (1 : Fin 2)).val; omega

/-- The result after the run. -/
theorem result5 : (dats m hg 0 c).arrAt (5 : Fin 6) (cfgA m hg).N = res m c := by
  refine (dats m hg 0 c).arrAt_eq_of_covers (5 : Fin 6) _ (covers5 m hg) fun t hf y => ?_
  have h3 : t.val % 4 = 3 := of_decide_eq_true ((flush5 m hg t).symm.trans hf)
  have e0 : (((((cfgA m hg).win (5 : Fin 6)).blk t).view.emb y) 0).val = 512 * (t.val / 4) + (y 0).val := by blk_simp [idx5 m hg t]; omega
  have e1 : (((((cfgA m hg).win (5 : Fin 6)).blk t).view.emb y) 1).val = (y 1).val := by blk_simp [idx5 m hg t]
  refine (show _ = outAt m hg c t y from rfl).trans ?_
  refine ((congrArg _ (eq_ix2 y)).trans (outAt_at m hg c t h3 (y 0) (y 1))).trans ?_
  exact congrArg (res m c) (ix_of e0 e1)
end Cert.Ret.Moe
end
-- ==== Proof.MoeRef.lean ====
/- The experts of layer 2: what the reference computes. -/
module

public import proofs.«01_k».proof.Proof.MoeModel
public import proofs.«01_k».proof.Proof.MoeEnds
public import proofs.«01_k».proof.Proof.Gen.Reference5Ideal.Run
public import Idealize.ShloMosaic.Lib.Claim

@[expose] public section
set_option maxRecDepth 16384
noncomputable section
namespace Cert.Ret.Moe
open Cert.Reference5Ideal Cert.Reference5Ideal.Gen Idealize.ShloMosaic Idealize.ShloMosaic.TcCoe Idealize.SL.Sem Idealize.ShloMosaic.StableHlo

/-- A row's weight for an expert: the row's gate where its group is that expert's and lies before the end. -/
def weight (g : EReal) (n : BitVec 32) (u : BitVec 1) (e : Fin 8) : EReal :=
  ((((Scalar.cmpi .eq n (BitVec.ofNat 32 e.val) : BitVec 1).toNat : ℝ) : EReal)) * ((u.toNat : ℝ) : EReal) * g

/-- The reference finds the ends of the experts' groups as the kernel's host operations do. -/
theorem ends_eq (V0 : Valuation τ sig (Elt Ideal)) : (Value.res_main_v9 V0 : IVec S8 32) = ends (F := Ideal) (V0 (Proc.devRef .tc main_arg2)) := by
  unfold Value.res_main_v9 Value.res_main_v7 Value.res_main_call0_v2 Value.res_main_v7 Value.res_main_call0_v0 ends groups
  rfl

/-- The weights, from each group's count and its yes or no. -/
def weights (n : IVec S136 32) (u : IVec S136 1) (g : FVec Ideal S69632x128 .f32) : FVec Ideal S69632x8 .f32 :=
  mulf (shapeCast _ (broadcastInDim S136x512x8 ![0, 2] bcast_S136x8_S136x512x8_0_2 (mulf (uitofp .f32 (cmpi .eq (broadcastInDim S136x8 ![0, 1] bcast_S136x1_S136x8_0_1
      (broadcastInDim S136x1 ![0] bcast_S136_S136x1_0 n)) (broadcastInDim S136x8 ![0, 1] bcast_S1x8_S136x8_0_1 (iotaInDim S1x8 32 1))))
    (broadcastInDim S136x8 ![0, 1] bcast_S136x1_S136x8_0_1 (broadcastInDim S136x1 ![0] bcast_S136_S136x1_0 (uitofp .f32 u))))) shapeCasts_S136x512x8_S69632x8)
    (broadcastInDim S69632x8 ![0, 1] bcast_S69632x1_S69632x8_0_1 (extractStridedSlice S69632x1 ![0, 0] g slices_S69632x128_S69632x1_0_0))

theorem weights_at (n : IVec S136 32) (u : IVec S136 1) (g : Vec Ideal S69632x128 .f32) (r : Fin 69632) (e : Fin 8) :
    weights n u g (ix2 r e) = weight (g (ix2 r (0 : Fin 128))) (n (ix1 (tileOf r))) (u (ix1 (tileOf r))) e := by
  unfold weights weight
  pointwise
  rfl

theorem weights_eq (V0 : Valuation τ sig (Elt Ideal)) :
    (Value.res_main_v31 V0 : Vec Ideal S69632x8 .f32) = weights (cnt (ends (F := Ideal) (V0 (Proc.devRef .tc main_arg2)))) (isUsed (ends (F := Ideal) (V0 (Proc.devRef .tc main_arg2))))
      (V0 (Proc.devRef .tc main_arg1)) := by
  rw [← ends_eq]
  unfold Value.res_main_v31 Value.res_main_v10 weights cnt isUsed
  rfl

theorem weight_at (V0 : Valuation τ sig (Elt Ideal)) (r : Fin 69632) (e : Fin 8) :
    (Value.res_main_v31 V0 : Vec Ideal S69632x8 .f32) (ix2 r e)
      = weight ((V0 (Proc.devRef .tc main_arg1) : Vec Ideal S69632x128 .f32) (ix2 r (0 : Fin 128)))
          (cnt (ends (F := Ideal) (V0 (Proc.devRef .tc main_arg2))) (ix1 (tileOf r))) (isUsed (ends (F := Ideal) (V0 (Proc.devRef .tc main_arg2))) (ix1 (tileOf r))) e :=
  (congrFun (weights_eq V0) _).trans (weights_at _ _ _ r e)

/-- An expert's answer, as the reference writes the sigmoid. -/
theorem expert_eq (x : Fin 1024 → EReal) (W : Wi) (U : Wo) (e : Fin 8) (j : Fin 1024) :
    expert x W U e j = ∑ f : Fin 3584, (∑ k : Fin 1024, x k * W (ix3 e k (⟨f.val, by omega⟩ : Fin 7168)))
      * Ideal.div 1 (1 + Ideal.exp (-∑ k : Fin 1024, x k * W (ix3 e k (⟨f.val, by omega⟩ : Fin 7168))))
      * (∑ k : Fin 1024, x k * W (ix3 e k (⟨3584 + f.val, by omega⟩ : Fin 7168))) * U (ix3 e f j) := rfl

/-- The first six experts' part of the sum, at an entry. -/
theorem six_at (V0 : Valuation τ sig (Elt Ideal)) (r : Fin 69632) (j : Fin 1024) (w : Fin 8 → EReal)
    (hw : ∀ e : Fin 8, (Value.res_main_v31 V0 : Vec Ideal S69632x8 .f32) (ix2 r e) = w e) (a : Fin 8 → EReal)
    (ha : ∀ e : Fin 8, a e = expert (fun k => (V0 (Proc.devRef .tc main_arg0) : Vec Ideal S69632x1024 .bf16) (ix2 r k)) (V0 (Proc.devRef .tc main_arg3))
      (V0 (Proc.devRef .tc main_arg4)) e j) :
    (Value.res_main_v116 V0 : Vec Ideal S69632x1024 .f32) (ix2 r j) = w 0 * a 0 + w 1 * a 1 + w 2 * a 2 + w 3 * a 3 + w 4 * a 4 + w 5 * a 5 := by
  simp only [← hw, ha, expert_eq]
  clear hw ha
  unfold Value.res_main_v116 Value.res_main_v39 Value.res_main_v38 Value.res_main_v53 Value.res_main_v52 Value.res_main_v67 Value.res_main_v66 Value.res_main_v81 Value.res_main_v80
    Value.res_main_v95 Value.res_main_v94 Value.res_main_v109 Value.res_main_v108 Value.res_main_v0
  generalize Value.res_main_v31 V0 = G
  generalize V0 (Proc.devRef .tc main_arg0) = X
  generalize V0 (Proc.devRef .tc main_arg3) = W
  generalize V0 (Proc.devRef .tc main_arg4) = U
  pointwise

/-- One of eight weights is the gate and the others are zero: the weighted sum has one term. -/
theorem pick (w a : Fin 8 → EReal) (g : EReal) (e : Fin 8) (hw : ∀ i, w i = if i = e then g else 0) :
    w 0 * a 0 + w 1 * a 1 + w 2 * a 2 + w 3 * a 3 + w 4 * a 4 + w 5 * a 5 + w 6 * a 6 + w 7 * a 7 = g * a e := by
  simp only [hw]
  clear hw
  revert e
  intro e
  match e with
  | 0 => simp
  | 1 => simp
  | 2 => simp
  | 3 => simp
  | 4 => simp
  | 5 => simp
  | 6 => simp
  | 7 => simp

theorem weight_zero (g : EReal) (n : BitVec 32) (e : Fin 8) : weight g n 0#1 e = 0 := by
  unfold weight
  simp

theorem weight_one (g : EReal) (n : BitVec 32) (hn : n.toNat < 8) (e : Fin 8) : weight g n 1#1 e = if e = expertOf n then g else 0 := by
  have h1 : (((1#1 : BitVec 1).toNat : ℝ) : EReal) = 1 := by
    rw [show (1#1 : BitVec 1).toNat = 1 from by decide]; simp
  unfold weight
  rw [h1, mul_one]
  by_cases h : e = expertOf n
  · have e1 : n = BitVec.ofNat 32 e.val := by
      subst h
      exact BitVec.eq_of_toNat_eq (by rw [BitVec.toNat_ofNat]; show n.toNat = n.toNat % 8 % 2 ^ 32; omega)
    rw [if_pos h, ← e1, show (Scalar.cmpi .eq n n : BitVec 1) = 1#1 from by show BitVec.ofBool (n == n) = 1#1; rw [beq_self_eq_true]; rfl]
    simp
  · have e1 : n ≠ BitVec.ofNat 32 e.val := fun hh => h (Fin.ext (by
      have := congrArg BitVec.toNat hh
      rw [BitVec.toNat_ofNat, Nat.mod_eq_of_lt (by omega)] at this
      show e.val = n.toNat % 8
      omega))
    rw [if_neg h, show (Scalar.cmpi .eq n (BitVec.ofNat 32 e.val) : BitVec 1) = 0#1 from by
      show BitVec.ofBool (n == BitVec.ofNat 32 e.val) = 0#1; rw [beq_eq_false_iff_ne.mpr e1]; rfl]
    simp

theorem bit_or : ∀ b : BitVec 1, b = 0#1 ∨ b = 1#1 := by decide

/-- The reference's weighted sum over all experts is the one expert's gated answer. -/
theorem all_at (X : Vec Ideal ⟨2, ![69632, 1024]⟩ .f32) (g : Vec Ideal ⟨2, ![69632, 128]⟩ .f32) (E : IVec ⟨1, ![8]⟩ 32) (W : Wi) (U : Wo)
    (h : Gated g) (r : Fin 69632) (j : Fin 1024) (w a : Fin 8 → EReal)
    (hw : ∀ e, w e = weight (g (ix2 r (0 : Fin 128))) (cnt E (ix1 (tileOf r))) (isUsed E (ix1 (tileOf r))) e) (ha : ∀ e, a e = expert (fun k => X (ix2 r k)) W U e j) :
    w 0 * a 0 + w 1 * a 1 + w 2 * a 2 + w 3 * a 3 + w 4 * a 4 + w 5 * a 5 + w 6 * a 6 + w 7 * a 7
      = outE X g (fun n => expertTab E (ix1 n)) (fun n => validTab E (ix1 n)) W U (ix2 r j) := by
  show _ = if (isUsed E (ix1 (tileOf r))).setWidth 32 = 1#32 then
    gatedExpert (fun k => X (ix2 r k)) W U (expertOf (expertTab E (ix1 (tileOf r)))) (g (ix2 r (0 : Fin 128))) j else 0
  rcases bit_or (isUsed E (ix1 (tileOf r))) with hv | hv
  · rw [hv, if_neg (by decide)]
    simp only [hw, hv, weight_zero, zero_mul, add_zero]
  · rw [expertTab_of_used E _ hv]
    have hn := cnt_lt E _ hv
    simp only [hv] at hw ⊢
    rw [if_pos (by decide)]
    have hg := h r
    rw [pick w a (g (ix2 r (0 : Fin 128))) (expertOf (cnt E (ix1 (tileOf r)))) (fun i => by rw [hw, weight_one _ _ hn]), ha]
    exact gate_inside _ _ _ _ _ hg.1 (ne_of_lt (lt_of_le_of_lt hg.2 (EReal.coe_lt_top 1)))

/-- The reference's run, its result as the same function of the arguments. -/
theorem ref_run (m : (ℓ : Loc nD τ sig) → Buf (Elt Ideal) ℓ) (ρ : Dev nD → PrngReg)
    (hf : ∀ c : Dev nD, Gated (m ((c.tc : Thread nD τ).loc main_arg1))) :
    θ_run defs (onTc (τ := τ) (main (F := Ideal))) ⟨m, fun _ => 0, ρ⟩ fun r => ∀ c : Dev nD,
      r.2.mem ((c.tc : Thread nD τ).loc main_v145) = outE (m ((c.tc : Thread nD τ).loc main_arg0)) (m ((c.tc : Thread nD τ).loc main_arg1))
        (fun n => expertTab (ends (F := Ideal) (m ((c.tc : Thread nD τ).loc main_arg2))) (ix1 n)) (fun n => validTab (ends (F := Ideal) (m ((c.tc : Thread nD τ).loc main_arg2))) (ix1 n))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2⟩) (Value.run (F := Ideal) m ρ)
  funext i
  obtain ⟨r, j, rfl⟩ : ∃ (r : Fin 69632) (j : Fin 1024), i = ix2 r j := ⟨i 0, i 1, eq_ix2 i⟩
  have hw := fun e => weight_at (launchContents m c) r e
  generalize ha : (fun e : Fin 8 => expert (fun k => (launchContents m c (Proc.devRef .tc main_arg0) : Vec Ideal S69632x1024 .bf16) (ix2 r k))
    (launchContents m c (Proc.devRef .tc main_arg3)) (launchContents m c (Proc.devRef .tc main_arg4)) e j) = a
  have ha' := fun e => (congrFun ha e).symm
  have h6 := six_at (launchContents m c) r j (fun e => (Value.res_main_v31 (launchContents m c) : Vec Ideal S69632x8 .f32) (ix2 r e)) (fun e => rfl) a ha'
  refine Eq.trans ?_ (all_at _ _ _ _ _ (hf c) r j (fun e => (Value.res_main_v31 (launchContents m c) : Vec Ideal S69632x8 .f32) (ix2 r e)) a hw ha')
  dsimp only
  rw [← h6, ha' 6, ha' 7, expert_eq, expert_eq]
  clear h6 hw ha ha'
  unfold Value.res_main_v123 Value.res_main_v122 Value.res_main_v137 Value.res_main_v136 Value.res_main_v0
  generalize Value.res_main_v31 (launchContents m c) = G
  generalize Value.res_main_v116 (launchContents m c) = Z
  generalize launchContents m c (Proc.devRef .tc main_arg0) = X
  generalize launchContents m c (Proc.devRef .tc main_arg3) = W
  generalize launchContents m c (Proc.devRef .tc main_arg4) = U
  pointwise
end Cert.Ret.Moe
end
-- ==== Proof.MoePre.lean ====
/- The experts of layer 2: what the precondition says of the gates. -/
module

public import proofs.«01_k».proof.Proof.Gen.Pre_gated
public import proofs.«01_k».proof.Proof.MoeModel
public import Idealize.ShloMosaic.Lib.Pointwise

@[expose] public section
set_option maxRecDepth 16384
noncomputable section
namespace Cert.Ret.Moe
open Idealize.ShloMosaic

theorem and_one : ∀ a b : BitVec 1, IntOp.andi a b = 1#1 → a = 1#1 ∧ b = 1#1 := by decide

theorem ofBool_one {b : Bool} (h : BitVec.ofBool b = 1#1) : b = true := by cases b <;> simp_all

theorem cmp_one {p : Prop} [Decidable p] (h : BitVec.ofBool (decide p) = 1#1) : p := of_decide_eq_true (ofBool_one h)

/-- The gates lie between zero and one where the precondition holds. -/
theorem of_gated (a0 : FVec Ideal ⟨2, ![69632, 1024]⟩ .bf16) (g : FVec Ideal ⟨2, ![69632, 128]⟩ .f32) (a2 : FVec Ideal ⟨2, ![8, 128]⟩ .f32)
    (a3 : FVec Ideal ⟨3, ![8, 1024, 7168]⟩ .f32) (a4 : FVec Ideal ⟨3, ![8, 3584, 1024]⟩ .f32) (h : Cert.Pre_gated.fn (F := Ideal) a0 g a2 a3 a4 = fun _ => 1#1) :
    Gated g := fun r => by
  have key : Cert.Pre_gated.fn (F := Ideal) a0 g a2 a3 a4 (ix1 r)
      = IntOp.andi (Ideal.cmp .oge (g (ix2 r (0 : Fin 128))) 0) (Ideal.cmp .ole (g (ix2 r (0 : Fin 128))) 1) := by
    unfold Cert.Pre_gated.fn
    pointwise
  have h1 := and_one _ _ (key.symm.trans (congrFun h (ix1 r)))
  exact ⟨cmp_one h1.1, cmp_one h1.2⟩
end Cert.Ret.Moe
end
-- ==== Proof.Out.lean ====
/- The sparse attention's output projection with residual and layer norm: the kernel's results are the reference's. -/
module

public import proofs.«01_k».proof.Proof.Norm
public import proofs.«01_k».proof.Proof.Gen.Kernel6Ideal.Value
public import Idealize.ShloMosaic.Lib.Pipeline.ValueKit.Point

@[expose] public section
set_option maxRecDepth 16384
noncomputable section
namespace Cert.Ret.Out
open Cert.Kernel6Ideal Cert.Kernel6Ideal.Gen Idealize.ShloMosaic Idealize.ShloMosaic.TcCoe Idealize.SL.Sem

/-- The stored block at an entry. -/
theorem pay1_at (y : Vec Ideal S1024x1024 .bf16) (w : Vec Ideal S1024x1024 .bf16) (x : Vec Ideal S1024x1024 .f32) (g b : Vec Ideal S1x1024 .f32) (r j : Fin 1024) :
    k0_pay1 y w x g b (ix2 r j) = lnAt (fun k => alpha * x (ix2 r k) + ∑ s : Fin 1024, y (ix2 s r) * w (ix2 s k)) (g (ix2 (0 : Fin 1) j)) (b (ix2 (0 : Fin 1) j)) j := by
  unfold k0_pay1 lnAt mean alpha
  pointwise

variable (m : (ℓ : Loc nD τ sig) → Buf (Elt Ideal) ℓ) (c : Dev nD)

/-- The weight that the call reads is the argument: over the reals its cast to bfloat16 is the identity. -/
theorem V_w : V m c main_v0 = (m ((c : Thread nD τ).loc main_arg1) : Vec Ideal S1024x1024 .f32) := by
  simp only [V, hostOps0, List.flatten_cons, List.flatten_nil, List.append_nil, List.cons_append, List.nil_append]
  after_results
  rfl

/-- The gain as a row. -/
theorem V_g : V m c main_v1 = (shapeCast S1x1024 (m ((c : Thread nD τ).loc main_arg3) : Vec Ideal S1024 .f32) shapeCasts_S1024_S1x1024 : Vec Ideal S1x1024 .f32) := by
  simp only [V, hostOps0, List.flatten_cons, List.flatten_nil, List.append_nil, List.cons_append, List.nil_append]
  after_results
  rfl

/-- The shift as a row. -/
theorem V_b : V m c main_v2 = (shapeCast S1x1024 (m ((c : Thread nD τ).loc main_arg4) : Vec Ideal S1024 .f32) shapeCasts_S1024_S1x1024 : Vec Ideal S1x1024 .f32) := by
  simp only [V, hostOps0, List.flatten_cons, List.flatten_nil, List.append_nil, List.cons_append, List.nil_append]
  after_results
  rfl

/-- Step `t` reads the `t`-th block of columns of the transposed attention. -/
theorem idx0 : ∀ t : Fin grid0.N, win0_0.index t = ![0, t.val] := by decide +kernel
/-- Every step reads the whole weight. -/
theorem idx1 : ∀ t : Fin grid0.N, win0_1.index t = ![0, 0] := by decide +kernel
/-- Step `t` reads the `t`-th block of residual rows. -/
theorem idx2 : ∀ t : Fin grid0.N, win0_2.index t = ![t.val, 0] := by decide +kernel
/-- Every step reads the gain. -/
theorem idx3 : ∀ t : Fin grid0.N, win0_3.index t = ![0, 0] := by decide +kernel
/-- Every step reads the shift. -/
theorem idx4 : ∀ t : Fin grid0.N, win0_4.index t = ![0, 0] := by decide +kernel
/-- Step `t` writes the `t`-th block of the first result. -/
theorem idx5 : ∀ t : Fin grid0.N, win0_5.index t = ![t.val, 0] := by decide +kernel
/-- Step `t` writes the `t`-th block of the second result. -/
theorem idx6 : ∀ t : Fin grid0.N, win0_6.index t = ![t.val, 0] := by decide +kernel

/-- The grid has 32 steps. -/
theorem hN (t : Fin cfg0.N) : t.val < 32 := lt_of_lt_of_eq t.isLt (show cfg0.N = 32 from N_0)

/-- The array's row that a block's row is. -/
def row (t : Fin cfg0.N) (r : Fin 1024) : Fin 32768 := ⟨1024 * t.val + r.val, by have := hN t; omega⟩

/-- The transposed attention's block of a step, entry by entry. -/
theorem blk_y (t : Fin cfg0.N) (r : Fin 1024) (s : Fin 1024) :
    (iblk m c 0 t : Vec Ideal S1024x1024 .bf16) (ix2 s r) = (m ((c : Thread nD τ).loc main_arg0) : Vec Ideal S1024x32768 .bf16) (ix2 s (row t r)) := by
  rw [← V_main_arg0 m c]
  unfold row
  blk_ext [iblk, idx0 t]

/-- The weight's block of a step is the weight. -/
theorem blk_w (t : Fin cfg0.N) (s : Fin 1024) (k : Fin 1024) :
    (iblk m c 1 t : Vec Ideal S1024x1024 .bf16) (ix2 s k) = (m ((c : Thread nD τ).loc main_arg1) : Vec Ideal S1024x1024 .f32) (ix2 s k) := by
  rw [← V_w m c]
  blk_ext [iblk, idx1 t]

/-- The residual's block of a step, entry by entry. -/
theorem blk_x (t : Fin cfg0.N) (r k : Fin 1024) :
    (iblk m c 2 t : Vec Ideal S1024x1024 .f32) (ix2 r k) = (m ((c : Thread nD τ).loc main_arg2) : Vec Ideal S32768x1024 .f32) (ix2 (row t r) k) := by
  rw [← V_main_arg2 m c]
  unfold row
  blk_ext [iblk, idx2 t]

/-- A row reshaped from a vector at an entry. -/
theorem cast_row (X : Vec Ideal S1024 .f32) (hc : S1024.ShapeCasts S1x1024) (e : Fin 1024) :
    shapeCast S1x1024 X hc (ix2 (0 : Fin 1) e) = X (ix1 e) := by
  refine shapeCast_apply _ _ _ _ ?_
  simp only [Shape.rowMajor_val_one, Shape.rowMajor_val_two, ix1, ix2]
  show e.val = 0 * 1024 + e.val
  omega

/-- The gain's block of a step is the gain. -/
theorem blk_g (t : Fin cfg0.N) (k : Fin 1024) :
    (iblk m c 3 t : Vec Ideal S1x1024 .f32) (ix2 (0 : Fin 1) k) = (m ((c : Thread nD τ).loc main_arg3) : Vec Ideal S1024 .f32) (ix1 k) := by
  have h : (iblk m c 3 t : Vec Ideal S1x1024 .f32) (ix2 (0 : Fin 1) k) = (V m c main_v1 : Vec Ideal S1x1024 .f32) (ix2 (0 : Fin 1) k) := by
    blk_ext [iblk, idx3 t]
  rw [h, V_g, cast_row]

/-- The shift's block of a step is the shift. -/
theorem blk_b (t : Fin cfg0.N) (k : Fin 1024) :
    (iblk m c 4 t : Vec Ideal S1x1024 .f32) (ix2 (0 : Fin 1) k) = (m ((c : Thread nD τ).loc main_arg4) : Vec Ideal S1024 .f32) (ix1 k) := by
  have h : (iblk m c 4 t : Vec Ideal S1x1024 .f32) (ix2 (0 : Fin 1) k) = (V m c main_v2 : Vec Ideal S1x1024 .f32) (ix2 (0 : Fin 1) k) := by
    blk_ext [iblk, idx4 t]
  rw [h, V_b, cast_row]

/-- The result of the whole part, as one function of its arguments. -/
def outG (Y : Vec Ideal S1024x32768 .bf16) (W : Vec Ideal S1024x1024 .f32) (X : Vec Ideal S32768x1024 .f32) (g b : Vec Ideal S1024 .f32) : Vec Ideal S32768x1024 .f32 := fun i =>
  lnAt (fun k => alpha * X (ix2 (i 0) k) + ∑ s : Fin 1024, Y (ix2 s (i 0)) * W (ix2 s k)) (g (ix1 (i 1))) (b (ix1 (i 1))) (i 1)

/-- What a grid point computes at an entry of its block. -/
theorem point_at (t : Fin cfg0.N) (r j : Fin 1024) :
    k0_pay1 (iblk m c 0 t) (iblk m c 1 t) (iblk m c 2 t) (iblk m c 3 t) (iblk m c 4 t) (ix2 r j)
      = outG (m ((c : Thread nD τ).loc main_arg0)) (m ((c : Thread nD τ).loc main_arg1)) (m ((c : Thread nD τ).loc main_arg2)) (m ((c : Thread nD τ).loc main_arg3)) (m ((c : Thread nD τ).loc main_arg4)) (ix2 (row t r) j) := by
  rw [pay1_at, blk_g, blk_b]
  simp only [blk_x, blk_y, blk_w]
  rfl

/-- The whole result as one function of the launch contents. -/
def res : Vec Ideal S32768x1024 .f32 :=
  outG (m ((c : Thread nD τ).loc main_arg0)) (m ((c : Thread nD τ).loc main_arg1)) (m ((c : Thread nD τ).loc main_arg2)) (m ((c : Thread nD τ).loc main_arg3)) (m ((c : Thread nD τ).loc main_arg4))

/-- The first result's block after a step. -/
theorem after5 (t : Fin cfg0.N) (y : S1024x1024.Idx) :
    (out0_5 (iblk m c 0 t) (iblk m c 1 t) (iblk m c 2 t) (iblk m c 3 t) (iblk m c 4 t) : Vec Ideal S1024x1024 .f32) y = res m c (ix2 (row t (y 0)) (y 1)) := by
  have hz : (![0, 0] : Fin 2 → ℕ) = fun _ => 0 := by funext d; fin_cases d <;> rfl
  unfold out0_5
  rw [View.canon_unit_zero hz]
  rw [View.ld_unit_zero (S := S1024x1024) hz, View.ld_unit_zero (S := S1024x1024) hz, View.ld_unit_zero (S := S1024x1024) hz, View.ld_unit_zero (S := S1x1024) hz, View.ld_unit_zero (S := S1x1024) hz]
  exact (congrArg _ (eq_ix2 y)).trans (point_at m c t (y 0) (y 1))

/-- The second result's block after a step. -/
theorem after6 (t : Fin cfg0.N) (y : S1024x1024.Idx) :
    (out0_6 (iblk m c 0 t) (iblk m c 1 t) (iblk m c 2 t) (iblk m c 3 t) (iblk m c 4 t) : Vec Ideal S1024x1024 .bf16) y = res m c (ix2 (row t (y 0)) (y 1)) := by
  have hz : (![0, 0] : Fin 2 → ℕ) = fun _ => 0 := by funext d; fin_cases d <;> rfl
  unfold out0_6
  rw [View.canon_unit_zero hz]
  rw [View.ld_unit_zero (S := S1024x1024) hz, View.ld_unit_zero (S := S1024x1024) hz, View.ld_unit_zero (S := S1024x1024) hz, View.ld_unit_zero (S := S1x1024) hz, View.ld_unit_zero (S := S1x1024) hz]
  exact (congrArg _ (eq_ix2 y)).trans (point_at m c t (y 0) (y 1))

/-- An index of the result from its two numbers. -/
theorem ix_of {x : S32768x1024.Idx} {t : Fin cfg0.N} {a b : Fin 1024} (h0 : (x 0).val = 1024 * t.val + a.val) (h1 : (x 1).val = b.val) :
    ix2 (row t a) b = x := by
  funext d; fin_cases d
  · exact Fin.ext h0.symm
  · exact Fin.ext h1.symm

/-- The first result after the run. -/
theorem result5 : (dats m 0 c).arrAt 5 cfg0.N = res m c := by
  refine (dats m 0 c).arrAt_eq_of_covers 5 _ (by decide +kernel) fun t hf y => ?_
  have e0 : ((((cfg0.win 5).blk t).view.emb y) 0).val = 1024 * t.val + (y 0).val := by blk_simp [idx5 t]; omega
  have e1 : ((((cfg0.win 5).blk t).view.emb y) 1).val = (y 1).val := by blk_simp [idx5 t]
  refine (congrFun (Value.flushed5 m c t) y).trans ?_
  refine (after5 m c t y).trans ?_
  exact congrArg (res m c) (ix_of e0 e1)

/-- The second result after the run. -/
theorem result6 : (dats m 0 c).arrAt 6 cfg0.N = (res m c : Vec Ideal S32768x1024 .bf16) := by
  refine (dats m 0 c).arrAt_eq_of_covers 6 _ (by decide +kernel) fun t hf y => ?_
  have e0 : ((((cfg0.win 6).blk t).view.emb y) 0).val = 1024 * t.val + (y 0).val := by blk_simp [idx6 t]; omega
  have e1 : ((((cfg0.win 6).blk t).view.emb y) 1).val = (y 1).val := by blk_simp [idx6 t]
  refine (congrFun (Value.flushed6 m c t) y).trans ?_
  refine (after6 m c t y).trans ?_
  exact congrArg (res m c) (ix_of e0 e1)
end Cert.Ret.Out
end
-- ==== Proof.OutRef.lean ====
/- The sparse attention's output projection with residual and layer norm: what the reference computes. -/
module

public import proofs.«01_k».proof.Proof.Out
public import proofs.«01_k».proof.Proof.Gen.Reference6Ideal.Run
public import Idealize.ShloMosaic.Lib.Claim

@[expose] public section
set_option maxRecDepth 16384
noncomputable section
namespace Cert.Ret.Out
open Cert.Reference6Ideal Cert.Reference6Ideal.Gen Idealize.ShloMosaic Idealize.ShloMosaic.TcCoe Idealize.SL.Sem

/-- The reference's run, its results as the same function of the arguments. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = outG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v30) = outG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2.1.trans ?_, (h c).2.2⟩) (Value.run (F := Ideal) m ρ)
  all_goals
    simp only [Value.res_main_v29, Value.res_main_v30]
    generalize m ((c.tc : Thread nD τ).loc main_arg0) = Y
    generalize m ((c.tc : Thread nD τ).loc main_arg1) = W
    generalize m ((c.tc : Thread nD τ).loc main_arg2) = X
    generalize m ((c.tc : Thread nD τ).loc main_arg3) = g
    generalize m ((c.tc : Thread nD τ).loc main_arg4) = b
    funext i
    rw [eq_ix2 i]
    generalize i 0 = r
    generalize i 1 = j
    unfold outG lnAt mean alpha
    pointwise
end Cert.Ret.Out
end
-- ==== Proof.Qry.lean ====
/- The sparse attention's queries with their rotary, and its gates: what one grid point of the kernel leaves, and the whole results. -/
module

public import proofs.«01_k».proof.Proof.Gen.Kernel7Ideal.Value
public import Idealize.ShloMosaic.Lib.KernelVsHost
public import Idealize.ShloMosaic.Lib.Pipeline.ReadBack
public import Idealize.ShloMosaic.Lib.Pipeline.ValueKit.Point

@[expose] public section
set_option maxRecDepth 16384
noncomputable section
namespace Cert.Ret.Qry
open Cert.Kernel7Ideal Cert.Kernel7Ideal.Gen Idealize.ShloMosaic Idealize.ShloMosaic.TcCoe Idealize.SL.Sem

/-- Feature `n` of the product for one token, counted by a natural number. -/
def colN (X : Fin 1024 → EReal) (W : FVec Ideal S1024x1072 .f32) (n : ℕ) : EReal :=
  if h : n < 1072 then ∑ k : Fin 1024, X k * W (ix2 k (⟨n, h⟩ : Fin 1072)) else 0

/-- The rotary of one feature: feature `n` of a token `P` in heads of 64, `C` and `S` the token's cosines and sines. -/
def headN (P C S : ℕ → EReal) (n : ℕ) : EReal :=
  if n % 64 < 32 then P n * C (n % 64) - P (n + 32) * S (n % 64) else P (n - 32) * S (n % 64 - 32) + P n * C (n % 64 - 32)

/-- The kernel's scale of the queries, the float32 word next to (1/8) log2 e. -/
def sc : EReal := Ideal.ofBits .f32 0x3E38AA3B#32
/-- The reference's scale of the queries, 1/8. -/
def eighth : EReal := Ideal.ofBits .f32 0x3E000000#32
/-- The float32 word next to log2 e. -/
def lg : EReal := Ideal.ofBits .f32 0x3FB8AA3B#32
/-- The word of 1/2. -/
def half : EReal := Ideal.ofBits .f32 0x3F000000#32

/-- The kernel's scale as a real number. -/
theorem sc_val : sc = ((12102203 / 67108864 : ℝ) : EReal) := by
  unfold sc
  simp [Ideal.ofBits, Ideal.ieee, -EReal.coe_mul]; norm_num

/-- The kernel's scale is exactly the reference's two factors. -/
theorem eighth_lg : eighth * lg = sc := by
  rw [sc_val, show eighth = ((1 / 8 : ℝ) : EReal) by unfold eighth; simp [Ideal.ofBits, Ideal.ieee, -EReal.coe_mul]; norm_num,
    show lg = ((12102203 / 8388608 : ℝ) : EReal) by unfold lg; simp [Ideal.ofBits, Ideal.ieee, -EReal.coe_mul]; norm_num, ← EReal.coe_mul]
  norm_num

/-- The word of 1/2 is 1/2. -/
theorem half_val : half = ((1 / 2 : ℝ) : EReal) := by
  unfold half
  simp [Ideal.ofBits, Ideal.ieee, -EReal.coe_mul]; norm_num

/-- The logistic function at zero is 1/2. -/
theorem logistic_zero : Ideal.logistic 0 = half := by
  rw [half_val, ← EReal.coe_zero, Ideal.logistic_coe]
  norm_num

/-- The scale is not negative. -/
theorem sc_nonneg : 0 ≤ sc := by rw [sc_val]; exact_mod_cast (by norm_num : (0 : ℝ) ≤ 12102203 / 67108864)

/-- The scale is finite. -/
theorem sc_ne_top : sc ≠ ⊤ := by rw [sc_val]; exact EReal.coe_ne_top _

/-- Scaling the tables scales the first half of a rotary. -/
theorem scale_sub (a b c s : EReal) : a * (c * sc) - b * (s * sc) = (a * c - b * s) * sc := by
  rw [← mul_assoc, ← mul_assoc]
  refine Eq.symm ?_
  rw [sub_eq_add_neg, EReal.right_distrib_of_nonneg_of_ne_top sc_nonneg sc_ne_top, EReal.neg_mul, ← sub_eq_add_neg]

/-- The same for the second half. -/
theorem scale_add (a b c s : EReal) : a * (c * sc) + b * (s * sc) = (a * c + b * s) * sc := by
  rw [← mul_assoc, ← mul_assoc]
  exact (EReal.right_distrib_of_nonneg_of_ne_top sc_nonneg sc_ne_top _ _).symm

/-- A rotary with scaled tables is the scaled rotary. -/
theorem headN_scale (P c s : ℕ → EReal) (n : ℕ) : headN P (fun e => c e * sc) (fun e => s e * sc) n = headN P c s n * sc := by
  unfold headN
  split
  · exact scale_sub _ _ _ _
  · exact scale_add _ _ _ _

/-- The first half of a head's rotary, read off the product `M` at row `o`. -/
def hA (M : FVec Ideal S1024x512 .f32) (C S : FVec Ideal S32x512 .f32) (o1 o2 : ℕ) (h1 : S1024x512.Slices ![o1, 0] S32x512) (h2 : S1024x512.Slices ![o2, 0] S32x512) : FVec Ideal S32x512 .bf16 :=
  truncf .bf16 (subf (mulf (extractStridedSlice S32x512 ![o1, 0] M h1) C) (mulf (extractStridedSlice S32x512 ![o2, 0] M h2) S)) bitsLt_bf16_f32

/-- The second half. -/
def hB (M : FVec Ideal S1024x512 .f32) (C S : FVec Ideal S32x512 .f32) (o1 o2 : ℕ) (h1 : S1024x512.Slices ![o1, 0] S32x512) (h2 : S1024x512.Slices ![o2, 0] S32x512) : FVec Ideal S32x512 .bf16 :=
  truncf .bf16 (addf (mulf (extractStridedSlice S32x512 ![o1, 0] M h1) S) (mulf (extractStridedSlice S32x512 ![o2, 0] M h2) C)) bitsLt_bf16_f32

section
variable (M : FVec Ideal S1024x512 .f32) (C S : FVec Ideal S32x512 .f32) (r : Fin 512) (P c s : ℕ → EReal) (o : ℕ)

/-- A slice of 32 features of the product, at a feature and a token. -/
theorem slice_at (o : ℕ) (h : S1024x512.Slices ![o, 0] S32x512) (hM : ∀ j : Fin 1024, M (ix2 j r) = P j.val) (ho : o + 32 ≤ 1024) (e : Fin 32) :
    extractStridedSlice S32x512 ![o, 0] M h (ix2 e r) = P (o + e.val) := by
  refine Eq.trans ?_ (hM (⟨o + e.val, by omega⟩ : Fin 1024))
  rw [extractStridedSlice_apply]
  intro x
  match x with
  | ⟨0, _⟩ => rfl
  | ⟨1, _⟩ => show r.val = 0 + r.val; omega

/-- The first half of a head, computed from two slices of the product: the rotary's first half at that head's features. -/
theorem hA_at (h1 : S1024x512.Slices ![o, 0] S32x512) (h2 : S1024x512.Slices ![o + 32, 0] S32x512)
    (hM : ∀ j : Fin 1024, M (ix2 j r) = P j.val) (ho : o % 64 = 0) (ho' : o + 64 ≤ 1024)
    (hC : ∀ e : Fin 32, C (ix2 e r) = c e.val) (hS : ∀ e : Fin 32, S (ix2 e r) = s e.val) (e : Fin 32) :
    hA M C S o (o + 32) h1 h2 (ix2 e r) = headN P c s (o + e.val) := by
  have he := e.isLt
  have q : (o + e.val) % 64 = e.val := by omega
  unfold headN
  rw [q, if_pos he, ← hC, ← hS]
  show extractStridedSlice S32x512 ![o, 0] M h1 (ix2 e r) * C (ix2 e r) - extractStridedSlice S32x512 ![o + 32, 0] M h2 (ix2 e r) * S (ix2 e r) = _
  rw [slice_at M r P o h1 hM (by omega), slice_at M r P (o + 32) h2 hM (by omega)]
  rw [show o + 32 + e.val = o + e.val + 32 by omega]

/-- The second half of a head, computed from two slices of the product: the rotary's second half at that head's features. -/
theorem hB_at (h1 : S1024x512.Slices ![o, 0] S32x512) (h2 : S1024x512.Slices ![o + 32, 0] S32x512)
    (hM : ∀ j : Fin 1024, M (ix2 j r) = P j.val) (ho : o % 64 = 0) (ho' : o + 64 ≤ 1024)
    (hC : ∀ e : Fin 32, C (ix2 e r) = c e.val) (hS : ∀ e : Fin 32, S (ix2 e r) = s e.val) (e : Fin 32) :
    hB M C S o (o + 32) h1 h2 (ix2 e r) = headN P c s (o + 32 + e.val) := by
  have he := e.isLt
  have q : (o + 32 + e.val) % 64 = 32 + e.val := by omega
  have q' : (32 + e.val) - 32 = e.val := by omega
  unfold headN
  rw [q, q', if_neg (by omega), ← hC, ← hS]
  show extractStridedSlice S32x512 ![o, 0] M h1 (ix2 e r) * S (ix2 e r) + extractStridedSlice S32x512 ![o + 32, 0] M h2 (ix2 e r) * C (ix2 e r) = _
  rw [slice_at M r P o h1 hM (by omega), slice_at M r P (o + 32) h2 hM (by omega)]
  rw [show o + e.val = o + 32 + e.val - 32 by omega]
end

section
variable (x0 : Vec Ideal S512x1024 .bf16) (x1 : Vec Ideal S1024x1024 .bf16) (x2 : Vec Ideal S64x1024 .bf16) (x3 : Vec Ideal S32x512 .f32) (x4 : Vec Ideal S32x512 .f32)

/-- A load of the whole block of rows is the block. -/
theorem ldX : View.ld x0 r0_0 = x0 := View.ld_unit_zero (S := S512x1024) (by funext a; fin_cases a <;> rfl) _ x0
/-- The same for the weight. -/
theorem ldW : View.ld x1 r0_1 = x1 := View.ld_unit_zero (S := S1024x1024) (by funext a; fin_cases a <;> rfl) _ x1
/-- The same for a table. -/
theorem ldT : View.ld x3 r0_2 = x3 := View.ld_unit_zero (S := S32x512) (by funext a; fin_cases a <;> rfl) _ x3
/-- The same for the gates' weight. -/
theorem ldG : View.ld x2 r0_35 = x2 := View.ld_unit_zero (S := S64x1024) (by funext a; fin_cases a <;> rfl) _ x2

/-- Feature `n` of the block's product for one token, counted by a natural number. -/
def blkP (r : Fin 512) (n : ℕ) : EReal := if h : n < 1024 then ∑ k : Fin 1024, x1 (ix2 (⟨n, h⟩ : Fin 1024) k) * x0 (ix2 r k) else 0

/-- A column of a table block, counted by a natural number. -/
def tabN (x : Vec Ideal S32x512 .f32) (r : Fin 512) (n : ℕ) : EReal := if h : n < 32 then x (ix2 (⟨n, h⟩ : Fin 32) r) else 0

/-- A table read by a natural number is the table at that row. -/
theorem tabN_val (x : Vec Ideal S32x512 .f32) (r : Fin 512) (e : Fin 32) : tabN x r e.val = x (ix2 e r) := by
  unfold tabN; rw [dif_pos e.isLt]

/-- The block's product at an entry. -/
theorem mm_at (r : Fin 512) (j : Fin 1024) : k0_pay3 x0 x1 (ix2 j r) = blkP x0 x1 r j.val := by
  unfold blkP
  rw [dif_pos j.isLt]
  unfold k0_pay3
  pointwise

/-- The scaled cosine table at an entry. -/
theorem c_at (r : Fin 512) (e : Fin 32) : k0_pay4 x3 (ix2 e r) = tabN x3 r e.val * sc := by
  rw [tabN_val]
  unfold k0_pay4 sc
  pointwise

/-- The scaled sine table at an entry. -/
theorem s_at (r : Fin 512) (e : Fin 32) : k0_pay5 x4 (ix2 e r) = tabN x4 r e.val * sc := by
  rw [tabN_val]
  unfold k0_pay5 sc
  pointwise

/-- The gates' block at an entry. -/
theorem gate_at (g : Fin 64) (r : Fin 512) : k0_pay2 x0 x2 (ix2 g r) = Ideal.logistic (∑ k : Fin 1024, x2 (ix2 g k) * x0 (ix2 r k)) := by
  unfold k0_pay2
  pointwise

/-- The point's block of queries at token `r`, feature `n`. -/
def blkN (r : Fin 512) (n : ℕ) : EReal := headN (blkP x0 x1 r) (tabN x3 r) (tabN x4 r) n * sc

/-- What is stored for the first half of a head. -/
theorem qA (o : ℕ) (h1 : S1024x512.Slices ![o, 0] S32x512) (h2 : S1024x512.Slices ![o + 32, 0] S32x512) (ho : o % 64 = 0) (ho' : o + 64 ≤ 1024) (r : Fin 512) (e : Fin 32) :
    hA (k0_pay3 x0 x1) (k0_pay4 x3) (k0_pay5 x4) o (o + 32) h1 h2 (ix2 e r) = blkN x0 x1 x3 x4 r (o + e.val) :=
  (hA_at _ _ _ r (blkP x0 x1 r) (fun e => tabN x3 r e * sc) (fun e => tabN x4 r e * sc) o h1 h2 (mm_at x0 x1 r) ho ho' (c_at x3 r) (s_at x4 r) e).trans (headN_scale _ _ _ _)

/-- What is stored for the second half of a head. -/
theorem qB (o : ℕ) (h1 : S1024x512.Slices ![o, 0] S32x512) (h2 : S1024x512.Slices ![o + 32, 0] S32x512) (ho : o % 64 = 0) (ho' : o + 64 ≤ 1024) (r : Fin 512) (e : Fin 32) :
    hB (k0_pay3 x0 x1) (k0_pay4 x3) (k0_pay5 x4) o (o + 32) h1 h2 (ix2 e r) = blkN x0 x1 x3 x4 r (o + 32 + e.val) :=
  (hB_at _ _ _ r (blkP x0 x1 r) (fun e => tabN x3 r e * sc) (fun e => tabN x4 r e * sc) o h1 h2 (mm_at x0 x1 r) ho ho' (c_at x3 r) (s_at x4 r) e).trans (headN_scale _ _ _ _)

/-- Where a store of 32 rows lies in the output block. -/
theorem emb_out (o : ℕ) (inb) (e : Fin 32) (r : Fin 512) (h : o + e.val < 1024) :
    (Rect.unit (s := S1024x512) ![o, 0] S32x512.size inb).emb (ix2 e r) = ix2 (⟨o + e.val, h⟩ : Fin 1024) r := by
  funext x
  apply Fin.ext
  match x with
  | ⟨0, _⟩ => show o + 1 * e.val = o + e.val; omega
  | ⟨1, _⟩ => show 0 + 1 * r.val = r.val; omega

/-- A point's block of queries at an index. -/
abbrev fnB (y : S1024x512.Idx) : Elt Ideal .bf16 := (blkN x0 x1 x3 x4 (y 1) (y 0).val : EReal)

set_option maxHeartbeats 2000000 in
/-- The block of queries after the point. -/
theorem out_at (y : S1024x512.Idx) : out0_5 x0 x1 x2 x3 x4 y = fnB x0 x1 x3 x4 y := by
  unfold_out out0_5
  simp only [ldX, ldW, ldT]
  refine View.canon_apply_of_pieces (fnB x0 x1 x3 x4) _ ?_ y (cover0_5 _ _ _ _ _ _ _ _ _ _ _ _ _ _ _ _ _ _ _ _ _ _ _ _ _ _ _ _ _ _ _ _ y)
  intro pc hpc x
  rcases List.mem_cons.mp hpc with rfl | hpc
  · obtain ⟨e, r, rfl⟩ : ∃ (e : Fin 32) (r : Fin 512), x = ix2 e r := ⟨x 0, x 1, eq_ix2 x⟩
    exact (qB x0 x1 x3 x4 960 slices_S1024x512_o960_0_S32x512 slices_S1024x512_o992_0_S32x512 (by omega) (by omega) r e).trans (congrArg (fnB x0 x1 x3 x4) (emb_out 992 inb_S1024x512_S32x512_992_0 e r (by omega)).symm)
  rcases List.mem_cons.mp hpc with rfl | hpc
  · obtain ⟨e, r, rfl⟩ : ∃ (e : Fin 32) (r : Fin 512), x = ix2 e r := ⟨x 0, x 1, eq_ix2 x⟩
    exact (qA x0 x1 x3 x4 960 slices_S1024x512_o960_0_S32x512 slices_S1024x512_o992_0_S32x512 (by omega) (by omega) r e).trans (congrArg (fnB x0 x1 x3 x4) (emb_out 960 inb_S1024x512_S32x512_960_0 e r (by omega)).symm)
  rcases List.mem_cons.mp hpc with rfl | hpc
  · obtain ⟨e, r, rfl⟩ : ∃ (e : Fin 32) (r : Fin 512), x = ix2 e r := ⟨x 0, x 1, eq_ix2 x⟩
    exact (qB x0 x1 x3 x4 896 slices_S1024x512_o896_0_S32x512 slices_S1024x512_o928_0_S32x512 (by omega) (by omega) r e).trans (congrArg (fnB x0 x1 x3 x4) (emb_out 928 inb_S1024x512_S32x512_928_0 e r (by omega)).symm)
  rcases List.mem_cons.mp hpc with rfl | hpc
  · obtain ⟨e, r, rfl⟩ : ∃ (e : Fin 32) (r : Fin 512), x = ix2 e r := ⟨x 0, x 1, eq_ix2 x⟩
    exact (qA x0 x1 x3 x4 896 slices_S1024x512_o896_0_S32x512 slices_S1024x512_o928_0_S32x512 (by omega) (by omega) r e).trans (congrArg (fnB x0 x1 x3 x4) (emb_out 896 inb_S1024x512_S32x512_896_0 e r (by omega)).symm)
  rcases List.mem_cons.mp hpc with rfl | hpc
  · obtain ⟨e, r, rfl⟩ : ∃ (e : Fin 32) (r : Fin 512), x = ix2 e r := ⟨x 0, x 1, eq_ix2 x⟩
    exact (qB x0 x1 x3 x4 832 slices_S1024x512_o832_0_S32x512 slices_S1024x512_o864_0_S32x512 (by omega) (by omega) r e).trans (congrArg (fnB x0 x1 x3 x4) (emb_out 864 inb_S1024x512_S32x512_864_0 e r (by omega)).symm)
  rcases List.mem_cons.mp hpc with rfl | hpc
  · obtain ⟨e, r, rfl⟩ : ∃ (e : Fin 32) (r : Fin 512), x = ix2 e r := ⟨x 0, x 1, eq_ix2 x⟩
    exact (qA x0 x1 x3 x4 832 slices_S1024x512_o832_0_S32x512 slices_S1024x512_o864_0_S32x512 (by omega) (by omega) r e).trans (congrArg (fnB x0 x1 x3 x4) (emb_out 832 inb_S1024x512_S32x512_832_0 e r (by omega)).symm)
  rcases List.mem_cons.mp hpc with rfl | hpc
  · obtain ⟨e, r, rfl⟩ : ∃ (e : Fin 32) (r : Fin 512), x = ix2 e r := ⟨x 0, x 1, eq_ix2 x⟩
    exact (qB x0 x1 x3 x4 768 slices_S1024x512_o768_0_S32x512 slices_S1024x512_o800_0_S32x512 (by omega) (by omega) r e).trans (congrArg (fnB x0 x1 x3 x4) (emb_out 800 inb_S1024x512_S32x512_800_0 e r (by omega)).symm)
  rcases List.mem_cons.mp hpc with rfl | hpc
  · obtain ⟨e, r, rfl⟩ : ∃ (e : Fin 32) (r : Fin 512), x = ix2 e r := ⟨x 0, x 1, eq_ix2 x⟩
    exact (qA x0 x1 x3 x4 768 slices_S1024x512_o768_0_S32x512 slices_S1024x512_o800_0_S32x512 (by omega) (by omega) r e).trans (congrArg (fnB x0 x1 x3 x4) (emb_out 768 inb_S1024x512_S32x512_768_0 e r (by omega)).symm)
  rcases List.mem_cons.mp hpc with rfl | hpc
  · obtain ⟨e, r, rfl⟩ : ∃ (e : Fin 32) (r : Fin 512), x = ix2 e r := ⟨x 0, x 1, eq_ix2 x⟩
    exact (qB x0 x1 x3 x4 704 slices_S1024x512_o704_0_S32x512 slices_S1024x512_o736_0_S32x512 (by omega) (by omega) r e).trans (congrArg (fnB x0 x1 x3 x4) (emb_out 736 inb_S1024x512_S32x512_736_0 e r (by omega)).symm)
  rcases List.mem_cons.mp hpc with rfl | hpc
  · obtain ⟨e, r, rfl⟩ : ∃ (e : Fin 32) (r : Fin 512), x = ix2 e r := ⟨x 0, x 1, eq_ix2 x⟩
    exact (qA x0 x1 x3 x4 704 slices_S1024x512_o704_0_S32x512 slices_S1024x512_o736_0_S32x512 (by omega) (by omega) r e).trans (congrArg (fnB x0 x1 x3 x4) (emb_out 704 inb_S1024x512_S32x512_704_0 e r (by omega)).symm)
  rcases List.mem_cons.mp hpc with rfl | hpc
  · obtain ⟨e, r, rfl⟩ : ∃ (e : Fin 32) (r : Fin 512), x = ix2 e r := ⟨x 0, x 1, eq_ix2 x⟩
    exact (qB x0 x1 x3 x4 640 slices_S1024x512_o640_0_S32x512 slices_S1024x512_o672_0_S32x512 (by omega) (by omega) r e).trans (congrArg (fnB x0 x1 x3 x4) (emb_out 672 inb_S1024x512_S32x512_672_0 e r (by omega)).symm)
  rcases List.mem_cons.mp hpc with rfl | hpc
  · obtain ⟨e, r, rfl⟩ : ∃ (e : Fin 32) (r : Fin 512), x = ix2 e r := ⟨x 0, x 1, eq_ix2 x⟩
    exact (qA x0 x1 x3 x4 640 slices_S1024x512_o640_0_S32x512 slices_S1024x512_o672_0_S32x512 (by omega) (by omega) r e).trans (congrArg (fnB x0 x1 x3 x4) (emb_out 640 inb_S1024x512_S32x512_640_0 e r (by omega)).symm)
  rcases List.mem_cons.mp hpc with rfl | hpc
  · obtain ⟨e, r, rfl⟩ : ∃ (e : Fin 32) (r : Fin 512), x = ix2 e r := ⟨x 0, x 1, eq_ix2 x⟩
    exact (qB x0 x1 x3 x4 576 slices_S1024x512_o576_0_S32x512 slices_S1024x512_o608_0_S32x512 (by omega) (by omega) r e).trans (congrArg (fnB x0 x1 x3 x4) (emb_out 608 inb_S1024x512_S32x512_608_0 e r (by omega)).symm)
  rcases List.mem_cons.mp hpc with rfl | hpc
  · obtain ⟨e, r, rfl⟩ : ∃ (e : Fin 32) (r : Fin 512), x = ix2 e r := ⟨x 0, x 1, eq_ix2 x⟩
    exact (qA x0 x1 x3 x4 576 slices_S1024x512_o576_0_S32x512 slices_S1024x512_o608_0_S32x512 (by omega) (by omega) r e).trans (congrArg (fnB x0 x1 x3 x4) (emb_out 576 inb_S1024x512_S32x512_576_0 e r (by omega)).symm)
  rcases List.mem_cons.mp hpc with rfl | hpc
  · obtain ⟨e, r, rfl⟩ : ∃ (e : Fin 32) (r : Fin 512), x = ix2 e r := ⟨x 0, x 1, eq_ix2 x⟩
    exact (qB x0 x1 x3 x4 512 slices_S1024x512_o512_0_S32x512 slices_S1024x512_o544_0_S32x512 (by omega) (by omega) r e).trans (congrArg (fnB x0 x1 x3 x4) (emb_out 544 inb_S1024x512_S32x512_544_0 e r (by omega)).symm)
  rcases List.mem_cons.mp hpc with rfl | hpc
  · obtain ⟨e, r, rfl⟩ : ∃ (e : Fin 32) (r : Fin 512), x = ix2 e r := ⟨x 0, x 1, eq_ix2 x⟩
    exact (qA x0 x1 x3 x4 512 slices_S1024x512_o512_0_S32x512 slices_S1024x512_o544_0_S32x512 (by omega) (by omega) r e).trans (congrArg (fnB x0 x1 x3 x4) (emb_out 512 inb_S1024x512_S32x512_512_0 e r (by omega)).symm)
  rcases List.mem_cons.mp hpc with rfl | hpc
  · obtain ⟨e, r, rfl⟩ : ∃ (e : Fin 32) (r : Fin 512), x = ix2 e r := ⟨x 0, x 1, eq_ix2 x⟩
    exact (qB x0 x1 x3 x4 448 slices_S1024x512_o448_0_S32x512 slices_S1024x512_o480_0_S32x512 (by omega) (by omega) r e).trans (congrArg (fnB x0 x1 x3 x4) (emb_out 480 inb_S1024x512_S32x512_480_0 e r (by omega)).symm)
  rcases List.mem_cons.mp hpc with rfl | hpc
  · obtain ⟨e, r, rfl⟩ : ∃ (e : Fin 32) (r : Fin 512), x = ix2 e r := ⟨x 0, x 1, eq_ix2 x⟩
    exact (qA x0 x1 x3 x4 448 slices_S1024x512_o448_0_S32x512 slices_S1024x512_o480_0_S32x512 (by omega) (by omega) r e).trans (congrArg (fnB x0 x1 x3 x4) (emb_out 448 inb_S1024x512_S32x512_448_0 e r (by omega)).symm)
  rcases List.mem_cons.mp hpc with rfl | hpc
  · obtain ⟨e, r, rfl⟩ : ∃ (e : Fin 32) (r : Fin 512), x = ix2 e r := ⟨x 0, x 1, eq_ix2 x⟩
    exact (qB x0 x1 x3 x4 384 slices_S1024x512_o384_0_S32x512 slices_S1024x512_o416_0_S32x512 (by omega) (by omega) r e).trans (congrArg (fnB x0 x1 x3 x4) (emb_out 416 inb_S1024x512_S32x512_416_0 e r (by omega)).symm)
  rcases List.mem_cons.mp hpc with rfl | hpc
  · obtain ⟨e, r, rfl⟩ : ∃ (e : Fin 32) (r : Fin 512), x = ix2 e r := ⟨x 0, x 1, eq_ix2 x⟩
    exact (qA x0 x1 x3 x4 384 slices_S1024x512_o384_0_S32x512 slices_S1024x512_o416_0_S32x512 (by omega) (by omega) r e).trans (congrArg (fnB x0 x1 x3 x4) (emb_out 384 inb_S1024x512_S32x512_384_0 e r (by omega)).symm)
  rcases List.mem_cons.mp hpc with rfl | hpc
  · obtain ⟨e, r, rfl⟩ : ∃ (e : Fin 32) (r : Fin 512), x = ix2 e r := ⟨x 0, x 1, eq_ix2 x⟩
    exact (qB x0 x1 x3 x4 320 slices_S1024x512_o320_0_S32x512 slices_S1024x512_o352_0_S32x512 (by omega) (by omega) r e).trans (congrArg (fnB x0 x1 x3 x4) (emb_out 352 inb_S1024x512_S32x512_352_0 e r (by omega)).symm)
  rcases List.mem_cons.mp hpc with rfl | hpc
  · obtain ⟨e, r, rfl⟩ : ∃ (e : Fin 32) (r : Fin 512), x = ix2 e r := ⟨x 0, x 1, eq_ix2 x⟩
    exact (qA x0 x1 x3 x4 320 slices_S1024x512_o320_0_S32x512 slices_S1024x512_o352_0_S32x512 (by omega) (by omega) r e).trans (congrArg (fnB x0 x1 x3 x4) (emb_out 320 inb_S1024x512_S32x512_320_0 e r (by omega)).symm)
  rcases List.mem_cons.mp hpc with rfl | hpc
  · obtain ⟨e, r, rfl⟩ : ∃ (e : Fin 32) (r : Fin 512), x = ix2 e r := ⟨x 0, x 1, eq_ix2 x⟩
    exact (qB x0 x1 x3 x4 256 slices_S1024x512_o256_0_S32x512 slices_S1024x512_o288_0_S32x512 (by omega) (by omega) r e).trans (congrArg (fnB x0 x1 x3 x4) (emb_out 288 inb_S1024x512_S32x512_288_0 e r (by omega)).symm)
  rcases List.mem_cons.mp hpc with rfl | hpc
  · obtain ⟨e, r, rfl⟩ : ∃ (e : Fin 32) (r : Fin 512), x = ix2 e r := ⟨x 0, x 1, eq_ix2 x⟩
    exact (qA x0 x1 x3 x4 256 slices_S1024x512_o256_0_S32x512 slices_S1024x512_o288_0_S32x512 (by omega) (by omega) r e).trans (congrArg (fnB x0 x1 x3 x4) (emb_out 256 inb_S1024x512_S32x512_256_0 e r (by omega)).symm)
  rcases List.mem_cons.mp hpc with rfl | hpc
  · obtain ⟨e, r, rfl⟩ : ∃ (e : Fin 32) (r : Fin 512), x = ix2 e r := ⟨x 0, x 1, eq_ix2 x⟩
    exact (qB x0 x1 x3 x4 192 slices_S1024x512_o192_0_S32x512 slices_S1024x512_o224_0_S32x512 (by omega) (by omega) r e).trans (congrArg (fnB x0 x1 x3 x4) (emb_out 224 inb_S1024x512_S32x512_224_0 e r (by omega)).symm)
  rcases List.mem_cons.mp hpc with rfl | hpc
  · obtain ⟨e, r, rfl⟩ : ∃ (e : Fin 32) (r : Fin 512), x = ix2 e r := ⟨x 0, x 1, eq_ix2 x⟩
    exact (qA x0 x1 x3 x4 192 slices_S1024x512_o192_0_S32x512 slices_S1024x512_o224_0_S32x512 (by omega) (by omega) r e).trans (congrArg (fnB x0 x1 x3 x4) (emb_out 192 inb_S1024x512_S32x512_192_0 e r (by omega)).symm)
  rcases List.mem_cons.mp hpc with rfl | hpc
  · obtain ⟨e, r, rfl⟩ : ∃ (e : Fin 32) (r : Fin 512), x = ix2 e r := ⟨x 0, x 1, eq_ix2 x⟩
    exact (qB x0 x1 x3 x4 128 slices_S1024x512_o128_0_S32x512 slices_S1024x512_o160_0_S32x512 (by omega) (by omega) r e).trans (congrArg (fnB x0 x1 x3 x4) (emb_out 160 inb_S1024x512_S32x512_160_0 e r (by omega)).symm)
  rcases List.mem_cons.mp hpc with rfl | hpc
  · obtain ⟨e, r, rfl⟩ : ∃ (e : Fin 32) (r : Fin 512), x = ix2 e r := ⟨x 0, x 1, eq_ix2 x⟩
    exact (qA x0 x1 x3 x4 128 slices_S1024x512_o128_0_S32x512 slices_S1024x512_o160_0_S32x512 (by omega) (by omega) r e).trans (congrArg (fnB x0 x1 x3 x4) (emb_out 128 inb_S1024x512_S32x512_128_0 e r (by omega)).symm)
  rcases List.mem_cons.mp hpc with rfl | hpc
  · obtain ⟨e, r, rfl⟩ : ∃ (e : Fin 32) (r : Fin 512), x = ix2 e r := ⟨x 0, x 1, eq_ix2 x⟩
    exact (qB x0 x1 x3 x4 64 slices_S1024x512_o64_0_S32x512 slices_S1024x512_o96_0_S32x512 (by omega) (by omega) r e).trans (congrArg (fnB x0 x1 x3 x4) (emb_out 96 inb_S1024x512_S32x512_96_0 e r (by omega)).symm)
  rcases List.mem_cons.mp hpc with rfl | hpc
  · obtain ⟨e, r, rfl⟩ : ∃ (e : Fin 32) (r : Fin 512), x = ix2 e r := ⟨x 0, x 1, eq_ix2 x⟩
    exact (qA x0 x1 x3 x4 64 slices_S1024x512_o64_0_S32x512 slices_S1024x512_o96_0_S32x512 (by omega) (by omega) r e).trans (congrArg (fnB x0 x1 x3 x4) (emb_out 64 inb_S1024x512_S32x512_64_0 e r (by omega)).symm)
  rcases List.mem_cons.mp hpc with rfl | hpc
  · obtain ⟨e, r, rfl⟩ : ∃ (e : Fin 32) (r : Fin 512), x = ix2 e r := ⟨x 0, x 1, eq_ix2 x⟩
    exact (qB x0 x1 x3 x4 0 slices_S1024x512_o0_0_S32x512 slices_S1024x512_o32_0_S32x512 (by omega) (by omega) r e).trans (congrArg (fnB x0 x1 x3 x4) (emb_out 32 inb_S1024x512_S32x512_32_0 e r (by omega)).symm)
  obtain rfl := List.mem_singleton.mp hpc
  · obtain ⟨e, r, rfl⟩ : ∃ (e : Fin 32) (r : Fin 512), x = ix2 e r := ⟨x 0, x 1, eq_ix2 x⟩
    exact (qA x0 x1 x3 x4 0 slices_S1024x512_o0_0_S32x512 slices_S1024x512_o32_0_S32x512 (by omega) (by omega) r e).trans (congrArg (fnB x0 x1 x3 x4) (emb_out 0 inb_S1024x512_S32x512_0_0 e r (by omega)).symm)

/-- The block of gates after the point. -/
theorem out6_at (g : Fin 64) (r : Fin 512) : out0_6 x0 x1 x2 x3 x4 (ix2 g r) = Ideal.logistic (∑ k : Fin 1024, x2 (ix2 g k) * x0 (ix2 r k)) := by
  have h : out0_6 x0 x1 x2 x3 x4 = k0_pay2 x0 x2 := by
    unfold out0_6
    rw [ldX, ldG]
    exact View.canon_unit_zero (by funext a; fin_cases a <;> rfl) _ _
  rw [h, gate_at]
end

/-- The angles of the rotary: position times inverse frequency. -/
def angV : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (addf (broadcastInDim S32 ![] bcast_S_S32 (constant S_ .f32 0x00000000#32)) (mulf (broadcastInDim S32 ![] bcast_S_S32 (constant S_ .f32 0x40000000#32)) (sitofp .f32 (iotaInDim S32 32 0))))
            (broadcastInDim S32 ![] bcast_S_S32 (constant S_ .f32 0x42800000#32)))))))

/-- Their cosines. -/
def cosV : FVec Ideal S2048x32 .f32 := Host.cos angV
/-- Their sines. -/
def sinV : FVec Ideal S2048x32 .f32 := Host.sin angV

/-- The queries' weight, transposed. -/
def wqV (W : FVec Ideal S1024x1072 .f32) : FVec Ideal S1024x1024 .bf16 :=
  truncf .bf16 (transpose S1024x1024 [1, 0] (extractStridedSlice S1024x1024 ![0, 0] W slices_S1024x1072_S1024x1024_0_0) transposes_S1024x1024_S1024x1024_1_0) bitsLt_bf16_f32

/-- The gates' weight, transposed, each group's twelve rows. -/
def wg0V (W : FVec Ideal S1024x1072 .f32) : FVec Ideal S4x12x1024 .f32 :=
  shapeCast S4x12x1024 (transpose S48x1024 [1, 0] (extractStridedSlice S1024x48 ![0, 1024] W slices_S1024x1072_S1024x48_0_1024) transposes_S1024x48_S48x1024_1_0) shapeCasts_S48x1024_S4x12x1024

/-- The same with four rows of zeros after each group's twelve. -/
def wgV (W : FVec Ideal S1024x1072 .f32) : FVec Ideal S64x1024 .bf16 :=
  truncf .bf16 (shapeCast S64x1024 (pad S4x16x1024 ![0, 0, 0] ![0, 4, 0] ![0, 0, 0] (wg0V W) (sitofp (F := Ideal) .f32 (constantI S_ 32 0#32)) pads_S4x12x1024_S4x16x1024_000_040_000 h_S_) shapeCasts_S4x16x1024_S64x1024) bitsLt_bf16_f32

/-- The queries' weight at an entry. -/
theorem wq_at (W : FVec Ideal S1024x1072 .f32) (n k : Fin 1024) : wqV W (ix2 n k) = W (ix2 k (⟨n.val, by omega⟩ : Fin 1072)) := by
  unfold wqV
  pointwise

/-- The gates' weight at an entry, before the padding. -/
theorem wg0_at (W : FVec Ideal S1024x1072 .f32) (g : Fin 4) (j : Fin 12) (k : Fin 1024) :
    wg0V W (ix3 g j k) = W (ix2 k (⟨1024 + (12 * g.val + j.val), by omega⟩ : Fin 1072)) := by
  unfold wg0V
  refine (shapeCast_apply _ _ _ (ix2 (⟨12 * g.val + j.val, by omega⟩ : Fin 48) k) ?_).trans ?_
  · simp only [Shape.rowMajor_val_two, Shape.rowMajor_val_three, ix2, ix3]
    show (12 * g.val + j.val) * 1024 + k.val = (g.val * 12 + j.val) * 1024 + k.val
    omega
  · pointwise

/-- The gates' weight at an entry: a column of the argument, or zero in a group's last four rows. -/
theorem wg_at (W : FVec Ideal S1024x1072 .f32) (g : Fin 64) (k : Fin 1024) :
    wgV W (ix2 g k) = if h : g.val % 16 < 12 then W (ix2 k (⟨1024 + (12 * (g.val / 16) + g.val % 16), by omega⟩ : Fin 1072)) else (0 : EReal) := by
  unfold wgV
  rw [truncf_apply]
  refine (shapeCast_apply _ _ _ (ix3 (⟨g.val / 16, by omega⟩ : Fin 4) (⟨g.val % 16, by omega⟩ : Fin 16) k) ?_).trans ?_
  · simp only [Shape.rowMajor_val_two, Shape.rowMajor_val_three, ix2, ix3]
    show (g.val / 16 * 16 + g.val % 16) * 1024 + k.val = g.val * 1024 + k.val
    omega
  by_cases h : g.val % 16 < 12
  · rw [dif_pos h]
    refine Eq.trans (pad_apply_of_inside _ _ _ _ _ _ _ _ (ix3 (⟨g.val / 16, by omega⟩ : Fin 4) (⟨g.val % 16, h⟩ : Fin 12) k) ?_) (wg0_at W _ _ _)
    intro a
    match a with
    | ⟨0, _⟩ => show g.val / 16 = 0 + g.val / 16 * (0 + 1); omega
    | ⟨1, _⟩ => show g.val % 16 = 0 + g.val % 16 * (0 + 1); omega
    | ⟨2, _⟩ => show k.val = 0 + k.val * (0 + 1); omega
  · rw [dif_neg h]
    refine Eq.trans (pad_apply_of_not_inside _ _ _ _ _ _ _ _ (1 : Fin 3) ?_) ?_
    · show ¬(0 ≤ g.val % 16 ∧ (g.val % 16 - 0) % (0 + 1) = 0 ∧ (g.val % 16 - 0) / (0 + 1) < 12)
      omega
    · pointwise
      show ((((0#32 : BitVec 32).toInt : ℝ)) : EReal) = 0
      simp

variable (m : (ℓ : Loc nD τ sig) → Buf (Elt Ideal) ℓ) (c : Dev nD)

/-- The queries' weight that the call reads. -/
theorem V_wq : V m c main_v2 = (wqV (m ((c : Thread nD τ).loc main_arg1)) : Vec Ideal S1024x1024 .bf16) := by
  simp only [V, hostOps0, hostOps0_1, hostOps0_2, StableHlo.TRef.unary, StableHlo.TRef.binary, StableHlo.TRef.toBuf, StableHlo.TRef.ofBuf, cast_eq, List.flatten_cons, List.flatten_nil, List.append_nil, List.cons_append, List.nil_append]
  after_results
  rfl

/-- The gates' weight that the call reads. -/
theorem V_wg : V m c main_v8 = (wgV (m ((c : Thread nD τ).loc main_arg1)) : Vec Ideal S64x1024 .bf16) := by
  simp only [V, hostOps0, hostOps0_1, hostOps0_2, StableHlo.TRef.unary, StableHlo.TRef.binary, StableHlo.TRef.toBuf, StableHlo.TRef.ofBuf, cast_eq, List.flatten_cons, List.flatten_nil, List.append_nil, List.cons_append, List.nil_append]
  after_results
  rfl

/-- The cosines the host code hands over. -/
theorem V_c : V m c main_v27 = (Host.cos (transpose S32x2048 [1, 0] angV transposes_S2048x32_S32x2048_1_0) : Vec Ideal S32x2048 .f32) := by
  simp only [V, hostOps0, hostOps0_1, hostOps0_2, StableHlo.TRef.unary, StableHlo.TRef.binary, StableHlo.TRef.toBuf, StableHlo.TRef.ofBuf, cast_eq, List.flatten_cons, List.flatten_nil, List.append_nil, List.cons_append, List.nil_append]
  after_results
  unfold angV
  rfl

/-- The sines it hands over. -/
theorem V_s : V m c main_v28 = (Host.sin (transpose S32x2048 [1, 0] angV transposes_S2048x32_S32x2048_1_0) : Vec Ideal S32x2048 .f32) := by
  simp only [V, hostOps0, hostOps0_1, hostOps0_2, StableHlo.TRef.unary, StableHlo.TRef.binary, StableHlo.TRef.toBuf, StableHlo.TRef.ofBuf, cast_eq, List.flatten_cons, List.flatten_nil, List.append_nil, List.cons_append, List.nil_append]
  after_results
  unfold angV
  rfl

/-- A transposed table at an entry. -/
theorem tr_at (A : FVec Ideal S2048x32 .f32) (p : Fin 2048) (e : Fin 32) : transpose S32x2048 [1, 0] A transposes_S2048x32_S32x2048_1_0 (ix2 e p) = A (ix2 p e) := by
  pointwise

/-- Step `t` reads the `t`-th block of rows. -/
theorem idx0 : ∀ t : Fin grid0.N, win0_0.index t = ![t.val, 0] := by decide +kernel
/-- Every step reads the queries' whole weight. -/
theorem idx1 : ∀ t : Fin grid0.N, win0_1.index t = ![0, 0] := by decide +kernel
/-- Every step reads the gates' whole weight. -/
theorem idx2 : ∀ t : Fin grid0.N, win0_2.index t = ![0, 0] := by decide +kernel
/-- The cosine table's block repeats every four steps. -/
theorem idx3 : ∀ t : Fin grid0.N, win0_3.index t = ![0, t.val % 4] := by decide +kernel
/-- The sine table's block repeats every four steps. -/
theorem idx4 : ∀ t : Fin grid0.N, win0_4.index t = ![0, t.val % 4] := by decide +kernel
/-- Step `t` writes the `t`-th block of tokens of the queries. -/
theorem idx5 : ∀ t : Fin grid0.N, win0_5.index t = ![0, t.val] := by decide +kernel
/-- Step `t` writes the `t`-th block of tokens of the gates. -/
theorem idx6 : ∀ t : Fin grid0.N, win0_6.index t = ![0, t.val] := by decide +kernel

/-- The grid has 64 steps. -/
theorem hN (t : Fin cfg0.N) : t.val < 64 := lt_of_lt_of_eq t.isLt (show cfg0.N = 64 from N_0)

/-- The array's row that a block's row is. -/
def row (t : Fin cfg0.N) (r : Fin 512) : Fin 32768 := ⟨512 * t.val + r.val, by have := hN t; omega⟩

/-- The position in the sequence that a row is. -/
def pos (p : Fin 32768) : Fin 2048 := ⟨p.val % 2048, Nat.mod_lt _ (by decide)⟩

/-- The position in its sequence of a block's row. -/
theorem pos_row (t : Fin cfg0.N) (r : Fin 512) : pos (row t r) = ⟨512 * (t.val % 4) + r.val, by omega⟩ := by
  apply Fin.ext
  show (512 * t.val + r.val) % 2048 = 512 * (t.val % 4) + r.val
  omega

/-- The rows' block of a step, entry by entry. -/
theorem blk_x (t : Fin cfg0.N) (r : Fin 512) (k : Fin 1024) :
    (iblk m c 0 t : Vec Ideal S512x1024 .bf16) (ix2 r k) = (m ((c : Thread nD τ).loc main_arg0) : Vec Ideal S32768x1024 .bf16) (ix2 (row t r) k) := by
  rw [← V_main_arg0 m c]
  unfold row
  blk_ext [iblk, idx0 t]

/-- The queries' weight's block of a step, entry by entry. -/
theorem blk_wq (t : Fin cfg0.N) (n k : Fin 1024) : (iblk m c 1 t : Vec Ideal S1024x1024 .bf16) (ix2 n k) = (m ((c : Thread nD τ).loc main_arg1) : Vec Ideal S1024x1072 .f32) (ix2 k (⟨n.val, by omega⟩ : Fin 1072)) := by
  have h : (iblk m c 1 t : Vec Ideal S1024x1024 .bf16) (ix2 n k) = (V m c main_v2 : Vec Ideal S1024x1024 .bf16) (ix2 n k) := by
    blk_ext [iblk, idx1 t]
  rw [h, V_wq, wq_at]

/-- The gates' weight's block of a step, entry by entry. -/
theorem blk_wg (t : Fin cfg0.N) (g : Fin 64) (k : Fin 1024) : (iblk m c 2 t : Vec Ideal S64x1024 .bf16) (ix2 g k) = wgV (m ((c : Thread nD τ).loc main_arg1)) (ix2 g k) := by
  have h : (iblk m c 2 t : Vec Ideal S64x1024 .bf16) (ix2 g k) = (V m c main_v8 : Vec Ideal S64x1024 .bf16) (ix2 g k) := by
    blk_ext [iblk, idx2 t]
  rw [h, V_wg]

/-- The cosine table's block of a step, at the positions of its rows. -/
theorem blk_c (t : Fin cfg0.N) (r : Fin 512) (e : Fin 32) : (iblk m c 3 t : Vec Ideal S32x512 .f32) (ix2 e r) = cosV (ix2 (pos (row t r)) e) := by
  have h : (iblk m c 3 t : Vec Ideal S32x512 .f32) (ix2 e r) = (V m c main_v27 : Vec Ideal S32x2048 .f32) (ix2 e (⟨512 * (t.val % 4) + r.val, by omega⟩ : Fin 2048)) := by
    blk_ext [iblk, idx3 t]
  rw [h, V_c, pos_row, cosV, Host.cos_apply, tr_at, Host.cos_apply]

/-- The sine table's block of a step, at the positions of its rows. -/
theorem blk_s (t : Fin cfg0.N) (r : Fin 512) (e : Fin 32) : (iblk m c 4 t : Vec Ideal S32x512 .f32) (ix2 e r) = sinV (ix2 (pos (row t r)) e) := by
  have h : (iblk m c 4 t : Vec Ideal S32x512 .f32) (ix2 e r) = (V m c main_v28 : Vec Ideal S32x2048 .f32) (ix2 e (⟨512 * (t.val % 4) + r.val, by omega⟩ : Fin 2048)) := by
    blk_ext [iblk, idx4 t]
  rw [h, V_s, pos_row, sinV, Host.sin_apply, tr_at, Host.sin_apply]

/-- A row of a table, counted by a natural number. -/
def posN (T : FVec Ideal S2048x32 .f32) (p : Fin 32768) (n : ℕ) : EReal := if h : n < 32 then T (ix2 (pos p) (⟨n, h⟩ : Fin 32)) else 0

/-- The queries, as one function of the arguments: features by tokens. -/
def outQ (X : Vec Ideal S32768x1024 .bf16) (W : Vec Ideal S1024x1072 .f32) : Vec Ideal S1024x32768 .bf16 := fun i =>
  (headN (colN (fun k => X (ix2 (i 1) k)) W) (posN cosV (i 1)) (posN sinV (i 1)) (i 0).val * sc : EReal)

/-- The gates, as one function of the arguments: each group's twelve rows and four of 1/2. -/
def outS (X : Vec Ideal S32768x1024 .bf16) (W : Vec Ideal S1024x1072 .f32) : Vec Ideal S64x32768 .f32 := fun i =>
  (if (i 0).val % 16 < 12 then Ideal.logistic (colN (fun k => X (ix2 (i 1) k)) W (1024 + (12 * ((i 0).val / 16) + (i 0).val % 16))) else half : EReal)

/-- The queries as one function of the launch contents. -/
def res5 : Vec Ideal S1024x32768 .bf16 := outQ (m ((c : Thread nD τ).loc main_arg0)) (m ((c : Thread nD τ).loc main_arg1))
/-- The gates as one function of the launch contents. -/
def res6 : Vec Ideal S64x32768 .f32 := outS (m ((c : Thread nD τ).loc main_arg0)) (m ((c : Thread nD τ).loc main_arg1))

/-- A rotary at a feature below 1024 reads its row below 1024 only. -/
theorem headN_congr (P Q C S : ℕ → EReal) (h : ∀ n, n < 1024 → P n = Q n) (n : ℕ) (hn : n < 1024) : headN P C S n = headN Q C S n := by
  unfold headN
  split
  · rw [h n hn, h (n + 32) (by omega)]
  · rw [h n hn, h (n - 32) (by omega)]

/-- What a grid point leaves at an entry of its block of queries. -/
theorem point5 (t : Fin cfg0.N) (y : S1024x512.Idx) :
    out0_5 (iblk m c 0 t) (iblk m c 1 t) (iblk m c 2 t) (iblk m c 3 t) (iblk m c 4 t) y = res5 m c (ix2 (y 0) (row t (y 1))) := by
  refine (out_at _ _ _ _ _ y).trans ?_
  have hp : ∀ n, n < 1024 → blkP (iblk m c 0 t) (iblk m c 1 t) (y 1) n = colN (fun k => (m ((c : Thread nD τ).loc main_arg0) : Vec Ideal S32768x1024 .bf16) (ix2 (row t (y 1)) k)) (m ((c : Thread nD τ).loc main_arg1)) n := by
    intro n hn
    unfold blkP colN
    rw [dif_pos hn, dif_pos (by omega)]
    refine Finset.sum_congr rfl fun k _ => ?_
    refine (congrArg₂ (fun a b : EReal => a * b) (blk_wq m c t (⟨n, hn⟩ : Fin 1024) k) (blk_x m c t (y 1) k)).trans ?_
    exact mul_comm _ _
  have hc : tabN (iblk m c 3 t) (y 1) = posN cosV (row t (y 1)) := by
    funext n
    unfold tabN posN
    split
    · exact blk_c m c t (y 1) _
    · rfl
  have hs : tabN (iblk m c 4 t) (y 1) = posN sinV (row t (y 1)) := by
    funext n
    unfold tabN posN
    split
    · exact blk_s m c t (y 1) _
    · rfl
  show blkN _ _ _ _ (y 1) (y 0).val = _
  unfold blkN
  rw [hc, hs, headN_congr _ _ _ _ hp (y 0).val (y 0).isLt]
  rfl

/-- What a grid point leaves at an entry of its block of gates. -/
theorem point6 (t : Fin cfg0.N) (y : S64x512.Idx) :
    out0_6 (iblk m c 0 t) (iblk m c 1 t) (iblk m c 2 t) (iblk m c 3 t) (iblk m c 4 t) y = res6 m c (ix2 (y 0) (row t (y 1))) := by
  refine (congrArg _ (eq_ix2 y)).trans ((out6_at _ _ _ _ _ (y 0) (y 1)).trans ?_)
  show _ = (if (y 0).val % 16 < 12 then Ideal.logistic (colN (fun k => (m ((c : Thread nD τ).loc main_arg0) : Vec Ideal S32768x1024 .bf16) (ix2 (row t (y 1)) k)) (m ((c : Thread nD τ).loc main_arg1)) (1024 + (12 * ((y 0).val / 16) + (y 0).val % 16))) else half : EReal)
  have hy : (y 0).val < 64 := (y 0).isLt
  have hb : ∀ k : Fin 1024, (fun a b : EReal => a * b) ((iblk m c 2 t : Vec Ideal S64x1024 .bf16) (ix2 (y 0) k)) ((iblk m c 0 t : Vec Ideal S512x1024 .bf16) (ix2 (y 1) k))
      = (fun a b : EReal => a * b) (if h : (y 0).val % 16 < 12 then (m ((c : Thread nD τ).loc main_arg1) : Vec Ideal S1024x1072 .f32) (ix2 k (⟨1024 + (12 * ((y 0).val / 16) + (y 0).val % 16), by omega⟩ : Fin 1072)) else (0 : EReal))
        ((m ((c : Thread nD τ).loc main_arg0) : Vec Ideal S32768x1024 .bf16) (ix2 (row t (y 1)) k)) := fun k =>
    congrArg₂ (fun a b : EReal => a * b) ((blk_wg m c t (y 0) k).trans (wg_at _ (y 0) k)) (blk_x m c t (y 1) k)
  by_cases h : (y 0).val % 16 < 12
  · rw [if_pos h]
    refine congrArg Ideal.logistic ?_
    unfold colN
    rw [dif_pos (by omega)]
    refine Finset.sum_congr rfl fun k _ => (hb k).trans ?_
    rw [dif_pos h]
    exact mul_comm _ _
  · rw [if_neg h, ← logistic_zero]
    refine congrArg Ideal.logistic ?_
    refine Finset.sum_eq_zero fun k _ => (hb k).trans ?_
    rw [dif_neg h]
    exact zero_mul _

/-- The queries after the run. -/
theorem result5 : (dats m 0 c).arrAt 5 cfg0.N = res5 m c := by
  refine (dats m 0 c).arrAt_eq_of_covers 5 _ (by decide +kernel) fun t hf y => ?_
  have e0 : ((((cfg0.win 5).blk t).view.emb y) 0).val = (y 0).val := by blk_simp [idx5 t]
  have e1 : ((((cfg0.win 5).blk t).view.emb y) 1).val = 512 * t.val + (y 1).val := by blk_simp [idx5 t]; omega
  refine (congrFun (Value.flushed5 m c t) y).trans ?_
  refine (point5 m c t y).trans ?_
  refine congrArg (res5 m c) ?_
  funext d; fin_cases d
  · exact Fin.ext e0.symm
  · exact Fin.ext e1.symm

/-- The gates after the run. -/
theorem result6 : (dats m 0 c).arrAt 6 cfg0.N = res6 m c := by
  refine (dats m 0 c).arrAt_eq_of_covers 6 _ (by decide +kernel) fun t hf y => ?_
  have e0 : ((((cfg0.win 6).blk t).view.emb y) 0).val = (y 0).val := by blk_simp [idx6 t]
  have e1 : ((((cfg0.win 6).blk t).view.emb y) 1).val = 512 * t.val + (y 1).val := by blk_simp [idx6 t]; omega
  refine (congrFun (Value.flushed6 m c t) y).trans ?_
  refine (point6 m c t y).trans ?_
  refine congrArg (res6 m c) ?_
  funext d; fin_cases d
  · exact Fin.ext e0.symm
  · exact Fin.ext e1.symm

end Cert.Ret.Qry
end
-- ==== Proof.QryRef.lean ====
/- The sparse attention's queries with their rotary, and its gates: what the reference computes. -/
module

public import proofs.«01_k».proof.Proof.Qry
public import proofs.«01_k».proof.Proof.Gen.Reference7Ideal.Run
public import Idealize.ShloMosaic.Lib.KernelVsHost
public import Idealize.ShloMosaic.Lib.Claim

@[expose] public section
set_option maxRecDepth 16384
noncomputable section
namespace Cert.Ret.Qry
open Cert.Reference7Ideal Cert.Reference7Ideal.Gen Idealize.ShloMosaic Idealize.ShloMosaic.TcCoe Idealize.SL.Sem

/-- The product, a sequence of rows per batch row. -/
def prjV (X : FVec Ideal S32768x1024 .bf16) (W : FVec Ideal S1024x1072 .f32) : FVec Ideal S16x2048x1072 .f32 :=
  shapeCast _ (Host.dotGeneral dot_S32768x1024_S1024x1072_S32768x1072_1_0_0_1_n_n none (extf .f32 X bitsLt_bf16_f32) W) shapeCasts_S32768x1072_S16x2048x1072

/-- Its first 1024 columns split into heads. -/
def headsV (Z : FVec Ideal S16x2048x1072 .f32) : FVec Ideal S16x16x2048x64 .f32 :=
  transpose S16x16x2048x64 [0, 2, 1, 3] (shapeCast _ (extractStridedSlice S16x2048x1024 ![0, 0, 0] Z slices_S16x2048x1072_S16x2048x1024_0_0_0) shapeCasts_S16x2048x1024_S16x2048x16x64) transposes_S16x2048x16x64_S16x16x2048x64_0_2_1_3

/-- A table spread over batch rows and heads. -/
def sprV (T : FVec Ideal S2048x32 .f32) : FVec Ideal S16x16x2048x32 .f32 :=
  broadcastInDim S16x16x2048x32 ![0, 1, 2, 3] bcast_S1x1x2048x32_S16x16x2048x32_0_1_2_3 (broadcastInDim S1x1x2048x32 ![2, 3] bcast_S2048x32_S1x1x2048x32_2_3 T)

/-- The rotary of every head. -/
def rotV (H : FVec Ideal S16x16x2048x64 .f32) : FVec Ideal S16x16x2048x64 .f32 :=
  concatenate S16x16x2048x64 3 [⟨S16x16x2048x32, subf (mulf (extractStridedSlice S16x16x2048x32 ![0, 0, 0, 0] H slices_S16x16x2048x64_S16x16x2048x32_0_0_0_0) (sprV cosV)) (mulf (extractStridedSlice S16x16x2048x32 ![0, 0, 0, 32] H slices_S16x16x2048x64_S16x16x2048x32_0_0_0_32) (sprV sinV))⟩,
    ⟨S16x16x2048x32, addf (mulf (extractStridedSlice S16x16x2048x32 ![0, 0, 0, 0] H slices_S16x16x2048x64_S16x16x2048x32_0_0_0_0) (sprV sinV)) (mulf (extractStridedSlice S16x16x2048x32 ![0, 0, 0, 32] H slices_S16x16x2048x64_S16x16x2048x32_0_0_0_32) (sprV cosV))⟩]
    concatenates_S16x16x2048x32_S16x16x2048x32_S16x16x2048x64_d3

/-- Scaled, and laid out features by tokens. -/
def layV (H : FVec Ideal S16x16x2048x64 .f32) : FVec Ideal S1024x32768 .bf16 :=
  truncf .bf16 (shapeCast _ (transpose S16x64x16x2048 [1, 3, 0, 2] (mulf (mulf H (broadcastInDim S16x16x2048x64 ![] bcast_S_S16x16x2048x64 (constant S_ .f32 0x3E000000#32))) (broadcastInDim S16x16x2048x64 ![] bcast_S_S16x16x2048x64 (constant S_ .f32 0x3FB8AA3B#32))) transposes_S16x16x2048x64_S16x64x16x2048_1_3_0_2) shapeCasts_S16x64x16x2048_S1024x32768) bitsLt_bf16_f32

/-- The gates of every row. -/
def gatV (Z : FVec Ideal S16x2048x1072 .f32) : FVec Ideal S16x2048x48 .f32 :=
  Host.divf (broadcastInDim S16x2048x48 ![] bcast_S_S16x2048x48 (constant S_ .f32 0x3F800000#32)) (addf (broadcastInDim S16x2048x48 ![] bcast_S_S16x2048x48 (constant S_ .f32 0x3F800000#32)) (Host.exp (Host.negf (extractStridedSlice S16x2048x48 ![0, 0, 1024] Z slices_S16x2048x1072_S16x2048x48_0_0_1024))))

/-- Laid out features by tokens, a group's twelve rows at a time. -/
def grpV (G : FVec Ideal S16x2048x48 .f32) : FVec Ideal S4x12x32768 .f32 :=
  shapeCast _ (transpose S48x32768 [1, 0] (shapeCast _ G shapeCasts_S16x2048x48_S32768x48) transposes_S32768x48_S48x32768_1_0) shapeCasts_S48x32768_S4x12x32768

/-- With four rows of 1/2 after each group's twelve. -/
def padV (G : FVec Ideal S4x12x32768 .f32) : FVec Ideal S64x32768 .f32 :=
  shapeCast _ (pad S4x16x32768 ![0, 0, 0] ![0, 4, 0] ![0, 0, 0] G (constant (F := Ideal) S_ .f32 0x3F000000#32) pads_S4x12x32768_S4x16x32768_000_040_000 h_S_) shapeCasts_S4x16x32768_S64x32768

/-- The reference's queries from these parts. -/
theorem res_eq (m : (ℓ : Loc nD τ sig) → Buf (Elt Ideal) ℓ) (c : Dev nD) :
    Value.res_main_v56 m c = layV (rotV (headsV (prjV (m ((c.tc : Thread nD τ).loc main_arg0)) (m ((c.tc : Thread nD τ).loc main_arg1))))) := by
  unfold Value.res_main_v56 layV rotV headsV prjV sprV cosV sinV angV
  rfl

/-- Row `p` of batch row `b`. -/
def rowOf (b : Fin 16) (p : Fin 2048) : Fin 32768 := ⟨2048 * b.val + p.val, by omega⟩

/-- Row `p` of sequence `b` has position `p`. -/
theorem pos_rowOf (b : Fin 16) (p : Fin 2048) : pos (rowOf b p) = p := by
  apply Fin.ext
  show (2048 * b.val + p.val) % 2048 = p.val
  omega

section
variable (X : FVec Ideal S32768x1024 .bf16) (W : FVec Ideal S1024x1072 .f32) (b : Fin 16) (p : Fin 2048)

/-- A row of the product, counted by a natural number. -/
abbrev PN : ℕ → EReal := colN (fun k => X (ix2 (rowOf b p) k)) W

/-- The reference's projection at a sequence, a position and a column. -/
theorem prj_at (n : Fin 1072) : prjV X W (ix3 b p n) = PN X W b p n.val := by
  unfold prjV PN colN
  rw [dif_pos n.isLt]
  refine (shapeCast_apply _ _ _ (ix2 (rowOf b p) n) ?_).trans ?_
  · simp only [Shape.rowMajor_val_two, Shape.rowMajor_val_three, ix2, ix3]
    show (2048 * b.val + p.val) * 1072 + n.val = (b.val * 2048 + p.val) * 1072 + n.val
    omega
  · pointwise

/-- A slice of the projection's columns, entry by entry. -/
theorem slice3_at (Z : FVec Ideal S16x2048x1072 .f32) (w o : ℕ) (h : S16x2048x1072.Slices ![0, 0, o] ⟨3, ![16, 2048, w]⟩) (n : Fin w) (hn : o + n.val < 1072) :
    extractStridedSlice (⟨3, ![16, 2048, w]⟩ : Shape) ![0, 0, o] Z h (ix3 b p n) = Z (ix3 b p (⟨o + n.val, hn⟩ : Fin 1072)) := by
  refine extractStridedSlice_apply _ _ _ _ _ ?_
  intro x
  match x with
  | ⟨0, _⟩ => show b.val = 0 + b.val; omega
  | ⟨1, _⟩ => show p.val = 0 + p.val; omega
  | ⟨2, _⟩ => rfl

/-- Splitting the columns into sixteen heads: head `h`, column `e` is column `64 h + e`. -/
theorem heads_at (Z : FVec Ideal S16x2048x1072 .f32) (h : Fin 16) (e : Fin 64) :
    headsV Z (ix4 b h p e) = Z (ix3 b p (⟨0 + (64 * h.val + e.val), by omega⟩ : Fin 1072)) := by
  unfold headsV
  have h1 : ∀ Y : FVec Ideal S16x2048x16x64 .f32, transpose S16x16x2048x64 [0, 2, 1, 3] Y transposes_S16x2048x16x64_S16x16x2048x64_0_2_1_3 (ix4 b h p e) = Y (ix4 b p h e) := by
    intro Y
    pointwise
  refine (h1 _).trans ((shapeCast_apply _ _ _ (ix3 b p (⟨64 * h.val + e.val, by omega⟩ : Fin 1024)) ?_).trans (slice3_at b p Z 1024 0 _ (⟨64 * h.val + e.val, by omega⟩ : Fin 1024) (by show 0 + (64 * h.val + e.val) < 1072; omega)))
  simp only [Shape.rowMajor_val_four, Shape.rowMajor_val_three, ix4, ix3]
  show (b.val * 2048 + p.val) * 1024 + (64 * h.val + e.val) = ((b.val * 2048 + p.val) * 16 + h.val) * 64 + e.val
  omega

/-- A table spread over sequences and heads is the table. -/
theorem spr_at (T : FVec Ideal S2048x32 .f32) (h : Fin 16) (e : Fin 32) : sprV T (ix4 b h p e) = T (ix2 p e) := by
  unfold sprV
  pointwise

/-- The rotary of a head at an entry of its first half. -/
theorem rot_lo (H : FVec Ideal S16x16x2048x64 .f32) (h : Fin 16) (e : Fin 64) (he : e.val < 32) :
    rotV H (ix4 b h p e) = H (ix4 b h p e) * cosV (ix2 p (⟨e.val, he⟩ : Fin 32)) - H (ix4 b h p (⟨e.val + 32, by omega⟩ : Fin 64)) * sinV (ix2 p (⟨e.val, he⟩ : Fin 32)) := by
  rw [← spr_at b p cosV h ⟨e.val, he⟩, ← spr_at b p sinV h ⟨e.val, he⟩]
  unfold rotV
  generalize sprV cosV = C
  generalize sprV sinV = S
  pointwise
  rw [dif_pos he]
  rw [show (⟨32 + e.val, by omega⟩ : Fin 64) = ⟨e.val + 32, by omega⟩ from Fin.ext (Nat.add_comm _ _)]

/-- At an entry of its second half. -/
theorem rot_hi (H : FVec Ideal S16x16x2048x64 .f32) (h : Fin 16) (e : Fin 64) (he : ¬ e.val < 32) :
    rotV H (ix4 b h p e) = H (ix4 b h p (⟨e.val - 32, by omega⟩ : Fin 64)) * sinV (ix2 p (⟨e.val - 32, by omega⟩ : Fin 32)) + H (ix4 b h p e) * cosV (ix2 p (⟨e.val - 32, by omega⟩ : Fin 32)) := by
  rw [← spr_at b p cosV h ⟨e.val - 32, by omega⟩, ← spr_at b p sinV h ⟨e.val - 32, by omega⟩]
  unfold rotV
  generalize sprV cosV = C
  generalize sprV sinV = S
  pointwise
  rw [dif_neg he]
  rw [show (⟨32 + (e.val - 32), by omega⟩ : Fin 64) = e from Fin.ext (by show 32 + (e.val - 32) = e.val; omega)]

/-- The rotary of the heads of a row `P` at an entry. -/
theorem rot_at (Z : FVec Ideal S16x2048x1072 .f32) (P : ℕ → EReal) (hZ : ∀ j : Fin 1072, Z (ix3 b p j) = P j.val) (h : Fin 16) (e : Fin 64) :
    rotV (headsV Z) (ix4 b h p e) = headN P (posN cosV (rowOf b p)) (posN sinV (rowOf b p)) (64 * h.val + e.val) := by
  have q : (64 * h.val + e.val) % 64 = e.val := by omega
  unfold headN
  rw [q]
  by_cases hlt : e.val < 32
  · rw [if_pos hlt, rot_lo b p _ _ _ hlt, heads_at, heads_at, hZ, hZ]
    unfold posN
    rw [dif_pos hlt, dif_pos hlt, pos_rowOf]
    show P (0 + (64 * h.val + e.val)) * _ - P (0 + (64 * h.val + (e.val + 32))) * _ = _
    rw [show 0 + (64 * h.val + e.val) = 64 * h.val + e.val by omega, show 0 + (64 * h.val + (e.val + 32)) = 64 * h.val + e.val + 32 by omega]
  · have hs : e.val - 32 < 32 := by omega
    rw [if_neg hlt, rot_hi b p _ _ _ hlt, heads_at, heads_at, hZ, hZ]
    unfold posN
    rw [dif_pos hs, dif_pos hs, pos_rowOf]
    show P (0 + (64 * h.val + (e.val - 32))) * _ + P (0 + (64 * h.val + e.val)) * _ = _
    rw [show 0 + (64 * h.val + e.val) = 64 * h.val + e.val by omega, show 0 + (64 * h.val + (e.val - 32)) = 64 * h.val + e.val - 32 by omega]

/-- The scaled queries at a feature and a token. -/
theorem lay_at (H : FVec Ideal S16x16x2048x64 .f32) (h : Fin 16) (e : Fin 64) :
    layV H (ix2 (⟨64 * h.val + e.val, by omega⟩ : Fin 1024) (rowOf b p)) = H (ix4 b h p e) * eighth * lg := by
  unfold layV
  rw [truncf_apply]
  refine (shapeCast_apply _ _ _ (ix4 h e b p) ?_).trans ?_
  · simp only [Shape.rowMajor_val_two, Shape.rowMajor_val_four, ix2, ix4]
    show ((h.val * 64 + e.val) * 16 + b.val) * 2048 + p.val = (64 * h.val + e.val) * 32768 + (2048 * b.val + p.val)
    omega
  · unfold eighth lg
    pointwise

/-- The reference's queries at a feature and a token. -/
theorem ref5_at (h : Fin 16) (e : Fin 64) :
    layV (rotV (headsV (prjV X W))) (ix2 (⟨64 * h.val + e.val, by omega⟩ : Fin 1024) (rowOf b p)) = outQ X W (ix2 (⟨64 * h.val + e.val, by omega⟩ : Fin 1024) (rowOf b p)) := by
  rw [lay_at, rot_at b p _ (PN X W b p) (prj_at X W b p), mul_assoc, eighth_lg]
  rfl

/-- The reference's gates at a row: the logistic function of the product. -/
theorem gat_at (j : Fin 48) : gatV (prjV X W) (ix3 b p j) = Ideal.logistic (PN X W b p (1024 + j.val)) := by
  have h1 : ∀ Z : FVec Ideal S16x2048x1072 .f32, gatV Z (ix3 b p j) = Ideal.logistic (Z (ix3 b p (⟨1024 + j.val, by omega⟩ : Fin 1072))) := by
    intro Z
    rw [← slice3_at b p Z 48 1024 slices_S16x2048x1072_S16x2048x48_0_0_1024 j (by omega)]
    unfold gatV
    generalize extractStridedSlice S16x2048x48 ![0, 0, 1024] Z slices_S16x2048x1072_S16x2048x48_0_0_1024 = A
    unfold Ideal.logistic
    pointwise
  rw [h1, prj_at]

/-- The gates, a group's twelve rows at a time, at an entry. -/
theorem grp_at (G : FVec Ideal S16x2048x48 .f32) (g : Fin 4) (j : Fin 12) :
    grpV G (ix3 g j (rowOf b p)) = G (ix3 b p (⟨12 * g.val + j.val, by omega⟩ : Fin 48)) := by
  unfold grpV
  have h1 : ∀ (Y : FVec Ideal S32768x48 .f32) (a : Fin 48) (r : Fin 32768), transpose S48x32768 [1, 0] Y transposes_S32768x48_S48x32768_1_0 (ix2 a r) = Y (ix2 r a) := by
    intro Y a r
    pointwise
  refine (shapeCast_apply _ _ _ (ix2 (⟨12 * g.val + j.val, by omega⟩ : Fin 48) (rowOf b p)) ?_).trans ((h1 _ _ _).trans (shapeCast_apply _ _ _ _ ?_))
  · simp only [Shape.rowMajor_val_two, Shape.rowMajor_val_three, ix2, ix3]
    show (12 * g.val + j.val) * 32768 + (2048 * b.val + p.val) = (g.val * 12 + j.val) * 32768 + (2048 * b.val + p.val)
    omega
  · simp only [Shape.rowMajor_val_two, Shape.rowMajor_val_three, ix2, ix3]
    show (b.val * 2048 + p.val) * 48 + (12 * g.val + j.val) = (2048 * b.val + p.val) * 48 + (12 * g.val + j.val)
    omega

/-- The padded gates at a row of the result and a token. -/
theorem pad_at (G : FVec Ideal S4x12x32768 .f32) (g : Fin 64) (r : Fin 32768) :
    padV G (ix2 g r) = if h : g.val % 16 < 12 then G (ix3 (⟨g.val / 16, by omega⟩ : Fin 4) (⟨g.val % 16, h⟩ : Fin 12) r) else half := by
  unfold padV
  refine (shapeCast_apply _ _ _ (ix3 (⟨g.val / 16, by omega⟩ : Fin 4) (⟨g.val % 16, by omega⟩ : Fin 16) r) ?_).trans ?_
  · simp only [Shape.rowMajor_val_two, Shape.rowMajor_val_three, ix2, ix3]
    show (g.val / 16 * 16 + g.val % 16) * 32768 + r.val = g.val * 32768 + r.val
    omega
  by_cases h : g.val % 16 < 12
  · rw [dif_pos h]
    refine pad_apply_of_inside _ _ _ _ _ _ _ _ (ix3 (⟨g.val / 16, by omega⟩ : Fin 4) (⟨g.val % 16, h⟩ : Fin 12) r) ?_
    intro a
    match a with
    | ⟨0, _⟩ => show g.val / 16 = 0 + g.val / 16 * (0 + 1); omega
    | ⟨1, _⟩ => show g.val % 16 = 0 + g.val % 16 * (0 + 1); omega
    | ⟨2, _⟩ => show r.val = 0 + r.val * (0 + 1); omega
  · rw [dif_neg h]
    refine Eq.trans (pad_apply_of_not_inside _ _ _ _ _ _ _ _ (1 : Fin 3) ?_) ?_
    · show ¬(0 ≤ g.val % 16 ∧ (g.val % 16 - 0) % (0 + 1) = 0 ∧ (g.val % 16 - 0) / (0 + 1) < 12)
      omega
    · rfl

/-- The reference's padded gates at an entry. -/
theorem ref6_at (g : Fin 64) : padV (grpV (gatV (prjV X W))) (ix2 g (rowOf b p)) = outS X W (ix2 g (rowOf b p)) := by
  rw [pad_at]
  show _ = (if g.val % 16 < 12 then Ideal.logistic (PN X W b p (1024 + (12 * (g.val / 16) + g.val % 16))) else half : EReal)
  by_cases h : g.val % 16 < 12
  · rw [dif_pos h, if_pos h, grp_at, gat_at]
  · rw [dif_neg h, if_neg h]
end

/-- A row number by its sequence and position. -/
theorem exists_row (r : Fin 32768) : ∃ (b : Fin 16) (p : Fin 2048), r = rowOf b p :=
  ⟨⟨r.val / 2048, by omega⟩, ⟨r.val % 2048, Nat.mod_lt _ (by decide)⟩, Fin.ext (by show r.val = 2048 * (r.val / 2048) + r.val % 2048; omega)⟩

/-- The reference computes the same queries from the arguments. -/
theorem ref5_eq (X : FVec Ideal S32768x1024 .bf16) (W : FVec Ideal S1024x1072 .f32) : layV (rotV (headsV (prjV X W))) = outQ X W := by
  funext i
  obtain ⟨n, r, rfl⟩ : ∃ (n : Fin 1024) (r : Fin 32768), i = ix2 n r := ⟨i 0, i 1, eq_ix2 i⟩
  obtain ⟨b, p, rfl⟩ := exists_row r
  obtain ⟨h, e, rfl⟩ : ∃ (h : Fin 16) (e : Fin 64), n = ⟨64 * h.val + e.val, by omega⟩ := ⟨⟨n.val / 64, by omega⟩, ⟨n.val % 64, Nat.mod_lt _ (by decide)⟩, Fin.ext (by show n.val = 64 * (n.val / 64) + n.val % 64; omega)⟩
  exact ref5_at X W b p h e

/-- The reference computes the same gates from the arguments. -/
theorem ref6_eq (X : FVec Ideal S32768x1024 .bf16) (W : FVec Ideal S1024x1072 .f32) : padV (grpV (gatV (prjV X W))) = outS X W := by
  funext i
  obtain ⟨g, r, rfl⟩ : ∃ (g : Fin 64) (r : Fin 32768), i = ix2 g r := ⟨i 0, i 1, eq_ix2 i⟩
  obtain ⟨b, p, rfl⟩ := exists_row r
  exact ref6_at X W b p g

/-- The reference's run, its results as the same functions of the arguments. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v56) = outQ (m ((c.tc : Thread nD τ).loc main_arg0)) (m ((c.tc : Thread nD τ).loc main_arg1))
      ∧ r.2.mem ((c.tc : Thread nD τ).loc main_v61) = outS (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((res_eq m c).trans (ref5_eq _ _)), (h c).2.1.trans (ref6_eq _ _), (h c).2.2⟩) (Value.run (F := Ideal) m ρ)
end Cert.Ret.Qry
end
-- ==== Proof.lean ====
/- The certificate: the runs, the frames and the value claims of every call taken. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.KernelIdeal.Value
public import proofs.«01_k».proof.Proof.Result
public import proofs.«01_k».proof.Proof.Ref
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Ffn
public import proofs.«01_k».proof.Proof.FfnRef
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Rot
public import proofs.«01_k».proof.Proof.RotRef
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Proj
public import proofs.«01_k».proof.Proof.ProjRef
public import proofs.«01_k».proof.Proof.Gen.Kernel5
public import proofs.«01_k».proof.Proof.Gen.Kernel5.Launch
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Reference5Ideal
public import proofs.«01_k».proof.Proof.Gen.Reference5Ideal.Run
public import proofs.«01_k».proof.Proof.Gen.Pre_gated
public import proofs.«01_k».proof.Proof.MoeRun
public import proofs.«01_k».proof.Proof.Moe
public import proofs.«01_k».proof.Proof.MoeRef
public import proofs.«01_k».proof.Proof.MoePre
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Out
public import proofs.«01_k».proof.Proof.OutRef
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Qry
public import proofs.«01_k».proof.Proof.QryRef
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs, its arguments end as they were, and it declares no semaphore. -/
theorem frame_ref : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Over the reals the retention kernel and its reference end with the same array: the layer's formula at every entry. -/
theorem value_ret : Cert.algebraic_KernelIdeal_ReferenceIdeal (hKernelIdeal := Cert.KernelIdeal.Gen.facts) (hReferenceIdeal := Cert.ReferenceIdeal.Gen.facts) := by
  intro m g m' g' _ hagree
  refine ⟨fun c => Cert.Ret.resG (Cert.Ret.XX m c) (Cert.Ret.GG m c), ?_, ?_⟩
  · exact (θ_run Cert.KernelIdeal.defs _ _).mono (fun _ h c => ⟨(h c).1.trans (Cert.Ret.result_eq m c), (h c).2⟩) (Cert.KernelIdeal.Value.run_blocks m g)
  · refine (θ_run Cert.ReferenceIdeal.defs _ _).mono (fun _ h c => ⟨(h c).1.trans ?_, (h c).2⟩)
      (Cert.RefLoop.run_iter m' g' (fun c => Cert.RefValue.it (m' ((c.tc : Thread Cert.ReferenceIdeal.nD Cert.ReferenceIdeal.τ).loc Cert.ReferenceIdeal.main_arg0))) (fun _ => rfl) (fun _ _ => rfl))
    rw [(hagree c).1, (hagree c).2]
    exact Cert.RefValue.ref_eq _ _

/-- The reference of the feed-forward part of layer 0 runs, its arguments end as they were, and it declares no semaphore. -/
theorem frame_ref2 : Cert.quiescent_Reference2Ideal (hReference2Ideal := Cert.Reference2Ideal.Gen.facts) := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)

/-- Over the reals the kernel of the feed-forward part of layer 0 and its reference end with the same results. -/
theorem value_2 : Cert.algebraic_Kernel2Ideal_Reference2Ideal (hKernel2Ideal := Cert.Kernel2Ideal.Gen.facts) (hReference2Ideal := Cert.Reference2Ideal.Gen.facts) := by
  intro m g m' g' _ hagree
  refine ⟨fun c => Cert.Ret.Ffn.res m c, fun c => Cert.Ret.Ffn.res m c, ?_, ?_⟩
  · exact (θ_run Cert.Kernel2Ideal.defs _ _).mono (fun _ h c => ⟨(h c).1.trans (Cert.Ret.Ffn.result6 m c), (h c).2.1.trans (Cert.Ret.Ffn.result7 m c), (h c).2.2⟩) (Cert.Kernel2Ideal.Value.run_blocks m g)
  · refine (θ_run Cert.Reference2Ideal.defs _ _).mono (fun _ h c => ⟨(h c).1.trans ?_, (h c).2.1.trans ?_, (h c).2.2⟩) (Cert.Ret.Ffn.ref_run m' g')
    all_goals
      rw [(hagree c).1, (hagree c).2.1, (hagree c).2.2.1, (hagree c).2.2.2.1, (hagree c).2.2.2.2]
      rfl

/-- The reference of the query, key, value and gate projection of layer 0 runs, its arguments end as they were, and it declares no semaphore. -/
theorem frame_ref3 : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- Over the reals the kernel of the query, key, value and gate projection of layer 0 and its reference end with the same results. -/
theorem value_3 : Cert.algebraic_Kernel3Ideal_Reference3Ideal (hKernel3Ideal := Cert.Kernel3Ideal.Gen.facts) (hReference3Ideal := Cert.Reference3Ideal.Gen.facts) := by
  intro m g m' g' _ hagree
  refine ⟨fun c => Cert.Ret.Rot.res m c, ?_, ?_⟩
  · exact (θ_run Cert.Kernel3Ideal.defs _ _).mono (fun _ h c => ⟨(h c).1.trans (Cert.Ret.Rot.result4 m c), (h c).2⟩) (Cert.Kernel3Ideal.Value.run_blocks m g)
  · refine (θ_run Cert.Reference3Ideal.defs _ _).mono (fun _ h c => ⟨(h c).1.trans ?_, (h c).2⟩) (Cert.Ret.Rot.ref_run m' g')
    rw [(hagree c).1, (hagree c).2]
    rfl

/-- The reference of the retention's output projection runs, its arguments end as they were, and it declares no semaphore. -/
theorem frame_ref4 : Cert.quiescent_Reference4Ideal (hReference4Ideal := Cert.Reference4Ideal.Gen.facts) := fun m ρ _ =>
  (θ_run Cert.Reference4Ideal.defs _ _).mono (fun r h => ⟨fun c => (h c).2.2, Idealize.ShloMosaic.sem_eq_zero_of_no_sems (by decide) r.2⟩)
    (Cert.Reference4Ideal.Value.run (F := Ideal) m ρ)

/-- Over the reals the kernel of the retention's output projection and its reference end with the same results. -/
theorem value_4 : Cert.algebraic_Kernel4Ideal_Reference4Ideal (hKernel4Ideal := Cert.Kernel4Ideal.Gen.facts) (hReference4Ideal := Cert.Reference4Ideal.Gen.facts) := by
  intro m g m' g' _ hagree
  refine ⟨fun c => Cert.Ret.Proj.res m c, fun c => Cert.Ret.Proj.res m c, ?_, ?_⟩
  · exact (θ_run Cert.Kernel4Ideal.defs _ _).mono (fun _ h c => ⟨(h c).1.trans (Cert.Ret.Proj.result5 m c), (h c).2.1.trans (Cert.Ret.Proj.result6 m c), (h c).2.2⟩) (Cert.Kernel4Ideal.Value.run_blocks m g)
  · refine (θ_run Cert.Reference4Ideal.defs _ _).mono (fun _ h c => ⟨(h c).1.trans ?_, (h c).2.1.trans ?_, (h c).2.2⟩) (Cert.Ret.Proj.ref_run m' g')
    all_goals
      rw [(hagree c).1, (hagree c).2.1, (hagree c).2.2.1, (hagree c).2.2.2.1, (hagree c).2.2.2.2]
      rfl

/-- The experts' kernel on bits and its idealized text have the same bodies under each label. -/
theorem bodies_5 {F : FTy → Type} [FloatOps F] : @Cert.Kernel5.defs₀ F _ Cert.Kernel5.Gen.facts = @Cert.Kernel5Ideal.defs₀ F _ Cert.Kernel5Ideal.Gen.facts := by
  funext κ
  cases κ
  · funext i a
    match i, a with
    | 0, (t, s) => exact rfl
  all_goals rfl

set_option maxHeartbeats 4000000 in
/-- Hence the same body table. -/
theorem table_5 {F : FTy → Type} [FloatOps F] : @Cert.Kernel5.defs F _ Cert.Kernel5.Gen.facts = @Cert.Kernel5Ideal.defs F _ Cert.Kernel5Ideal.Gen.facts :=
  congrArg (Pipeline.defs (@Cert.Kernel5Ideal.pcfgs F _ Cert.Kernel5Ideal.Gen.facts)) bodies_5

set_option maxHeartbeats 1000000 in
/-- And the same program over it. -/
theorem main_5 {F : FTy → Type} [FloatOps F] : @Cert.Kernel5.main F _ Cert.Kernel5.Gen.facts = @Cert.Kernel5Ideal.main F _ Cert.Kernel5Ideal.Gen.facts := by
  funext c
  refine (Cert.Kernel5.Gen.main_chain c).trans (Eq.trans ?_ (Cert.Kernel5Ideal.Gen.main_chain c).symm)
  rfl

set_option maxHeartbeats 4000000 in
/-- The experts' kernel on bits runs from any memory: its arguments end as they were, and no counter is left raised. -/
theorem frame_5 : Cert.quiescent_Kernel5 (hKernel5 := Cert.Kernel5.Gen.facts) := by
  intro m ρ _
  have run := Cert.Ret.Moe.frame_all (F := Bits) m ρ (Cert.Ret.Moe.good m)
  rw [← table_5 (F := Bits), ← main_5 (F := Bits)] at run
  exact run

/-- The same over the reals. -/
theorem frame_5i : Cert.quiescent_Kernel5Ideal (hKernel5Ideal := Cert.Kernel5Ideal.Gen.facts) := fun m ρ _ =>
  Cert.Ret.Moe.frame_all m ρ (Cert.Ret.Moe.good m)

/-- The same under the value claim's precondition. -/
theorem frame_5g : Cert.quiescent_Kernel5Ideal_pre_gated (hKernel5Ideal := Cert.Kernel5Ideal.Gen.facts) (hPre_gated := Cert.Pre_gated.Gen.facts) := fun m ρ _ =>
  Cert.Ret.Moe.frame_all m ρ (Cert.Ret.Moe.good m)

/-- The experts' reference runs, its arguments end as they were, and it declares no semaphore. -/
theorem frame_ref5 : Cert.quiescent_Reference5Ideal (hReference5Ideal := Cert.Reference5Ideal.Gen.facts) := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- The same under the value claim's precondition. -/
theorem frame_ref5g : Cert.quiescent_Reference5Ideal_pre_gated (hReference5Ideal := Cert.Reference5Ideal.Gen.facts) (hPre_gated := Cert.Pre_gated.Gen.facts) :=
  fun m ρ _ => frame_ref5 m ρ trivial

/-- Over the reals the experts' kernel and its reference end with the same result. -/
theorem value_5 : Cert.algebraic_Kernel5Ideal_Reference5Ideal_pre_gated (hKernel5Ideal := Cert.Kernel5Ideal.Gen.facts) (hReference5Ideal := Cert.Reference5Ideal.Gen.facts)
    (hPre_gated := Cert.Pre_gated.Gen.facts) := by
  intro m g m' g' hpre hagree
  refine ⟨fun c => Cert.Ret.Moe.res m c, ?_, ?_⟩
  · exact (θ_run Cert.Kernel5Ideal.defs _ _).mono (fun _ h c => ⟨(h.1 c).1.trans (Cert.Ret.Moe.result5 m (Cert.Ret.Moe.good m) c), (h.1 c).2⟩)
      (Cert.Ret.Moe.run_all m g (Cert.Ret.Moe.good m))
  · have hf : ∀ c : Dev Cert.Reference5Ideal.nD, Cert.Ret.Moe.Gated (m' ((c.tc : Thread Cert.Reference5Ideal.nD Cert.Reference5Ideal.τ).loc Cert.Reference5Ideal.main_arg1)) := by
      intro c
      rw [(hagree c).2.1]
      exact Cert.Ret.Moe.of_gated _ _ _ _ _ (hpre c)
    refine (θ_run Cert.Reference5Ideal.defs _ _).mono (fun _ h c => ⟨(h c).1.trans ?_, (h c).2⟩) (Cert.Ret.Moe.ref_run m' g' hf)
    rw [(hagree c).1, (hagree c).2.1, (hagree c).2.2.1, (hagree c).2.2.2.1, (hagree c).2.2.2.2]
    unfold Cert.Ret.Moe.res
    obtain rfl := Cert.Ret.Moe.dev_eq c
    exact congrArg₂ (fun a b => Cert.Ret.Moe.outE _ _ a b _ _) (funext fun n => congrArg (Cert.Ret.Moe.te m) (Cert.Ret.Moe.kx_eq (Cert.Ret.Moe.kx n)).symm)
      (funext fun n => congrArg (Cert.Ret.Moe.tv m) (Cert.Ret.Moe.kx_eq (Cert.Ret.Moe.kx n)).symm)

/-- The reference of the sparse attention's output projection runs, its arguments end as they were, and it declares no semaphore. -/
theorem frame_ref6 : Cert.quiescent_Reference6Ideal (hReference6Ideal := Cert.Reference6Ideal.Gen.facts) := fun m ρ _ =>
  (θ_run Cert.Reference6Ideal.defs _ _).mono (fun r h => ⟨fun c => (h c).2.2, Idealize.ShloMosaic.sem_eq_zero_of_no_sems (by decide) r.2⟩)
    (Cert.Reference6Ideal.Value.run (F := Ideal) m ρ)

/-- Over the reals the kernel of the sparse attention's output projection and its reference end with the same results. -/
theorem value_6 : Cert.algebraic_Kernel6Ideal_Reference6Ideal (hKernel6Ideal := Cert.Kernel6Ideal.Gen.facts) (hReference6Ideal := Cert.Reference6Ideal.Gen.facts) := by
  intro m g m' g' _ hagree
  refine ⟨fun c => Cert.Ret.Out.res m c, fun c => Cert.Ret.Out.res m c, ?_, ?_⟩
  · exact (θ_run Cert.Kernel6Ideal.defs _ _).mono (fun _ h c => ⟨(h c).1.trans (Cert.Ret.Out.result5 m c), (h c).2.1.trans (Cert.Ret.Out.result6 m c), (h c).2.2⟩) (Cert.Kernel6Ideal.Value.run_blocks m g)
  · refine (θ_run Cert.Reference6Ideal.defs _ _).mono (fun _ h c => ⟨(h c).1.trans ?_, (h c).2.1.trans ?_, (h c).2.2⟩) (Cert.Ret.Out.ref_run m' g')
    all_goals
      rw [(hagree c).1, (hagree c).2.1, (hagree c).2.2.1, (hagree c).2.2.2.1, (hagree c).2.2.2.2]
      rfl

/-- The reference of the sparse attention's query and gate projection runs, its arguments end as they were, and it declares no semaphore. -/
theorem frame_ref7 : Cert.quiescent_Reference7Ideal (hReference7Ideal := Cert.Reference7Ideal.Gen.facts) := fun m ρ _ =>
  (θ_run Cert.Reference7Ideal.defs _ _).mono (fun r h => ⟨fun c => (h c).2.2, Idealize.ShloMosaic.sem_eq_zero_of_no_sems (by decide) r.2⟩)
    (Cert.Reference7Ideal.Value.run (F := Ideal) m ρ)

/-- Over the reals the kernel of the sparse attention's query and gate projection and its reference end with the same results. -/
theorem value_7 : Cert.algebraic_Kernel7Ideal_Reference7Ideal (hKernel7Ideal := Cert.Kernel7Ideal.Gen.facts) (hReference7Ideal := Cert.Reference7Ideal.Gen.facts) := by
  intro m g m' g' _ hagree
  refine ⟨fun c => Cert.Ret.Qry.res5 m c, fun c => Cert.Ret.Qry.res6 m c, ?_, ?_⟩
  · exact (θ_run Cert.Kernel7Ideal.defs _ _).mono (fun _ h c => ⟨(h c).1.trans (Cert.Ret.Qry.result5 m c), (h c).2.1.trans (Cert.Ret.Qry.result6 m c), (h c).2.2⟩) (Cert.Kernel7Ideal.Value.run_blocks m g)
  · refine (θ_run Cert.Reference7Ideal.defs _ _).mono (fun _ h c => ⟨(h c).1.trans ?_, (h c).2.1.trans ?_, (h c).2.2⟩) (Cert.Ret.Qry.ref_run m' g')
    all_goals
      rw [(hagree c).1, (hagree c).2]
      rfl

/-- Everything claimed. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_gated.Gen.facts,
  fun m ρ _ => Cert.Kernel.Gen.frame m ρ, fun m ρ _ => Cert.KernelIdeal.Gen.frame m ρ, frame_ref, fun m ρ _ => Cert.Kernel2.Gen.frame m ρ, fun m ρ _ => Cert.Kernel2Ideal.Gen.frame m ρ, frame_ref2, fun m ρ _ => Cert.Kernel3.Gen.frame m ρ, fun m ρ _ => Cert.Kernel3Ideal.Gen.frame m ρ, frame_ref3, fun m ρ _ => Cert.Kernel4.Gen.frame m ρ, fun m ρ _ => Cert.Kernel4Ideal.Gen.frame m ρ, frame_ref4, frame_5, frame_5i, frame_5g, frame_ref5, frame_ref5g, fun m ρ _ => Cert.Kernel6.Gen.frame m ρ, fun m ρ _ => Cert.Kernel6Ideal.Gen.frame m ρ, frame_ref6, fun m ρ _ => Cert.Kernel7.Gen.frame m ρ, fun m ρ _ => Cert.Kernel7Ideal.Gen.frame m ρ, frame_ref7,
  trivial, value_ret, trivial, value_2, trivial, value_3, trivial, value_4, trivial, value_5, trivial, value_6, trivial, value_7⟩

end Cert.Proof

end
